-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)
  ∧ IdealRules.named_const.Statement Cert.KernelIdeal.κ "dead_log" .f32 0x42D20000#32 ⊤

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_qk.lean ====
abbrev S8x8192x1024 : Shape := ⟨3, ![8, 8192, 1024]⟩
abbrev S_ : Shape := ⟨0, ![]⟩

class Facts : Prop where
  bitsLt_bf16_f32 : FTy.bits .bf16 < FTy.bits .f32
  bcast_S_S8x8192x1024 : S_.BroadcastsInDim S8x8192x1024 (![] : Fin 0 → Fin S8x8192x1024.rank)

variable [Facts]

def fn {F : FTy → Type} [FloatOps F] (main_arg0 : FVec F S8x8192x1024 .bf16) (main_arg1 : FVec F S8x8192x1024 .bf16) (main_arg2 : FVec F S8x8192x1024 .bf16) : IVec S8x8192x1024 1 :=
  let main_v0 : FVec F S8x8192x1024 .f32 := (extf .f32 · bitsLt_bf16_f32) main_arg0
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_v4 : FVec F S8x8192x1024 .f32 := (extf .f32 · bitsLt_bf16_f32) main_arg1
  let main_v5 : FVec F S8x8192x1024 .f32 := Host.absf main_v4
  let main_cst_0 : FVec F S_ .f32 := constant S_ .f32 0x7F800000#32
  let main_v6 : FVec F S8x8192x1024 .f32 := broadcastInDim S8x8192x1024 ![] bcast_S_S8x8192x1024 main_cst_0
  let main_v7 : IVec S8x8192x1024 1 := cmpf .olt main_v5 main_v6
  let main_v8 : IVec S8x8192x1024 1 := andi main_v3 main_v7
  main_v8
-- ==== Kernel.lean ====
abbrev S8x8192x1024 : Shape := ⟨3, ![8, 8192, 1024]⟩
abbrev S1x512x128 : Shape := ⟨3, ![1, 512, 128]⟩
abbrev S1x8192x128 : Shape := ⟨3, ![1, 8192, 128]⟩
abbrev S4x128x128 : Shape := ⟨3, ![4, 128, 128]⟩
abbrev S4x256x1 : Shape := ⟨3, ![4, 256, 1]⟩
abbrev S128x128 : Shape := ⟨2, ![128, 128]⟩
abbrev S256x128 : Shape := ⟨2, ![256, 128]⟩
abbrev S1x128x128 : Shape := ⟨3, ![1, 128, 128]⟩
abbrev S512x128 : Shape := ⟨2, ![512, 128]⟩
abbrev S768x128 : Shape := ⟨2, ![768, 128]⟩
abbrev S256x256 : Shape := ⟨2, ![256, 256]⟩
abbrev S2304x256 : Shape := ⟨2, ![2304, 256]⟩
abbrev S2304x128 : Shape := ⟨2, ![2304, 128]⟩
abbrev S256 : Shape := ⟨1, ![256]⟩
abbrev S256x1 : Shape := ⟨2, ![256, 1]⟩
abbrev S128x256 : Shape := ⟨2, ![128, 256]⟩
abbrev S384x256 : Shape := ⟨2, ![384, 256]⟩
abbrev S384x128 : Shape := ⟨2, ![384, 128]⟩
abbrev S1x256x1 : Shape := ⟨3, ![1, 256, 1]⟩
abbrev S3072x256 : Shape := ⟨2, ![3072, 256]⟩
abbrev S3072x128 : Shape := ⟨2, ![3072, 128]⟩
abbrev S1 : Shape := ⟨1, ![1]⟩
abbrev S1x1x1 : Shape := ⟨3, ![1, 1, 1]⟩

abbrev nBuf : Space → Nat
  | .hbm => 4
  | .vmem => 10
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .bf16⟩
  | .local _ .vmem, ⟨7, _⟩ => ⟨S1x512x128, .bf16⟩
  | .local _ .vmem, ⟨8, _⟩ => ⟨S4x128x128, .f32⟩
  | .local _ .vmem, ⟨9, _⟩ => ⟨S4x256x1, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 16], ![false, false, false]⟩

def k0_cond2 (i : grid0.Coords) : BitVec 1 :=
  let arg2 : BitVec 32 := BitVec.ofNat 32 (i 2).val
  let c0_i32_11 : BitVec 32 := 0#32
  let v47 : BitVec 1 := Scalar.cmpi .sgt arg2 c0_i32_11
  let v48 : BitVec 32 := Scalar.extui v47
  let c0_i32_12 : BitVec 32 := 0#32
  let v49 : BitVec 1 := Scalar.cmpi .ne v48 c0_i32_12
  v49

def k0_mult1 (i : grid0.Coords) : BitVec 32 :=
  let arg2 : BitVec 32 := BitVec.ofNat 32 (i 2).val
  let c4_i32_71 : BitVec 32 := 4#32
  let v139 : BitVec 32 := Scalar.muli arg2 c4_i32_71
  let c3_i32_88 : BitVec 32 := 3#32
  let v164 : BitVec 32 := Scalar.addi v139 c3_i32_88
  let c128_i32_89 : BitVec 32 := 128#32
  let v165 : BitVec 32 := Scalar.muli v164 c128_i32_89
  v165
def k0_off1 (i : grid0.Coords) (c3_i32_88 : BitVec 32) : Fin 3 → Nat :=
  let c0_90 : Index := 0#32
  let arg2 : BitVec 32 := BitVec.ofNat 32 (i 2).val
  let c4_i32_71 : BitVec 32 := 4#32
  let v139 : BitVec 32 := Scalar.muli arg2 c4_i32_71
  let v164 : BitVec 32 := Scalar.addi v139 c3_i32_88
  let c128_i32_89 : BitVec 32 := 128#32
  let v165 : BitVec 32 := Scalar.muli v164 c128_i32_89
  let v166 : BitVec 32 := v165
  let v167 : Index := Scalar.indexCast v166
  let c0_91 : Index := 0#32
  ![0, v167.toNat, 0]
def k0_off1_at (r : Fin 6) : BitVec 32 :=
  if r.val < 3 then
    if r.val < 1 then
      3#32
    else
      if r.val < 2 then
        2#32
      else
        1#32
  else
    if r.val < 4 then
      0#32
    else
      if r.val < 5 then
        4294967295#32
      else
        4294967294#32
def k0_mult2 (i : grid0.Coords) : BitVec 32 :=
  let arg2 : BitVec 32 := BitVec.ofNat 32 (i 2).val
  let c4_i32_71 : BitVec 32 := 4#32
  let v139 : BitVec 32 := Scalar.muli arg2 c4_i32_71
  let c2_i32_95 : BitVec 32 := 2#32
  let v177 : BitVec 32 := Scalar.addi v139 c2_i32_95
  let c128_i32_96 : BitVec 32 := 128#32
  let v178 : BitVec 32 := Scalar.muli v177 c128_i32_96
  v178
def k0_mult3 (i : grid0.Coords) : BitVec 32 :=
  let arg2 : BitVec 32 := BitVec.ofNat 32 (i 2).val
  let c4_i32_71 : BitVec 32 := 4#32
  let v139 : BitVec 32 := Scalar.muli arg2 c4_i32_71
  let c1_i32_102 : BitVec 32 := 1#32
  let v190 : BitVec 32 := Scalar.addi v139 c1_i32_102
  let c128_i32_103 : BitVec 32 := 128#32
  let v191 : BitVec 32 := Scalar.muli v190 c128_i32_103
  v191
def k0_mult4 (i : grid0.Coords) : BitVec 32 :=
  let arg2 : BitVec 32 := BitVec.ofNat 32 (i 2).val
  let c4_i32_71 : BitVec 32 := 4#32
  let v139 : BitVec 32 := Scalar.muli arg2 c4_i32_71
  let c0_i32_109 : BitVec 32 := 0#32
  let v203 : BitVec 32 := Scalar.addi v139 c0_i32_109
  let c128_i32_110 : BitVec 32 := 128#32
  let v204 : BitVec 32 := Scalar.muli v203 c128_i32_110
  v204
def k0_mult5 (i : grid0.Coords) : BitVec 32 :=
  let arg2 : BitVec 32 := BitVec.ofNat 32 (i 2).val
  let c4_i32_71 : BitVec 32 := 4#32
  let v139 : BitVec 32 := Scalar.muli arg2 c4_i32_71
  let c_m1_i32 : BitVec 32 := 4294967295#32
  let v216 : BitVec 32 := Scalar.addi v139 c_m1_i32
  let c128_i32_116 : BitVec 32 := 128#32
  let v217 : BitVec 32 := Scalar.muli v216 c128_i32_116
  v217
def k0_mult6 (i : grid0.Coords) : BitVec 32 :=
  let arg2 : BitVec 32 := BitVec.ofNat 32 (i 2).val
  let c4_i32_71 : BitVec 32 := 4#32
  let v139 : BitVec 32 := Scalar.muli arg2 c4_i32_71
  let c_m2_i32 : BitVec 32 := 4294967294#32
  let v229 : BitVec 32 := Scalar.addi v139 c_m2_i32
  let c128_i32_122 : BitVec 32 := 128#32
  let v230 : BitVec 32 := Scalar.muli v229 c128_i32_122
  v230
def k0_mult7 (arg9 : BitVec 32) : BitVec 32 :=
  let c128_i32_71 : BitVec 32 := 128#32
  let v139 : BitVec 32 := Scalar.muli arg9 c128_i32_71
  v139

def k0_off2 (arg9 : BitVec 32) : Fin 3 → Nat :=
  let c0_72 : Index := 0#32
  let c128_i32_71 : BitVec 32 := 128#32
  let v139 : BitVec 32 := Scalar.muli arg9 c128_i32_71
  let v140 : BitVec 32 := v139
  let v141 : Index := Scalar.indexCast v140
  let c0_73 : Index := 0#32
  ![0, v141.toNat, 0]

def k0_chk1 (arg9 : BitVec 32) : Prop :=
  (128 ∣ (k0_mult7 arg9).toNat) ∧
  (∀ a, (k0_off2 arg9) a + S1x128x128.size a ≤ S1x8192x128.size a)
theorem k0_mult7_dvd : ∀ (arg9 : BitVec 32) (k0_hw1 : k0_chk1 arg9), 128 ∣ (k0_mult7 arg9).toNat := fun arg9 k0_hw1 => k0_hw1.1
theorem k0_off2_inb : ∀ (arg9 : BitVec 32) (k0_hw1 : k0_chk1 arg9), ∀ a, (k0_off2 arg9) a + S1x128x128.size a ≤ S1x8192x128.size a := fun arg9 k0_hw1 => k0_hw1.2

def k0_mult8 (arg9 : BitVec 32) : BitVec 32 :=
  let c128_i32_71 : BitVec 32 := 128#32
  let v139 : BitVec 32 := Scalar.muli arg9 c128_i32_71
  v139

def k0_off3 (arg9 : BitVec 32) : Fin 3 → Nat :=
  let c0_72 : Index := 0#32
  let c128_i32_71 : BitVec 32 := 128#32
  let v139 : BitVec 32 := Scalar.muli arg9 c128_i32_71
  let v140 : BitVec 32 := v139
  let v141 : Index := Scalar.indexCast v140
  let c0_73 : Index := 0#32
  ![0, v141.toNat, 0]

def k0_chk2 (arg9 : BitVec 32) : Prop :=
  (128 ∣ (k0_mult8 arg9).toNat) ∧
  (∀ a, (k0_off3 arg9) a + S1x128x128.size a ≤ S1x8192x128.size a)
theorem k0_mult8_dvd : ∀ (arg9 : BitVec 32) (k0_hw2 : k0_chk2 arg9), 128 ∣ (k0_mult8 arg9).toNat := fun arg9 k0_hw2 => k0_hw2.1
theorem k0_off3_inb : ∀ (arg9 : BitVec 32) (k0_hw2 : k0_chk2 arg9), ∀ a, (k0_off3 arg9) a + S1x128x128.size a ≤ S1x8192x128.size a := fun arg9 k0_hw2 => k0_hw2.2

def k0_mult9 (arg9 : BitVec 32) : BitVec 32 :=
  let c128_i32_71 : BitVec 32 := 128#32
  let v139 : BitVec 32 := Scalar.muli arg9 c128_i32_71
  v139

def k0_off4 (arg9 : BitVec 32) : Fin 3 → Nat :=
  let c0_72 : Index := 0#32
  let c128_i32_71 : BitVec 32 := 128#32
  let v139 : BitVec 32 := Scalar.muli arg9 c128_i32_71
  let v140 : BitVec 32 := v139
  let v141 : Index := Scalar.indexCast v140
  let c0_73 : Index := 0#32
  ![0, v141.toNat, 0]

def k0_chk3 (arg9 : BitVec 32) : Prop :=
  (128 ∣ (k0_mult9 arg9).toNat) ∧
  (∀ a, (k0_off4 arg9) a + S1x128x128.size a ≤ S1x8192x128.size a)
theorem k0_mult9_dvd : ∀ (arg9 : BitVec 32) (k0_hw3 : k0_chk3 arg9), 128 ∣ (k0_mult9 arg9).toNat := fun arg9 k0_hw3 => k0_hw3.1
theorem k0_off4_inb : ∀ (arg9 : BitVec 32) (k0_hw3 : k0_chk3 arg9), ∀ a, (k0_off4 arg9) a + S1x128x128.size a ≤ S1x8192x128.size a := fun arg9 k0_hw3 => k0_hw3.2

def k0_mult10 (arg9 : BitVec 32) : BitVec 32 :=
  let c128_i32_71 : BitVec 32 := 128#32
  let v139 : BitVec 32 := Scalar.muli arg9 c128_i32_71
  v139

def k0_off5 (arg9 : BitVec 32) : Fin 3 → Nat :=
  let c0_72 : Index := 0#32
  let c128_i32_71 : BitVec 32 := 128#32
  let v139 : BitVec 32 := Scalar.muli arg9 c128_i32_71
  let v140 : BitVec 32 := v139
  let v141 : Index := Scalar.indexCast v140
  let c0_73 : Index := 0#32
  ![0, v141.toNat, 0]

def k0_chk4 (arg9 : BitVec 32) : Prop :=
  (128 ∣ (k0_mult10 arg9).toNat) ∧
  (∀ a, (k0_off5 arg9) a + S1x128x128.size a ≤ S1x8192x128.size a)
theorem k0_mult10_dvd : ∀ (arg9 : BitVec 32) (k0_hw4 : k0_chk4 arg9), 128 ∣ (k0_mult10 arg9).toNat := fun arg9 k0_hw4 => k0_hw4.1
theorem k0_off5_inb : ∀ (arg9 : BitVec 32) (k0_hw4 : k0_chk4 arg9), ∀ a, (k0_off5 arg9) a + S1x128x128.size a ≤ S1x8192x128.size a := fun arg9 k0_hw4 => k0_hw4.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "dead_log" => some ⊤
  | "neg_log2_e" => some ((-((Real.log 2)⁻¹) : ℝ) : EReal)
  | _ => none
-- ==== ReferenceIdeal.lean ====
abbrev S8x8192x1024 : Shape := ⟨3, ![8, 8192, 1024]⟩
abbrev S8x8192x16x64 : Shape := ⟨4, ![8, 8192, 16, 64]⟩
abbrev S8x16x8192x64 : Shape := ⟨4, ![8, 16, 8192, 64]⟩
abbrev S8x16x8192x8192 : Shape := ⟨4, ![8, 16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x16x8192x1 : Shape := ⟨4, ![8, 16, 8192, 1]⟩

abbrev nBuf : Space → Nat
  | .hbm => 74
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .f32⟩
  | .hbm, ⟨4, _⟩ => ⟨S8x8192x16x64, .f32⟩
  | .hbm, ⟨5, _⟩ => ⟨S8x16x8192x64, .f32⟩
  | .hbm, ⟨6, _⟩ => ⟨S8x8192x1024, .f32⟩
  | .hbm, ⟨7, _⟩ => ⟨S8x8192x16x64, .f32⟩
  | .hbm, ⟨8, _⟩ => ⟨S8x16x8192x64, .f32⟩
  | .hbm, ⟨9, _⟩ => ⟨S8x8192x1024, .f32⟩
  | .hbm, ⟨10, _⟩ => ⟨S8x8192x16x64, .f32⟩
  | .hbm, ⟨11, _⟩ => ⟨S8x16x8192x64, .f32⟩
  | .hbm, ⟨12, _⟩ => ⟨S8x16x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8x16x8192x8192, .f32⟩
  | .hbm, ⟨20, _⟩ => ⟨S8x16x8192x8192, .f32⟩
  | .hbm, ⟨21, _⟩ => ⟨S_, .f32⟩
  | .hbm, ⟨22, _⟩ => ⟨S8x16x8192x8192, .f32⟩
  | .hbm, ⟨23, _⟩ => ⟨S8x16x8192x8192, .f32⟩
  | .hbm, ⟨24, _⟩ => ⟨S8x16x8192x8192, .f32⟩
  | .hbm, ⟨25, _⟩ => ⟨S8x16x8192x8192, .f32⟩
  | .hbm, ⟨26, _⟩ => ⟨S8x16x8192x8192, .i1⟩
  | .hbm, ⟨27, _⟩ => ⟨S8x16x8192x8192, .f32⟩
  | .hbm, ⟨28, _⟩ => ⟨S8x16x8192x8192, .f32⟩
  | .hbm, ⟨29, _⟩ => ⟨S8x16x8192x8192, .f32⟩
  | .hbm, ⟨30, _⟩ => ⟨S8x16x8192x8192, .f32⟩
  | .hbm, ⟨31, _⟩ => ⟨S8x16x8192x8192, .f32⟩
  | .hbm, ⟨32, _⟩ => ⟨S8x16x8192x8192, .f32⟩
  | .hbm, ⟨33, _⟩ => ⟨S8x16x8192x8192, .f32⟩
  | .hbm, ⟨34, _⟩ => ⟨S8x16x8192x8192, .f32⟩
  | .hbm, ⟨35, _⟩ => ⟨S8x16x8192x8192, .f32⟩
  | .hbm, ⟨36, _⟩ => ⟨S_, .f32⟩
  | .hbm, ⟨37, _⟩ => ⟨S_, .f32⟩
  | .hbm, ⟨38, _⟩ => ⟨S8x16x8192x8192, .i1⟩
  | .hbm, ⟨39, _⟩ => ⟨S8x16x8192x8192, .f32⟩
  | .hbm, ⟨40, _⟩ => ⟨S8x16x8192x8192, .f32⟩
  | .hbm, ⟨41, _⟩ => ⟨S_, .f32⟩
  | .hbm, ⟨42, _⟩ => ⟨S_, .f32⟩
  | .hbm, ⟨43, _⟩ => ⟨S8x16x8192x8192, .f32⟩
  | .hbm, ⟨44, _⟩ => ⟨S8x16x8192x1, .f32⟩
  | .hbm, ⟨45, _⟩ => ⟨S8x16x8192x8192, .f32⟩
  | .hbm, ⟨46, _⟩ => ⟨S8x16x8192x8192, .f32⟩
  | .hbm, ⟨47, _⟩ => ⟨S8x16x8192x8192, .f32⟩
  | .hbm, ⟨48, _⟩ => ⟨S_, .f32⟩
  | .hbm, ⟨49, _⟩ => ⟨S8x16x8192x8192, .f32⟩
  | .hbm, ⟨50, _⟩ => ⟨S8x16x8192x8192, .f32⟩
  | .hbm, ⟨51, _⟩ => ⟨S8x16x8192x8192, .f32⟩
  | .hbm, ⟨52, _⟩ => ⟨S8x16x8192x8192, .f32⟩
  | .hbm, ⟨53, _⟩ => ⟨S8x16x8192x8192, .i1⟩
  | .hbm, ⟨54, _⟩ => ⟨S8x16x8192x8192, .f32⟩
  | .hbm, ⟨55, _⟩ => ⟨S8x16x8192x8192, .f32⟩
  | .hbm, ⟨56, _⟩ => ⟨S8x16x8192x8192, .f32⟩
  | .hbm, ⟨57, _⟩ => ⟨S8x16x8192x8192, .f32⟩
  | .hbm, ⟨58, _⟩ => ⟨S8x16x8192x8192, .f32⟩
  | .hbm, ⟨59, _⟩ => ⟨S8x16x8192x8192, .f32⟩
  | .hbm, ⟨60, _⟩ => ⟨S8x16x8192x8192, .f32⟩
  | .hbm, ⟨61, _⟩ => ⟨S8x16x8192x8192, .f32⟩
  | .hbm, ⟨62, _⟩ => ⟨S8x16x8192x8192, .f32⟩
  | .hbm, ⟨63, _⟩ => ⟨S8x16x8192x8192, .f32⟩
  | .hbm, ⟨64, _⟩ => ⟨S8x16x8192x8192, .f32⟩
  | .hbm, ⟨65, _⟩ => ⟨S_, .f32⟩
  | .hbm, ⟨66, _⟩ => ⟨S_, .f32⟩
  | .hbm, ⟨67, _⟩ => ⟨S8x16x8192x8192, .i1⟩
  | .hbm, ⟨68, _⟩ => ⟨S8x16x8192x8192, .f32⟩
  | .hbm, ⟨69, _⟩ => ⟨S8x16x8192x8192, .f32⟩
  | .hbm, ⟨70, _⟩ => ⟨S8x16x8192x64, .f32⟩
  | .hbm, ⟨71, _⟩ => ⟨S8x8192x16x64, .f32⟩
  | .hbm, ⟨72, _⟩ => ⟨S8x8192x1024, .f32⟩
  | .hbm, ⟨73, _⟩ => ⟨S8x8192x1024, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_call0_cst : Ref sig .tc := ⟨.hbm, 41, rfl⟩
abbrev main_call2_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_0 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x8192x1024 : Shape := ⟨3, ![8, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S65536x1024 : Shape := ⟨2, ![65536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x5632, .f32⟩
  | .hbm, ⟨21, _⟩ => ⟨S8x8192x2816, .f32⟩
  | .hbm, ⟨22, _⟩ => ⟨S8x8192x2816, .f32⟩
  | .hbm, ⟨23, _⟩ => ⟨S8x8192x2816, .f32⟩
  | .hbm, ⟨24, _⟩ => ⟨S8x8192x2816, .f32⟩
  | .hbm, ⟨25, _⟩ => ⟨S_, .f32⟩
  | .hbm, ⟨26, _⟩ => ⟨S8x8192x2816, .f32⟩
  | .hbm, ⟨27, _⟩ => ⟨S8x8192x2816, .f32⟩
  | .hbm, ⟨28, _⟩ => ⟨S_, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x1024, .f32⟩
  | .hbm, ⟨34, _⟩ => ⟨S_, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S65536x1024, .f32⟩
  | .hbm, ⟨7, _⟩ => ⟨S65536x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1024x1024, .bf16⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x8192x1024 : Shape := ⟨3, ![8, 8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S65536x1024 : Shape := ⟨2, ![65536, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S8x8192x1024, .f32⟩
  | .hbm, ⟨7, _⟩ => ⟨S8x8192x1024, .f32⟩
  | .hbm, ⟨8, _⟩ => ⟨S8x8192x1024, .f32⟩
  | .hbm, ⟨9, _⟩ => ⟨S8x8192x1024, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S1x1x1024, .f32⟩
  | .hbm, ⟨23, _⟩ => ⟨S8x8192x1024, .f32⟩
  | .hbm, ⟨24, _⟩ => ⟨S8x8192x1024, .f32⟩
  | .hbm, ⟨25, _⟩ => ⟨S8x8192x5632, .f32⟩
  | .hbm, ⟨26, _⟩ => ⟨S8x8192x2816, .f32⟩
  | .hbm, ⟨27, _⟩ => ⟨S8x8192x2816, .f32⟩
  | .hbm, ⟨28, _⟩ => ⟨S8x8192x2816, .f32⟩
  | .hbm, ⟨29, _⟩ => ⟨S8x8192x2816, .f32⟩
  | .hbm, ⟨30, _⟩ => ⟨S_, .f32⟩
  | .hbm, ⟨31, _⟩ => ⟨S8x8192x2816, .f32⟩
  | .hbm, ⟨32, _⟩ => ⟨S8x8192x2816, .f32⟩
  | .hbm, ⟨33, _⟩ => ⟨S_, .f32⟩
  | .hbm, ⟨34, _⟩ => ⟨S8x8192x2816, .f32⟩
  | .hbm, ⟨35, _⟩ => ⟨S8x8192x2816, .f32⟩
  | .hbm, ⟨36, _⟩ => ⟨S8x8192x2816, .f32⟩
  | .hbm, ⟨37, _⟩ => ⟨S8x8192x2816, .f32⟩
  | .hbm, ⟨38, _⟩ => ⟨S8x8192x1024, .f32⟩
  | .hbm, ⟨39, _⟩ => ⟨S_, .f32⟩
  | .hbm, ⟨40, _⟩ => ⟨S8x8192x1024, .f32⟩
  | .hbm, ⟨41, _⟩ => ⟨S8x8192x1024, .f32⟩
  | .hbm, ⟨42, _⟩ => ⟨S8x8192x1024, .f32⟩
  | .hbm, ⟨43, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel4.lean ====
abbrev S8x8192x1024 : Shape := ⟨3, ![8, 8192, 1024]⟩
abbrev S1024 : Shape := ⟨1, ![1024]⟩
abbrev S1024x2048 : Shape := ⟨2, ![1024, 2048]⟩
abbrev S64 : Shape := ⟨1, ![64]⟩
abbrev S65536x1024 : Shape := ⟨2, ![65536, 1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S256x1024 : Shape := ⟨2, ![256, 1024]⟩
abbrev S1x64 : Shape := ⟨2, ![1, 64]⟩
abbrev S16x64 : Shape := ⟨2, ![16, 64]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S512x256 : Shape := ⟨2, ![512, 256]⟩

abbrev nBuf : Space → Nat
  | .hbm => 42
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S65536x1024, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S128, .i32⟩
  | .hbm, ⟨26, _⟩ => ⟨S1x128, .i32⟩
  | .hbm, ⟨27, _⟩ => ⟨S1024x128, .i32⟩
  | .hbm, ⟨28, _⟩ => ⟨S1024x128, .i32⟩
  | .hbm, ⟨29, _⟩ => ⟨S1024x128, .i1⟩
  | .hbm, ⟨30, _⟩ => ⟨S1024x128, .bf16⟩
  | .hbm, ⟨31, _⟩ => ⟨S128x1024, .bf16⟩
  | .hbm, ⟨32, _⟩ => ⟨S128x1024, .bf16⟩
  | .hbm, ⟨33, _⟩ => ⟨S256x1024, .bf16⟩
  | .hbm, ⟨34, _⟩ => ⟨S1x64, .f32⟩
  | .hbm, ⟨35, _⟩ => ⟨S16x64, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1024x2048, .bf16⟩
  | .hbm, ⟨40, _⟩ => ⟨S65536x1024, .bf16⟩
  | .hbm, ⟨41, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1024x128, .bf16⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x8192x1024 : Shape := ⟨3, ![8, 8192, 1024]⟩
abbrev S1024 : Shape := ⟨1, ![1024]⟩
abbrev S1024x2048 : Shape := ⟨2, ![1024, 2048]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2048 : Shape := ⟨3, ![8, 8192, 2048]⟩
abbrev S8x8192x16x64 : Shape := ⟨4, ![8, 8192, 16, 64]⟩
abbrev S8x8192x16 : Shape := ⟨3, ![8, 8192, 16]⟩
abbrev S8x8192x16x1 : Shape := ⟨4, ![8, 8192, 16, 1]⟩
abbrev S1x1x1x64 : Shape := ⟨4, ![1, 1, 1, 64]⟩
abbrev S65536x1024 : Shape := ⟨2, ![65536, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x2048, .f32⟩
  | .hbm, ⟨21, _⟩ => ⟨S8x8192x1024, .f32⟩
  | .hbm, ⟨22, _⟩ => ⟨S8x8192x1024, .f32⟩
  | .hbm, ⟨23, _⟩ => ⟨S8x8192x16x64, .f32⟩
  | .hbm, ⟨24, _⟩ => ⟨S8x8192x16x64, .f32⟩
  | .hbm, ⟨25, _⟩ => ⟨S_, .f32⟩
  | .hbm, ⟨26, _⟩ => ⟨S8x8192x16, .f32⟩
  | .hbm, ⟨27, _⟩ => ⟨S8x8192x16x1, .f32⟩
  | .hbm, ⟨28, _⟩ => ⟨S_, .f32⟩
  | .hbm, ⟨29, _⟩ => ⟨S8x8192x16x1, .f32⟩
  | .hbm, ⟨30, _⟩ => ⟨S8x8192x16x1, .f32⟩
  | .hbm, ⟨31, _⟩ => ⟨S_, .f32⟩
  | .hbm, ⟨32, _⟩ => ⟨S8x8192x16x1, .f32⟩
  | .hbm, ⟨33, _⟩ => ⟨S8x8192x16x1, .f32⟩
  | .hbm, ⟨34, _⟩ => ⟨S8x8192x16x1, .f32⟩
  | .hbm, ⟨35, _⟩ => ⟨S8x8192x16x64, .f32⟩
  | .hbm, ⟨36, _⟩ => ⟨S8x8192x16x64, .f32⟩
  | .hbm, ⟨37, _⟩ => ⟨S1x1x1x64, .f32⟩
  | .hbm, ⟨38, _⟩ => ⟨S8x8192x16x64, .f32⟩
  | .hbm, ⟨39, _⟩ => ⟨S8x8192x16x64, .f32⟩
  | .hbm, ⟨40, _⟩ => ⟨S8x8192x1024, .f32⟩
  | .hbm, ⟨41, _⟩ => ⟨S65536x1024, .f32⟩
  | .hbm, ⟨42, _⟩ => ⟨S65536x1024, .bf16⟩
  | .hbm, ⟨43, _⟩ => ⟨S65536x1024, .f32⟩
  | .hbm, ⟨44, _⟩ => ⟨S65536x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel5.lean ====
abbrev S8x8192x1024 : Shape := ⟨3, ![8, 8192, 1024]⟩
abbrev S1024 : Shape := ⟨1, ![1024]⟩
abbrev S1024x1024 : Shape := ⟨2, ![1024, 1024]⟩
abbrev S64 : Shape := ⟨1, ![64]⟩
abbrev S65536x1024 : Shape := ⟨2, ![65536, 1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S256x1024 : Shape := ⟨2, ![256, 1024]⟩
abbrev S1x64 : Shape := ⟨2, ![1, 64]⟩
abbrev S16x64 : Shape := ⟨2, ![16, 64]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S512x256 : Shape := ⟨2, ![512, 256]⟩

abbrev nBuf : Space → Nat
  | .hbm => 44
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S65536x1024, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S128, .i32⟩
  | .hbm, ⟨29, _⟩ => ⟨S1x128, .i32⟩
  | .hbm, ⟨30, _⟩ => ⟨S1024x128, .i32⟩
  | .hbm, ⟨31, _⟩ => ⟨S1024x128, .i32⟩
  | .hbm, ⟨32, _⟩ => ⟨S1024x128, .i1⟩
  | .hbm, ⟨33, _⟩ => ⟨S1024x128, .bf16⟩
  | .hbm, ⟨34, _⟩ => ⟨S128x1024, .bf16⟩
  | .hbm, ⟨35, _⟩ => ⟨S128x1024, .bf16⟩
  | .hbm, ⟨36, _⟩ => ⟨S256x1024, .bf16⟩
  | .hbm, ⟨37, _⟩ => ⟨S1x64, .f32⟩
  | .hbm, ⟨38, _⟩ => ⟨S16x64, .f32⟩
  | .hbm, ⟨39, _⟩ => ⟨S1024, .f32⟩
  | .hbm, ⟨40, _⟩ => ⟨S1x1024, .f32⟩
  | .hbm, ⟨41, _⟩ => ⟨S1x1024, .f32⟩
  | .hbm, ⟨42, _⟩ => ⟨S1024x1024, .bf16⟩
  | .hbm, ⟨43, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S1024x128, .bf16⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8x8192x1024 : Shape := ⟨3, ![8, 8192, 1024]⟩
abbrev S1024 : Shape := ⟨1, ![1024]⟩
abbrev S1024x1024 : Shape := ⟨2, ![1024, 1024]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x16x64 : Shape := ⟨4, ![8, 8192, 16, 64]⟩
abbrev S8x8192x16 : Shape := ⟨3, ![8, 8192, 16]⟩
abbrev S8x8192x16x1 : Shape := ⟨4, ![8, 8192, 16, 1]⟩
abbrev S1x1x1x64 : Shape := ⟨4, ![1, 1, 1, 64]⟩
abbrev S65536x1024 : Shape := ⟨2, ![65536, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x1024, .f32⟩
  | .hbm, ⟨21, _⟩ => ⟨S8x8192x16x64, .f32⟩
  | .hbm, ⟨22, _⟩ => ⟨S8x8192x16x64, .f32⟩
  | .hbm, ⟨23, _⟩ => ⟨S_, .f32⟩
  | .hbm, ⟨24, _⟩ => ⟨S8x8192x16, .f32⟩
  | .hbm, ⟨25, _⟩ => ⟨S8x8192x16x1, .f32⟩
  | .hbm, ⟨26, _⟩ => ⟨S_, .f32⟩
  | .hbm, ⟨27, _⟩ => ⟨S8x8192x16x1, .f32⟩
  | .hbm, ⟨28, _⟩ => ⟨S8x8192x16x1, .f32⟩
  | .hbm, ⟨29, _⟩ => ⟨S_, .f32⟩
  | .hbm, ⟨30, _⟩ => ⟨S8x8192x16x1, .f32⟩
  | .hbm, ⟨31, _⟩ => ⟨S8x8192x16x1, .f32⟩
  | .hbm, ⟨32, _⟩ => ⟨S8x8192x16x1, .f32⟩
  | .hbm, ⟨33, _⟩ => ⟨S8x8192x16x64, .f32⟩
  | .hbm, ⟨34, _⟩ => ⟨S8x8192x16x64, .f32⟩
  | .hbm, ⟨35, _⟩ => ⟨S1x1x1x64, .f32⟩
  | .hbm, ⟨36, _⟩ => ⟨S8x8192x16x64, .f32⟩
  | .hbm, ⟨37, _⟩ => ⟨S8x8192x16x64, .f32⟩
  | .hbm, ⟨38, _⟩ => ⟨S8x8192x1024, .f32⟩
  | .hbm, ⟨39, _⟩ => ⟨S_, .f32⟩
  | .hbm, ⟨40, _⟩ => ⟨S8x8192x1024, .f32⟩
  | .hbm, ⟨41, _⟩ => ⟨S8x8192x1024, .f32⟩
  | .hbm, ⟨42, _⟩ => ⟨S65536x1024, .f32⟩
  | .hbm, ⟨43, _⟩ => ⟨S65536x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.AttKit.lean ====
/- The launch side of the attention kernel's frame: what @main holds when the region is entered, each window's block,
   the staging and scratch buffers, and the frame claim read off a run of the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_region (cfgs (F := F)) 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-! ## The kernel body on any staging memrefs: a subtype the run finds -/

/-- One staging buffer of output window 3, through which its contents are stated (`View.read_writes_of_cover`: the
    choice does not matter). -/
abbrev VO0_3 : View sig .tc .vmem S1x512x128 .bf16 := (Memref.whole cc0_stg3_0 : Memref sig .tc .vmem S1x512x128 .bf16).view
/-- Each window's current staging memref at point `t`, spelled as the pipeline passes it (`bodyAt0`), and its wholeness. -/
abbrev ms0_0 (t : Fin (cfg0 (F := F)).N) : Memref sig .tc .vmem S1x512x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x512x128 .bf16 := win0_3.stage ((cfg0 (F := F)).slots t 3)
abbrev hs0_3 (t : Fin (cfg0 (F := F)).N) : (ms0_3 t).IsWhole := hstage0_3 (((cfg0 (F := F)).slots t 3).cast nbuf0_3)
/-- The scratch operands: whole scoped buffers of the kernel's own, passed beside the windows. -/
abbrev scM0_0 : Memref sig .tc .vmem S4x128x128 .f32 := Memref.whole cc0_scratch0
abbrev scM0_1 : Memref sig .tc .vmem S4x256x1 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Att

end
-- ==== Proof.AttStep.lean ====
/- One trip of the attention's loop over earlier blocks, and the loop, as functions. -/
module

public import proofs.«01_k».proof.Proof.AttKit
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Slice `g` of the accumulator scratch, and of the scratch of the sums of later blocks. -/
def getA (g : Fin 4) (A : Vec F S4x128x128 .f32) : Vec F S1x128x128 .f32 := fun x => A (ix3 g (x 1 : Fin 128) (x 2 : Fin 128))
def getD (g : Fin 4) (D : Vec F S4x256x1 .f32) : Vec F S1x256x1 .f32 := fun x => D (ix3 g (x 1 : Fin 256) (x 2 : Fin 1))
/-- The scratch with slice `g` replaced. -/
def setA (g : Fin 4) (A : Vec F S4x128x128 .f32) (v : Vec F S1x128x128 .f32) : Vec F S4x128x128 .f32 :=
  fun x => if (x 0 : Fin 4).val = g.val then v (ix3 (0 : Fin 1) (x 1 : Fin 128) (x 2 : Fin 128)) else A x
def setD (g : Fin 4) (D : Vec F S4x256x1 .f32) (v : Vec F S1x256x1 .f32) : Vec F S4x256x1 .f32 :=
  fun x => if (x 0 : Fin 4).val = g.val then v (ix3 (0 : Fin 1) (x 1 : Fin 256) (x 2 : Fin 1)) else D x

/-- Block `j` (128 rows) of the staged keys or values. -/
def kvblk (X : Vec F S1x8192x128 .bf16) (j : ℕ) : Vec F S1x128x128 .bf16 :=
  fun x => X (ix3 (0 : Fin 1) ⟨(128 * j + (x 1 : Fin 128).val) % 8192, Nat.mod_lt _ (by norm_num)⟩ (x 2 : Fin 128))

/-- The sum of the logs over block `k`, added to what the later blocks left. -/
def stepD (q2 : FVec F S256x128 .bf16) (kb : Vec F S1x128x128 .bf16) (d : Vec F S1x256x1 .f32) : Vec F S1x256x1 .f32 :=
  k0_pay7 (k0_pay228 d) (k0_pay232 q2 kb)
/-- The accumulator after one more block. -/
def stepA (v2 : IVec S128x128 1) (v24 : FVec F S256x128 .bf16) (q2 : FVec F S256x128 .bf16) (kb vb : Vec F S1x128x128 .bf16)
    (a : Vec F S1x128x128 .f32) (d : Vec F S1x256x1 .f32) : Vec F S1x128x128 .f32 :=
  k0_pay6 (k0_pay231 v2 q2 v24 kb vb d) a
/-- Whether the loop goes on. -/
def stepG (q2 : FVec F S256x128 .bf16) (kb : Vec F S1x128x128 .bf16) (d : Vec F S1x256x1 .f32) : BitVec 1 :=
  Scalar.cmpf .olt (k0_pay8 (k0_pay228 d) (k0_pay232 q2 kb)) (Named.named κ "dead_log" 0x42D20000#32)

/-- The loop over blocks `k - 1, k - 2, …, 0`. -/
def wloop (v2 : IVec S128x128 1) (v24 : FVec F S256x128 .bf16) (q2 : FVec F S256x128 .bf16) (x1 x2 : Vec F S1x8192x128 .bf16) :
    ℕ → BitVec 1 → Vec F S1x128x128 .f32 → Vec F S1x256x1 .f32 → Vec F S1x128x128 .f32 × Vec F S1x256x1 .f32
  | 0, _, a, d => (a, d)
  | k + 1, al, a, d =>
    if al = 1#1 then
      wloop v2 v24 q2 x1 x2 k (stepG q2 (kvblk x1 k) d) (stepA v2 v24 q2 (kvblk x1 k) (kvblk x2 k) a d) (stepD q2 (kvblk x1 k) d)
    else (a, d)

/-- The counter with `k` blocks to go. -/
def Ctr (k : ℕ) (w : BitVec 32) : Prop :=
  (k = 0 ∧ ¬ Scalar.cmpi .sge w 0#32 = 1#1) ∨ (∃ j, k = j + 1 ∧ j < 64 ∧ w = BitVec.ofNat 32 j)

theorem ctr_sge : ∀ j < 64, Scalar.cmpi .sge (BitVec.ofNat 32 j) 0#32 = 1#1 := by decide
theorem ctr_sub : ∀ j < 63, Scalar.subi (BitVec.ofNat 32 (j + 1)) 1#32 = BitVec.ofNat 32 j := by decide
theorem ctr_next (k : ℕ) (hk : k < 64) : Ctr k (Scalar.subi (BitVec.ofNat 32 k) 1#32) := by
  rcases k with _ | j
  · left; exact ⟨rfl, by decide⟩
  · right; exact ⟨j, rfl, by omega, ctr_sub j (by omega)⟩
theorem chk1_of : ∀ j < 64, k0_chk1 (BitVec.ofNat 32 j) := by unfold k0_chk1; decide +kernel
theorem off2_of : ∀ j < 64, k0_off2 (BitVec.ofNat 32 j) = ![0, 128 * j, 0] := by decide +kernel

/-- A load of block `j`. -/
theorem ld_kv (X : Vec F S1x8192x128 .bf16) (j : ℕ) (hj : j < 64) (o : Fin 3 → ℕ) (ho : o = ![0, 128 * j, 0]) (h) :
    View.ld (e' := .bf16) (Val := Elt F) X (Rect.unit (s := S1x8192x128) o S1x128x128.size h) = kvblk X j := by
  subst ho
  funext x
  unfold kvblk View.ld
  congr 1
  funext a
  apply Fin.ext
  have h1 : (x 1 : Fin 128).val < 128 := (x 1 : Fin 128).isLt
  have h0 : (x 0 : Fin 1).val < 1 := (x 0 : Fin 1).isLt
  match a with
  | ⟨0, _⟩ => show 0 + 1 * (x 0 : Fin 1).val = 0; omega
  | ⟨1, _⟩ => show 128 * j + 1 * (x 1 : Fin 128).val = (128 * j + (x 1 : Fin 128).val) % 8192; omega
  | ⟨2, _⟩ => show 0 + 1 * (x 2 : Fin 128).val = (x 2 : Fin 128).val; omega

end Cert.KernelIdeal.Att

end
-- ==== Proof.AttW.lean ====
/- The attention's loops over earlier blocks, run by a specification. -/
module

public import proofs.«01_k».proof.Proof.AttStep
public import Idealize.ShloMosaic.Lib.Tactic
public import Idealize.ShloMosaic.Lib.WritesUnit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev 𝒱₀ : Variants := Variants.nat

/-- What the loops hold: the keys and values at their contents, the two scratch operands at `A` and `D`. -/
def held (c : Dev nD) (arg4 : Memref sig .tc .vmem S1x8192x128 .bf16) (harg4 : arg4.IsWhole) (arg5 : Memref sig .tc .vmem S1x8192x128 .bf16) (harg5 : arg5.IsWhole)
    (arg7 : Memref sig .tc .vmem S4x128x128 .f32) (harg7 : arg7.IsWhole) (arg8 : Memref sig .tc .vmem S4x256x1 .f32) (harg8 : arg8.IsWhole)
    (x1 x2 : Vec F S1x8192x128 .bf16) (A : Vec F S4x128x128 .f32) (D : Vec F S4x256x1 .f32) : sProp 𝕄 :=
  iprop((arg4.view.loc (c : Thread nD τ) ↦[arg4.view.set]{fullShare} harg4.unread x1) ∗ (arg5.view.loc (c : Thread nD τ) ↦[arg5.view.set]{fullShare} harg5.unread x2)
    ∗ (arg7.view.loc (c : Thread nD τ) ↦[arg7.view.set]{fullShare} harg7.unread A) ∗ (arg8.view.loc (c : Thread nD τ) ↦[arg8.view.set]{fullShare} harg8.unread D))

theorem ld_A (g : Fin 4) (A : Vec F S4x128x128 .f32) (o : Fin 3 → ℕ) (ho : o = ![g.val, 0, 0]) (h) :
    View.ld (e' := .f32) (Val := Elt F) A (Rect.unit (s := S4x128x128) o S1x128x128.size h) = getA g A := by
  subst ho
  funext x
  unfold getA View.ld
  congr 1
  funext a
  apply Fin.ext
  have h0 : (x 0 : Fin 1).val < 1 := (x 0 : Fin 1).isLt
  match a with
  | ⟨0, _⟩ => show g.val + 1 * (x 0 : Fin 1).val = g.val; omega
  | ⟨1, _⟩ => show 0 + 1 * (x 1 : Fin 128).val = (x 1 : Fin 128).val; omega
  | ⟨2, _⟩ => show 0 + 1 * (x 2 : Fin 128).val = (x 2 : Fin 128).val; omega

theorem ld_D (g : Fin 4) (D : Vec F S4x256x1 .f32) (o : Fin 3 → ℕ) (ho : o = ![g.val, 0, 0]) (h) :
    View.ld (e' := .f32) (Val := Elt F) D (Rect.unit (s := S4x256x1) o S1x256x1.size h) = getD g D := by
  subst ho
  funext x
  unfold getD View.ld
  congr 1
  funext a
  apply Fin.ext
  have h0 : (x 0 : Fin 1).val < 1 := (x 0 : Fin 1).isLt
  match a with
  | ⟨0, _⟩ => show g.val + 1 * (x 0 : Fin 1).val = g.val; omega
  | ⟨1, _⟩ => show 0 + 1 * (x 1 : Fin 256).val = (x 1 : Fin 256).val; omega
  | ⟨2, _⟩ => show 0 + 1 * (x 2 : Fin 1).val = (x 2 : Fin 1).val; omega

theorem rd_kv (a : Memref sig .tc .vmem S1x8192x128 .bf16) (ha : a.IsWhole) (X : Vec F S1x8192x128 .bf16) (j : ℕ) (hj : j < 64)
    (o : Fin 3 → ℕ) (ho : o = ![0, 128 * j, 0]) (h) :
    View.readAt (Elt F) a.view (Rect.unit (s := S1x8192x128) o S1x128x128.size h).toLoadRect (ha.unread X) = kvblk X j := by
  rw [View.readAt_eq_ld, ha.read_unread]; exact ld_kv X j hj o ho h
theorem rd_A (g : Fin 4) (a : Memref sig .tc .vmem S4x128x128 .f32) (ha : a.IsWhole) (X : Vec F S4x128x128 .f32)
    (o : Fin 3 → ℕ) (ho : o = ![g.val, 0, 0]) (h) :
    View.readAt (Elt F) a.view (Rect.unit (s := S4x128x128) o S1x128x128.size h).toLoadRect (ha.unread X) = getA g X := by
  rw [View.readAt_eq_ld, ha.read_unread]; exact ld_A g X o ho h
theorem rd_D (g : Fin 4) (a : Memref sig .tc .vmem S4x256x1 .f32) (ha : a.IsWhole) (X : Vec F S4x256x1 .f32)
    (o : Fin 3 → ℕ) (ho : o = ![g.val, 0, 0]) (h) :
    View.readAt (Elt F) a.view (Rect.unit (s := S4x256x1) o S1x256x1.size h).toLoadRect (ha.unread X) = getD g X := by
  rw [View.readAt_eq_ld, ha.read_unread]; exact ld_D g X o ho h

theorem wr_A (g : Fin 4) (arg7 : Memref sig .tc .vmem S4x128x128 .f32) (harg7 : arg7.IsWhole) (A : Vec F S4x128x128 .f32) (v : Vec F S1x128x128 .f32)
    (o : Fin 3 → ℕ) (ho : o = ![g.val, 0, 0]) (h) :
    arg7.view.writes (Elt F) (harg7.unread A) [⟨Rect.unit (s := S4x128x128) o S1x128x128.size h, v⟩] = harg7.unread (setA g A v) := by
  subst ho
  apply harg7.eq_unread
  funext x
  have hx := (x 1 : Fin 128).isLt
  have hy := (x 2 : Fin 128).isLt
  unfold setA
  split
  · rename_i hg
    rw [View.read_writes_cons_unit_of_mem  (x := ix3 (0 : Fin 1) (x 1 : Fin 128) (x 2 : Fin 128)) (heq := rfl)]
    rotate_left
    · intro a
      match a with
      | ⟨0, _⟩ => show (x 0 : Fin 4).val = g.val + 0; omega
      | ⟨1, _⟩ => show (x 1 : Fin 128).val = 0 + (x 1 : Fin 128).val; omega
      | ⟨2, _⟩ => show (x 2 : Fin 128).val = 0 + (x 2 : Fin 128).val; omega
    · rfl
  · rename_i hg
    rw [View.read_writes_cons_unit_of_not_mem (heq := rfl) (a := 0)]
    · show arg7.view.read (Elt F) (harg7.unread A) x = _
      rw [harg7.read_unread]
    · show (x 0 : Fin 4).val < g.val ∨ g.val + 1 ≤ (x 0 : Fin 4).val
      omega

theorem wr_D (g : Fin 4) (arg8 : Memref sig .tc .vmem S4x256x1 .f32) (harg8 : arg8.IsWhole) (D : Vec F S4x256x1 .f32) (v : Vec F S1x256x1 .f32)
    (o : Fin 3 → ℕ) (ho : o = ![g.val, 0, 0]) (h) :
    arg8.view.writes (Elt F) (harg8.unread D) [⟨Rect.unit (s := S4x256x1) o S1x256x1.size h, v⟩] = harg8.unread (setD g D v) := by
  subst ho
  apply harg8.eq_unread
  funext x
  have hx := (x 1 : Fin 256).isLt
  have hy := (x 2 : Fin 1).isLt
  unfold setD
  split
  · rename_i hg
    rw [View.read_writes_cons_unit_of_mem  (x := ix3 (0 : Fin 1) (x 1 : Fin 256) (x 2 : Fin 1)) (heq := rfl)]
    rotate_left
    · intro a
      match a with
      | ⟨0, _⟩ => show (x 0 : Fin 4).val = g.val + 0; omega
      | ⟨1, _⟩ => show (x 1 : Fin 256).val = 0 + (x 1 : Fin 256).val; omega
      | ⟨2, _⟩ => show (x 2 : Fin 1).val = 0 + (x 2 : Fin 1).val; omega
    · rfl
  · rename_i hg
    rw [View.read_writes_cons_unit_of_not_mem (heq := rfl) (a := 0)]
    · show arg8.view.read (Elt F) (harg8.unread D) x = _
      rw [harg8.read_unread]
    · show (x 0 : Fin 4).val < g.val ∨ g.val + 1 ≤ (x 0 : Fin 4).val
      omega

/-- The state after the loop of group `g` has `k` blocks to go. -/
def wstate (g : Fin 4) (v2 : IVec S128x128 1) (v24 : FVec F S256x128 .bf16) (q2 : FVec F S256x128 .bf16) (x1 x2 : Vec F S1x8192x128 .bf16)
    (k : ℕ) (al : BitVec 1) (A : Vec F S4x128x128 .f32) (D : Vec F S4x256x1 .f32) : Vec F S4x128x128 .f32 × Vec F S4x256x1 .f32 :=
  (setA g A (wloop v2 v24 q2 x1 x2 k al (getA g A) (getD g D)).1, setD g D (wloop v2 v24 q2 x1 x2 k al (getA g A) (getD g D)).2)

theorem get_setA (g : Fin 4) (A : Vec F S4x128x128 .f32) (v : Vec F S1x128x128 .f32) : getA g (setA g A v) = v := by
  funext x
  have h0 : (x 0 : Fin 1) = (0 : Fin 1) := Subsingleton.elim (α := Fin 1) _ _
  show (if g.val = g.val then v (ix3 (0 : Fin 1) (x 1 : Fin 128) (x 2 : Fin 128)) else A (ix3 g (x 1 : Fin 128) (x 2 : Fin 128))) = v x
  rw [if_pos rfl]
  congr 1
  funext a
  match a with
  | ⟨0, _⟩ => exact h0.symm
  | ⟨1, _⟩ => rfl
  | ⟨2, _⟩ => rfl
theorem get_setD (g : Fin 4) (A : Vec F S4x256x1 .f32) (v : Vec F S1x256x1 .f32) : getD g (setD g A v) = v := by
  funext x
  have h0 : (x 0 : Fin 1) = (0 : Fin 1) := Subsingleton.elim (α := Fin 1) _ _
  show (if g.val = g.val then v (ix3 (0 : Fin 1) (x 1 : Fin 256) (x 2 : Fin 1)) else A (ix3 g (x 1 : Fin 256) (x 2 : Fin 1))) = v x
  rw [if_pos rfl]
  congr 1
  funext a
  match a with
  | ⟨0, _⟩ => exact h0.symm
  | ⟨1, _⟩ => rfl
  | ⟨2, _⟩ => rfl
theorem set_setA (g : Fin 4) (A : Vec F S4x128x128 .f32) (v w : Vec F S1x128x128 .f32) : setA g (setA g A v) w = setA g A w := by
  funext x; unfold setA; split <;> rfl
theorem set_setD (g : Fin 4) (A : Vec F S4x256x1 .f32) (v w : Vec F S1x256x1 .f32) : setD g (setD g A v) w = setD g A w := by
  funext x; unfold setD; split <;> rfl
theorem set_getA (g : Fin 4) (A : Vec F S4x128x128 .f32) : setA g A (getA g A) = A := by
  funext x
  unfold setA getA
  split
  · rename_i h
    congr 1
    funext a
    match a with
    | ⟨0, _⟩ => exact Fin.ext h.symm
    | ⟨1, _⟩ => rfl
    | ⟨2, _⟩ => rfl
  · rfl
theorem set_getD (g : Fin 4) (A : Vec F S4x256x1 .f32) : setD g A (getD g A) = A := by
  funext x
  unfold setD getD
  split
  · rename_i h
    congr 1
    funext a
    match a with
    | ⟨0, _⟩ => exact Fin.ext h.symm
    | ⟨1, _⟩ => rfl
    | ⟨2, _⟩ => rfl
  · rfl

/-- A loop's specification with `k` blocks to go: it returns some counter and flag, the scratch after the blocks. -/
def spec (c : Dev nD) (arg4 : Memref sig .tc .vmem S1x8192x128 .bf16) (harg4 : arg4.IsWhole) (arg5 : Memref sig .tc .vmem S1x8192x128 .bf16) (harg5 : arg5.IsWhole)
    (arg7 : Memref sig .tc .vmem S4x128x128 .f32) (harg7 : arg7.IsWhole) (arg8 : Memref sig .tc .vmem S4x256x1 .f32) (harg8 : arg8.IsWhole)
    (g : Fin 4) (v2 : IVec S128x128 1) (v24 : FVec F S256x128 .bf16) (q2 : FVec F S256x128 .bf16) (x1 x2 : Vec F S1x8192x128 .bf16)
    (k : ℕ) (al : BitVec 1) (A : Vec F S4x128x128 .f32) (D : Vec F S4x256x1 .f32) : sWPT 𝕄 (BitVec 32 × BitVec 1) := do
  sWPT.consume (held c arg4 harg4 arg5 harg5 arg7 harg7 arg8 harg8 x1 x2 A D)
  let r ← sWPT.arbitrary
  sWPT.produce (held c arg4 harg4 arg5 harg5 arg7 harg7 arg8 harg8 x1 x2
    (wstate g v2 v24 q2 x1 x2 k al A D).1 (wstate g v2 v24 q2 x1 x2 k al A D).2)
  pure r

theorem spec_apply (c : Dev nD) (arg4 : Memref sig .tc .vmem S1x8192x128 .bf16) (harg4 : arg4.IsWhole) (arg5 : Memref sig .tc .vmem S1x8192x128 .bf16) (harg5 : arg5.IsWhole)
    (arg7 : Memref sig .tc .vmem S4x128x128 .f32) (harg7 : arg7.IsWhole) (arg8 : Memref sig .tc .vmem S4x256x1 .f32) (harg8 : arg8.IsWhole)
    (g : Fin 4) (v2 : IVec S128x128 1) (v24 : FVec F S256x128 .bf16) (q2 : FVec F S256x128 .bf16) (x1 x2 : Vec F S1x8192x128 .bf16)
    (k : ℕ) (al : BitVec 1) (A : Vec F S4x128x128 .f32) (D : Vec F S4x256x1 .f32) (K : BitVec 32 × BitVec 1 → sProp 𝕄) :
    spec c arg4 harg4 arg5 harg5 arg7 harg7 arg8 harg8 g v2 v24 q2 x1 x2 k al A D K
      = iprop(held c arg4 harg4 arg5 harg5 arg7 harg7 arg8 harg8 x1 x2 A D ∗ ∀ r : BitVec 32 × BitVec 1,
          (held c arg4 harg4 arg5 harg5 arg7 harg7 arg8 harg8 x1 x2
            (wstate g v2 v24 q2 x1 x2 k al A D).1 (wstate g v2 v24 q2 x1 x2 k al A D).2 -∗ K r)) := rfl

theorem wstate_stop (g : Fin 4) (v2 : IVec S128x128 1) (v24 : FVec F S256x128 .bf16) (q2 : FVec F S256x128 .bf16) (x1 x2 : Vec F S1x8192x128 .bf16)
    (k : ℕ) (al : BitVec 1) (A : Vec F S4x128x128 .f32) (D : Vec F S4x256x1 .f32) (h : k = 0 ∨ ¬ al = 1#1) :
    wstate g v2 v24 q2 x1 x2 k al A D = (A, D) := by
  have : wloop v2 v24 q2 x1 x2 k al (getA g A) (getD g D) = (getA g A, getD g D) := by
    rcases k with _ | k
    · rfl
    · rw [wloop, if_neg (by rcases h with h | h; · omega
                            · exact h)]
  unfold wstate
  rw [this, set_getA, set_getD]

theorem wstate_succ (g : Fin 4) (v2 : IVec S128x128 1) (v24 : FVec F S256x128 .bf16) (q2 : FVec F S256x128 .bf16) (x1 x2 : Vec F S1x8192x128 .bf16)
    (k : ℕ) (al : BitVec 1) (A : Vec F S4x128x128 .f32) (D : Vec F S4x256x1 .f32) (h : al = 1#1) :
    wstate g v2 v24 q2 x1 x2 (k + 1) al A D = wstate g v2 v24 q2 x1 x2 k (stepG q2 (kvblk x1 k) (getD g D))
      (setA g A (stepA v2 v24 q2 (kvblk x1 k) (kvblk x2 k) (getA g A) (getD g D))) (setD g D (stepD q2 (kvblk x1 k) (getD g D))) := by
  unfold wstate
  rw [wloop, if_pos h, get_setA, get_setD, set_setA, set_setD]

theorem andi_left {a b : BitVec 1} (h : Scalar.andi a b = 1#1) : a = 1#1 := by revert a b; decide
theorem andi_right {a b : BitVec 1} (h : Scalar.andi a b = 1#1) : b = 1#1 := by revert a b; decide
theorem pay10_eq : k0_pay10 (F := F) = k0_pay6 := rfl
theorem pay11_eq : k0_pay11 (F := F) = k0_pay7 := rfl
theorem pay12_eq : k0_pay12 (F := F) = k0_pay8 := rfl
theorem pay14_eq : k0_pay14 (F := F) = k0_pay6 := rfl
theorem pay15_eq : k0_pay15 (F := F) = k0_pay7 := rfl
theorem pay16_eq : k0_pay16 (F := F) = k0_pay8 := rfl
theorem pay18_eq : k0_pay18 (F := F) = k0_pay6 := rfl
theorem pay19_eq : k0_pay19 (F := F) = k0_pay7 := rfl
theorem pay20_eq : k0_pay20 (F := F) = k0_pay8 := rfl

theorem spec_le1 (c : Dev nD) (i : grid0.Coords) (arg4 : Memref sig .tc .vmem S1x8192x128 .bf16) (harg4 : arg4.IsWhole) (arg5 : Memref sig .tc .vmem S1x8192x128 .bf16) (harg5 : arg5.IsWhole)
    (arg7 : Memref sig .tc .vmem S4x128x128 .f32) (harg7 : arg7.IsWhole) (arg8 : Memref sig .tc .vmem S4x256x1 .f32) (harg8 : arg8.IsWhole)
    (v2 : IVec S128x128 1) (v24 : FVec F S256x128 .bf16) (q2 : FVec F S256x128 .bf16) (x1 x2 : Vec F S1x8192x128 .bf16) (E : Set ℕ) :
    ∀ (k : ℕ) (w : BitVec 32), Ctr k w → ∀ (al : BitVec 1) (A : Vec F S4x128x128 .f32) (D : Vec F S4x256x1 .f32) K,
      spec c arg4 harg4 arg5 harg5 arg7 harg7 arg8 harg8 0 v2 v24 q2 x1 x2 k al A D K
      ⊢ wp frame (wpE (defs₀ (F := F)) 𝒱₀ (c : Thread nD τ) (some k)) E
          (defs₀ (F := F) .tc 1 ⟨i, arg4, harg4, arg5, harg5, v2, arg8, harg8, q2, v24, arg7, harg7, w, al⟩) K := by
  intro k
  induction k with
  | zero =>
    intro w hw al A D K
    rw [spec_apply, wstate_stop _ _ _ _ _ _ _ _ _ _ (.inl rfl)]
    show _ ⊢ wp frame (wpE (defs₀ (F := F)) 𝒱₀ (c : Thread nD τ) (some 0)) E
      (cc0_while1 i arg4 harg4 arg5 harg5 v2 arg8 harg8 q2 v24 arg7 harg7 w al) K
    simp only [cc0_while1_eq_skeleton]; unfold cc0_while1_skel
    have hC : ¬ Scalar.andi (Scalar.cmpi .sge w 0#32) al = 1#1 := by
      rcases hw with ⟨_, hw⟩ | ⟨j, hj, _⟩
      · exact fun h => hw (andi_left h)
      · omega
    simp only [hC, ↓reduceIte, Prog.pure_eq_ret]
    iintro ⟨H, Hk⟩
    rw [wp_ret]; imodintro
    iapply Hk
    iexact H
  | succ k ih =>
    intro w hw al A D K
    obtain ⟨hk, rfl⟩ : k < 64 ∧ w = BitVec.ofNat 32 k := by
      rcases hw with ⟨h, _⟩ | ⟨j, hj, h1, h2⟩
      · omega
      · obtain rfl : k = j := by omega
        exact ⟨h1, h2⟩
    rw [spec_apply]
    show _ ⊢ wp frame (wpE (defs₀ (F := F)) 𝒱₀ (c : Thread nD τ) (some (k + 1))) E
      (cc0_while1 i arg4 harg4 arg5 harg5 v2 arg8 harg8 q2 v24 arg7 harg7 (BitVec.ofNat 32 k) al) K
    simp only [cc0_while1_eq_skeleton]; unfold cc0_while1_skel
    by_cases hal : al = 1#1
    · have hC : Scalar.andi (Scalar.cmpi .sge (BitVec.ofNat 32 k) 0#32) al = 1#1 := by
        rw [ctr_sge k hk, hal]; rfl
      rw [wstate_succ _ _ _ _ _ _ _ _ _ _ hal]
      have hchk : k0_chk1 (BitVec.ofNat 32 k) := chk1_of k hk
      simp only [k0_part23_eq_skeleton]
      unfold held
      iintro ⟨⟨H4, H5, H7, H8⟩, Hk⟩
      sl_exec
      have e0 : spec_le1.sl.r arg8 harg8 D = k0_pay228 (getD 0 D) := congrArg k0_pay228 (rd_D 0 arg8 harg8 D ![0, 0, 0] rfl _)
      have ek := rd_kv arg4 harg4 x1 k hk _ (off2_of k hk) (k0_off2_inb (BitVec.ofNat 32 k) hchk)
      have ev := rd_kv arg5 harg5 x2 k hk _ (off2_of k hk) (k0_off2_inb (BitVec.ofNat 32 k) hchk)
      have e2 : spec_le1.sl.r_2 arg4 harg4 q2 x1 k hchk = k0_pay232 q2 (kvblk x1 k) := congrArg (k0_pay232 q2) ek
      have e1 : spec_le1.sl.r_1 arg4 harg4 arg5 harg5 arg8 harg8 v2 v24 q2 x1 x2 k D hchk
          = k0_pay231 v2 q2 v24 (kvblk x1 k) (kvblk x2 k) (getD 0 D) := by
        rw [← ek, ← ev, ← rd_D 0 arg8 harg8 D ![0, 0, 0] rfl inb_S4x256x1_S1x256x1_0_0_0]; rfl
      rw [e0, e1, e2]
      rw [rd_A 0 arg7 harg7 A ![0, 0, 0] rfl, wr_A 0 arg7 harg7 A _ ![0, 0, 0] rfl, wr_D 0 arg8 harg8 D _ ![0, 0, 0] rfl]
      iapply (wp_call_spec 𝒱₀ (c : Thread nD τ) (some (k + 1)) E (spec c arg4 harg4 arg5 harg5 arg7 harg7 arg8 harg8 0 v2 v24 q2 x1 x2 k
          (stepG q2 (kvblk x1 k) (getD 0 D)) (setA 0 A (stepA v2 v24 q2 (kvblk x1 k) (kvblk x2 k) (getA 0 A) (getD 0 D)))
          (setD 0 D (stepD q2 (kvblk x1 k) (getD 0 D)))) k
        (fun u hu => by cases hu; exact Nat.lt_succ_self k) (ih _ (ctr_next k hk) _ _ _))
      rw [spec_apply]; unfold held
      isplitl [H4 H5 H7 H8]
      · isplitl [H4]; · iexact H4
        isplitl [H5]; · iexact H5
        isplitl [H7]; · iexact H7
        iexact H8
      iintro %r HH
      rw [wp_ret]; imodintro
      iapply Hk
      iexact HH
    · have hC : ¬ Scalar.andi (Scalar.cmpi .sge (BitVec.ofNat 32 k) 0#32) al = 1#1 := fun h => hal (andi_right h)
      rw [wstate_stop _ _ _ _ _ _ _ _ _ _ (.inr hal)]
      simp only [hC, ↓reduceIte, Prog.pure_eq_ret]
      iintro ⟨H, Hk⟩
      rw [wp_ret]; imodintro
      iapply Hk
      iexact H

theorem spec_le2 (c : Dev nD) (i : grid0.Coords) (arg4 : Memref sig .tc .vmem S1x8192x128 .bf16) (harg4 : arg4.IsWhole) (arg5 : Memref sig .tc .vmem S1x8192x128 .bf16) (harg5 : arg5.IsWhole)
    (arg7 : Memref sig .tc .vmem S4x128x128 .f32) (harg7 : arg7.IsWhole) (arg8 : Memref sig .tc .vmem S4x256x1 .f32) (harg8 : arg8.IsWhole)
    (v2 : IVec S128x128 1) (v24 : FVec F S256x128 .bf16) (q2 : FVec F S256x128 .bf16) (x1 x2 : Vec F S1x8192x128 .bf16) (E : Set ℕ) :
    ∀ (k : ℕ) (w : BitVec 32), Ctr k w → ∀ (al : BitVec 1) (A : Vec F S4x128x128 .f32) (D : Vec F S4x256x1 .f32) K,
      spec c arg4 harg4 arg5 harg5 arg7 harg7 arg8 harg8 1 v2 v24 q2 x1 x2 k al A D K
      ⊢ wp frame (wpE (defs₀ (F := F)) 𝒱₀ (c : Thread nD τ) (some k)) E
          (defs₀ (F := F) .tc 2 ⟨i, arg4, harg4, arg5, harg5, v2, arg8, harg8, q2, v24, arg7, harg7, w, al⟩) K := by
  intro k
  induction k with
  | zero =>
    intro w hw al A D K
    rw [spec_apply, wstate_stop _ _ _ _ _ _ _ _ _ _ (.inl rfl)]
    show _ ⊢ wp frame (wpE (defs₀ (F := F)) 𝒱₀ (c : Thread nD τ) (some 0)) E
      (cc0_while2 i arg4 harg4 arg5 harg5 v2 arg8 harg8 q2 v24 arg7 harg7 w al) K
    simp only [cc0_while2_eq_skeleton]; unfold cc0_while2_skel
    have hC : ¬ Scalar.andi (Scalar.cmpi .sge w 0#32) al = 1#1 := by
      rcases hw with ⟨_, hw⟩ | ⟨j, hj, _⟩
      · exact fun h => hw (andi_left h)
      · omega
    simp only [hC, ↓reduceIte, Prog.pure_eq_ret]
    iintro ⟨H, Hk⟩
    rw [wp_ret]; imodintro
    iapply Hk
    iexact H
  | succ k ih =>
    intro w hw al A D K
    obtain ⟨hk, rfl⟩ : k < 64 ∧ w = BitVec.ofNat 32 k := by
      rcases hw with ⟨h, _⟩ | ⟨j, hj, h1, h2⟩
      · omega
      · obtain rfl : k = j := by omega
        exact ⟨h1, h2⟩
    rw [spec_apply]
    show _ ⊢ wp frame (wpE (defs₀ (F := F)) 𝒱₀ (c : Thread nD τ) (some (k + 1))) E
      (cc0_while2 i arg4 harg4 arg5 harg5 v2 arg8 harg8 q2 v24 arg7 harg7 (BitVec.ofNat 32 k) al) K
    simp only [cc0_while2_eq_skeleton]; unfold cc0_while2_skel
    by_cases hal : al = 1#1
    · have hC : Scalar.andi (Scalar.cmpi .sge (BitVec.ofNat 32 k) 0#32) al = 1#1 := by
        rw [ctr_sge k hk, hal]; rfl
      rw [wstate_succ _ _ _ _ _ _ _ _ _ _ hal]
      have hchk : k0_chk2 (BitVec.ofNat 32 k) := chk1_of k hk
      simp only [k0_part24_eq_skeleton]
      unfold held
      iintro ⟨⟨H4, H5, H7, H8⟩, Hk⟩
      sl_exec
      have e0 : spec_le2.sl.r arg8 harg8 D = k0_pay228 (getD 1 D) := congrArg k0_pay233 (rd_D 1 arg8 harg8 D ![1, 0, 0] rfl _)
      have ek := rd_kv arg4 harg4 x1 k hk _ (off2_of k hk) (k0_off3_inb (BitVec.ofNat 32 k) hchk)
      have ev := rd_kv arg5 harg5 x2 k hk _ (off2_of k hk) (k0_off3_inb (BitVec.ofNat 32 k) hchk)
      have e2 : spec_le2.sl.r_2 arg4 harg4 q2 x1 k hchk = k0_pay232 q2 (kvblk x1 k) := congrArg (k0_pay237 q2) ek
      have e1 : spec_le2.sl.r_1 arg4 harg4 arg5 harg5 arg8 harg8 v2 v24 q2 x1 x2 k D hchk
          = k0_pay231 v2 q2 v24 (kvblk x1 k) (kvblk x2 k) (getD 1 D) := by
        rw [← ek, ← ev, ← rd_D 1 arg8 harg8 D ![1, 0, 0] rfl inb_S4x256x1_S1x256x1_1_0_0]; rfl
      rw [e0, e1, e2]
      rw [pay10_eq, pay11_eq, pay12_eq, rd_A 1 arg7 harg7 A ![1, 0, 0] rfl, wr_A 1 arg7 harg7 A _ ![1, 0, 0] rfl, wr_D 1 arg8 harg8 D _ ![1, 0, 0] rfl]
      iapply (wp_call_spec 𝒱₀ (c : Thread nD τ) (some (k + 1)) E (spec c arg4 harg4 arg5 harg5 arg7 harg7 arg8 harg8 1 v2 v24 q2 x1 x2 k
          (stepG q2 (kvblk x1 k) (getD 1 D)) (setA 1 A (stepA v2 v24 q2 (kvblk x1 k) (kvblk x2 k) (getA 1 A) (getD 1 D)))
          (setD 1 D (stepD q2 (kvblk x1 k) (getD 1 D)))) k
        (fun u hu => by cases hu; exact Nat.lt_succ_self k) (ih _ (ctr_next k hk) _ _ _))
      rw [spec_apply]; unfold held
      isplitl [H4 H5 H7 H8]
      · isplitl [H4]; · iexact H4
        isplitl [H5]; · iexact H5
        isplitl [H7]; · iexact H7
        iexact H8
      iintro %r HH
      rw [wp_ret]; imodintro
      iapply Hk
      iexact HH
    · have hC : ¬ Scalar.andi (Scalar.cmpi .sge (BitVec.ofNat 32 k) 0#32) al = 1#1 := fun h => hal (andi_right h)
      rw [wstate_stop _ _ _ _ _ _ _ _ _ _ (.inr hal)]
      simp only [hC, ↓reduceIte, Prog.pure_eq_ret]
      iintro ⟨H, Hk⟩
      rw [wp_ret]; imodintro
      iapply Hk
      iexact H

theorem spec_le3 (c : Dev nD) (i : grid0.Coords) (arg4 : Memref sig .tc .vmem S1x8192x128 .bf16) (harg4 : arg4.IsWhole) (arg5 : Memref sig .tc .vmem S1x8192x128 .bf16) (harg5 : arg5.IsWhole)
    (arg7 : Memref sig .tc .vmem S4x128x128 .f32) (harg7 : arg7.IsWhole) (arg8 : Memref sig .tc .vmem S4x256x1 .f32) (harg8 : arg8.IsWhole)
    (v2 : IVec S128x128 1) (v24 : FVec F S256x128 .bf16) (q2 : FVec F S256x128 .bf16) (x1 x2 : Vec F S1x8192x128 .bf16) (E : Set ℕ) :
    ∀ (k : ℕ) (w : BitVec 32), Ctr k w → ∀ (al : BitVec 1) (A : Vec F S4x128x128 .f32) (D : Vec F S4x256x1 .f32) K,
      spec c arg4 harg4 arg5 harg5 arg7 harg7 arg8 harg8 2 v2 v24 q2 x1 x2 k al A D K
      ⊢ wp frame (wpE (defs₀ (F := F)) 𝒱₀ (c : Thread nD τ) (some k)) E
          (defs₀ (F := F) .tc 3 ⟨i, arg4, harg4, arg5, harg5, v2, arg8, harg8, q2, v24, arg7, harg7, w, al⟩) K := by
  intro k
  induction k with
  | zero =>
    intro w hw al A D K
    rw [spec_apply, wstate_stop _ _ _ _ _ _ _ _ _ _ (.inl rfl)]
    show _ ⊢ wp frame (wpE (defs₀ (F := F)) 𝒱₀ (c : Thread nD τ) (some 0)) E
      (cc0_while3 i arg4 harg4 arg5 harg5 v2 arg8 harg8 q2 v24 arg7 harg7 w al) K
    simp only [cc0_while3_eq_skeleton]; unfold cc0_while3_skel
    have hC : ¬ Scalar.andi (Scalar.cmpi .sge w 0#32) al = 1#1 := by
      rcases hw with ⟨_, hw⟩ | ⟨j, hj, _⟩
      · exact fun h => hw (andi_left h)
      · omega
    simp only [hC, ↓reduceIte, Prog.pure_eq_ret]
    iintro ⟨H, Hk⟩
    rw [wp_ret]; imodintro
    iapply Hk
    iexact H
  | succ k ih =>
    intro w hw al A D K
    obtain ⟨hk, rfl⟩ : k < 64 ∧ w = BitVec.ofNat 32 k := by
      rcases hw with ⟨h, _⟩ | ⟨j, hj, h1, h2⟩
      · omega
      · obtain rfl : k = j := by omega
        exact ⟨h1, h2⟩
    rw [spec_apply]
    show _ ⊢ wp frame (wpE (defs₀ (F := F)) 𝒱₀ (c : Thread nD τ) (some (k + 1))) E
      (cc0_while3 i arg4 harg4 arg5 harg5 v2 arg8 harg8 q2 v24 arg7 harg7 (BitVec.ofNat 32 k) al) K
    simp only [cc0_while3_eq_skeleton]; unfold cc0_while3_skel
    by_cases hal : al = 1#1
    · have hC : Scalar.andi (Scalar.cmpi .sge (BitVec.ofNat 32 k) 0#32) al = 1#1 := by
        rw [ctr_sge k hk, hal]; rfl
      rw [wstate_succ _ _ _ _ _ _ _ _ _ _ hal]
      have hchk : k0_chk3 (BitVec.ofNat 32 k) := chk1_of k hk
      simp only [k0_part25_eq_skeleton]
      unfold held
      iintro ⟨⟨H4, H5, H7, H8⟩, Hk⟩
      sl_exec
      have e0 : spec_le3.sl.r arg8 harg8 D = k0_pay228 (getD 2 D) := congrArg k0_pay238 (rd_D 2 arg8 harg8 D ![2, 0, 0] rfl _)
      have ek := rd_kv arg4 harg4 x1 k hk _ (off2_of k hk) (k0_off4_inb (BitVec.ofNat 32 k) hchk)
      have ev := rd_kv arg5 harg5 x2 k hk _ (off2_of k hk) (k0_off4_inb (BitVec.ofNat 32 k) hchk)
      have e2 : spec_le3.sl.r_2 arg4 harg4 q2 x1 k hchk = k0_pay232 q2 (kvblk x1 k) := congrArg (k0_pay242 q2) ek
      have e1 : spec_le3.sl.r_1 arg4 harg4 arg5 harg5 arg8 harg8 v2 v24 q2 x1 x2 k D hchk
          = k0_pay231 v2 q2 v24 (kvblk x1 k) (kvblk x2 k) (getD 2 D) := by
        rw [← ek, ← ev, ← rd_D 2 arg8 harg8 D ![2, 0, 0] rfl inb_S4x256x1_S1x256x1_2_0_0]; rfl
      rw [e0, e1, e2]
      rw [pay14_eq, pay15_eq, pay16_eq, rd_A 2 arg7 harg7 A ![2, 0, 0] rfl, wr_A 2 arg7 harg7 A _ ![2, 0, 0] rfl, wr_D 2 arg8 harg8 D _ ![2, 0, 0] rfl]
      iapply (wp_call_spec 𝒱₀ (c : Thread nD τ) (some (k + 1)) E (spec c arg4 harg4 arg5 harg5 arg7 harg7 arg8 harg8 2 v2 v24 q2 x1 x2 k
          (stepG q2 (kvblk x1 k) (getD 2 D)) (setA 2 A (stepA v2 v24 q2 (kvblk x1 k) (kvblk x2 k) (getA 2 A) (getD 2 D)))
          (setD 2 D (stepD q2 (kvblk x1 k) (getD 2 D)))) k
        (fun u hu => by cases hu; exact Nat.lt_succ_self k) (ih _ (ctr_next k hk) _ _ _))
      rw [spec_apply]; unfold held
      isplitl [H4 H5 H7 H8]
      · isplitl [H4]; · iexact H4
        isplitl [H5]; · iexact H5
        isplitl [H7]; · iexact H7
        iexact H8
      iintro %r HH
      rw [wp_ret]; imodintro
      iapply Hk
      iexact HH
    · have hC : ¬ Scalar.andi (Scalar.cmpi .sge (BitVec.ofNat 32 k) 0#32) al = 1#1 := fun h => hal (andi_right h)
      rw [wstate_stop _ _ _ _ _ _ _ _ _ _ (.inr hal)]
      simp only [hC, ↓reduceIte, Prog.pure_eq_ret]
      iintro ⟨H, Hk⟩
      rw [wp_ret]; imodintro
      iapply Hk
      iexact H

theorem spec_le4 (c : Dev nD) (i : grid0.Coords) (arg4 : Memref sig .tc .vmem S1x8192x128 .bf16) (harg4 : arg4.IsWhole) (arg5 : Memref sig .tc .vmem S1x8192x128 .bf16) (harg5 : arg5.IsWhole)
    (arg7 : Memref sig .tc .vmem S4x128x128 .f32) (harg7 : arg7.IsWhole) (arg8 : Memref sig .tc .vmem S4x256x1 .f32) (harg8 : arg8.IsWhole)
    (v2 : IVec S128x128 1) (v24 : FVec F S256x128 .bf16) (q2 : FVec F S256x128 .bf16) (x1 x2 : Vec F S1x8192x128 .bf16) (E : Set ℕ) :
    ∀ (k : ℕ) (w : BitVec 32), Ctr k w → ∀ (al : BitVec 1) (A : Vec F S4x128x128 .f32) (D : Vec F S4x256x1 .f32) K,
      spec c arg4 harg4 arg5 harg5 arg7 harg7 arg8 harg8 3 v2 v24 q2 x1 x2 k al A D K
      ⊢ wp frame (wpE (defs₀ (F := F)) 𝒱₀ (c : Thread nD τ) (some k)) E
          (defs₀ (F := F) .tc 4 ⟨i, arg4, harg4, arg5, harg5, v2, arg8, harg8, q2, v24, arg7, harg7, w, al⟩) K := by
  intro k
  induction k with
  | zero =>
    intro w hw al A D K
    rw [spec_apply, wstate_stop _ _ _ _ _ _ _ _ _ _ (.inl rfl)]
    show _ ⊢ wp frame (wpE (defs₀ (F := F)) 𝒱₀ (c : Thread nD τ) (some 0)) E
      (cc0_while4 i arg4 harg4 arg5 harg5 v2 arg8 harg8 q2 v24 arg7 harg7 w al) K
    simp only [cc0_while4_eq_skeleton]; unfold cc0_while4_skel
    have hC : ¬ Scalar.andi (Scalar.cmpi .sge w 0#32) al = 1#1 := by
      rcases hw with ⟨_, hw⟩ | ⟨j, hj, _⟩
      · exact fun h => hw (andi_left h)
      · omega
    simp only [hC, ↓reduceIte, Prog.pure_eq_ret]
    iintro ⟨H, Hk⟩
    rw [wp_ret]; imodintro
    iapply Hk
    iexact H
  | succ k ih =>
    intro w hw al A D K
    obtain ⟨hk, rfl⟩ : k < 64 ∧ w = BitVec.ofNat 32 k := by
      rcases hw with ⟨h, _⟩ | ⟨j, hj, h1, h2⟩
      · omega
      · obtain rfl : k = j := by omega
        exact ⟨h1, h2⟩
    rw [spec_apply]
    show _ ⊢ wp frame (wpE (defs₀ (F := F)) 𝒱₀ (c : Thread nD τ) (some (k + 1))) E
      (cc0_while4 i arg4 harg4 arg5 harg5 v2 arg8 harg8 q2 v24 arg7 harg7 (BitVec.ofNat 32 k) al) K
    simp only [cc0_while4_eq_skeleton]; unfold cc0_while4_skel
    by_cases hal : al = 1#1
    · have hC : Scalar.andi (Scalar.cmpi .sge (BitVec.ofNat 32 k) 0#32) al = 1#1 := by
        rw [ctr_sge k hk, hal]; rfl
      rw [wstate_succ _ _ _ _ _ _ _ _ _ _ hal]
      have hchk : k0_chk4 (BitVec.ofNat 32 k) := chk1_of k hk
      simp only [k0_part26_eq_skeleton]
      unfold held
      iintro ⟨⟨H4, H5, H7, H8⟩, Hk⟩
      sl_exec
      have e0 : spec_le4.sl.r arg8 harg8 D = k0_pay228 (getD 3 D) := congrArg k0_pay243 (rd_D 3 arg8 harg8 D ![3, 0, 0] rfl _)
      have ek := rd_kv arg4 harg4 x1 k hk _ (off2_of k hk) (k0_off5_inb (BitVec.ofNat 32 k) hchk)
      have ev := rd_kv arg5 harg5 x2 k hk _ (off2_of k hk) (k0_off5_inb (BitVec.ofNat 32 k) hchk)
      have e2 : spec_le4.sl.r_2 arg4 harg4 q2 x1 k hchk = k0_pay232 q2 (kvblk x1 k) := congrArg (k0_pay247 q2) ek
      have e1 : spec_le4.sl.r_1 arg4 harg4 arg5 harg5 arg8 harg8 v2 v24 q2 x1 x2 k D hchk
          = k0_pay231 v2 q2 v24 (kvblk x1 k) (kvblk x2 k) (getD 3 D) := by
        rw [← ek, ← ev, ← rd_D 3 arg8 harg8 D ![3, 0, 0] rfl inb_S4x256x1_S1x256x1_3_0_0]; rfl
      rw [e0, e1, e2]
      rw [pay18_eq, pay19_eq, pay20_eq, rd_A 3 arg7 harg7 A ![3, 0, 0] rfl, wr_A 3 arg7 harg7 A _ ![3, 0, 0] rfl, wr_D 3 arg8 harg8 D _ ![3, 0, 0] rfl]
      iapply (wp_call_spec 𝒱₀ (c : Thread nD τ) (some (k + 1)) E (spec c arg4 harg4 arg5 harg5 arg7 harg7 arg8 harg8 3 v2 v24 q2 x1 x2 k
          (stepG q2 (kvblk x1 k) (getD 3 D)) (setA 3 A (stepA v2 v24 q2 (kvblk x1 k) (kvblk x2 k) (getA 3 A) (getD 3 D)))
          (setD 3 D (stepD q2 (kvblk x1 k) (getD 3 D)))) k
        (fun u hu => by cases hu; exact Nat.lt_succ_self k) (ih _ (ctr_next k hk) _ _ _))
      rw [spec_apply]; unfold held
      isplitl [H4 H5 H7 H8]
      · isplitl [H4]; · iexact H4
        isplitl [H5]; · iexact H5
        isplitl [H7]; · iexact H7
        iexact H8
      iintro %r HH
      rw [wp_ret]; imodintro
      iapply Hk
      iexact HH
    · have hC : ¬ Scalar.andi (Scalar.cmpi .sge (BitVec.ofNat 32 k) 0#32) al = 1#1 := fun h => hal (andi_right h)
      rw [wstate_stop _ _ _ _ _ _ _ _ _ _ (.inr hal)]
      simp only [hC, ↓reduceIte, Prog.pure_eq_ret]
      iintro ⟨H, Hk⟩
      rw [wp_ret]; imodintro
      iapply Hk
      iexact H

end Cert.KernelIdeal.Att

end
-- ==== Proof.AttDefs.lean ====
/- The values the attention's body computes, as functions of its blocks of queries, keys and values. -/
module

public import proofs.«01_k».proof.Proof.AttW

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The 128 queries of group `g`. -/
def qblk (X : Vec F S1x512x128 .bf16) (g : Fin 4) : Vec F S1x128x128 .bf16 :=
  fun x => X (ix3 (0 : Fin 1) ⟨128 * g.val + (x 1 : Fin 128).val, by have := g.isLt; have : (x 1 : Fin 128).val < 128 := (x 1 : Fin 128).isLt; omega⟩ (x 2 : Fin 128))

/-- Four slices as one scratch. -/
def packA (v : Fin 4 → Vec F S1x128x128 .f32) : Vec F S4x128x128 .f32 :=
  fun x => v (x 0 : Fin 4) (ix3 (0 : Fin 1) (x 1 : Fin 128) (x 2 : Fin 128))
def packD (v : Fin 4 → Vec F S1x256x1 .f32) : Vec F S4x256x1 .f32 :=
  fun x => v (x 0 : Fin 4) (ix3 (0 : Fin 1) (x 1 : Fin 256) (x 2 : Fin 1))
/-- Four groups of rows as one block of the output. -/
def packO (v : Fin 4 → Vec F S1x128x128 .bf16) : Vec F S1x512x128 .bf16 :=
  fun x => v ⟨(x 1 : Fin 512).val / 128, by have : (x 1 : Fin 512).val < 512 := (x 1 : Fin 512).isLt; omega⟩
    (ix3 (0 : Fin 1) ⟨(x 1 : Fin 512).val % 128, Nat.mod_lt _ (by norm_num)⟩ (x 2 : Fin 128))

/-! The unrolled visits of the first block of queries (nothing lies before it). -/

def b1_v139 (x0 : Vec F S1x512x128 .bf16) (x1 x2 : Vec F S1x8192x128 .bf16) : Vec F S1x128x128 .bf16 := qblk x0 0
def b1_v145 (x0 : Vec F S1x512x128 .bf16) (x1 x2 : Vec F S1x8192x128 .bf16) : Vec F S1x128x128 .bf16 := qblk x0 1
def b1_v151 (x0 : Vec F S1x512x128 .bf16) (x1 x2 : Vec F S1x8192x128 .bf16) : Vec F S1x128x128 .bf16 := qblk x0 2
def b1_v157 (x0 : Vec F S1x512x128 .bf16) (x1 x2 : Vec F S1x8192x128 .bf16) : Vec F S1x128x128 .bf16 := qblk x0 3
def b1_v163 (x0 : Vec F S1x512x128 .bf16) (x1 x2 : Vec F S1x8192x128 .bf16) : Vec F S1x128x128 .bf16 := kvblk x1 3
def b1_v165 (x0 : Vec F S1x512x128 .bf16) (x1 x2 : Vec F S1x8192x128 .bf16) : Vec F S1x128x128 .bf16 := kvblk x2 3
def b1_v171 (x0 : Vec F S1x512x128 .bf16) (x1 x2 : Vec F S1x8192x128 .bf16) : Vec F S1x128x128 .bf16 := kvblk x1 2
def b1_v144 (x0 : Vec F S1x512x128 .bf16) (x1 x2 : Vec F S1x8192x128 .bf16) : FVec F S256x128 .bf16 := k0_pay21 k0_pay210 (b1_v139 x0 x1 x2)
def b1_v150 (x0 : Vec F S1x512x128 .bf16) (x1 x2 : Vec F S1x8192x128 .bf16) : FVec F S256x128 .bf16 := k0_pay22 k0_pay210 (b1_v145 x0 x1 x2)
def b1_v156 (x0 : Vec F S1x512x128 .bf16) (x1 x2 : Vec F S1x8192x128 .bf16) : FVec F S256x128 .bf16 := k0_pay23 k0_pay210 (b1_v151 x0 x1 x2)
def b1_v162 (x0 : Vec F S1x512x128 .bf16) (x1 x2 : Vec F S1x8192x128 .bf16) : FVec F S256x128 .bf16 := k0_pay24 k0_pay210 (b1_v157 x0 x1 x2)
def b1_v164 (x0 : Vec F S1x512x128 .bf16) (x1 x2 : Vec F S1x8192x128 .bf16) : FVec F S128x128 .bf16 := k0_pay25 (b1_v163 x0 x1 x2)
def b1_v170 (x0 : Vec F S1x512x128 .bf16) (x1 x2 : Vec F S1x8192x128 .bf16) : FVec F S256x128 .bf16 := k0_pay26 k0_pay210 (b1_v165 x0 x1 x2)
def b1_v172 (x0 : Vec F S1x512x128 .bf16) (x1 x2 : Vec F S1x8192x128 .bf16) : FVec F S128x128 .bf16 := k0_pay27 (b1_v171 x0 x1 x2)
def b1_v173 (x0 : Vec F S1x512x128 .bf16) (x1 x2 : Vec F S1x8192x128 .bf16) : Vec F S1x128x128 .bf16 := kvblk x2 2
def b1_v179 (x0 : Vec F S1x512x128 .bf16) (x1 x2 : Vec F S1x8192x128 .bf16) : Vec F S1x128x128 .bf16 := kvblk x1 1
def b1_v181 (x0 : Vec F S1x512x128 .bf16) (x1 x2 : Vec F S1x8192x128 .bf16) : Vec F S1x128x128 .bf16 := kvblk x2 1
def b1_v187 (x0 : Vec F S1x512x128 .bf16) (x1 x2 : Vec F S1x8192x128 .bf16) : Vec F S1x128x128 .bf16 := kvblk x1 0
def b1_v189 (x0 : Vec F S1x512x128 .bf16) (x1 x2 : Vec F S1x8192x128 .bf16) : Vec F S1x128x128 .bf16 := kvblk x2 0
def b1_cst_119 (x0 : Vec F S1x512x128 .bf16) (x1 x2 : Vec F S1x8192x128 .bf16) : F .f32 := Scalar.ofBits .f32 0x00000000#32
def b1_v178 (x0 : Vec F S1x512x128 .bf16) (x1 x2 : Vec F S1x8192x128 .bf16) : FVec F S256x128 .bf16 := k0_pay28 k0_pay210 (b1_v173 x0 x1 x2)
def b1_v186 (x0 : Vec F S1x512x128 .bf16) (x1 x2 : Vec F S1x8192x128 .bf16) : FVec F S256x128 .bf16 := k0_pay29 k0_pay210 (b1_v181 x0 x1 x2)
def b1_v194 (x0 : Vec F S1x512x128 .bf16) (x1 x2 : Vec F S1x8192x128 .bf16) : FVec F S256x128 .bf16 := k0_pay30 k0_pay210 (b1_v189 x0 x1 x2)
def b1_v195 (x0 : Vec F S1x512x128 .bf16) (x1 x2 : Vec F S1x8192x128 .bf16) : FVec F S256x128 .f32 := k0_pay31 (b1_v162 x0 x1 x2) (b1_v164 x0 x1 x2)
def b1_v198 (x0 : Vec F S1x512x128 .bf16) (x1 x2 : Vec F S1x8192x128 .bf16) : FVec F S256x128 .f32 := k0_pay33 (b1_v156 x0 x1 x2) (b1_v162 x0 x1 x2) (b1_v172 x0 x1 x2)
def b1_v199 (x0 : Vec F S1x512x128 .bf16) (x1 x2 : Vec F S1x8192x128 .bf16) : FVec F S256x128 .f32 := k0_pay34 (b1_v156 x0 x1 x2) (b1_v162 x0 x1 x2) (b1_v172 x0 x1 x2)
def b1_v202 (x0 : Vec F S1x512x128 .bf16) (x1 x2 : Vec F S1x8192x128 .bf16) : FVec F S256x128 .f32 := k0_pay36 (b1_v150 x0 x1 x2) (b1_v156 x0 x1 x2) (b1_v162 x0 x1 x2) (b1_v179 x0 x1 x2)
def b1_v203 (x0 : Vec F S1x512x128 .bf16) (x1 x2 : Vec F S1x8192x128 .bf16) : FVec F S256x128 .f32 := k0_pay37 (b1_v150 x0 x1 x2) (b1_v156 x0 x1 x2) (b1_v162 x0 x1 x2) (b1_v179 x0 x1 x2)
def b1_v204 (x0 : Vec F S1x512x128 .bf16) (x1 x2 : Vec F S1x8192x128 .bf16) : FVec F S256x128 .f32 := k0_pay38 (b1_v150 x0 x1 x2) (b1_v156 x0 x1 x2) (b1_v162 x0 x1 x2) (b1_v179 x0 x1 x2)
def b1_v207 (x0 : Vec F S1x512x128 .bf16) (x1 x2 : Vec F S1x8192x128 .bf16) : FVec F S256x128 .f32 := k0_pay40 (b1_v144 x0 x1 x2) (b1_v150 x0 x1 x2) (b1_v156 x0 x1 x2) (b1_v187 x0 x1 x2)
def b1_v208 (x0 : Vec F S1x512x128 .bf16) (x1 x2 : Vec F S1x8192x128 .bf16) : FVec F S256x128 .f32 := k0_pay41 (b1_v144 x0 x1 x2) (b1_v150 x0 x1 x2) (b1_v156 x0 x1 x2) (b1_v187 x0 x1 x2)
def b1_v209 (x0 : Vec F S1x512x128 .bf16) (x1 x2 : Vec F S1x8192x128 .bf16) : FVec F S256x128 .f32 := k0_pay42 (b1_v144 x0 x1 x2) (b1_v150 x0 x1 x2) (b1_v156 x0 x1 x2) (b1_v187 x0 x1 x2)
def b1_v221 (x0 : Vec F S1x512x128 .bf16) (x1 x2 : Vec F S1x8192x128 .bf16) : FVec F S256x128 .f32 := k0_pay43 k0_pay212 (b1_v195 x0 x1 x2) (b1_cst_119 x0 x1 x2)
def b1_v233 (x0 : Vec F S1x512x128 .bf16) (x1 x2 : Vec F S1x8192x128 .bf16) : FVec F S256x128 .f32 := k0_pay44 k0_pay212 (b1_v198 x0 x1 x2)
def b1_v243 (x0 : Vec F S1x512x128 .bf16) (x1 x2 : Vec F S1x8192x128 .bf16) : FVec F S256x128 .f32 := k0_pay45 (b1_v199 x0 x1 x2)
def b1_v255 (x0 : Vec F S1x512x128 .bf16) (x1 x2 : Vec F S1x8192x128 .bf16) : FVec F S256x128 .f32 := k0_pay46 k0_pay212 (b1_v202 x0 x1 x2)
def b1_cst_148 (x0 : Vec F S1x512x128 .bf16) (x1 x2 : Vec F S1x8192x128 .bf16) : F .f32 := Named.named κ "neg_log2_e" 0xBFB8AA3B#32
def b1_v265 (x0 : Vec F S1x512x128 .bf16) (x1 x2 : Vec F S1x8192x128 .bf16) : FVec F S256x128 .f32 := k0_pay47 (b1_v203 x0 x1 x2)
def b1_v275 (x0 : Vec F S1x512x128 .bf16) (x1 x2 : Vec F S1x8192x128 .bf16) : FVec F S256x128 .f32 := k0_pay48 (b1_v204 x0 x1 x2)
def b1_v287 (x0 : Vec F S1x512x128 .bf16) (x1 x2 : Vec F S1x8192x128 .bf16) : FVec F S256x128 .f32 := k0_pay49 k0_pay212 (b1_v207 x0 x1 x2)
def b1_v297 (x0 : Vec F S1x512x128 .bf16) (x1 x2 : Vec F S1x8192x128 .bf16) : FVec F S256x128 .f32 := k0_pay50 (b1_v208 x0 x1 x2)
def b1_v299 (x0 : Vec F S1x512x128 .bf16) (x1 x2 : Vec F S1x8192x128 .bf16) : FVec F S256x128 .f32 := k0_pay51 (b1_v209 x0 x1 x2)
def b1_v300 (x0 : Vec F S1x512x128 .bf16) (x1 x2 : Vec F S1x8192x128 .bf16) : FVec F S256x128 .f32 := k0_pay52 (b1_v209 x0 x1 x2)
def b1_v307 (x0 : Vec F S1x512x128 .bf16) (x1 x2 : Vec F S1x8192x128 .bf16) : FVec F S256x128 .f32 := k0_pay53 (b1_v299 x0 x1 x2) (b1_v300 x0 x1 x2) (b1_cst_148 x0 x1 x2)
def b1_v354 (x0 : Vec F S1x512x128 .bf16) (x1 x2 : Vec F S1x8192x128 .bf16) : FVec F S2304x128 .f32 := k0_pay54 (k0_pay211 (F := F)) (b1_v221 x0 x1 x2) (b1_v233 x0 x1 x2) (b1_v243 x0 x1 x2) (b1_v255 x0 x1 x2) (b1_v265 x0 x1 x2) (b1_v275 x0 x1 x2) (b1_v287 x0 x1 x2) (b1_v297 x0 x1 x2) (b1_v299 x0 x1 x2) (b1_v300 x0 x1 x2) (b1_cst_148 x0 x1 x2)
def b1_v355 (x0 : Vec F S1x512x128 .bf16) (x1 x2 : Vec F S1x8192x128 .bf16) : FVec F S256x128 .f32 := k0_pay55 (k0_pay211 (F := F)) (b1_v221 x0 x1 x2) (b1_v233 x0 x1 x2) (b1_v243 x0 x1 x2) (b1_v255 x0 x1 x2) (b1_v265 x0 x1 x2) (b1_v275 x0 x1 x2) (b1_v287 x0 x1 x2) (b1_v297 x0 x1 x2) (b1_v299 x0 x1 x2) (b1_v300 x0 x1 x2) (b1_cst_148 x0 x1 x2)
def b1_v356 (x0 : Vec F S1x512x128 .bf16) (x1 x2 : Vec F S1x8192x128 .bf16) : FVec F S256x128 .f32 := k0_pay56 (k0_pay211 (F := F)) (b1_v221 x0 x1 x2) (b1_v233 x0 x1 x2) (b1_v243 x0 x1 x2) (b1_v255 x0 x1 x2) (b1_v265 x0 x1 x2) (b1_v275 x0 x1 x2) (b1_v287 x0 x1 x2) (b1_v297 x0 x1 x2) (b1_v299 x0 x1 x2) (b1_v300 x0 x1 x2) (b1_cst_148 x0 x1 x2)
def b1_v357 (x0 : Vec F S1x512x128 .bf16) (x1 x2 : Vec F S1x8192x128 .bf16) : FVec F S256x128 .f32 := k0_pay57 (k0_pay211 (F := F)) (b1_v221 x0 x1 x2) (b1_v233 x0 x1 x2) (b1_v243 x0 x1 x2) (b1_v255 x0 x1 x2) (b1_v265 x0 x1 x2) (b1_v275 x0 x1 x2) (b1_v287 x0 x1 x2) (b1_v297 x0 x1 x2) (b1_v299 x0 x1 x2) (b1_v300 x0 x1 x2) (b1_cst_148 x0 x1 x2)
def b1_v358 (x0 : Vec F S1x512x128 .bf16) (x1 x2 : Vec F S1x8192x128 .bf16) : FVec F S256x128 .f32 := k0_pay58 (k0_pay211 (F := F)) (b1_v221 x0 x1 x2) (b1_v233 x0 x1 x2) (b1_v243 x0 x1 x2) (b1_v255 x0 x1 x2) (b1_v265 x0 x1 x2) (b1_v275 x0 x1 x2) (b1_v287 x0 x1 x2) (b1_v297 x0 x1 x2) (b1_v299 x0 x1 x2) (b1_v300 x0 x1 x2) (b1_cst_148 x0 x1 x2)
def b1_v359 (x0 : Vec F S1x512x128 .bf16) (x1 x2 : Vec F S1x8192x128 .bf16) : FVec F S256x128 .f32 := k0_pay59 (b1_v354 x0 x1 x2)
def b1_v360 (x0 : Vec F S1x512x128 .bf16) (x1 x2 : Vec F S1x8192x128 .bf16) : FVec F S256x128 .f32 := k0_pay60 (b1_v354 x0 x1 x2)
def b1_v363 (x0 : Vec F S1x512x128 .bf16) (x1 x2 : Vec F S1x8192x128 .bf16) : FVec F S256x128 .f32 := k0_pay61 (b1_v354 x0 x1 x2)
def b1_v365 (x0 : Vec F S1x512x128 .bf16) (x1 x2 : Vec F S1x8192x128 .bf16) : FVec F S256x1 .f32 := k0_pay62 (b1_v221 x0 x1 x2)
def b1_v367 (x0 : Vec F S1x512x128 .bf16) (x1 x2 : Vec F S1x8192x128 .bf16) : FVec F S256x1 .f32 := k0_pay63 (b1_v233 x0 x1 x2)
def b1_v369 (x0 : Vec F S1x512x128 .bf16) (x1 x2 : Vec F S1x8192x128 .bf16) : FVec F S256x1 .f32 := k0_pay64 (b1_v243 x0 x1 x2)
def b1_v371 (x0 : Vec F S1x512x128 .bf16) (x1 x2 : Vec F S1x8192x128 .bf16) : FVec F S256x1 .f32 := k0_pay65 (b1_v255 x0 x1 x2)
def b1_v373 (x0 : Vec F S1x512x128 .bf16) (x1 x2 : Vec F S1x8192x128 .bf16) : FVec F S256x1 .f32 := k0_pay66 (b1_v265 x0 x1 x2)
def b1_v375 (x0 : Vec F S1x512x128 .bf16) (x1 x2 : Vec F S1x8192x128 .bf16) : FVec F S256x1 .f32 := k0_pay67 (b1_v275 x0 x1 x2)
def b1_v377 (x0 : Vec F S1x512x128 .bf16) (x1 x2 : Vec F S1x8192x128 .bf16) : FVec F S256x1 .f32 := k0_pay68 (b1_v287 x0 x1 x2)
def b1_v379 (x0 : Vec F S1x512x128 .bf16) (x1 x2 : Vec F S1x8192x128 .bf16) : FVec F S256x1 .f32 := k0_pay69 (b1_v297 x0 x1 x2)
def b1_v381 (x0 : Vec F S1x512x128 .bf16) (x1 x2 : Vec F S1x8192x128 .bf16) : FVec F S256x1 .f32 := k0_pay70 (b1_v307 x0 x1 x2)
def b1_v390 (x0 : Vec F S1x512x128 .bf16) (x1 x2 : Vec F S1x8192x128 .bf16) : FVec F S128x256 .bf16 := k0_pay71 k0_pay212 (b1_v207 x0 x1 x2) (b1_v287 x0 x1 x2) (b1_v354 x0 x1 x2)
def b1_v399 (x0 : Vec F S1x512x128 .bf16) (x1 x2 : Vec F S1x8192x128 .bf16) : FVec F S128x256 .bf16 := k0_pay72 k0_pay212 (b1_v202 x0 x1 x2) (b1_v255 x0 x1 x2) (b1_v358 x0 x1 x2)
def b1_v406 (x0 : Vec F S1x512x128 .bf16) (x1 x2 : Vec F S1x8192x128 .bf16) : FVec F S128x128 .bf16 := k0_pay74 (b1_v208 x0 x1 x2) (b1_v255 x0 x1 x2) (b1_v297 x0 x1 x2) (b1_v354 x0 x1 x2)
def b1_v407 (x0 : Vec F S1x512x128 .bf16) (x1 x2 : Vec F S1x8192x128 .bf16) : FVec F S128x128 .bf16 := k0_pay75 (b1_v208 x0 x1 x2) (b1_v255 x0 x1 x2) (b1_v297 x0 x1 x2) (b1_v354 x0 x1 x2)
def b1_v408 (x0 : Vec F S1x512x128 .bf16) (x1 x2 : Vec F S1x8192x128 .bf16) : FVec F S128x256 .bf16 := k0_pay76 (b1_v406 x0 x1 x2) (b1_v407 x0 x1 x2)
def b1_v409 (x0 : Vec F S1x512x128 .bf16) (x1 x2 : Vec F S1x8192x128 .bf16) : FVec F S256x1 .f32 := k0_pay77 (b1_v371 x0 x1 x2) (b1_v379 x0 x1 x2)
def b1_v418 (x0 : Vec F S1x512x128 .bf16) (x1 x2 : Vec F S1x8192x128 .bf16) : FVec F S128x256 .bf16 := k0_pay78 k0_pay212 (b1_v198 x0 x1 x2) (b1_v233 x0 x1 x2) (b1_v356 x0 x1 x2)
def b1_v427 (x0 : Vec F S1x512x128 .bf16) (x1 x2 : Vec F S1x8192x128 .bf16) : FVec F S128x256 .bf16 := k0_pay79 (b1_v203 x0 x1 x2) (b1_v265 x0 x1 x2) (b1_v359 x0 x1 x2) (b1_v367 x0 x1 x2)
def b1_v437 (x0 : Vec F S1x512x128 .bf16) (x1 x2 : Vec F S1x8192x128 .bf16) : FVec F S128x256 .bf16 := k0_pay81 (b1_v209 x0 x1 x2) (b1_v307 x0 x1 x2) (b1_v363 x0 x1 x2) (b1_v367 x0 x1 x2) (b1_v373 x0 x1 x2)
def b1_v438 (x0 : Vec F S1x512x128 .bf16) (x1 x2 : Vec F S1x8192x128 .bf16) : FVec F S256x1 .f32 := k0_pay82 (b1_v367 x0 x1 x2) (b1_v373 x0 x1 x2) (b1_v381 x0 x1 x2)
def b1_v447 (x0 : Vec F S1x512x128 .bf16) (x1 x2 : Vec F S1x8192x128 .bf16) : FVec F S128x256 .bf16 := k0_pay83 k0_pay212 (b1_v195 x0 x1 x2) (b1_v221 x0 x1 x2) (b1_v355 x0 x1 x2)
def b1_v456 (x0 : Vec F S1x512x128 .bf16) (x1 x2 : Vec F S1x8192x128 .bf16) : FVec F S128x256 .bf16 := k0_pay84 (b1_v199 x0 x1 x2) (b1_v243 x0 x1 x2) (b1_v357 x0 x1 x2) (b1_v365 x0 x1 x2)
def b1_v457 (x0 : Vec F S1x512x128 .bf16) (x1 x2 : Vec F S1x8192x128 .bf16) : FVec F S256x1 .f32 := k0_pay85 (b1_v365 x0 x1 x2) (b1_v369 x0 x1 x2)
def b1_v464 (x0 : Vec F S1x512x128 .bf16) (x1 x2 : Vec F S1x8192x128 .bf16) : FVec F S128x128 .bf16 := k0_pay87 (b1_v204 x0 x1 x2) (b1_v275 x0 x1 x2) (b1_v360 x0 x1 x2) (b1_v365 x0 x1 x2) (b1_v369 x0 x1 x2)
def b1_v465 (x0 : Vec F S1x512x128 .bf16) (x1 x2 : Vec F S1x8192x128 .bf16) : FVec F S128x128 .bf16 := k0_pay88 (b1_v204 x0 x1 x2) (b1_v275 x0 x1 x2) (b1_v360 x0 x1 x2) (b1_v365 x0 x1 x2) (b1_v369 x0 x1 x2)
def b1_v467 (x0 : Vec F S1x512x128 .bf16) (x1 x2 : Vec F S1x8192x128 .bf16) : FVec F S256x1 .f32 := k0_pay89 (b1_v375 x0 x1 x2) (b1_v457 x0 x1 x2)
def b1_v480 (x0 : Vec F S1x512x128 .bf16) (x1 x2 : Vec F S1x8192x128 .bf16) : FVec F S128x128 .f32 := k0_pay92 (b1_v170 x0 x1 x2) (b1_v178 x0 x1 x2) (b1_v186 x0 x1 x2) (b1_v399 x0 x1 x2) (b1_v418 x0 x1 x2) (b1_v427 x0 x1 x2) (b1_v447 x0 x1 x2) (b1_v456 x0 x1 x2) (b1_v464 x0 x1 x2) (b1_v465 x0 x1 x2)
def b1_v502 (x0 : Vec F S1x512x128 .bf16) (x1 x2 : Vec F S1x8192x128 .bf16) : FVec F S1x128x128 .f32 := k0_pay98 (b1_v178 x0 x1 x2) (b1_v186 x0 x1 x2) (b1_v194 x0 x1 x2) (b1_v390 x0 x1 x2) (b1_v399 x0 x1 x2) (b1_v408 x0 x1 x2) (b1_v418 x0 x1 x2) (b1_v427 x0 x1 x2) (b1_v437 x0 x1 x2) (b1_v456 x0 x1 x2) (b1_v464 x0 x1 x2) (b1_v465 x0 x1 x2)

/-- The accumulators and the sums of the logs after the unrolled visits of the first block of queries. -/
def b1_A (x0 : Vec F S1x512x128 .bf16) (x1 x2 : Vec F S1x8192x128 .bf16) : Fin 4 → Vec F S1x128x128 .f32 :=
  ![(k0_pay94 (b1_v194 x0 x1 x2) (b1_v390 x0 x1 x2) (b1_v408 x0 x1 x2) (b1_v437 x0 x1 x2)), (k0_pay96 (b1_v186 x0 x1 x2) (b1_v194 x0 x1 x2) (b1_v390 x0 x1 x2) (b1_v399 x0 x1 x2) (b1_v408 x0 x1 x2) (b1_v427 x0 x1 x2) (b1_v437 x0 x1 x2) (b1_v464 x0 x1 x2) (b1_v465 x0 x1 x2)), (b1_v502 x0 x1 x2), (k0_pay214 (b1_v480 x0 x1 x2))]
def b1_D (x0 : Vec F S1x512x128 .bf16) (x1 x2 : Vec F S1x8192x128 .bf16) : Fin 4 → Vec F S1x256x1 .f32 :=
  ![(k0_pay95 (b1_v377 x0 x1 x2)), (k0_pay97 (b1_v409 x0 x1 x2)), (k0_pay213 (b1_v438 x0 x1 x2)), (k0_pay215 (b1_v467 x0 x1 x2))]

/-! The unrolled visits of a later block of queries, whose first group is block `n`. -/

def b2_v140 (x0 : Vec F S1x512x128 .bf16) (x1 x2 : Vec F S1x8192x128 .bf16) (n : ℕ) : Vec F S1x128x128 .bf16 := qblk x0 0
def b2_v146 (x0 : Vec F S1x512x128 .bf16) (x1 x2 : Vec F S1x8192x128 .bf16) (n : ℕ) : Vec F S1x128x128 .bf16 := qblk x0 1
def b2_v152 (x0 : Vec F S1x512x128 .bf16) (x1 x2 : Vec F S1x8192x128 .bf16) (n : ℕ) : Vec F S1x128x128 .bf16 := qblk x0 2
def b2_v158 (x0 : Vec F S1x512x128 .bf16) (x1 x2 : Vec F S1x8192x128 .bf16) (n : ℕ) : Vec F S1x128x128 .bf16 := qblk x0 3
def b2_v168 (x0 : Vec F S1x512x128 .bf16) (x1 x2 : Vec F S1x8192x128 .bf16) (n : ℕ) : Vec F S1x128x128 .bf16 := kvblk x1 (n + 3)
def b2_v171 (x0 : Vec F S1x512x128 .bf16) (x1 x2 : Vec F S1x8192x128 .bf16) (n : ℕ) : Vec F S1x128x128 .bf16 := kvblk x2 (n + 3)
def b2_v145 (x0 : Vec F S1x512x128 .bf16) (x1 x2 : Vec F S1x8192x128 .bf16) (n : ℕ) : FVec F S256x128 .bf16 := k0_pay99 k0_pay210 (b2_v140 x0 x1 x2 n)
def b2_v151 (x0 : Vec F S1x512x128 .bf16) (x1 x2 : Vec F S1x8192x128 .bf16) (n : ℕ) : FVec F S256x128 .bf16 := k0_pay100 k0_pay210 (b2_v146 x0 x1 x2 n)
def b2_v157 (x0 : Vec F S1x512x128 .bf16) (x1 x2 : Vec F S1x8192x128 .bf16) (n : ℕ) : FVec F S256x128 .bf16 := k0_pay101 k0_pay210 (b2_v152 x0 x1 x2 n)
def b2_v163 (x0 : Vec F S1x512x128 .bf16) (x1 x2 : Vec F S1x8192x128 .bf16) (n : ℕ) : FVec F S256x128 .bf16 := k0_pay102 k0_pay210 (b2_v158 x0 x1 x2 n)
def b2_v169 (x0 : Vec F S1x512x128 .bf16) (x1 x2 : Vec F S1x8192x128 .bf16) (n : ℕ) : FVec F S128x128 .bf16 := k0_pay103 (b2_v168 x0 x1 x2 n)
def b2_v172 (x0 : Vec F S1x512x128 .bf16) (x1 x2 : Vec F S1x8192x128 .bf16) (n : ℕ) : FVec F S128x128 .bf16 := k0_pay104 (b2_v171 x0 x1 x2 n)
def b2_v173 (x0 : Vec F S1x512x128 .bf16) (x1 x2 : Vec F S1x8192x128 .bf16) (n : ℕ) : FVec F S128x128 .bf16 := k0_pay105 (F := F)
def b2_v174 (x0 : Vec F S1x512x128 .bf16) (x1 x2 : Vec F S1x8192x128 .bf16) (n : ℕ) : FVec F S128x128 .bf16 := k0_pay106 k0_pay210 (b2_v171 x0 x1 x2 n)
def b2_v181 (x0 : Vec F S1x512x128 .bf16) (x1 x2 : Vec F S1x8192x128 .bf16) (n : ℕ) : Vec F S1x128x128 .bf16 := kvblk x1 (n + 2)
def b2_v184 (x0 : Vec F S1x512x128 .bf16) (x1 x2 : Vec F S1x8192x128 .bf16) (n : ℕ) : Vec F S1x128x128 .bf16 := kvblk x2 (n + 2)
def b2_v194 (x0 : Vec F S1x512x128 .bf16) (x1 x2 : Vec F S1x8192x128 .bf16) (n : ℕ) : Vec F S1x128x128 .bf16 := kvblk x1 (n + 1)
def b2_v197 (x0 : Vec F S1x512x128 .bf16) (x1 x2 : Vec F S1x8192x128 .bf16) (n : ℕ) : Vec F S1x128x128 .bf16 := kvblk x2 (n + 1)
def b2_v207 (x0 : Vec F S1x512x128 .bf16) (x1 x2 : Vec F S1x8192x128 .bf16) (n : ℕ) : Vec F S1x128x128 .bf16 := kvblk x1 n
def b2_v210 (x0 : Vec F S1x512x128 .bf16) (x1 x2 : Vec F S1x8192x128 .bf16) (n : ℕ) : Vec F S1x128x128 .bf16 := kvblk x2 n
def b2_v176 (x0 : Vec F S1x512x128 .bf16) (x1 x2 : Vec F S1x8192x128 .bf16) (n : ℕ) : FVec F S256x128 .bf16 := k0_pay107 k0_pay210 (b2_v172 x0 x1 x2 n) (b2_v173 x0 x1 x2 n) (b2_v174 x0 x1 x2 n)
def b2_v182 (x0 : Vec F S1x512x128 .bf16) (x1 x2 : Vec F S1x8192x128 .bf16) (n : ℕ) : FVec F S128x128 .bf16 := k0_pay108 (b2_v181 x0 x1 x2 n)
def b2_v189 (x0 : Vec F S1x512x128 .bf16) (x1 x2 : Vec F S1x8192x128 .bf16) (n : ℕ) : FVec F S256x128 .bf16 := k0_pay109 k0_pay210 (b2_v184 x0 x1 x2 n)
def b2_v195 (x0 : Vec F S1x512x128 .bf16) (x1 x2 : Vec F S1x8192x128 .bf16) (n : ℕ) : FVec F S128x128 .bf16 := k0_pay110 (b2_v194 x0 x1 x2 n)
def b2_v202 (x0 : Vec F S1x512x128 .bf16) (x1 x2 : Vec F S1x8192x128 .bf16) (n : ℕ) : FVec F S256x128 .bf16 := k0_pay111 k0_pay210 (b2_v197 x0 x1 x2 n)
def b2_v208 (x0 : Vec F S1x512x128 .bf16) (x1 x2 : Vec F S1x8192x128 .bf16) (n : ℕ) : FVec F S128x128 .bf16 := k0_pay112 (b2_v207 x0 x1 x2 n)
def b2_v211 (x0 : Vec F S1x512x128 .bf16) (x1 x2 : Vec F S1x8192x128 .bf16) (n : ℕ) : FVec F S128x128 .bf16 := k0_pay113 (b2_v210 x0 x1 x2 n)
def b2_v212 (x0 : Vec F S1x512x128 .bf16) (x1 x2 : Vec F S1x8192x128 .bf16) (n : ℕ) : FVec F S128x128 .bf16 := k0_pay114 (F := F)
def b2_v213 (x0 : Vec F S1x512x128 .bf16) (x1 x2 : Vec F S1x8192x128 .bf16) (n : ℕ) : FVec F S128x128 .bf16 := k0_pay115 k0_pay210 (b2_v210 x0 x1 x2 n)
def b2_v220 (x0 : Vec F S1x512x128 .bf16) (x1 x2 : Vec F S1x8192x128 .bf16) (n : ℕ) : Vec F S1x128x128 .bf16 := kvblk x1 (n - 1)
def b2_v223 (x0 : Vec F S1x512x128 .bf16) (x1 x2 : Vec F S1x8192x128 .bf16) (n : ℕ) : Vec F S1x128x128 .bf16 := kvblk x2 (n - 1)
def b2_v233 (x0 : Vec F S1x512x128 .bf16) (x1 x2 : Vec F S1x8192x128 .bf16) (n : ℕ) : Vec F S1x128x128 .bf16 := kvblk x1 (n - 2)
def b2_v236 (x0 : Vec F S1x512x128 .bf16) (x1 x2 : Vec F S1x8192x128 .bf16) (n : ℕ) : Vec F S1x128x128 .bf16 := kvblk x2 (n - 2)
def b2_v215 (x0 : Vec F S1x512x128 .bf16) (x1 x2 : Vec F S1x8192x128 .bf16) (n : ℕ) : FVec F S256x128 .bf16 := k0_pay116 k0_pay210 (b2_v211 x0 x1 x2 n) (b2_v212 x0 x1 x2 n) (b2_v213 x0 x1 x2 n)
def b2_v221 (x0 : Vec F S1x512x128 .bf16) (x1 x2 : Vec F S1x8192x128 .bf16) (n : ℕ) : FVec F S128x128 .bf16 := k0_pay117 (b2_v220 x0 x1 x2 n)
def b2_v228 (x0 : Vec F S1x512x128 .bf16) (x1 x2 : Vec F S1x8192x128 .bf16) (n : ℕ) : FVec F S256x128 .bf16 := k0_pay118 k0_pay210 (b2_v223 x0 x1 x2 n)
def b2_v234 (x0 : Vec F S1x512x128 .bf16) (x1 x2 : Vec F S1x8192x128 .bf16) (n : ℕ) : FVec F S128x128 .bf16 := k0_pay119 (b2_v233 x0 x1 x2 n)
def b2_v241 (x0 : Vec F S1x512x128 .bf16) (x1 x2 : Vec F S1x8192x128 .bf16) (n : ℕ) : FVec F S256x128 .bf16 := k0_pay120 k0_pay210 (b2_v236 x0 x1 x2 n)
def b2_v242 (x0 : Vec F S1x512x128 .bf16) (x1 x2 : Vec F S1x8192x128 .bf16) (n : ℕ) : FVec F S256x128 .f32 := k0_pay121 (b2_v163 x0 x1 x2 n) (b2_v169 x0 x1 x2 n)
def b2_v245 (x0 : Vec F S1x512x128 .bf16) (x1 x2 : Vec F S1x8192x128 .bf16) (n : ℕ) : FVec F S256x128 .f32 := k0_pay123 (b2_v157 x0 x1 x2 n) (b2_v163 x0 x1 x2 n) (b2_v182 x0 x1 x2 n)
def b2_v246 (x0 : Vec F S1x512x128 .bf16) (x1 x2 : Vec F S1x8192x128 .bf16) (n : ℕ) : FVec F S256x128 .f32 := k0_pay124 (b2_v157 x0 x1 x2 n) (b2_v163 x0 x1 x2 n) (b2_v182 x0 x1 x2 n)
def b2_v249 (x0 : Vec F S1x512x128 .bf16) (x1 x2 : Vec F S1x8192x128 .bf16) (n : ℕ) : FVec F S256x128 .f32 := k0_pay126 (b2_v151 x0 x1 x2 n) (b2_v157 x0 x1 x2 n) (b2_v163 x0 x1 x2 n) (b2_v195 x0 x1 x2 n)
def b2_v250 (x0 : Vec F S1x512x128 .bf16) (x1 x2 : Vec F S1x8192x128 .bf16) (n : ℕ) : FVec F S256x128 .f32 := k0_pay127 (b2_v151 x0 x1 x2 n) (b2_v157 x0 x1 x2 n) (b2_v163 x0 x1 x2 n) (b2_v195 x0 x1 x2 n)
def b2_v251 (x0 : Vec F S1x512x128 .bf16) (x1 x2 : Vec F S1x8192x128 .bf16) (n : ℕ) : FVec F S256x128 .f32 := k0_pay128 (b2_v151 x0 x1 x2 n) (b2_v157 x0 x1 x2 n) (b2_v163 x0 x1 x2 n) (b2_v195 x0 x1 x2 n)
def b2_v253 (x0 : Vec F S1x512x128 .bf16) (x1 x2 : Vec F S1x8192x128 .bf16) (n : ℕ) : FVec F S768x128 .f32 := k0_pay129 (b2_v145 x0 x1 x2 n) (b2_v151 x0 x1 x2 n) (b2_v157 x0 x1 x2 n) (b2_v208 x0 x1 x2 n)
def b2_v254 (x0 : Vec F S1x512x128 .bf16) (x1 x2 : Vec F S1x8192x128 .bf16) (n : ℕ) : FVec F S256x128 .f32 := k0_pay130 (b2_v145 x0 x1 x2 n) (b2_v151 x0 x1 x2 n) (b2_v157 x0 x1 x2 n) (b2_v208 x0 x1 x2 n)
def b2_v255 (x0 : Vec F S1x512x128 .bf16) (x1 x2 : Vec F S1x8192x128 .bf16) (n : ℕ) : FVec F S256x128 .f32 := k0_pay131 (b2_v145 x0 x1 x2 n) (b2_v151 x0 x1 x2 n) (b2_v157 x0 x1 x2 n) (b2_v208 x0 x1 x2 n)
def b2_v256 (x0 : Vec F S1x512x128 .bf16) (x1 x2 : Vec F S1x8192x128 .bf16) (n : ℕ) : FVec F S256x128 .f32 := k0_pay132 (b2_v253 x0 x1 x2 n)
def b2_v259 (x0 : Vec F S1x512x128 .bf16) (x1 x2 : Vec F S1x8192x128 .bf16) (n : ℕ) : FVec F S256x128 .f32 := k0_pay134 (b2_v145 x0 x1 x2 n) (b2_v151 x0 x1 x2 n) (b2_v221 x0 x1 x2 n)
def b2_v260 (x0 : Vec F S1x512x128 .bf16) (x1 x2 : Vec F S1x8192x128 .bf16) (n : ℕ) : FVec F S256x128 .f32 := k0_pay135 (b2_v145 x0 x1 x2 n) (b2_v151 x0 x1 x2 n) (b2_v221 x0 x1 x2 n)
def b2_v261 (x0 : Vec F S1x512x128 .bf16) (x1 x2 : Vec F S1x8192x128 .bf16) (n : ℕ) : FVec F S256x128 .f32 := k0_pay136 (b2_v145 x0 x1 x2 n) (b2_v234 x0 x1 x2 n)
def b2_v273 (x0 : Vec F S1x512x128 .bf16) (x1 x2 : Vec F S1x8192x128 .bf16) (n : ℕ) : FVec F S256x128 .f32 := k0_pay137 k0_pay212 (b2_v242 x0 x1 x2 n)
def b2_v285 (x0 : Vec F S1x512x128 .bf16) (x1 x2 : Vec F S1x8192x128 .bf16) (n : ℕ) : FVec F S256x128 .f32 := k0_pay138 k0_pay212 (b2_v245 x0 x1 x2 n)
def b2_v295 (x0 : Vec F S1x512x128 .bf16) (x1 x2 : Vec F S1x8192x128 .bf16) (n : ℕ) : FVec F S256x128 .f32 := k0_pay139 (b2_v246 x0 x1 x2 n)
def b2_v297 (x0 : Vec F S1x512x128 .bf16) (x1 x2 : Vec F S1x8192x128 .bf16) (n : ℕ) : FVec F S256x128 .f32 := k0_pay140 (b2_v249 x0 x1 x2 n)
def b2_v300 (x0 : Vec F S1x512x128 .bf16) (x1 x2 : Vec F S1x8192x128 .bf16) (n : ℕ) : FVec F S256x128 .f32 := k0_pay141 (b2_v249 x0 x1 x2 n)
def b2_cst_161 (x0 : Vec F S1x512x128 .bf16) (x1 x2 : Vec F S1x8192x128 .bf16) (n : ℕ) : F .f32 := Scalar.ofBits .f32 0x3F800000#32
def b2_v307 (x0 : Vec F S1x512x128 .bf16) (x1 x2 : Vec F S1x8192x128 .bf16) (n : ℕ) : FVec F S256x128 .f32 := k0_pay142 k0_pay212 (b2_v297 x0 x1 x2 n) (b2_v300 x0 x1 x2 n)
def b2_v317 (x0 : Vec F S1x512x128 .bf16) (x1 x2 : Vec F S1x8192x128 .bf16) (n : ℕ) : FVec F S256x128 .f32 := k0_pay143 (b2_v250 x0 x1 x2 n)
def b2_v327 (x0 : Vec F S1x512x128 .bf16) (x1 x2 : Vec F S1x8192x128 .bf16) (n : ℕ) : FVec F S256x128 .f32 := k0_pay144 (b2_v251 x0 x1 x2 n)
def b2_v339 (x0 : Vec F S1x512x128 .bf16) (x1 x2 : Vec F S1x8192x128 .bf16) (n : ℕ) : FVec F S256x128 .f32 := k0_pay145 k0_pay212 (b2_v254 x0 x1 x2 n)
def b2_v341 (x0 : Vec F S1x512x128 .bf16) (x1 x2 : Vec F S1x8192x128 .bf16) (n : ℕ) : FVec F S256x128 .f32 := k0_pay146 (b2_v255 x0 x1 x2 n)
def b2_v345 (x0 : Vec F S1x512x128 .bf16) (x1 x2 : Vec F S1x8192x128 .bf16) (n : ℕ) : FVec F S256x128 .f32 := k0_pay147 (b2_v255 x0 x1 x2 n)
def b2_v349 (x0 : Vec F S1x512x128 .bf16) (x1 x2 : Vec F S1x8192x128 .bf16) (n : ℕ) : FVec F S256x128 .f32 := k0_pay148 (b2_v341 x0 x1 x2 n) (b2_v345 x0 x1 x2 n) (b2_cst_161 x0 x1 x2 n)
def b2_v359 (x0 : Vec F S1x512x128 .bf16) (x1 x2 : Vec F S1x8192x128 .bf16) (n : ℕ) : FVec F S256x128 .f32 := k0_pay149 (b2_v256 x0 x1 x2 n)
def b2_v369 (x0 : Vec F S1x512x128 .bf16) (x1 x2 : Vec F S1x8192x128 .bf16) (n : ℕ) : FVec F S256x128 .f32 := k0_pay150 (b2_v259 x0 x1 x2 n)
def b2_v379 (x0 : Vec F S1x512x128 .bf16) (x1 x2 : Vec F S1x8192x128 .bf16) (n : ℕ) : FVec F S256x128 .f32 := k0_pay151 (b2_v260 x0 x1 x2 n)
def b2_v389 (x0 : Vec F S1x512x128 .bf16) (x1 x2 : Vec F S1x8192x128 .bf16) (n : ℕ) : FVec F S256x128 .f32 := k0_pay152 (b2_v261 x0 x1 x2 n)
def b2_v390 (x0 : Vec F S1x512x128 .bf16) (x1 x2 : Vec F S1x8192x128 .bf16) (n : ℕ) : FVec F S256x128 .bf16 := k0_pay153 (b2_v273 x0 x1 x2 n)
def b2_v393 (x0 : Vec F S1x512x128 .bf16) (x1 x2 : Vec F S1x8192x128 .bf16) (n : ℕ) : FVec F S256x128 .bf16 := k0_pay154 (b2_v273 x0 x1 x2 n)
def b2_v451 (x0 : Vec F S1x512x128 .bf16) (x1 x2 : Vec F S1x8192x128 .bf16) (n : ℕ) : FVec F S3072x128 .f32 := k0_pay155 (k0_pay211 (F := F)) (b2_v285 x0 x1 x2 n) (b2_v295 x0 x1 x2 n) (b2_v307 x0 x1 x2 n) (b2_v317 x0 x1 x2 n) (b2_v327 x0 x1 x2 n) (b2_v339 x0 x1 x2 n) (b2_v349 x0 x1 x2 n) (b2_v359 x0 x1 x2 n) (b2_v369 x0 x1 x2 n) (b2_v379 x0 x1 x2 n) (b2_v389 x0 x1 x2 n) (b2_v390 x0 x1 x2 n) (b2_v393 x0 x1 x2 n)
def b2_v452 (x0 : Vec F S1x512x128 .bf16) (x1 x2 : Vec F S1x8192x128 .bf16) (n : ℕ) : FVec F S256x128 .f32 := k0_pay156 (k0_pay211 (F := F)) (b2_v285 x0 x1 x2 n) (b2_v295 x0 x1 x2 n) (b2_v307 x0 x1 x2 n) (b2_v317 x0 x1 x2 n) (b2_v327 x0 x1 x2 n) (b2_v339 x0 x1 x2 n) (b2_v349 x0 x1 x2 n) (b2_v359 x0 x1 x2 n) (b2_v369 x0 x1 x2 n) (b2_v379 x0 x1 x2 n) (b2_v389 x0 x1 x2 n) (b2_v390 x0 x1 x2 n) (b2_v393 x0 x1 x2 n)
def b2_v453 (x0 : Vec F S1x512x128 .bf16) (x1 x2 : Vec F S1x8192x128 .bf16) (n : ℕ) : FVec F S256x128 .f32 := k0_pay157 (b2_v451 x0 x1 x2 n)
def b2_v454 (x0 : Vec F S1x512x128 .bf16) (x1 x2 : Vec F S1x8192x128 .bf16) (n : ℕ) : FVec F S256x128 .f32 := k0_pay158 (b2_v451 x0 x1 x2 n)
def b2_v455 (x0 : Vec F S1x512x128 .bf16) (x1 x2 : Vec F S1x8192x128 .bf16) (n : ℕ) : FVec F S256x128 .f32 := k0_pay159 (b2_v451 x0 x1 x2 n)
def b2_v456 (x0 : Vec F S1x512x128 .bf16) (x1 x2 : Vec F S1x8192x128 .bf16) (n : ℕ) : FVec F S256x128 .f32 := k0_pay160 (b2_v451 x0 x1 x2 n)
def b2_v457 (x0 : Vec F S1x512x128 .bf16) (x1 x2 : Vec F S1x8192x128 .bf16) (n : ℕ) : FVec F S256x128 .f32 := k0_pay161 (b2_v451 x0 x1 x2 n)
def b2_v459 (x0 : Vec F S1x512x128 .bf16) (x1 x2 : Vec F S1x8192x128 .bf16) (n : ℕ) : FVec F S256x128 .f32 := k0_pay162 (b2_v451 x0 x1 x2 n)
def b2_v460 (x0 : Vec F S1x512x128 .bf16) (x1 x2 : Vec F S1x8192x128 .bf16) (n : ℕ) : FVec F S256x128 .f32 := k0_pay163 (b2_v451 x0 x1 x2 n)
def b2_v462 (x0 : Vec F S1x512x128 .bf16) (x1 x2 : Vec F S1x8192x128 .bf16) (n : ℕ) : FVec F S256x128 .f32 := k0_pay164 (b2_v451 x0 x1 x2 n)
def b2_v463 (x0 : Vec F S1x512x128 .bf16) (x1 x2 : Vec F S1x8192x128 .bf16) (n : ℕ) : FVec F S256x128 .f32 := k0_pay165 (b2_v451 x0 x1 x2 n)
def b2_v465 (x0 : Vec F S1x512x128 .bf16) (x1 x2 : Vec F S1x8192x128 .bf16) (n : ℕ) : FVec F S256x1 .f32 := k0_pay166 (b2_v273 x0 x1 x2 n)
def b2_v467 (x0 : Vec F S1x512x128 .bf16) (x1 x2 : Vec F S1x8192x128 .bf16) (n : ℕ) : FVec F S256x1 .f32 := k0_pay167 (b2_v285 x0 x1 x2 n)
def b2_v469 (x0 : Vec F S1x512x128 .bf16) (x1 x2 : Vec F S1x8192x128 .bf16) (n : ℕ) : FVec F S256x1 .f32 := k0_pay168 (b2_v295 x0 x1 x2 n)
def b2_v471 (x0 : Vec F S1x512x128 .bf16) (x1 x2 : Vec F S1x8192x128 .bf16) (n : ℕ) : FVec F S256x1 .f32 := k0_pay169 (b2_v307 x0 x1 x2 n)
def b2_v473 (x0 : Vec F S1x512x128 .bf16) (x1 x2 : Vec F S1x8192x128 .bf16) (n : ℕ) : FVec F S256x1 .f32 := k0_pay170 (b2_v317 x0 x1 x2 n)
def b2_v475 (x0 : Vec F S1x512x128 .bf16) (x1 x2 : Vec F S1x8192x128 .bf16) (n : ℕ) : FVec F S256x1 .f32 := k0_pay171 (b2_v327 x0 x1 x2 n)
def b2_v477 (x0 : Vec F S1x512x128 .bf16) (x1 x2 : Vec F S1x8192x128 .bf16) (n : ℕ) : FVec F S256x1 .f32 := k0_pay172 (b2_v339 x0 x1 x2 n)
def b2_v479 (x0 : Vec F S1x512x128 .bf16) (x1 x2 : Vec F S1x8192x128 .bf16) (n : ℕ) : FVec F S256x1 .f32 := k0_pay173 (b2_v349 x0 x1 x2 n)
def b2_v481 (x0 : Vec F S1x512x128 .bf16) (x1 x2 : Vec F S1x8192x128 .bf16) (n : ℕ) : FVec F S256x1 .f32 := k0_pay174 (b2_v359 x0 x1 x2 n)
def b2_v483 (x0 : Vec F S1x512x128 .bf16) (x1 x2 : Vec F S1x8192x128 .bf16) (n : ℕ) : FVec F S256x1 .f32 := k0_pay175 (b2_v369 x0 x1 x2 n)
def b2_v485 (x0 : Vec F S1x512x128 .bf16) (x1 x2 : Vec F S1x8192x128 .bf16) (n : ℕ) : FVec F S256x1 .f32 := k0_pay176 (b2_v379 x0 x1 x2 n)
def b2_v487 (x0 : Vec F S1x512x128 .bf16) (x1 x2 : Vec F S1x8192x128 .bf16) (n : ℕ) : FVec F S256x1 .f32 := k0_pay177 (b2_v389 x0 x1 x2 n)
def b2_v496 (x0 : Vec F S1x512x128 .bf16) (x1 x2 : Vec F S1x8192x128 .bf16) (n : ℕ) : FVec F S128x256 .bf16 := k0_pay178 k0_pay212 (b2_v254 x0 x1 x2 n) (b2_v339 x0 x1 x2 n) (b2_v451 x0 x1 x2 n)
def b2_v499 (x0 : Vec F S1x512x128 .bf16) (x1 x2 : Vec F S1x8192x128 .bf16) (n : ℕ) : FVec F S256x128 .f32 := k0_pay179 (b2_v339 x0 x1 x2 n) (b2_v369 x0 x1 x2 n) (b2_v451 x0 x1 x2 n)
def b2_v505 (x0 : Vec F S1x512x128 .bf16) (x1 x2 : Vec F S1x8192x128 .bf16) (n : ℕ) : FVec F S128x256 .bf16 := k0_pay180 (b2_v259 x0 x1 x2 n) (b2_v499 x0 x1 x2 n)
def b2_v515 (x0 : Vec F S1x512x128 .bf16) (x1 x2 : Vec F S1x8192x128 .bf16) (n : ℕ) : FVec F S128x256 .bf16 := k0_pay182 (b2_v261 x0 x1 x2 n) (b2_v389 x0 x1 x2 n) (b2_v463 x0 x1 x2 n) (b2_v477 x0 x1 x2 n) (b2_v483 x0 x1 x2 n)
def b2_v516 (x0 : Vec F S1x512x128 .bf16) (x1 x2 : Vec F S1x8192x128 .bf16) (n : ℕ) : FVec F S256x1 .f32 := k0_pay183 (b2_v477 x0 x1 x2 n) (b2_v483 x0 x1 x2 n) (b2_v487 x0 x1 x2 n)
def b2_v525 (x0 : Vec F S1x512x128 .bf16) (x1 x2 : Vec F S1x8192x128 .bf16) (n : ℕ) : FVec F S128x256 .bf16 := k0_pay184 k0_pay212 (b2_v249 x0 x1 x2 n) (b2_v307 x0 x1 x2 n) (b2_v455 x0 x1 x2 n)
def b2_v534 (x0 : Vec F S1x512x128 .bf16) (x1 x2 : Vec F S1x8192x128 .bf16) (n : ℕ) : FVec F S128x256 .bf16 := k0_pay185 (b2_v255 x0 x1 x2 n) (b2_v349 x0 x1 x2 n) (b2_v459 x0 x1 x2 n) (b2_v471 x0 x1 x2 n)
def b2_v544 (x0 : Vec F S1x512x128 .bf16) (x1 x2 : Vec F S1x8192x128 .bf16) (n : ℕ) : FVec F S128x256 .bf16 := k0_pay187 (b2_v260 x0 x1 x2 n) (b2_v379 x0 x1 x2 n) (b2_v462 x0 x1 x2 n) (b2_v471 x0 x1 x2 n) (b2_v479 x0 x1 x2 n)
def b2_v545 (x0 : Vec F S1x512x128 .bf16) (x1 x2 : Vec F S1x8192x128 .bf16) (n : ℕ) : FVec F S256x1 .f32 := k0_pay188 (b2_v471 x0 x1 x2 n) (b2_v479 x0 x1 x2 n) (b2_v485 x0 x1 x2 n)
def b2_v554 (x0 : Vec F S1x512x128 .bf16) (x1 x2 : Vec F S1x8192x128 .bf16) (n : ℕ) : FVec F S128x256 .bf16 := k0_pay189 k0_pay212 (b2_v245 x0 x1 x2 n) (b2_v285 x0 x1 x2 n) (b2_v453 x0 x1 x2 n)
def b2_v557 (x0 : Vec F S1x512x128 .bf16) (x1 x2 : Vec F S1x8192x128 .bf16) (n : ℕ) : FVec F S256x128 .f32 := k0_pay190 (b2_v317 x0 x1 x2 n) (b2_v456 x0 x1 x2 n) (b2_v467 x0 x1 x2 n)
def b2_v573 (x0 : Vec F S1x512x128 .bf16) (x1 x2 : Vec F S1x8192x128 .bf16) (n : ℕ) : FVec F S128x256 .bf16 := k0_pay192 (b2_v256 x0 x1 x2 n) (b2_v359 x0 x1 x2 n) (b2_v460 x0 x1 x2 n) (b2_v467 x0 x1 x2 n) (b2_v473 x0 x1 x2 n)
def b2_v574 (x0 : Vec F S1x512x128 .bf16) (x1 x2 : Vec F S1x8192x128 .bf16) (n : ℕ) : FVec F S256x1 .f32 := k0_pay193 (b2_v467 x0 x1 x2 n) (b2_v473 x0 x1 x2 n) (b2_v481 x0 x1 x2 n)
def b2_v603 (x0 : Vec F S1x512x128 .bf16) (x1 x2 : Vec F S1x8192x128 .bf16) (n : ℕ) : FVec F S256x1 .f32 := k0_pay195 (b2_v465 x0 x1 x2 n) (b2_v469 x0 x1 x2 n) (b2_v475 x0 x1 x2 n)
def b2_v607 (x0 : Vec F S1x512x128 .bf16) (x1 x2 : Vec F S1x8192x128 .bf16) (n : ℕ) : FVec F S128x128 .f32 := k0_pay197 (b2_v189 x0 x1 x2 n) (b2_v246 x0 x1 x2 n) (b2_v295 x0 x1 x2 n) (b2_v454 x0 x1 x2 n) (b2_v465 x0 x1 x2 n) (b2_v554 x0 x1 x2 n)
def b2_v609 (x0 : Vec F S1x512x128 .bf16) (x1 x2 : Vec F S1x8192x128 .bf16) (n : ℕ) : FVec F S128x128 .f32 := k0_pay198 k0_pay212 (b2_v176 x0 x1 x2 n) (b2_v189 x0 x1 x2 n) (b2_v242 x0 x1 x2 n) (b2_v246 x0 x1 x2 n) (b2_v273 x0 x1 x2 n) (b2_v295 x0 x1 x2 n) (b2_v452 x0 x1 x2 n) (b2_v454 x0 x1 x2 n) (b2_v465 x0 x1 x2 n) (b2_v554 x0 x1 x2 n)
def b2_v611 (x0 : Vec F S1x512x128 .bf16) (x1 x2 : Vec F S1x8192x128 .bf16) (n : ℕ) : FVec F S384x128 .f32 := k0_pay199 (b2_v202 x0 x1 x2 n) (b2_v250 x0 x1 x2 n) (b2_v251 x0 x1 x2 n) (b2_v327 x0 x1 x2 n) (b2_v457 x0 x1 x2 n) (b2_v465 x0 x1 x2 n) (b2_v469 x0 x1 x2 n) (b2_v525 x0 x1 x2 n) (b2_v557 x0 x1 x2 n)
def b2_v612 (x0 : Vec F S1x512x128 .bf16) (x1 x2 : Vec F S1x8192x128 .bf16) (n : ℕ) : FVec F S128x128 .f32 := k0_pay200 (b2_v202 x0 x1 x2 n) (b2_v250 x0 x1 x2 n) (b2_v251 x0 x1 x2 n) (b2_v327 x0 x1 x2 n) (b2_v457 x0 x1 x2 n) (b2_v465 x0 x1 x2 n) (b2_v469 x0 x1 x2 n) (b2_v525 x0 x1 x2 n) (b2_v557 x0 x1 x2 n)
def b2_v613 (x0 : Vec F S1x512x128 .bf16) (x1 x2 : Vec F S1x8192x128 .bf16) (n : ℕ) : FVec F S128x128 .f32 := k0_pay201 (b2_v202 x0 x1 x2 n) (b2_v250 x0 x1 x2 n) (b2_v251 x0 x1 x2 n) (b2_v327 x0 x1 x2 n) (b2_v457 x0 x1 x2 n) (b2_v465 x0 x1 x2 n) (b2_v469 x0 x1 x2 n) (b2_v525 x0 x1 x2 n) (b2_v557 x0 x1 x2 n)
def b2_v616 (x0 : Vec F S1x512x128 .bf16) (x1 x2 : Vec F S1x8192x128 .bf16) (n : ℕ) : FVec F S128x128 .f32 := k0_pay202 (b2_v609 x0 x1 x2 n) (b2_v611 x0 x1 x2 n)

/-- The accumulators and the sums of the logs after the unrolled visits of a later block of queries. -/
def b2_A (x0 : Vec F S1x512x128 .bf16) (x1 x2 : Vec F S1x8192x128 .bf16) (n : ℕ) : Fin 4 → Vec F S1x128x128 .f32 :=
  ![(k0_pay205 (b2_v215 x0 x1 x2 n) (b2_v228 x0 x1 x2 n) (b2_v241 x0 x1 x2 n) (b2_v496 x0 x1 x2 n) (b2_v505 x0 x1 x2 n) (b2_v515 x0 x1 x2 n) (b2_v534 x0 x1 x2 n) (b2_v544 x0 x1 x2 n) (b2_v573 x0 x1 x2 n)), (k0_pay207 (b2_v215 x0 x1 x2 n) (b2_v228 x0 x1 x2 n) (b2_v496 x0 x1 x2 n) (b2_v505 x0 x1 x2 n) (b2_v534 x0 x1 x2 n) (b2_v544 x0 x1 x2 n) (b2_v573 x0 x1 x2 n) (b2_v612 x0 x1 x2 n)), (k0_pay209 (b2_v215 x0 x1 x2 n) (b2_v496 x0 x1 x2 n) (b2_v534 x0 x1 x2 n) (b2_v573 x0 x1 x2 n) (b2_v607 x0 x1 x2 n) (b2_v613 x0 x1 x2 n)), (k0_pay217 (b2_v616 x0 x1 x2 n))]
def b2_D (x0 : Vec F S1x512x128 .bf16) (x1 x2 : Vec F S1x8192x128 .bf16) (n : ℕ) : Fin 4 → Vec F S1x256x1 .f32 :=
  ![(k0_pay206 (b2_v516 x0 x1 x2 n)), (k0_pay208 (b2_v545 x0 x1 x2 n)), (k0_pay216 (b2_v574 x0 x1 x2 n)), (k0_pay218 (b2_v603 x0 x1 x2 n))]

/-- The scratch after the unrolled visits of block `ig` of queries. -/
def init (x0 : Vec F S1x512x128 .bf16) (x1 x2 : Vec F S1x8192x128 .bf16) (ig : ℕ) : Vec F S4x128x128 .f32 × Vec F S4x256x1 .f32 :=
  if ig = 0 then (packA (b1_A x0 x1 x2), packD (b1_D x0 x1 x2)) else (packA (b2_A x0 x1 x2 (4 * ig)), packD (b2_D x0 x1 x2 (4 * ig)))

/-- Whether the loop of a group is entered. -/
def alive0 (d : Vec F S1x256x1 .f32) : BitVec 1 := Scalar.cmpf .olt (k0_pay220 d) (Named.named κ "dead_log" 0x42D20000#32)

/-- The scratch after the loop of group `g`. -/
def after (x0 : Vec F S1x512x128 .bf16) (x1 x2 : Vec F S1x8192x128 .bf16) (ig : ℕ) (g : Fin 4) (s : Vec F S4x128x128 .f32 × Vec F S4x256x1 .f32) : Vec F S4x128x128 .f32 × Vec F S4x256x1 .f32 :=
  wstate g k0_pay210 (k0_pay211 (F := F)) (k0_pay219 k0_pay210 (qblk x0 g)) x1 x2 (4 * ig + g.val - 2) (alive0 (getD g s.2)) s.1 s.2

def fin (x0 : Vec F S1x512x128 .bf16) (x1 x2 : Vec F S1x8192x128 .bf16) (ig : ℕ) : Vec F S4x128x128 .f32 × Vec F S4x256x1 .f32 :=
  after x0 x1 x2 ig 3 (after x0 x1 x2 ig 2 (after x0 x1 x2 ig 1 (after x0 x1 x2 ig 0 (init x0 x1 x2 ig))))

/-- The block of the output that the body leaves. -/
def outv (x0 : Vec F S1x512x128 .bf16) (x1 x2 : Vec F S1x8192x128 .bf16) (ig : ℕ) : Vec F S1x512x128 .bf16 :=
  packO fun g => k0_pay1 (getA g (fin x0 x1 x2 ig).1)

end Cert.KernelIdeal.Att

end
-- ==== Proof.AttParts.lean ====
/- The printed parts of the attention's body that hold the unrolled visits of the first block of queries, each run. -/
module

public import proofs.«01_k».proof.Proof.AttDefs
public import Idealize.ShloMosaic.Lib.Tactic
public import Idealize.ShloMosaic.Lib.Tactic.Stretches
public import Idealize.ShloMosaic.Lib.WritesUnit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the unrolled visits read: the queries, the keys and the values. -/
def ins (c : Dev nD) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (x0 : Vec F S1x512x128 .bf16) (x1 x2 : Vec F S1x8192x128 .bf16) : sProp 𝕄 :=
  iprop((arg3.view.loc (c : Thread nD τ) ↦[arg3.view.set]{fullShare} harg3.unread x0) ∗ (arg4.view.loc (c : Thread nD τ) ↦[arg4.view.set]{fullShare} harg4.unread x1)
    ∗ (arg5.view.loc (c : Thread nD τ) ↦[arg5.view.set]{fullShare} harg5.unread x2))

theorem rd_q (g : Fin 4) (a : Memref sig .tc .vmem S1x512x128 .bf16) (ha : a.IsWhole) (X : Vec F S1x512x128 .bf16)
    (o : Fin 3 → ℕ) (ho : o = ![0, 128 * g.val, 0]) (h) :
    View.readAt (Elt F) a.view (Rect.unit (s := S1x512x128) o S1x128x128.size h).toLoadRect (ha.unread X) = qblk X g := by
  rw [View.readAt_eq_ld, ha.read_unread]
  subst ho
  funext x
  unfold qblk View.ld
  congr 1
  funext a
  apply Fin.ext
  have h0 : (x 0 : Fin 1).val < 1 := (x 0 : Fin 1).isLt
  match a with
  | ⟨0, _⟩ => show 0 + 1 * (x 0 : Fin 1).val = 0; omega
  | ⟨1, _⟩ => show 128 * g.val + 1 * (x 1 : Fin 128).val = 128 * g.val + (x 1 : Fin 128).val; omega
  | ⟨2, _⟩ => show 0 + 1 * (x 2 : Fin 128).val = (x 2 : Fin 128).val; omega

theorem cond1_zero : ∀ n : Fin 16, n.val = 0 → Scalar.cmpi .ne (Scalar.extui (Scalar.cmpi .eq (BitVec.ofNat 32 n.val) 0#32) : BitVec 32) 0#32 = 1#1 := by decide
theorem cond1_pos : ∀ n : Fin 16, ¬ n.val = 0 → ¬ Scalar.cmpi .ne (Scalar.extui (Scalar.cmpi .eq (BitVec.ofNat 32 n.val) 0#32) : BitVec 32) 0#32 = 1#1 := by decide
theorem cond2_zero (i : grid0.Coords) (hi : (i 2 : Fin 16).val = 0) : ¬ k0_cond2 i = 1#1 := by
  have : ∀ n : Fin 16, n.val = 0 → ¬ Scalar.cmpi .ne (Scalar.extui (Scalar.cmpi .sgt (BitVec.ofNat 32 n.val) 0#32) : BitVec 32) 0#32 = 1#1 := by decide
  exact this (i 2) hi
theorem cond2_pos (i : grid0.Coords) (hi : ¬ (i 2 : Fin 16).val = 0) : k0_cond2 i = 1#1 := by
  have : ∀ n : Fin 16, ¬ n.val = 0 → Scalar.cmpi .ne (Scalar.extui (Scalar.cmpi .sgt (BitVec.ofNat 32 n.val) 0#32) : BitVec 32) 0#32 = 1#1 := by decide
  exact this (i 2) hi

/-! Where the unrolled visits of a later block of queries read. -/

def off1n (n : ℕ) (r : Fin 6) : ℕ := ![4 * n + 3, 4 * n + 2, 4 * n + 1, 4 * n, 4 * n - 1, 4 * n - 2] r
theorem blk_lt (i : grid0.Coords) (r : Fin 6) (h : k0_cond2 i = 1#1) : off1n (i 2 : Fin 16).val r < 64 := by
  have hi := (i 2 : Fin 16).isLt
  have : ∀ (n : Fin 16) (r : Fin 6), off1n n.val r < 64 := by decide
  exact this (i 2) r
theorem off1_0 (i : grid0.Coords) (h : k0_cond2 i = 1#1) : k0_off1 i 3#32 = ![0, 128 * (4 * (i 2 : Fin 16).val + 3), 0] := by
  have hi : ¬ (i 2 : Fin 16).val = 0 := fun hi => cond2_zero i hi h
  have : ∀ n : Fin 16, ¬ n.val = 0 → ![0, (Scalar.indexCast (Scalar.muli (Scalar.addi (Scalar.muli (BitVec.ofNat 32 n.val) 4#32) 3#32) 128#32) : Index).toNat, 0] = ![0, 128 * (4 * n.val + 3), 0] := by decide
  exact this (i 2) hi
theorem off1_1 (i : grid0.Coords) (h : k0_cond2 i = 1#1) : k0_off1 i 2#32 = ![0, 128 * (4 * (i 2 : Fin 16).val + 2), 0] := by
  have hi : ¬ (i 2 : Fin 16).val = 0 := fun hi => cond2_zero i hi h
  have : ∀ n : Fin 16, ¬ n.val = 0 → ![0, (Scalar.indexCast (Scalar.muli (Scalar.addi (Scalar.muli (BitVec.ofNat 32 n.val) 4#32) 2#32) 128#32) : Index).toNat, 0] = ![0, 128 * (4 * n.val + 2), 0] := by decide
  exact this (i 2) hi
theorem off1_2 (i : grid0.Coords) (h : k0_cond2 i = 1#1) : k0_off1 i 1#32 = ![0, 128 * (4 * (i 2 : Fin 16).val + 1), 0] := by
  have hi : ¬ (i 2 : Fin 16).val = 0 := fun hi => cond2_zero i hi h
  have : ∀ n : Fin 16, ¬ n.val = 0 → ![0, (Scalar.indexCast (Scalar.muli (Scalar.addi (Scalar.muli (BitVec.ofNat 32 n.val) 4#32) 1#32) 128#32) : Index).toNat, 0] = ![0, 128 * (4 * n.val + 1), 0] := by decide
  exact this (i 2) hi
theorem off1_3 (i : grid0.Coords) (h : k0_cond2 i = 1#1) : k0_off1 i 0#32 = ![0, 128 * (4 * (i 2 : Fin 16).val), 0] := by
  have hi : ¬ (i 2 : Fin 16).val = 0 := fun hi => cond2_zero i hi h
  have : ∀ n : Fin 16, ¬ n.val = 0 → ![0, (Scalar.indexCast (Scalar.muli (Scalar.addi (Scalar.muli (BitVec.ofNat 32 n.val) 4#32) 0#32) 128#32) : Index).toNat, 0] = ![0, 128 * (4 * n.val), 0] := by decide
  exact this (i 2) hi
theorem off1_4 (i : grid0.Coords) (h : k0_cond2 i = 1#1) : k0_off1 i 4294967295#32 = ![0, 128 * (4 * (i 2 : Fin 16).val - 1), 0] := by
  have hi : ¬ (i 2 : Fin 16).val = 0 := fun hi => cond2_zero i hi h
  have : ∀ n : Fin 16, ¬ n.val = 0 → ![0, (Scalar.indexCast (Scalar.muli (Scalar.addi (Scalar.muli (BitVec.ofNat 32 n.val) 4#32) 4294967295#32) 128#32) : Index).toNat, 0] = ![0, 128 * (4 * n.val - 1), 0] := by decide
  exact this (i 2) hi
theorem off1_5 (i : grid0.Coords) (h : k0_cond2 i = 1#1) : k0_off1 i 4294967294#32 = ![0, 128 * (4 * (i 2 : Fin 16).val - 2), 0] := by
  have hi : ¬ (i 2 : Fin 16).val = 0 := fun hi => cond2_zero i hi h
  have : ∀ n : Fin 16, ¬ n.val = 0 → ![0, (Scalar.indexCast (Scalar.muli (Scalar.addi (Scalar.muli (BitVec.ofNat 32 n.val) 4#32) 4294967294#32) 128#32) : Index).toNat, 0] = ![0, 128 * (4 * n.val - 2), 0] := by decide
  exact this (i 2) hi

/-! The unrolled visits of the first block of queries, printed part by part. -/

theorem part1_wp (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    iprop(ins c arg3 harg3 arg4 harg4 arg5 harg5 x0 x1 x2 ∗ (ins c arg3 harg3 arg4 harg4 arg5 harg5 x0 x1 x2 -∗ Q ⟨(b1_v144 x0 x1 x2), (b1_v150 x0 x1 x2), (b1_v156 x0 x1 x2), (b1_v162 x0 x1 x2), (b1_v164 x0 x1 x2), (b1_v170 x0 x1 x2), (b1_v172 x0 x1 x2)⟩))
      ⊢ wp frame (wpE (defs₀ (F := F)) 𝒱₀ (c : Thread nD τ) none) E (k0_part1 i arg3 harg3 arg4 harg4 arg5 harg5 arg6 harg6 arg7 harg7 arg8 harg8 k0_pay210) Q := by
  delta b1_v144 b1_v150 b1_v156 b1_v162 b1_v164 b1_v170 b1_v172 b1_v139 b1_v145 b1_v151 b1_v157 b1_v163 b1_v165 b1_v171
  rw [← rd_q 0 arg3 harg3 x0 ![0, 0, 0] rfl inb_S1x512x128_S1x128x128_0_0_0, ← rd_q 1 arg3 harg3 x0 ![0, 128, 0] rfl inb_S1x512x128_S1x128x128_0_128_0, ← rd_q 2 arg3 harg3 x0 ![0, 256, 0] rfl inb_S1x512x128_S1x128x128_0_256_0, ← rd_q 3 arg3 harg3 x0 ![0, 384, 0] rfl inb_S1x512x128_S1x128x128_0_384_0, ← rd_kv arg4 harg4 x1 3 (by norm_num) ![0, 384, 0] rfl inb_S1x8192x128_S1x128x128_0_384_0, ← rd_kv arg5 harg5 x2 3 (by norm_num) ![0, 384, 0] rfl inb_S1x8192x128_S1x128x128_0_384_0, ← rd_kv arg4 harg4 x1 2 (by norm_num) ![0, 256, 0] rfl inb_S1x8192x128_S1x128x128_0_256_0]
  rw [k0_part1_eq_skeleton]; unfold k0_part1_skel ins
  iintro ⟨⟨H0, H1, H2⟩, Hk⟩
  sl_exec
  sl_step
  try sl_open_run
  iapply Hk
  isplitl [H0]; · iexact H0
  isplitl [H1]; · iexact H1
  iexact H2

theorem part2_wp (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    iprop(ins c arg3 harg3 arg4 harg4 arg5 harg5 x0 x1 x2 ∗ (ins c arg3 harg3 arg4 harg4 arg5 harg5 x0 x1 x2 -∗ Q ⟨(b1_v178 x0 x1 x2), (b1_v186 x0 x1 x2), (b1_v194 x0 x1 x2), (b1_v195 x0 x1 x2), (b1_v198 x0 x1 x2), (b1_v199 x0 x1 x2), (b1_v202 x0 x1 x2), (b1_v203 x0 x1 x2), (b1_v204 x0 x1 x2), (b1_v207 x0 x1 x2), (b1_v208 x0 x1 x2), (b1_v209 x0 x1 x2), (b1_cst_119 x0 x1 x2)⟩))
      ⊢ wp frame (wpE (defs₀ (F := F)) 𝒱₀ (c : Thread nD τ) none) E (k0_part2 i arg3 harg3 arg4 harg4 arg5 harg5 arg6 harg6 arg7 harg7 arg8 harg8 k0_pay210 (b1_v144 x0 x1 x2) (b1_v150 x0 x1 x2) (b1_v156 x0 x1 x2) (b1_v162 x0 x1 x2) (b1_v164 x0 x1 x2) (b1_v172 x0 x1 x2)) Q := by
  delta b1_v178 b1_v186 b1_v194 b1_v195 b1_v198 b1_v199 b1_v202 b1_v203 b1_v204 b1_v207 b1_v208 b1_v209 b1_v173 b1_v179 b1_v181 b1_v187 b1_v189 b1_cst_119
  rw [← rd_kv arg5 harg5 x2 2 (by norm_num) ![0, 256, 0] rfl inb_S1x8192x128_S1x128x128_0_256_0, ← rd_kv arg4 harg4 x1 1 (by norm_num) ![0, 128, 0] rfl inb_S1x8192x128_S1x128x128_0_128_0, ← rd_kv arg5 harg5 x2 1 (by norm_num) ![0, 128, 0] rfl inb_S1x8192x128_S1x128x128_0_128_0, ← rd_kv arg4 harg4 x1 0 (by norm_num) ![0, 0, 0] rfl inb_S1x8192x128_S1x128x128_0_0_0, ← rd_kv arg5 harg5 x2 0 (by norm_num) ![0, 0, 0] rfl inb_S1x8192x128_S1x128x128_0_0_0]
  rw [k0_part2_eq_skeleton]; unfold k0_part2_skel ins
  iintro ⟨⟨H0, H1, H2⟩, Hk⟩
  sl_exec
  sl_step
  try sl_open_run
  iapply Hk
  isplitl [H0]; · iexact H0
  isplitl [H1]; · iexact H1
  iexact H2

theorem part3_wp (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b1_v221 x0 x1 x2), (b1_v233 x0 x1 x2), (b1_v243 x0 x1 x2), (b1_v255 x0 x1 x2)⟩
      ⊢ wp frame (wpE (defs₀ (F := F)) 𝒱₀ (c : Thread nD τ) none) E (k0_part3 i arg3 harg3 arg4 harg4 arg5 harg5 arg6 harg6 arg7 harg7 arg8 harg8 k0_pay212 (b1_v195 x0 x1 x2) (b1_v198 x0 x1 x2) (b1_v199 x0 x1 x2) (b1_v202 x0 x1 x2) (b1_cst_119 x0 x1 x2)) Q := by
  delta b1_v221 b1_v233 b1_v243 b1_v255
  iintro H
  rw [k0_part3_eq_skeleton]; unfold k0_part3_skel
  simp only [Prog.pure_eq_ret]
  rw [wp_ret]; imodintro
  iexact H

theorem part4_wp (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b1_v265 x0 x1 x2), (b1_v275 x0 x1 x2), (b1_v287 x0 x1 x2), (b1_v297 x0 x1 x2), (b1_v299 x0 x1 x2), (b1_v300 x0 x1 x2), (b1_cst_148 x0 x1 x2)⟩
      ⊢ wp frame (wpE (defs₀ (F := F)) 𝒱₀ (c : Thread nD τ) none) E (k0_part4 i arg3 harg3 arg4 harg4 arg5 harg5 arg6 harg6 arg7 harg7 arg8 harg8 k0_pay212 (b1_v203 x0 x1 x2) (b1_v204 x0 x1 x2) (b1_v207 x0 x1 x2) (b1_v208 x0 x1 x2) (b1_v209 x0 x1 x2)) Q := by
  delta b1_v265 b1_v275 b1_v287 b1_v297 b1_v299 b1_v300 b1_cst_148
  iintro H
  rw [k0_part4_eq_skeleton]; unfold k0_part4_skel
  simp only [Prog.pure_eq_ret]
  rw [wp_ret]; imodintro
  iexact H

theorem part5_wp (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b1_v307 x0 x1 x2), (b1_v354 x0 x1 x2), (b1_v355 x0 x1 x2), (b1_v356 x0 x1 x2), (b1_v357 x0 x1 x2), (b1_v358 x0 x1 x2)⟩
      ⊢ wp frame (wpE (defs₀ (F := F)) 𝒱₀ (c : Thread nD τ) none) E (k0_part5 i arg3 harg3 arg4 harg4 arg5 harg5 arg6 harg6 arg7 harg7 arg8 harg8 (k0_pay211 (F := F)) (b1_v221 x0 x1 x2) (b1_v233 x0 x1 x2) (b1_v243 x0 x1 x2) (b1_v255 x0 x1 x2) (b1_v265 x0 x1 x2) (b1_v275 x0 x1 x2) (b1_v287 x0 x1 x2) (b1_v297 x0 x1 x2) (b1_v299 x0 x1 x2) (b1_v300 x0 x1 x2) (b1_cst_148 x0 x1 x2)) Q := by
  delta b1_v307 b1_v354 b1_v355 b1_v356 b1_v357 b1_v358
  iintro H
  rw [k0_part5_eq_skeleton]; unfold k0_part5_skel
  simp only [Prog.pure_eq_ret]
  rw [wp_ret]; imodintro
  iexact H

theorem part6_wp (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b1_v359 x0 x1 x2), (b1_v360 x0 x1 x2), (b1_v363 x0 x1 x2), (b1_v365 x0 x1 x2), (b1_v367 x0 x1 x2), (b1_v369 x0 x1 x2), (b1_v371 x0 x1 x2), (b1_v373 x0 x1 x2), (b1_v375 x0 x1 x2), (b1_v377 x0 x1 x2), (b1_v379 x0 x1 x2), (b1_v381 x0 x1 x2), (b1_v390 x0 x1 x2), (b1_v399 x0 x1 x2), (b1_v406 x0 x1 x2), (b1_v407 x0 x1 x2)⟩
      ⊢ wp frame (wpE (defs₀ (F := F)) 𝒱₀ (c : Thread nD τ) none) E (k0_part6 i arg3 harg3 arg4 harg4 arg5 harg5 arg6 harg6 arg7 harg7 arg8 harg8 k0_pay212 (b1_v202 x0 x1 x2) (b1_v207 x0 x1 x2) (b1_v208 x0 x1 x2) (b1_v221 x0 x1 x2) (b1_v233 x0 x1 x2) (b1_v243 x0 x1 x2) (b1_v255 x0 x1 x2) (b1_v265 x0 x1 x2) (b1_v275 x0 x1 x2) (b1_v287 x0 x1 x2) (b1_v297 x0 x1 x2) (b1_v307 x0 x1 x2) (b1_v354 x0 x1 x2) (b1_v358 x0 x1 x2)) Q := by
  delta b1_v359 b1_v360 b1_v363 b1_v365 b1_v367 b1_v369 b1_v371 b1_v373 b1_v375 b1_v377 b1_v379 b1_v381 b1_v390 b1_v399 b1_v406 b1_v407
  iintro H
  rw [k0_part6_eq_skeleton]; unfold k0_part6_skel
  simp only [Prog.pure_eq_ret]
  rw [wp_ret]; imodintro
  iexact H

theorem part7_wp (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b1_v408 x0 x1 x2), (b1_v409 x0 x1 x2), (b1_v418 x0 x1 x2), (b1_v427 x0 x1 x2), (b1_v437 x0 x1 x2), (b1_v438 x0 x1 x2), (b1_v447 x0 x1 x2), (b1_v456 x0 x1 x2), (b1_v457 x0 x1 x2), (b1_v464 x0 x1 x2), (b1_v465 x0 x1 x2)⟩
      ⊢ wp frame (wpE (defs₀ (F := F)) 𝒱₀ (c : Thread nD τ) none) E (k0_part7 i arg3 harg3 arg4 harg4 arg5 harg5 arg6 harg6 arg7 harg7 arg8 harg8 k0_pay212 (b1_v195 x0 x1 x2) (b1_v198 x0 x1 x2) (b1_v199 x0 x1 x2) (b1_v203 x0 x1 x2) (b1_v204 x0 x1 x2) (b1_v209 x0 x1 x2) (b1_v221 x0 x1 x2) (b1_v233 x0 x1 x2) (b1_v243 x0 x1 x2) (b1_v265 x0 x1 x2) (b1_v275 x0 x1 x2) (b1_v307 x0 x1 x2) (b1_v355 x0 x1 x2) (b1_v356 x0 x1 x2) (b1_v357 x0 x1 x2) (b1_v359 x0 x1 x2) (b1_v360 x0 x1 x2) (b1_v363 x0 x1 x2) (b1_v365 x0 x1 x2) (b1_v367 x0 x1 x2) (b1_v369 x0 x1 x2) (b1_v371 x0 x1 x2) (b1_v373 x0 x1 x2) (b1_v379 x0 x1 x2) (b1_v381 x0 x1 x2) (b1_v406 x0 x1 x2) (b1_v407 x0 x1 x2)) Q := by
  delta b1_v408 b1_v409 b1_v418 b1_v427 b1_v437 b1_v438 b1_v447 b1_v456 b1_v457 b1_v464 b1_v465
  iintro H
  rw [k0_part7_eq_skeleton]; unfold k0_part7_skel
  simp only [Prog.pure_eq_ret]
  rw [wp_ret]; imodintro
  iexact H

theorem part8_wp (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (f7 : arg7.view.ty.Contents (Elt F)) (f8 : arg8.view.ty.Contents (Elt F)) (E : Set ℕ) (Q : _ → sProp 𝕄) :
    iprop((arg7.view.loc (c : Thread nD τ) ↦[arg7.view.set]{fullShare} f7) ∗ (arg8.view.loc (c : Thread nD τ) ↦[arg8.view.set]{fullShare} f8)
        ∗ ((arg7.view.loc (c : Thread nD τ) ↦[arg7.view.set]{fullShare} arg7.view.writes (Elt F) f7 [⟨Rect.unit (s := S4x128x128) ![1, 0, 0] S1x128x128.size inb_S4x128x128_S1x128x128_1_0_0, (k0_pay96 (b1_v186 x0 x1 x2) (b1_v194 x0 x1 x2) (b1_v390 x0 x1 x2) (b1_v399 x0 x1 x2) (b1_v408 x0 x1 x2) (b1_v427 x0 x1 x2) (b1_v437 x0 x1 x2) (b1_v464 x0 x1 x2) (b1_v465 x0 x1 x2))⟩, ⟨Rect.unit (s := S4x128x128) ![0, 0, 0] S1x128x128.size inb_S4x128x128_S1x128x128_0_0_0, (k0_pay94 (b1_v194 x0 x1 x2) (b1_v390 x0 x1 x2) (b1_v408 x0 x1 x2) (b1_v437 x0 x1 x2))⟩])
          -∗ (arg8.view.loc (c : Thread nD τ) ↦[arg8.view.set]{fullShare} arg8.view.writes (Elt F) f8 [⟨Rect.unit (s := S4x256x1) ![1, 0, 0] S1x256x1.size inb_S4x256x1_S1x256x1_1_0_0, (k0_pay97 (b1_v409 x0 x1 x2))⟩, ⟨Rect.unit (s := S4x256x1) ![0, 0, 0] S1x256x1.size inb_S4x256x1_S1x256x1_0_0_0, (k0_pay95 (b1_v377 x0 x1 x2))⟩])
          -∗ Q ⟨(b1_v467 x0 x1 x2), (b1_v480 x0 x1 x2), (b1_v502 x0 x1 x2)⟩))
      ⊢ wp frame (wpE (defs₀ (F := F)) 𝒱₀ (c : Thread nD τ) none) E (k0_part8 i arg3 harg3 arg4 harg4 arg5 harg5 arg6 harg6 arg7 harg7 arg8 harg8 (b1_v170 x0 x1 x2) (b1_v178 x0 x1 x2) (b1_v186 x0 x1 x2) (b1_v194 x0 x1 x2) (b1_v375 x0 x1 x2) (b1_v377 x0 x1 x2) (b1_v390 x0 x1 x2) (b1_v399 x0 x1 x2) (b1_v408 x0 x1 x2) (b1_v409 x0 x1 x2) (b1_v418 x0 x1 x2) (b1_v427 x0 x1 x2) (b1_v437 x0 x1 x2) (b1_v447 x0 x1 x2) (b1_v456 x0 x1 x2) (b1_v457 x0 x1 x2) (b1_v464 x0 x1 x2) (b1_v465 x0 x1 x2)) Q := by
  delta b1_v467 b1_v480 b1_v502
  rw [k0_part8_eq_skeleton]; unfold k0_part8_skel
  iintro ⟨H7, H8, Hk⟩
  sl_exec
  sl_step
  try sl_open_run
  iapply Hk $$ [H7] [H8]
  · iexact H7
  iexact H8

end Cert.KernelIdeal.Att

end
-- ==== Proof.AttParts2.lean ====
/- The printed parts of the attention's body that hold the unrolled visits of a later block of queries, each run. -/
module

public import proofs.«01_k».proof.Proof.AttParts

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The unrolled visits of a later block of queries, printed part by part. -/

theorem part9_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    iprop(ins c arg3 harg3 arg4 harg4 arg5 harg5 x0 x1 x2 ∗ (ins c arg3 harg3 arg4 harg4 arg5 harg5 x0 x1 x2 -∗ Q ⟨(Scalar.muli (BitVec.ofNat 32 (i 2 : Fin 16).val) 4#32), (b2_v145 x0 x1 x2 (4 * (i 2 : Fin 16).val)), (b2_v151 x0 x1 x2 (4 * (i 2 : Fin 16).val)), (b2_v157 x0 x1 x2 (4 * (i 2 : Fin 16).val)), (b2_v163 x0 x1 x2 (4 * (i 2 : Fin 16).val)), (b2_v169 x0 x1 x2 (4 * (i 2 : Fin 16).val)), (b2_v172 x0 x1 x2 (4 * (i 2 : Fin 16).val)), (b2_v173 x0 x1 x2 (4 * (i 2 : Fin 16).val)), (b2_v174 x0 x1 x2 (4 * (i 2 : Fin 16).val))⟩))
      ⊢ wp frame (wpE (defs₀ (F := F)) 𝒱₀ (c : Thread nD τ) none) E (k0_part9 i arg3 harg3 arg4 harg4 arg5 harg5 arg6 harg6 arg7 harg7 arg8 harg8 (BitVec.ofNat 32 (i 2 : Fin 16).val) k0_pay210 k0_h2) Q := by
  delta b2_v145 b2_v151 b2_v157 b2_v163 b2_v169 b2_v172 b2_v173 b2_v174 b2_v140 b2_v146 b2_v152 b2_v158 b2_v168 b2_v171
  rw [← rd_q 0 arg3 harg3 x0 ![0, 0, 0] rfl inb_S1x512x128_S1x128x128_0_0_0, ← rd_q 1 arg3 harg3 x0 ![0, 128, 0] rfl inb_S1x512x128_S1x128x128_0_128_0, ← rd_q 2 arg3 harg3 x0 ![0, 256, 0] rfl inb_S1x512x128_S1x128x128_0_256_0, ← rd_q 3 arg3 harg3 x0 ![0, 384, 0] rfl inb_S1x512x128_S1x128x128_0_384_0, ← rd_kv arg4 harg4 x1 (4 * (i 2 : Fin 16).val + 3) (blk_lt i 0 k0_h2) (k0_off1 i 3#32) (off1_0 i k0_h2) (k0_off1_inb i k0_h2 0), ← rd_kv arg5 harg5 x2 (4 * (i 2 : Fin 16).val + 3) (blk_lt i 0 k0_h2) (k0_off1 i 3#32) (off1_0 i k0_h2) (k0_off1_inb i k0_h2 0)]
  rw [k0_part9_eq_skeleton]; unfold k0_part9_skel ins
  iintro ⟨⟨H0, H1, H2⟩, Hk⟩
  sl_exec
  sl_step
  try sl_open_run
  iapply Hk
  isplitl [H0]; · iexact H0
  isplitl [H1]; · iexact H1
  iexact H2

theorem part10_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    iprop(ins c arg3 harg3 arg4 harg4 arg5 harg5 x0 x1 x2 ∗ (ins c arg3 harg3 arg4 harg4 arg5 harg5 x0 x1 x2 -∗ Q ⟨(b2_v176 x0 x1 x2 (4 * (i 2 : Fin 16).val)), (b2_v182 x0 x1 x2 (4 * (i 2 : Fin 16).val)), (b2_v189 x0 x1 x2 (4 * (i 2 : Fin 16).val)), (b2_v195 x0 x1 x2 (4 * (i 2 : Fin 16).val)), (b2_v202 x0 x1 x2 (4 * (i 2 : Fin 16).val)), (b2_v208 x0 x1 x2 (4 * (i 2 : Fin 16).val)), (b2_v211 x0 x1 x2 (4 * (i 2 : Fin 16).val)), (b2_v212 x0 x1 x2 (4 * (i 2 : Fin 16).val)), (b2_v213 x0 x1 x2 (4 * (i 2 : Fin 16).val))⟩))
      ⊢ wp frame (wpE (defs₀ (F := F)) 𝒱₀ (c : Thread nD τ) none) E (k0_part10 i arg3 harg3 arg4 harg4 arg5 harg5 arg6 harg6 arg7 harg7 arg8 harg8 k0_pay210 k0_h2 (Scalar.muli (BitVec.ofNat 32 (i 2 : Fin 16).val) 4#32) (b2_v172 x0 x1 x2 (4 * (i 2 : Fin 16).val)) (b2_v173 x0 x1 x2 (4 * (i 2 : Fin 16).val)) (b2_v174 x0 x1 x2 (4 * (i 2 : Fin 16).val))) Q := by
  delta b2_v176 b2_v182 b2_v189 b2_v195 b2_v202 b2_v208 b2_v211 b2_v212 b2_v213 b2_v181 b2_v184 b2_v194 b2_v197 b2_v207 b2_v210
  rw [← rd_kv arg4 harg4 x1 (4 * (i 2 : Fin 16).val + 2) (blk_lt i 1 k0_h2) (k0_off1 i 2#32) (off1_1 i k0_h2) (k0_off1_inb i k0_h2 1), ← rd_kv arg5 harg5 x2 (4 * (i 2 : Fin 16).val + 2) (blk_lt i 1 k0_h2) (k0_off1 i 2#32) (off1_1 i k0_h2) (k0_off1_inb i k0_h2 1), ← rd_kv arg4 harg4 x1 (4 * (i 2 : Fin 16).val + 1) (blk_lt i 2 k0_h2) (k0_off1 i 1#32) (off1_2 i k0_h2) (k0_off1_inb i k0_h2 2), ← rd_kv arg5 harg5 x2 (4 * (i 2 : Fin 16).val + 1) (blk_lt i 2 k0_h2) (k0_off1 i 1#32) (off1_2 i k0_h2) (k0_off1_inb i k0_h2 2), ← rd_kv arg4 harg4 x1 (4 * (i 2 : Fin 16).val) (blk_lt i 3 k0_h2) (k0_off1 i 0#32) (off1_3 i k0_h2) (k0_off1_inb i k0_h2 3), ← rd_kv arg5 harg5 x2 (4 * (i 2 : Fin 16).val) (blk_lt i 3 k0_h2) (k0_off1 i 0#32) (off1_3 i k0_h2) (k0_off1_inb i k0_h2 3)]
  rw [k0_part10_eq_skeleton]; unfold k0_part10_skel ins
  iintro ⟨⟨H0, H1, H2⟩, Hk⟩
  sl_exec
  sl_step
  try sl_open_run
  iapply Hk
  isplitl [H0]; · iexact H0
  isplitl [H1]; · iexact H1
  iexact H2

theorem part11_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    iprop(ins c arg3 harg3 arg4 harg4 arg5 harg5 x0 x1 x2 ∗ (ins c arg3 harg3 arg4 harg4 arg5 harg5 x0 x1 x2 -∗ Q ⟨(b2_v215 x0 x1 x2 (4 * (i 2 : Fin 16).val)), (b2_v221 x0 x1 x2 (4 * (i 2 : Fin 16).val)), (b2_v228 x0 x1 x2 (4 * (i 2 : Fin 16).val)), (b2_v234 x0 x1 x2 (4 * (i 2 : Fin 16).val)), (b2_v241 x0 x1 x2 (4 * (i 2 : Fin 16).val)), (b2_v242 x0 x1 x2 (4 * (i 2 : Fin 16).val)), (b2_v245 x0 x1 x2 (4 * (i 2 : Fin 16).val)), (b2_v246 x0 x1 x2 (4 * (i 2 : Fin 16).val)), (b2_v249 x0 x1 x2 (4 * (i 2 : Fin 16).val)), (b2_v250 x0 x1 x2 (4 * (i 2 : Fin 16).val)), (b2_v251 x0 x1 x2 (4 * (i 2 : Fin 16).val)), (b2_v253 x0 x1 x2 (4 * (i 2 : Fin 16).val)), (b2_v254 x0 x1 x2 (4 * (i 2 : Fin 16).val)), (b2_v255 x0 x1 x2 (4 * (i 2 : Fin 16).val))⟩))
      ⊢ wp frame (wpE (defs₀ (F := F)) 𝒱₀ (c : Thread nD τ) none) E (k0_part11 i arg3 harg3 arg4 harg4 arg5 harg5 arg6 harg6 arg7 harg7 arg8 harg8 k0_pay210 k0_h2 (Scalar.muli (BitVec.ofNat 32 (i 2 : Fin 16).val) 4#32) (b2_v145 x0 x1 x2 (4 * (i 2 : Fin 16).val)) (b2_v151 x0 x1 x2 (4 * (i 2 : Fin 16).val)) (b2_v157 x0 x1 x2 (4 * (i 2 : Fin 16).val)) (b2_v163 x0 x1 x2 (4 * (i 2 : Fin 16).val)) (b2_v169 x0 x1 x2 (4 * (i 2 : Fin 16).val)) (b2_v182 x0 x1 x2 (4 * (i 2 : Fin 16).val)) (b2_v195 x0 x1 x2 (4 * (i 2 : Fin 16).val)) (b2_v208 x0 x1 x2 (4 * (i 2 : Fin 16).val)) (b2_v211 x0 x1 x2 (4 * (i 2 : Fin 16).val)) (b2_v212 x0 x1 x2 (4 * (i 2 : Fin 16).val)) (b2_v213 x0 x1 x2 (4 * (i 2 : Fin 16).val))) Q := by
  delta b2_v215 b2_v221 b2_v228 b2_v234 b2_v241 b2_v242 b2_v245 b2_v246 b2_v249 b2_v250 b2_v251 b2_v253 b2_v254 b2_v255 b2_v220 b2_v223 b2_v233 b2_v236
  rw [← rd_kv arg4 harg4 x1 (4 * (i 2 : Fin 16).val - 1) (blk_lt i 4 k0_h2) (k0_off1 i 4294967295#32) (off1_4 i k0_h2) (k0_off1_inb i k0_h2 4), ← rd_kv arg5 harg5 x2 (4 * (i 2 : Fin 16).val - 1) (blk_lt i 4 k0_h2) (k0_off1 i 4294967295#32) (off1_4 i k0_h2) (k0_off1_inb i k0_h2 4), ← rd_kv arg4 harg4 x1 (4 * (i 2 : Fin 16).val - 2) (blk_lt i 5 k0_h2) (k0_off1 i 4294967294#32) (off1_5 i k0_h2) (k0_off1_inb i k0_h2 5), ← rd_kv arg5 harg5 x2 (4 * (i 2 : Fin 16).val - 2) (blk_lt i 5 k0_h2) (k0_off1 i 4294967294#32) (off1_5 i k0_h2) (k0_off1_inb i k0_h2 5)]
  rw [k0_part11_eq_skeleton]; unfold k0_part11_skel ins
  iintro ⟨⟨H0, H1, H2⟩, Hk⟩
  sl_exec
  sl_step
  try sl_open_run
  iapply Hk
  isplitl [H0]; · iexact H0
  isplitl [H1]; · iexact H1
  iexact H2

theorem part12_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b2_v256 x0 x1 x2 (4 * (i 2 : Fin 16).val)), (b2_v259 x0 x1 x2 (4 * (i 2 : Fin 16).val)), (b2_v260 x0 x1 x2 (4 * (i 2 : Fin 16).val)), (b2_v261 x0 x1 x2 (4 * (i 2 : Fin 16).val)), (b2_v273 x0 x1 x2 (4 * (i 2 : Fin 16).val)), (b2_v285 x0 x1 x2 (4 * (i 2 : Fin 16).val)), (b2_v295 x0 x1 x2 (4 * (i 2 : Fin 16).val)), (b2_v297 x0 x1 x2 (4 * (i 2 : Fin 16).val)), (b2_v300 x0 x1 x2 (4 * (i 2 : Fin 16).val))⟩
      ⊢ wp frame (wpE (defs₀ (F := F)) 𝒱₀ (c : Thread nD τ) none) E (k0_part12 i arg3 harg3 arg4 harg4 arg5 harg5 arg6 harg6 arg7 harg7 arg8 harg8 k0_pay212 (b2_v145 x0 x1 x2 (4 * (i 2 : Fin 16).val)) (b2_v151 x0 x1 x2 (4 * (i 2 : Fin 16).val)) (b2_v221 x0 x1 x2 (4 * (i 2 : Fin 16).val)) (b2_v234 x0 x1 x2 (4 * (i 2 : Fin 16).val)) (b2_v242 x0 x1 x2 (4 * (i 2 : Fin 16).val)) (b2_v245 x0 x1 x2 (4 * (i 2 : Fin 16).val)) (b2_v246 x0 x1 x2 (4 * (i 2 : Fin 16).val)) (b2_v249 x0 x1 x2 (4 * (i 2 : Fin 16).val)) (b2_v253 x0 x1 x2 (4 * (i 2 : Fin 16).val))) Q := by
  delta b2_v256 b2_v259 b2_v260 b2_v261 b2_v273 b2_v285 b2_v295 b2_v297 b2_v300
  iintro H
  rw [k0_part12_eq_skeleton]; unfold k0_part12_skel
  simp only [Prog.pure_eq_ret]
  rw [wp_ret]; imodintro
  iexact H

theorem part13_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b2_v307 x0 x1 x2 (4 * (i 2 : Fin 16).val)), (b2_v317 x0 x1 x2 (4 * (i 2 : Fin 16).val)), (b2_v327 x0 x1 x2 (4 * (i 2 : Fin 16).val)), (b2_v339 x0 x1 x2 (4 * (i 2 : Fin 16).val)), (b2_v341 x0 x1 x2 (4 * (i 2 : Fin 16).val)), (b2_v345 x0 x1 x2 (4 * (i 2 : Fin 16).val)), (b2_cst_161 x0 x1 x2 (4 * (i 2 : Fin 16).val))⟩
      ⊢ wp frame (wpE (defs₀ (F := F)) 𝒱₀ (c : Thread nD τ) none) E (k0_part13 i arg3 harg3 arg4 harg4 arg5 harg5 arg6 harg6 arg7 harg7 arg8 harg8 k0_pay212 (b2_v250 x0 x1 x2 (4 * (i 2 : Fin 16).val)) (b2_v251 x0 x1 x2 (4 * (i 2 : Fin 16).val)) (b2_v254 x0 x1 x2 (4 * (i 2 : Fin 16).val)) (b2_v255 x0 x1 x2 (4 * (i 2 : Fin 16).val)) (b2_v297 x0 x1 x2 (4 * (i 2 : Fin 16).val)) (b2_v300 x0 x1 x2 (4 * (i 2 : Fin 16).val))) Q := by
  delta b2_v307 b2_v317 b2_v327 b2_v339 b2_v341 b2_v345 b2_cst_161
  iintro H
  rw [k0_part13_eq_skeleton]; unfold k0_part13_skel
  simp only [Prog.pure_eq_ret]
  rw [wp_ret]; imodintro
  iexact H

theorem part14_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b2_v349 x0 x1 x2 (4 * (i 2 : Fin 16).val)), (b2_v359 x0 x1 x2 (4 * (i 2 : Fin 16).val)), (b2_v369 x0 x1 x2 (4 * (i 2 : Fin 16).val)), (b2_v379 x0 x1 x2 (4 * (i 2 : Fin 16).val)), (b2_v389 x0 x1 x2 (4 * (i 2 : Fin 16).val)), (b2_v390 x0 x1 x2 (4 * (i 2 : Fin 16).val)), (b2_v393 x0 x1 x2 (4 * (i 2 : Fin 16).val))⟩
      ⊢ wp frame (wpE (defs₀ (F := F)) 𝒱₀ (c : Thread nD τ) none) E (k0_part14 i arg3 harg3 arg4 harg4 arg5 harg5 arg6 harg6 arg7 harg7 arg8 harg8 (b2_v256 x0 x1 x2 (4 * (i 2 : Fin 16).val)) (b2_v259 x0 x1 x2 (4 * (i 2 : Fin 16).val)) (b2_v260 x0 x1 x2 (4 * (i 2 : Fin 16).val)) (b2_v261 x0 x1 x2 (4 * (i 2 : Fin 16).val)) (b2_v273 x0 x1 x2 (4 * (i 2 : Fin 16).val)) (b2_v341 x0 x1 x2 (4 * (i 2 : Fin 16).val)) (b2_v345 x0 x1 x2 (4 * (i 2 : Fin 16).val)) (b2_cst_161 x0 x1 x2 (4 * (i 2 : Fin 16).val))) Q := by
  delta b2_v349 b2_v359 b2_v369 b2_v379 b2_v389 b2_v390 b2_v393
  iintro H
  rw [k0_part14_eq_skeleton]; unfold k0_part14_skel
  simp only [Prog.pure_eq_ret]
  rw [wp_ret]; imodintro
  iexact H

theorem part15_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b2_v451 x0 x1 x2 (4 * (i 2 : Fin 16).val)), (b2_v452 x0 x1 x2 (4 * (i 2 : Fin 16).val))⟩
      ⊢ wp frame (wpE (defs₀ (F := F)) 𝒱₀ (c : Thread nD τ) none) E (k0_part15 i arg3 harg3 arg4 harg4 arg5 harg5 arg6 harg6 arg7 harg7 arg8 harg8 (k0_pay211 (F := F)) (b2_v285 x0 x1 x2 (4 * (i 2 : Fin 16).val)) (b2_v295 x0 x1 x2 (4 * (i 2 : Fin 16).val)) (b2_v307 x0 x1 x2 (4 * (i 2 : Fin 16).val)) (b2_v317 x0 x1 x2 (4 * (i 2 : Fin 16).val)) (b2_v327 x0 x1 x2 (4 * (i 2 : Fin 16).val)) (b2_v339 x0 x1 x2 (4 * (i 2 : Fin 16).val)) (b2_v349 x0 x1 x2 (4 * (i 2 : Fin 16).val)) (b2_v359 x0 x1 x2 (4 * (i 2 : Fin 16).val)) (b2_v369 x0 x1 x2 (4 * (i 2 : Fin 16).val)) (b2_v379 x0 x1 x2 (4 * (i 2 : Fin 16).val)) (b2_v389 x0 x1 x2 (4 * (i 2 : Fin 16).val)) (b2_v390 x0 x1 x2 (4 * (i 2 : Fin 16).val)) (b2_v393 x0 x1 x2 (4 * (i 2 : Fin 16).val))) Q := by
  delta b2_v451 b2_v452
  iintro H
  rw [k0_part15_eq_skeleton]; unfold k0_part15_skel
  simp only [Prog.pure_eq_ret]
  rw [wp_ret]; imodintro
  iexact H

theorem part16_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b2_v453 x0 x1 x2 (4 * (i 2 : Fin 16).val)), (b2_v454 x0 x1 x2 (4 * (i 2 : Fin 16).val)), (b2_v455 x0 x1 x2 (4 * (i 2 : Fin 16).val)), (b2_v456 x0 x1 x2 (4 * (i 2 : Fin 16).val)), (b2_v457 x0 x1 x2 (4 * (i 2 : Fin 16).val)), (b2_v459 x0 x1 x2 (4 * (i 2 : Fin 16).val)), (b2_v460 x0 x1 x2 (4 * (i 2 : Fin 16).val)), (b2_v462 x0 x1 x2 (4 * (i 2 : Fin 16).val)), (b2_v463 x0 x1 x2 (4 * (i 2 : Fin 16).val)), (b2_v465 x0 x1 x2 (4 * (i 2 : Fin 16).val)), (b2_v467 x0 x1 x2 (4 * (i 2 : Fin 16).val)), (b2_v469 x0 x1 x2 (4 * (i 2 : Fin 16).val)), (b2_v471 x0 x1 x2 (4 * (i 2 : Fin 16).val)), (b2_v473 x0 x1 x2 (4 * (i 2 : Fin 16).val)), (b2_v475 x0 x1 x2 (4 * (i 2 : Fin 16).val)), (b2_v477 x0 x1 x2 (4 * (i 2 : Fin 16).val)), (b2_v479 x0 x1 x2 (4 * (i 2 : Fin 16).val)), (b2_v481 x0 x1 x2 (4 * (i 2 : Fin 16).val)), (b2_v483 x0 x1 x2 (4 * (i 2 : Fin 16).val)), (b2_v485 x0 x1 x2 (4 * (i 2 : Fin 16).val)), (b2_v487 x0 x1 x2 (4 * (i 2 : Fin 16).val)), (b2_v496 x0 x1 x2 (4 * (i 2 : Fin 16).val)), (b2_v499 x0 x1 x2 (4 * (i 2 : Fin 16).val))⟩
      ⊢ wp frame (wpE (defs₀ (F := F)) 𝒱₀ (c : Thread nD τ) none) E (k0_part16 i arg3 harg3 arg4 harg4 arg5 harg5 arg6 harg6 arg7 harg7 arg8 harg8 k0_pay212 (b2_v254 x0 x1 x2 (4 * (i 2 : Fin 16).val)) (b2_v273 x0 x1 x2 (4 * (i 2 : Fin 16).val)) (b2_v285 x0 x1 x2 (4 * (i 2 : Fin 16).val)) (b2_v295 x0 x1 x2 (4 * (i 2 : Fin 16).val)) (b2_v307 x0 x1 x2 (4 * (i 2 : Fin 16).val)) (b2_v317 x0 x1 x2 (4 * (i 2 : Fin 16).val)) (b2_v327 x0 x1 x2 (4 * (i 2 : Fin 16).val)) (b2_v339 x0 x1 x2 (4 * (i 2 : Fin 16).val)) (b2_v349 x0 x1 x2 (4 * (i 2 : Fin 16).val)) (b2_v359 x0 x1 x2 (4 * (i 2 : Fin 16).val)) (b2_v369 x0 x1 x2 (4 * (i 2 : Fin 16).val)) (b2_v379 x0 x1 x2 (4 * (i 2 : Fin 16).val)) (b2_v389 x0 x1 x2 (4 * (i 2 : Fin 16).val)) (b2_v451 x0 x1 x2 (4 * (i 2 : Fin 16).val))) Q := by
  delta b2_v453 b2_v454 b2_v455 b2_v456 b2_v457 b2_v459 b2_v460 b2_v462 b2_v463 b2_v465 b2_v467 b2_v469 b2_v471 b2_v473 b2_v475 b2_v477 b2_v479 b2_v481 b2_v483 b2_v485 b2_v487 b2_v496 b2_v499
  iintro H
  rw [k0_part16_eq_skeleton]; unfold k0_part16_skel
  simp only [Prog.pure_eq_ret]
  rw [wp_ret]; imodintro
  iexact H

theorem part17_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b2_v505 x0 x1 x2 (4 * (i 2 : Fin 16).val)), (b2_v515 x0 x1 x2 (4 * (i 2 : Fin 16).val)), (b2_v516 x0 x1 x2 (4 * (i 2 : Fin 16).val)), (b2_v525 x0 x1 x2 (4 * (i 2 : Fin 16).val)), (b2_v534 x0 x1 x2 (4 * (i 2 : Fin 16).val)), (b2_v544 x0 x1 x2 (4 * (i 2 : Fin 16).val)), (b2_v545 x0 x1 x2 (4 * (i 2 : Fin 16).val)), (b2_v554 x0 x1 x2 (4 * (i 2 : Fin 16).val)), (b2_v557 x0 x1 x2 (4 * (i 2 : Fin 16).val))⟩
      ⊢ wp frame (wpE (defs₀ (F := F)) 𝒱₀ (c : Thread nD τ) none) E (k0_part17 i arg3 harg3 arg4 harg4 arg5 harg5 arg6 harg6 arg7 harg7 arg8 harg8 k0_pay212 (b2_v245 x0 x1 x2 (4 * (i 2 : Fin 16).val)) (b2_v249 x0 x1 x2 (4 * (i 2 : Fin 16).val)) (b2_v255 x0 x1 x2 (4 * (i 2 : Fin 16).val)) (b2_v259 x0 x1 x2 (4 * (i 2 : Fin 16).val)) (b2_v260 x0 x1 x2 (4 * (i 2 : Fin 16).val)) (b2_v261 x0 x1 x2 (4 * (i 2 : Fin 16).val)) (b2_v285 x0 x1 x2 (4 * (i 2 : Fin 16).val)) (b2_v307 x0 x1 x2 (4 * (i 2 : Fin 16).val)) (b2_v317 x0 x1 x2 (4 * (i 2 : Fin 16).val)) (b2_v349 x0 x1 x2 (4 * (i 2 : Fin 16).val)) (b2_v379 x0 x1 x2 (4 * (i 2 : Fin 16).val)) (b2_v389 x0 x1 x2 (4 * (i 2 : Fin 16).val)) (b2_v453 x0 x1 x2 (4 * (i 2 : Fin 16).val)) (b2_v455 x0 x1 x2 (4 * (i 2 : Fin 16).val)) (b2_v456 x0 x1 x2 (4 * (i 2 : Fin 16).val)) (b2_v459 x0 x1 x2 (4 * (i 2 : Fin 16).val)) (b2_v462 x0 x1 x2 (4 * (i 2 : Fin 16).val)) (b2_v463 x0 x1 x2 (4 * (i 2 : Fin 16).val)) (b2_v467 x0 x1 x2 (4 * (i 2 : Fin 16).val)) (b2_v471 x0 x1 x2 (4 * (i 2 : Fin 16).val)) (b2_v477 x0 x1 x2 (4 * (i 2 : Fin 16).val)) (b2_v479 x0 x1 x2 (4 * (i 2 : Fin 16).val)) (b2_v483 x0 x1 x2 (4 * (i 2 : Fin 16).val)) (b2_v485 x0 x1 x2 (4 * (i 2 : Fin 16).val)) (b2_v487 x0 x1 x2 (4 * (i 2 : Fin 16).val)) (b2_v499 x0 x1 x2 (4 * (i 2 : Fin 16).val))) Q := by
  delta b2_v505 b2_v515 b2_v516 b2_v525 b2_v534 b2_v544 b2_v545 b2_v554 b2_v557
  iintro H
  rw [k0_part17_eq_skeleton]; unfold k0_part17_skel
  simp only [Prog.pure_eq_ret]
  rw [wp_ret]; imodintro
  iexact H

theorem part18_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (Q : _ → sProp 𝕄) :
    Q ⟨(b2_v573 x0 x1 x2 (4 * (i 2 : Fin 16).val)), (b2_v574 x0 x1 x2 (4 * (i 2 : Fin 16).val)), (b2_v603 x0 x1 x2 (4 * (i 2 : Fin 16).val)), (b2_v607 x0 x1 x2 (4 * (i 2 : Fin 16).val)), (b2_v609 x0 x1 x2 (4 * (i 2 : Fin 16).val)), (b2_v611 x0 x1 x2 (4 * (i 2 : Fin 16).val)), (b2_v612 x0 x1 x2 (4 * (i 2 : Fin 16).val)), (b2_v613 x0 x1 x2 (4 * (i 2 : Fin 16).val))⟩
      ⊢ wp frame (wpE (defs₀ (F := F)) 𝒱₀ (c : Thread nD τ) none) E (k0_part18 i arg3 harg3 arg4 harg4 arg5 harg5 arg6 harg6 arg7 harg7 arg8 harg8 k0_pay212 (b2_v176 x0 x1 x2 (4 * (i 2 : Fin 16).val)) (b2_v189 x0 x1 x2 (4 * (i 2 : Fin 16).val)) (b2_v202 x0 x1 x2 (4 * (i 2 : Fin 16).val)) (b2_v242 x0 x1 x2 (4 * (i 2 : Fin 16).val)) (b2_v246 x0 x1 x2 (4 * (i 2 : Fin 16).val)) (b2_v250 x0 x1 x2 (4 * (i 2 : Fin 16).val)) (b2_v251 x0 x1 x2 (4 * (i 2 : Fin 16).val)) (b2_v256 x0 x1 x2 (4 * (i 2 : Fin 16).val)) (b2_v273 x0 x1 x2 (4 * (i 2 : Fin 16).val)) (b2_v295 x0 x1 x2 (4 * (i 2 : Fin 16).val)) (b2_v327 x0 x1 x2 (4 * (i 2 : Fin 16).val)) (b2_v359 x0 x1 x2 (4 * (i 2 : Fin 16).val)) (b2_v452 x0 x1 x2 (4 * (i 2 : Fin 16).val)) (b2_v454 x0 x1 x2 (4 * (i 2 : Fin 16).val)) (b2_v457 x0 x1 x2 (4 * (i 2 : Fin 16).val)) (b2_v460 x0 x1 x2 (4 * (i 2 : Fin 16).val)) (b2_v465 x0 x1 x2 (4 * (i 2 : Fin 16).val)) (b2_v467 x0 x1 x2 (4 * (i 2 : Fin 16).val)) (b2_v469 x0 x1 x2 (4 * (i 2 : Fin 16).val)) (b2_v473 x0 x1 x2 (4 * (i 2 : Fin 16).val)) (b2_v475 x0 x1 x2 (4 * (i 2 : Fin 16).val)) (b2_v481 x0 x1 x2 (4 * (i 2 : Fin 16).val)) (b2_v525 x0 x1 x2 (4 * (i 2 : Fin 16).val)) (b2_v554 x0 x1 x2 (4 * (i 2 : Fin 16).val)) (b2_v557 x0 x1 x2 (4 * (i 2 : Fin 16).val))) Q := by
  delta b2_v573 b2_v574 b2_v603 b2_v607 b2_v609 b2_v611 b2_v612 b2_v613
  iintro H
  rw [k0_part18_eq_skeleton]; unfold k0_part18_skel
  simp only [Prog.pure_eq_ret]
  rw [wp_ret]; imodintro
  iexact H

theorem part19_wp (c : Dev nD) (i : grid0.Coords) (k0_h2 : k0_cond2 i = 1#1) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (f7 : arg7.view.ty.Contents (Elt F)) (f8 : arg8.view.ty.Contents (Elt F)) (E : Set ℕ) (Q : _ → sProp 𝕄) :
    iprop((arg7.view.loc (c : Thread nD τ) ↦[arg7.view.set]{fullShare} f7) ∗ (arg8.view.loc (c : Thread nD τ) ↦[arg8.view.set]{fullShare} f8)
        ∗ (∀ v647, (arg7.view.loc (c : Thread nD τ) ↦[arg7.view.set]{fullShare} arg7.view.writes (Elt F) f7 [⟨Rect.unit (s := S4x128x128) ![2, 0, 0] S1x128x128.size inb_S4x128x128_S1x128x128_2_0_0, (k0_pay209 (b2_v215 x0 x1 x2 (4 * (i 2 : Fin 16).val)) (b2_v496 x0 x1 x2 (4 * (i 2 : Fin 16).val)) (b2_v534 x0 x1 x2 (4 * (i 2 : Fin 16).val)) (b2_v573 x0 x1 x2 (4 * (i 2 : Fin 16).val)) (b2_v607 x0 x1 x2 (4 * (i 2 : Fin 16).val)) (b2_v613 x0 x1 x2 (4 * (i 2 : Fin 16).val)))⟩, ⟨Rect.unit (s := S4x128x128) ![1, 0, 0] S1x128x128.size inb_S4x128x128_S1x128x128_1_0_0, (k0_pay207 (b2_v215 x0 x1 x2 (4 * (i 2 : Fin 16).val)) (b2_v228 x0 x1 x2 (4 * (i 2 : Fin 16).val)) (b2_v496 x0 x1 x2 (4 * (i 2 : Fin 16).val)) (b2_v505 x0 x1 x2 (4 * (i 2 : Fin 16).val)) (b2_v534 x0 x1 x2 (4 * (i 2 : Fin 16).val)) (b2_v544 x0 x1 x2 (4 * (i 2 : Fin 16).val)) (b2_v573 x0 x1 x2 (4 * (i 2 : Fin 16).val)) (b2_v612 x0 x1 x2 (4 * (i 2 : Fin 16).val)))⟩, ⟨Rect.unit (s := S4x128x128) ![0, 0, 0] S1x128x128.size inb_S4x128x128_S1x128x128_0_0_0, (k0_pay205 (b2_v215 x0 x1 x2 (4 * (i 2 : Fin 16).val)) (b2_v228 x0 x1 x2 (4 * (i 2 : Fin 16).val)) (b2_v241 x0 x1 x2 (4 * (i 2 : Fin 16).val)) (b2_v496 x0 x1 x2 (4 * (i 2 : Fin 16).val)) (b2_v505 x0 x1 x2 (4 * (i 2 : Fin 16).val)) (b2_v515 x0 x1 x2 (4 * (i 2 : Fin 16).val)) (b2_v534 x0 x1 x2 (4 * (i 2 : Fin 16).val)) (b2_v544 x0 x1 x2 (4 * (i 2 : Fin 16).val)) (b2_v573 x0 x1 x2 (4 * (i 2 : Fin 16).val)))⟩])
          -∗ (arg8.view.loc (c : Thread nD τ) ↦[arg8.view.set]{fullShare} arg8.view.writes (Elt F) f8 [⟨Rect.unit (s := S4x256x1) ![1, 0, 0] S1x256x1.size inb_S4x256x1_S1x256x1_1_0_0, (k0_pay208 (b2_v545 x0 x1 x2 (4 * (i 2 : Fin 16).val)))⟩, ⟨Rect.unit (s := S4x256x1) ![0, 0, 0] S1x256x1.size inb_S4x256x1_S1x256x1_0_0_0, (k0_pay206 (b2_v516 x0 x1 x2 (4 * (i 2 : Fin 16).val)))⟩])
          -∗ Q ⟨(b2_v616 x0 x1 x2 (4 * (i 2 : Fin 16).val)), v647⟩))
      ⊢ wp frame (wpE (defs₀ (F := F)) 𝒱₀ (c : Thread nD τ) none) E (k0_part19 i arg3 harg3 arg4 harg4 arg5 harg5 arg6 harg6 arg7 harg7 arg8 harg8 (b2_v215 x0 x1 x2 (4 * (i 2 : Fin 16).val)) (b2_v228 x0 x1 x2 (4 * (i 2 : Fin 16).val)) (b2_v241 x0 x1 x2 (4 * (i 2 : Fin 16).val)) (b2_v496 x0 x1 x2 (4 * (i 2 : Fin 16).val)) (b2_v505 x0 x1 x2 (4 * (i 2 : Fin 16).val)) (b2_v515 x0 x1 x2 (4 * (i 2 : Fin 16).val)) (b2_v516 x0 x1 x2 (4 * (i 2 : Fin 16).val)) (b2_v534 x0 x1 x2 (4 * (i 2 : Fin 16).val)) (b2_v544 x0 x1 x2 (4 * (i 2 : Fin 16).val)) (b2_v545 x0 x1 x2 (4 * (i 2 : Fin 16).val)) (b2_v573 x0 x1 x2 (4 * (i 2 : Fin 16).val)) (b2_v607 x0 x1 x2 (4 * (i 2 : Fin 16).val)) (b2_v609 x0 x1 x2 (4 * (i 2 : Fin 16).val)) (b2_v611 x0 x1 x2 (4 * (i 2 : Fin 16).val)) (b2_v612 x0 x1 x2 (4 * (i 2 : Fin 16).val)) (b2_v613 x0 x1 x2 (4 * (i 2 : Fin 16).val))) Q := by
  delta b2_v616
  rw [k0_part19_eq_skeleton]; unfold k0_part19_skel
  iintro ⟨H7, H8, Hk⟩
  sl_exec
  sl_step
  try sl_open_run
  iapply Hk $$ [H7] [H8]
  · iexact H7
  iexact H8

end Cert.KernelIdeal.Att

end
-- ==== Proof.AttInit.lean ====
/- The unrolled visits as a whole, and the loop of the first group of queries. -/
module

public import proofs.«01_k».proof.Proof.AttParts2
public import Idealize.ShloMosaic.Lib.Tactic
public import Idealize.ShloMosaic.Lib.Tactic.Stretches
public import Idealize.ShloMosaic.Lib.WritesUnit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem wr4_A (arg7 : Memref sig .tc .vmem S4x128x128 .f32) (harg7 : arg7.IsWhole) (f : arg7.view.ty.Contents (Elt F)) (v : Fin 4 → Vec F S1x128x128 .f32)
    (w0 w1 w2 w3 : Vec F S1x128x128 .f32) (e0 : w0 = v 0) (e1 : w1 = v 1) (e2 : w2 = v 2) (e3 : w3 = v 3) (h0 h1 h2 h3) :
    arg7.view.writes (Elt F) f [⟨Rect.unit (s := S4x128x128) ![3, 0, 0] S1x128x128.size h3, w3⟩, ⟨Rect.unit (s := S4x128x128) ![2, 0, 0] S1x128x128.size h2, w2⟩,
      ⟨Rect.unit (s := S4x128x128) ![1, 0, 0] S1x128x128.size h1, w1⟩, ⟨Rect.unit (s := S4x128x128) ![0, 0, 0] S1x128x128.size h0, w0⟩] = harg7.unread (packA v) := by
  subst e0 e1 e2 e3
  apply harg7.eq_unread
  funext x
  have hx : (x 0 : Fin 4).val < 4 := (x 0 : Fin 4).isLt
  have key : ∀ g : Fin 4, (x 0 : Fin 4) = g → v g (ix3 (0 : Fin 1) (x 1 : Fin 128) (x 2 : Fin 128)) = packA v x := fun g hg => by subst hg; rfl
  rcases (by omega : (x 0 : Fin 4).val = 3 ∨ (x 0 : Fin 4).val = 2 ∨ (x 0 : Fin 4).val = 1 ∨ (x 0 : Fin 4).val = 0) with h | h | h | h
  · rw [View.read_writes_cons_unit_of_mem (x := ix3 (0 : Fin 1) (x 1 : Fin 128) (x 2 : Fin 128)) (heq := rfl)]
    rotate_left
    · intro a
      match a with
      | ⟨0, _⟩ => show (x 0 : Fin 4).val = 3 + 0; omega
      | ⟨1, _⟩ => show (x 1 : Fin 128).val = 0 + (x 1 : Fin 128).val; omega
      | ⟨2, _⟩ => show (x 2 : Fin 128).val = 0 + (x 2 : Fin 128).val; omega
    · exact key 3 (Fin.ext h)
  · rw [View.read_writes_cons_unit_of_not_mem (heq := rfl) (a := 0)]
    rotate_left
    · show (x 0 : Fin 4).val < 3 ∨ 3 + 1 ≤ (x 0 : Fin 4).val; omega
    rw [View.read_writes_cons_unit_of_mem (x := ix3 (0 : Fin 1) (x 1 : Fin 128) (x 2 : Fin 128)) (heq := rfl)]
    rotate_left
    · intro a
      match a with
      | ⟨0, _⟩ => show (x 0 : Fin 4).val = 2 + 0; omega
      | ⟨1, _⟩ => show (x 1 : Fin 128).val = 0 + (x 1 : Fin 128).val; omega
      | ⟨2, _⟩ => show (x 2 : Fin 128).val = 0 + (x 2 : Fin 128).val; omega
    · exact key 2 (Fin.ext h)
  · rw [View.read_writes_cons_unit_of_not_mem (heq := rfl) (a := 0)]
    rotate_left
    · show (x 0 : Fin 4).val < 3 ∨ 3 + 1 ≤ (x 0 : Fin 4).val; omega
    rw [View.read_writes_cons_unit_of_not_mem (heq := rfl) (a := 0)]
    rotate_left
    · show (x 0 : Fin 4).val < 2 ∨ 2 + 1 ≤ (x 0 : Fin 4).val; omega
    rw [View.read_writes_cons_unit_of_mem (x := ix3 (0 : Fin 1) (x 1 : Fin 128) (x 2 : Fin 128)) (heq := rfl)]
    rotate_left
    · intro a
      match a with
      | ⟨0, _⟩ => show (x 0 : Fin 4).val = 1 + 0; omega
      | ⟨1, _⟩ => show (x 1 : Fin 128).val = 0 + (x 1 : Fin 128).val; omega
      | ⟨2, _⟩ => show (x 2 : Fin 128).val = 0 + (x 2 : Fin 128).val; omega
    · exact key 1 (Fin.ext h)
  · rw [View.read_writes_cons_unit_of_not_mem (heq := rfl) (a := 0)]
    rotate_left
    · show (x 0 : Fin 4).val < 3 ∨ 3 + 1 ≤ (x 0 : Fin 4).val; omega
    rw [View.read_writes_cons_unit_of_not_mem (heq := rfl) (a := 0)]
    rotate_left
    · show (x 0 : Fin 4).val < 2 ∨ 2 + 1 ≤ (x 0 : Fin 4).val; omega
    rw [View.read_writes_cons_unit_of_not_mem (heq := rfl) (a := 0)]
    rotate_left
    · show (x 0 : Fin 4).val < 1 ∨ 1 + 1 ≤ (x 0 : Fin 4).val; omega
    rw [View.read_writes_cons_unit_of_mem (x := ix3 (0 : Fin 1) (x 1 : Fin 128) (x 2 : Fin 128)) (heq := rfl)]
    rotate_left
    · intro a
      match a with
      | ⟨0, _⟩ => show (x 0 : Fin 4).val = 0 + 0; omega
      | ⟨1, _⟩ => show (x 1 : Fin 128).val = 0 + (x 1 : Fin 128).val; omega
      | ⟨2, _⟩ => show (x 2 : Fin 128).val = 0 + (x 2 : Fin 128).val; omega
    · exact key 0 (Fin.ext h)

theorem wr4_D (arg8 : Memref sig .tc .vmem S4x256x1 .f32) (harg8 : arg8.IsWhole) (f : arg8.view.ty.Contents (Elt F)) (v : Fin 4 → Vec F S1x256x1 .f32)
    (w0 w1 w2 w3 : Vec F S1x256x1 .f32) (e0 : w0 = v 0) (e1 : w1 = v 1) (e2 : w2 = v 2) (e3 : w3 = v 3) (h0 h1 h2 h3) :
    arg8.view.writes (Elt F) f [⟨Rect.unit (s := S4x256x1) ![3, 0, 0] S1x256x1.size h3, w3⟩, ⟨Rect.unit (s := S4x256x1) ![2, 0, 0] S1x256x1.size h2, w2⟩,
      ⟨Rect.unit (s := S4x256x1) ![1, 0, 0] S1x256x1.size h1, w1⟩, ⟨Rect.unit (s := S4x256x1) ![0, 0, 0] S1x256x1.size h0, w0⟩] = harg8.unread (packD v) := by
  subst e0 e1 e2 e3
  apply harg8.eq_unread
  funext x
  have hx : (x 0 : Fin 4).val < 4 := (x 0 : Fin 4).isLt
  have key : ∀ g : Fin 4, (x 0 : Fin 4) = g → v g (ix3 (0 : Fin 1) (x 1 : Fin 256) (x 2 : Fin 1)) = packD v x := fun g hg => by subst hg; rfl
  rcases (by omega : (x 0 : Fin 4).val = 3 ∨ (x 0 : Fin 4).val = 2 ∨ (x 0 : Fin 4).val = 1 ∨ (x 0 : Fin 4).val = 0) with h | h | h | h
  · rw [View.read_writes_cons_unit_of_mem (x := ix3 (0 : Fin 1) (x 1 : Fin 256) (x 2 : Fin 1)) (heq := rfl)]
    rotate_left
    · intro a
      match a with
      | ⟨0, _⟩ => show (x 0 : Fin 4).val = 3 + 0; omega
      | ⟨1, _⟩ => show (x 1 : Fin 256).val = 0 + (x 1 : Fin 256).val; omega
      | ⟨2, _⟩ => show (x 2 : Fin 1).val = 0 + (x 2 : Fin 1).val; omega
    · exact key 3 (Fin.ext h)
  · rw [View.read_writes_cons_unit_of_not_mem (heq := rfl) (a := 0)]
    rotate_left
    · show (x 0 : Fin 4).val < 3 ∨ 3 + 1 ≤ (x 0 : Fin 4).val; omega
    rw [View.read_writes_cons_unit_of_mem (x := ix3 (0 : Fin 1) (x 1 : Fin 256) (x 2 : Fin 1)) (heq := rfl)]
    rotate_left
    · intro a
      match a with
      | ⟨0, _⟩ => show (x 0 : Fin 4).val = 2 + 0; omega
      | ⟨1, _⟩ => show (x 1 : Fin 256).val = 0 + (x 1 : Fin 256).val; omega
      | ⟨2, _⟩ => show (x 2 : Fin 1).val = 0 + (x 2 : Fin 1).val; omega
    · exact key 2 (Fin.ext h)
  · rw [View.read_writes_cons_unit_of_not_mem (heq := rfl) (a := 0)]
    rotate_left
    · show (x 0 : Fin 4).val < 3 ∨ 3 + 1 ≤ (x 0 : Fin 4).val; omega
    rw [View.read_writes_cons_unit_of_not_mem (heq := rfl) (a := 0)]
    rotate_left
    · show (x 0 : Fin 4).val < 2 ∨ 2 + 1 ≤ (x 0 : Fin 4).val; omega
    rw [View.read_writes_cons_unit_of_mem (x := ix3 (0 : Fin 1) (x 1 : Fin 256) (x 2 : Fin 1)) (heq := rfl)]
    rotate_left
    · intro a
      match a with
      | ⟨0, _⟩ => show (x 0 : Fin 4).val = 1 + 0; omega
      | ⟨1, _⟩ => show (x 1 : Fin 256).val = 0 + (x 1 : Fin 256).val; omega
      | ⟨2, _⟩ => show (x 2 : Fin 1).val = 0 + (x 2 : Fin 1).val; omega
    · exact key 1 (Fin.ext h)
  · rw [View.read_writes_cons_unit_of_not_mem (heq := rfl) (a := 0)]
    rotate_left
    · show (x 0 : Fin 4).val < 3 ∨ 3 + 1 ≤ (x 0 : Fin 4).val; omega
    rw [View.read_writes_cons_unit_of_not_mem (heq := rfl) (a := 0)]
    rotate_left
    · show (x 0 : Fin 4).val < 2 ∨ 2 + 1 ≤ (x 0 : Fin 4).val; omega
    rw [View.read_writes_cons_unit_of_not_mem (heq := rfl) (a := 0)]
    rotate_left
    · show (x 0 : Fin 4).val < 1 ∨ 1 + 1 ≤ (x 0 : Fin 4).val; omega
    rw [View.read_writes_cons_unit_of_mem (x := ix3 (0 : Fin 1) (x 1 : Fin 256) (x 2 : Fin 1)) (heq := rfl)]
    rotate_left
    · intro a
      match a with
      | ⟨0, _⟩ => show (x 0 : Fin 4).val = 0 + 0; omega
      | ⟨1, _⟩ => show (x 1 : Fin 256).val = 0 + (x 1 : Fin 256).val; omega
      | ⟨2, _⟩ => show (x 2 : Fin 1).val = 0 + (x 2 : Fin 1).val; omega
    · exact key 0 (Fin.ext h)

theorem ctr_of (g : Fin 4) (n : Fin 16) : Ctr (4 * n.val + g.val - 2) (Scalar.subi (Scalar.addi (Scalar.muli (BitVec.ofNat 32 n.val) 4#32) (BitVec.ofNat 32 g.val)) 3#32) := by
  have h : ∀ (g : Fin 4) (n : Fin 16), (4 * n.val + g.val - 2 = 0 ∧ ¬ Scalar.cmpi .sge (Scalar.subi (Scalar.addi (Scalar.muli (BitVec.ofNat 32 n.val) 4#32) (BitVec.ofNat 32 g.val)) 3#32) 0#32 = 1#1)
      ∨ (4 * n.val + g.val - 2 = (4 * n.val + g.val - 3) + 1 ∧ 4 * n.val + g.val - 3 < 64
        ∧ Scalar.subi (Scalar.addi (Scalar.muli (BitVec.ofNat 32 n.val) 4#32) (BitVec.ofNat 32 g.val)) 3#32 = BitVec.ofNat 32 (4 * n.val + g.val - 3)) := by decide
  rcases h g n with h | h
  · exact .inl h
  · exact .inr ⟨_, h⟩
theorem ctr_of0 (n : Fin 16) : Ctr (4 * n.val + (0 : Fin 4).val - 2) (Scalar.subi (Scalar.addi (Scalar.muli (BitVec.ofNat 32 n.val) 4#32) 0#32) 3#32) := ctr_of 0 n
theorem ctr_of1 (n : Fin 16) : Ctr (4 * n.val + (1 : Fin 4).val - 2) (Scalar.subi (Scalar.addi (Scalar.muli (BitVec.ofNat 32 n.val) 4#32) 1#32) 3#32) := ctr_of 1 n
theorem ctr_of2 (n : Fin 16) : Ctr (4 * n.val + (2 : Fin 4).val - 2) (Scalar.subi (Scalar.addi (Scalar.muli (BitVec.ofNat 32 n.val) 4#32) 2#32) 3#32) := ctr_of 2 n
theorem ctr_of3 (n : Fin 16) : Ctr (4 * n.val + (3 : Fin 4).val - 2) (Scalar.subi (Scalar.addi (Scalar.muli (BitVec.ofNat 32 n.val) 4#32) 3#32) 3#32) := ctr_of 3 n

set_option maxHeartbeats 600000 in
theorem part21_run1 (c : Dev nD) (i : grid0.Coords) (hi : (i 2 : Fin 16).val = 0) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (f7 : arg7.view.ty.Contents (Elt F)) (f8 : arg8.view.ty.Contents (Elt F)) (E : Set ℕ) (Q : _ → sProp 𝕄) :
    iprop((ins c arg3 harg3 arg4 harg4 arg5 harg5 x0 x1 x2 ∗ (arg7.view.loc (c : Thread nD τ) ↦[arg7.view.set]{fullShare} f7) ∗ (arg8.view.loc (c : Thread nD τ) ↦[arg8.view.set]{fullShare} f8))
        ∗ (iprop(((arg3.view.loc (c : Thread nD τ) ↦[arg3.view.set]{fullShare} harg3.unread x0) ∗ held c arg4 harg4 arg5 harg5 arg7 harg7 arg8 harg8 x1 x2 (after x0 x1 x2 (i 2 : Fin 16).val 0 (init x0 x1 x2 (i 2 : Fin 16).val)).1 (after x0 x1 x2 (i 2 : Fin 16).val 0 (init x0 x1 x2 (i 2 : Fin 16).val)).2)) -∗ Q ⟨Scalar.muli (BitVec.ofNat 32 (i 2 : Fin 16).val) 4#32, Scalar.subi (Scalar.addi (Scalar.muli (BitVec.ofNat 32 (i 2 : Fin 16).val) 4#32) 1#32) 3#32, k0_pay221 k0_pay210 (qblk x0 1), k0_pay222 (getD 1 (after x0 x1 x2 (i 2 : Fin 16).val 0 (init x0 x1 x2 (i 2 : Fin 16).val)).2)⟩))
      ⊢ wp frame (wpE (defs₀ (F := F)) 𝒱₀ (c : Thread nD τ) none) E (k0_part21 i arg3 harg3 arg4 harg4 arg5 harg5 arg6 harg6 arg7 harg7 arg8 harg8 (BitVec.ofNat 32 (i 2 : Fin 16).val) k0_pay210 (k0_pay211 (F := F)) k0_pay212) Q := by
  rw [k0_part21_eq_skeleton]; unfold k0_part21_skel
  have h1 := cond1_zero (i 2) hi
  have h2 := cond2_zero i hi
  rw [dif_pos h1, dif_neg h2]
  dsimp only
  iintro ⟨⟨HI, H7, H8⟩, Hk⟩
  rw [wp_bind]; iapply (part1_wp c i arg3 harg3 arg4 harg4 arg5 harg5 arg6 harg6 arg7 harg7 arg8 harg8 x0 x1 x2 E _); isplitl [HI]; · iexact HI
  iintro HI; dsimp only
  rw [wp_bind]; iapply (part2_wp c i arg3 harg3 arg4 harg4 arg5 harg5 arg6 harg6 arg7 harg7 arg8 harg8 x0 x1 x2 E _); isplitl [HI]; · iexact HI
  iintro HI; dsimp only
  rw [wp_bind]; iapply (part3_wp c i arg3 harg3 arg4 harg4 arg5 harg5 arg6 harg6 arg7 harg7 arg8 harg8 x0 x1 x2 E _); dsimp only
  rw [wp_bind]; iapply (part4_wp c i arg3 harg3 arg4 harg4 arg5 harg5 arg6 harg6 arg7 harg7 arg8 harg8 x0 x1 x2 E _); dsimp only
  rw [wp_bind]; iapply (part5_wp c i arg3 harg3 arg4 harg4 arg5 harg5 arg6 harg6 arg7 harg7 arg8 harg8 x0 x1 x2 E _); dsimp only
  rw [wp_bind]; iapply (part6_wp c i arg3 harg3 arg4 harg4 arg5 harg5 arg6 harg6 arg7 harg7 arg8 harg8 x0 x1 x2 E _); dsimp only
  rw [wp_bind]; iapply (part7_wp c i arg3 harg3 arg4 harg4 arg5 harg5 arg6 harg6 arg7 harg7 arg8 harg8 x0 x1 x2 E _); dsimp only
  rw [wp_bind]; iapply (part8_wp c i arg3 harg3 arg4 harg4 arg5 harg5 arg6 harg6 arg7 harg7 arg8 harg8 x0 x1 x2 f7 f8 E _); isplitl [H7]; · iexact H7
  isplitl [H8]; · iexact H8
  iintro H7 H8; dsimp only
  unfold ins
  icases HI with ⟨H3, H4, H5⟩
  sl_exec
  sl_unfold_run_names
  unfold View.readCov
  rw [wr4_A arg7 harg7 f7 (b1_A x0 x1 x2) _ _ _ _ ?_ ?_ ?_ ?_]
  rotate_left
  · rfl
  · rfl
  · rfl
  · rfl
  rw [wr4_D arg8 harg8 f8 (b1_D x0 x1 x2) _ _ _ _ ?_ ?_ ?_ ?_, wr4_D arg8 harg8 arg8.view.junk (b1_D x0 x1 x2) _ _ _ _ ?_ ?_ ?_ ?_]
  rotate_left
  · rfl
  · rfl
  · rfl
  · rfl
  · rfl
  · rfl
  · rfl
  · rfl
  rw [show (init x0 x1 x2 (i 2 : Fin 16).val) = (packA (b1_A x0 x1 x2), packD (b1_D x0 x1 x2)) from if_pos hi]
  delta after
  rw [rd_q 0 arg3 harg3 x0 ![0, 0, 0] rfl, rd_D 0 arg8 harg8 _ ![0, 0, 0] rfl]
  rw [show Scalar.cmpf .olt (k0_pay220 (getD 0 (packD (b1_D x0 x1 x2)))) (Named.named κ "dead_log" 0x42D20000#32) = alive0 (getD 0 (packD (b1_D x0 x1 x2))) from rfl]
  iapply (wp_call_spec 𝒱₀ (c : Thread nD τ) none E (spec c arg4 harg4 arg5 harg5 arg7 harg7 arg8 harg8 0 k0_pay210 (k0_pay211 (F := F)) (k0_pay219 k0_pay210 (qblk x0 0)) x1 x2 (4 * (i 2 : Fin 16).val + (0 : Fin 4).val - 2)
      (alive0 (getD 0 (packA (b1_A x0 x1 x2), packD (b1_D x0 x1 x2)).2)) (packA (b1_A x0 x1 x2), packD (b1_D x0 x1 x2)).1 (packA (b1_A x0 x1 x2), packD (b1_D x0 x1 x2)).2) (4 * (i 2 : Fin 16).val + (0 : Fin 4).val - 2) (fun u hu => nomatch hu)
    (spec_le1 c i arg4 harg4 arg5 harg5 arg7 harg7 arg8 harg8 k0_pay210 (k0_pay211 (F := F)) (k0_pay219 k0_pay210 (qblk x0 0)) x1 x2 E _ _ (ctr_of0 (i 2)) _ _ _))
  rw [spec_apply]; unfold held
  isplitl [H4 H5 H7 H8]
  · isplitl [H4]; · iexact H4
    isplitl [H5]; · iexact H5
    isplitl [H7]; · iexact H7
    iexact H8
  iintro %r ⟨H4, H5, H7, H8⟩
  sl_exec
  sl_step
  try sl_open_run
  rw [rd_q 1 arg3 harg3 x0 ![0, 128, 0] rfl, rd_D 1 arg8 harg8 _ ![1, 0, 0] rfl]
  iapply Hk
  isplitl [H3]; · iexact H3
  isplitl [H4]; · iexact H4
  isplitl [H5]; · iexact H5
  isplitl [H7]; · iexact H7
  iexact H8

set_option maxHeartbeats 600000 in
theorem part21_run2 (c : Dev nD) (i : grid0.Coords) (hi : ¬ (i 2 : Fin 16).val = 0) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (f7 : arg7.view.ty.Contents (Elt F)) (f8 : arg8.view.ty.Contents (Elt F)) (E : Set ℕ) (Q : _ → sProp 𝕄) :
    iprop((ins c arg3 harg3 arg4 harg4 arg5 harg5 x0 x1 x2 ∗ (arg7.view.loc (c : Thread nD τ) ↦[arg7.view.set]{fullShare} f7) ∗ (arg8.view.loc (c : Thread nD τ) ↦[arg8.view.set]{fullShare} f8))
        ∗ (iprop(((arg3.view.loc (c : Thread nD τ) ↦[arg3.view.set]{fullShare} harg3.unread x0) ∗ held c arg4 harg4 arg5 harg5 arg7 harg7 arg8 harg8 x1 x2 (after x0 x1 x2 (i 2 : Fin 16).val 0 (init x0 x1 x2 (i 2 : Fin 16).val)).1 (after x0 x1 x2 (i 2 : Fin 16).val 0 (init x0 x1 x2 (i 2 : Fin 16).val)).2)) -∗ Q ⟨Scalar.muli (BitVec.ofNat 32 (i 2 : Fin 16).val) 4#32, Scalar.subi (Scalar.addi (Scalar.muli (BitVec.ofNat 32 (i 2 : Fin 16).val) 4#32) 1#32) 3#32, k0_pay221 k0_pay210 (qblk x0 1), k0_pay222 (getD 1 (after x0 x1 x2 (i 2 : Fin 16).val 0 (init x0 x1 x2 (i 2 : Fin 16).val)).2)⟩))
      ⊢ wp frame (wpE (defs₀ (F := F)) 𝒱₀ (c : Thread nD τ) none) E (k0_part21 i arg3 harg3 arg4 harg4 arg5 harg5 arg6 harg6 arg7 harg7 arg8 harg8 (BitVec.ofNat 32 (i 2 : Fin 16).val) k0_pay210 (k0_pay211 (F := F)) k0_pay212) Q := by
  rw [k0_part21_eq_skeleton]; unfold k0_part21_skel
  have h1 := cond1_pos (i 2) hi
  have k0_h2 := cond2_pos i hi
  rw [dif_neg h1, dif_pos k0_h2]
  dsimp only
  iintro ⟨⟨HI, H7, H8⟩, Hk⟩
  rw [wp_bind]; iapply (part9_wp c i k0_h2 arg3 harg3 arg4 harg4 arg5 harg5 arg6 harg6 arg7 harg7 arg8 harg8 x0 x1 x2 E _); isplitl [HI]; · iexact HI
  iintro HI; dsimp only
  rw [wp_bind]; iapply (part10_wp c i k0_h2 arg3 harg3 arg4 harg4 arg5 harg5 arg6 harg6 arg7 harg7 arg8 harg8 x0 x1 x2 E _); isplitl [HI]; · iexact HI
  iintro HI; dsimp only
  rw [wp_bind]; iapply (part11_wp c i k0_h2 arg3 harg3 arg4 harg4 arg5 harg5 arg6 harg6 arg7 harg7 arg8 harg8 x0 x1 x2 E _); isplitl [HI]; · iexact HI
  iintro HI; dsimp only
  rw [wp_bind]; iapply (part12_wp c i k0_h2 arg3 harg3 arg4 harg4 arg5 harg5 arg6 harg6 arg7 harg7 arg8 harg8 x0 x1 x2 E _); dsimp only
  rw [wp_bind]; iapply (part13_wp c i k0_h2 arg3 harg3 arg4 harg4 arg5 harg5 arg6 harg6 arg7 harg7 arg8 harg8 x0 x1 x2 E _); dsimp only
  rw [wp_bind]; iapply (part14_wp c i k0_h2 arg3 harg3 arg4 harg4 arg5 harg5 arg6 harg6 arg7 harg7 arg8 harg8 x0 x1 x2 E _); dsimp only
  rw [wp_bind]; iapply (part15_wp c i k0_h2 arg3 harg3 arg4 harg4 arg5 harg5 arg6 harg6 arg7 harg7 arg8 harg8 x0 x1 x2 E _); dsimp only
  rw [wp_bind]; iapply (part16_wp c i k0_h2 arg3 harg3 arg4 harg4 arg5 harg5 arg6 harg6 arg7 harg7 arg8 harg8 x0 x1 x2 E _); dsimp only
  rw [wp_bind]; iapply (part17_wp c i k0_h2 arg3 harg3 arg4 harg4 arg5 harg5 arg6 harg6 arg7 harg7 arg8 harg8 x0 x1 x2 E _); dsimp only
  rw [wp_bind]; iapply (part18_wp c i k0_h2 arg3 harg3 arg4 harg4 arg5 harg5 arg6 harg6 arg7 harg7 arg8 harg8 x0 x1 x2 E _); dsimp only
  rw [wp_bind]; iapply (part19_wp c i k0_h2 arg3 harg3 arg4 harg4 arg5 harg5 arg6 harg6 arg7 harg7 arg8 harg8 x0 x1 x2 f7 f8 E _); isplitl [H7]; · iexact H7
  isplitl [H8]; · iexact H8
  iintro %v647 H7 H8; dsimp only
  unfold ins
  icases HI with ⟨H3, H4, H5⟩
  sl_exec
  sl_unfold_run_names
  unfold View.readCov
  rw [wr4_A arg7 harg7 f7 (b2_A x0 x1 x2 (4 * (i 2 : Fin 16).val)) _ _ _ _ ?_ ?_ ?_ ?_]
  rotate_left
  · rfl
  · rfl
  · rfl
  · rfl
  rw [wr4_D arg8 harg8 f8 (b2_D x0 x1 x2 (4 * (i 2 : Fin 16).val)) _ _ _ _ ?_ ?_ ?_ ?_, wr4_D arg8 harg8 arg8.view.junk (b2_D x0 x1 x2 (4 * (i 2 : Fin 16).val)) _ _ _ _ ?_ ?_ ?_ ?_]
  rotate_left
  · rfl
  · rfl
  · rfl
  · rfl
  · rfl
  · rfl
  · rfl
  · rfl
  rw [show (init x0 x1 x2 (i 2 : Fin 16).val) = (packA (b2_A x0 x1 x2 (4 * (i 2 : Fin 16).val)), packD (b2_D x0 x1 x2 (4 * (i 2 : Fin 16).val))) from if_neg hi]
  delta after
  rw [rd_q 0 arg3 harg3 x0 ![0, 0, 0] rfl, rd_D 0 arg8 harg8 _ ![0, 0, 0] rfl]
  rw [show Scalar.cmpf .olt (k0_pay220 (getD 0 (packD (b2_D x0 x1 x2 (4 * (i 2 : Fin 16).val))))) (Named.named κ "dead_log" 0x42D20000#32) = alive0 (getD 0 (packD (b2_D x0 x1 x2 (4 * (i 2 : Fin 16).val)))) from rfl]
  iapply (wp_call_spec 𝒱₀ (c : Thread nD τ) none E (spec c arg4 harg4 arg5 harg5 arg7 harg7 arg8 harg8 0 k0_pay210 (k0_pay211 (F := F)) (k0_pay219 k0_pay210 (qblk x0 0)) x1 x2 (4 * (i 2 : Fin 16).val + (0 : Fin 4).val - 2)
      (alive0 (getD 0 (packA (b2_A x0 x1 x2 (4 * (i 2 : Fin 16).val)), packD (b2_D x0 x1 x2 (4 * (i 2 : Fin 16).val))).2)) (packA (b2_A x0 x1 x2 (4 * (i 2 : Fin 16).val)), packD (b2_D x0 x1 x2 (4 * (i 2 : Fin 16).val))).1 (packA (b2_A x0 x1 x2 (4 * (i 2 : Fin 16).val)), packD (b2_D x0 x1 x2 (4 * (i 2 : Fin 16).val))).2) (4 * (i 2 : Fin 16).val + (0 : Fin 4).val - 2) (fun u hu => nomatch hu)
    (spec_le1 c i arg4 harg4 arg5 harg5 arg7 harg7 arg8 harg8 k0_pay210 (k0_pay211 (F := F)) (k0_pay219 k0_pay210 (qblk x0 0)) x1 x2 E _ _ (ctr_of0 (i 2)) _ _ _))
  rw [spec_apply]; unfold held
  isplitl [H4 H5 H7 H8]
  · isplitl [H4]; · iexact H4
    isplitl [H5]; · iexact H5
    isplitl [H7]; · iexact H7
    iexact H8
  iintro %r ⟨H4, H5, H7, H8⟩
  sl_exec
  sl_step
  try sl_open_run
  rw [rd_q 1 arg3 harg3 x0 ![0, 128, 0] rfl, rd_D 1 arg8 harg8 _ ![1, 0, 0] rfl]
  iapply Hk
  isplitl [H3]; · iexact H3
  isplitl [H4]; · iexact H4
  isplitl [H5]; · iexact H5
  isplitl [H7]; · iexact H7
  iexact H8

end Cert.KernelIdeal.Att

end
-- ==== Proof.AttBody.lean ====
/- The attention's body on one block of queries, run. -/
module

public import proofs.«01_k».proof.Proof.AttInit
public import Idealize.ShloMosaic.Lib.Tactic
public import Idealize.ShloMosaic.Lib.Tactic.Stretches
public import Idealize.ShloMosaic.Lib.WritesUnit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem part21_run (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (f7 : arg7.view.ty.Contents (Elt F)) (f8 : arg8.view.ty.Contents (Elt F)) (E : Set ℕ) (Q : _ → sProp 𝕄) :
    iprop((ins c arg3 harg3 arg4 harg4 arg5 harg5 x0 x1 x2 ∗ (arg7.view.loc (c : Thread nD τ) ↦[arg7.view.set]{fullShare} f7) ∗ (arg8.view.loc (c : Thread nD τ) ↦[arg8.view.set]{fullShare} f8))
        ∗ (iprop(((arg3.view.loc (c : Thread nD τ) ↦[arg3.view.set]{fullShare} harg3.unread x0) ∗ held c arg4 harg4 arg5 harg5 arg7 harg7 arg8 harg8 x1 x2 (after x0 x1 x2 (i 2 : Fin 16).val 0 (init x0 x1 x2 (i 2 : Fin 16).val)).1 (after x0 x1 x2 (i 2 : Fin 16).val 0 (init x0 x1 x2 (i 2 : Fin 16).val)).2)) -∗ Q ⟨Scalar.muli (BitVec.ofNat 32 (i 2 : Fin 16).val) 4#32, Scalar.subi (Scalar.addi (Scalar.muli (BitVec.ofNat 32 (i 2 : Fin 16).val) 4#32) 1#32) 3#32, k0_pay221 k0_pay210 (qblk x0 1), k0_pay222 (getD 1 (after x0 x1 x2 (i 2 : Fin 16).val 0 (init x0 x1 x2 (i 2 : Fin 16).val)).2)⟩))
      ⊢ wp frame (wpE (defs₀ (F := F)) 𝒱₀ (c : Thread nD τ) none) E (k0_part21 i arg3 harg3 arg4 harg4 arg5 harg5 arg6 harg6 arg7 harg7 arg8 harg8 (BitVec.ofNat 32 (i 2 : Fin 16).val) k0_pay210 (k0_pay211 (F := F)) k0_pay212) Q := by
  by_cases hi : (i 2 : Fin 16).val = 0
  · exact part21_run1 c i hi arg3 harg3 arg4 harg4 arg5 harg5 arg6 harg6 arg7 harg7 arg8 harg8 x0 x1 x2 f7 f8 E Q
  · exact part21_run2 c i hi arg3 harg3 arg4 harg4 arg5 harg5 arg6 harg6 arg7 harg7 arg8 harg8 x0 x1 x2 f7 f8 E Q

theorem part22_run (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (s : Vec F S4x128x128 .f32 × Vec F S4x256x1 .f32) (E : Set ℕ) (Q : _ → sProp 𝕄) :
    iprop(((arg3.view.loc (c : Thread nD τ) ↦[arg3.view.set]{fullShare} harg3.unread x0) ∗ held c arg4 harg4 arg5 harg5 arg7 harg7 arg8 harg8 x1 x2 s.1 s.2)
        ∗ (iprop((arg3.view.loc (c : Thread nD τ) ↦[arg3.view.set]{fullShare} harg3.unread x0) ∗ held c arg4 harg4 arg5 harg5 arg7 harg7 arg8 harg8 x1 x2 (after x0 x1 x2 (i 2 : Fin 16).val 2 (after x0 x1 x2 (i 2 : Fin 16).val 1 s)).1 (after x0 x1 x2 (i 2 : Fin 16).val 2 (after x0 x1 x2 (i 2 : Fin 16).val 1 s)).2) -∗ Q ⟨Scalar.subi (Scalar.addi (Scalar.muli (BitVec.ofNat 32 (i 2 : Fin 16).val) 4#32) 3#32) 3#32, k0_pay226 k0_pay210 (qblk x0 3), k0_pay227 (getD 3 (after x0 x1 x2 (i 2 : Fin 16).val 2 (after x0 x1 x2 (i 2 : Fin 16).val 1 s)).2), Named.named κ "dead_log" 0x42D20000#32⟩))
      ⊢ wp frame (wpE (defs₀ (F := F)) 𝒱₀ (c : Thread nD τ) none) E (k0_part22 i arg3 harg3 arg4 harg4 arg5 harg5 arg6 harg6 arg7 harg7 arg8 harg8 k0_pay210 (k0_pay211 (F := F)) (Scalar.muli (BitVec.ofNat 32 (i 2 : Fin 16).val) 4#32) (Scalar.subi (Scalar.addi (Scalar.muli (BitVec.ofNat 32 (i 2 : Fin 16).val) 4#32) 1#32) 3#32) (k0_pay221 k0_pay210 (qblk x0 1)) (k0_pay222 (getD 1 s.2))) Q := by
  rw [k0_part22_eq_skeleton]; unfold k0_part22_skel held
  iintro ⟨⟨H3, H4, H5, H7, H8⟩, Hk⟩
  sl_exec
  try sl_open_run
  rw [show k0_pay221 (F := F) = k0_pay219 from rfl]
  rw [show k0_pay223 (k0_pay222 (getD 1 s.2)) = k0_pay220 (getD 1 s.2) from rfl]
  skip
  rw [show Scalar.cmpf .olt (k0_pay220 (getD 1 (s.2))) (Named.named κ "dead_log" 0x42D20000#32) = alive0 (getD 1 (s.2)) from rfl]
  iapply (wp_call_spec 𝒱₀ (c : Thread nD τ) none E (spec c arg4 harg4 arg5 harg5 arg7 harg7 arg8 harg8 1 k0_pay210 (k0_pay211 (F := F)) (k0_pay219 k0_pay210 (qblk x0 1)) x1 x2 (4 * (i 2 : Fin 16).val + (1 : Fin 4).val - 2)
      (alive0 (getD 1 s.2)) s.1 s.2) (4 * (i 2 : Fin 16).val + (1 : Fin 4).val - 2) (fun u hu => nomatch hu)
    (spec_le2 c i arg4 harg4 arg5 harg5 arg7 harg7 arg8 harg8 k0_pay210 (k0_pay211 (F := F)) (k0_pay219 k0_pay210 (qblk x0 1)) x1 x2 E _ _ (ctr_of1 (i 2)) _ _ _))
  rw [spec_apply]; unfold held
  isplitl [H4 H5 H7 H8]
  · isplitl [H4]; · iexact H4
    isplitl [H5]; · iexact H5
    isplitl [H7]; · iexact H7
    iexact H8
  iintro %r ⟨H4, H5, H7, H8⟩
  rw [show wstate 1 k0_pay210 (k0_pay211 (F := F)) (k0_pay219 k0_pay210 (qblk x0 1)) x1 x2 (4 * (i 2 : Fin 16).val + (1 : Fin 4).val - 2) (alive0 (getD 1 s.2)) s.1 s.2 = (after x0 x1 x2 (i 2 : Fin 16).val 1 s) from rfl]
  sl_exec
  try sl_open_run
  rw [rd_q 2 arg3 harg3 x0 ![0, 256, 0] rfl, rd_D 2 arg8 harg8 _ ![2, 0, 0] rfl]
  rw [show k0_pay224 (F := F) = k0_pay219 from rfl]
  rw [show k0_pay225 (F := F) = k0_pay220 from rfl]
  skip
  rw [show Scalar.cmpf .olt (k0_pay220 (getD 2 ((after x0 x1 x2 (i 2 : Fin 16).val 1 s).2))) (Named.named κ "dead_log" 0x42D20000#32) = alive0 (getD 2 ((after x0 x1 x2 (i 2 : Fin 16).val 1 s).2)) from rfl]
  iapply (wp_call_spec 𝒱₀ (c : Thread nD τ) none E (spec c arg4 harg4 arg5 harg5 arg7 harg7 arg8 harg8 2 k0_pay210 (k0_pay211 (F := F)) (k0_pay219 k0_pay210 (qblk x0 2)) x1 x2 (4 * (i 2 : Fin 16).val + (2 : Fin 4).val - 2)
      (alive0 (getD 2 (after x0 x1 x2 (i 2 : Fin 16).val 1 s).2)) (after x0 x1 x2 (i 2 : Fin 16).val 1 s).1 (after x0 x1 x2 (i 2 : Fin 16).val 1 s).2) (4 * (i 2 : Fin 16).val + (2 : Fin 4).val - 2) (fun u hu => nomatch hu)
    (spec_le3 c i arg4 harg4 arg5 harg5 arg7 harg7 arg8 harg8 k0_pay210 (k0_pay211 (F := F)) (k0_pay219 k0_pay210 (qblk x0 2)) x1 x2 E _ _ (ctr_of2 (i 2)) _ _ _))
  rw [spec_apply]; unfold held
  isplitl [H4 H5 H7 H8]
  · isplitl [H4]; · iexact H4
    isplitl [H5]; · iexact H5
    isplitl [H7]; · iexact H7
    iexact H8
  iintro %r2 ⟨H4, H5, H7, H8⟩
  rw [show wstate 2 k0_pay210 (k0_pay211 (F := F)) (k0_pay219 k0_pay210 (qblk x0 2)) x1 x2 (4 * (i 2 : Fin 16).val + (2 : Fin 4).val - 2) (alive0 (getD 2 (after x0 x1 x2 (i 2 : Fin 16).val 1 s).2)) (after x0 x1 x2 (i 2 : Fin 16).val 1 s).1 (after x0 x1 x2 (i 2 : Fin 16).val 1 s).2 = (after x0 x1 x2 (i 2 : Fin 16).val 2 (after x0 x1 x2 (i 2 : Fin 16).val 1 s)) from rfl]
  sl_exec
  sl_step
  try sl_open_run
  rw [rd_q 3 arg3 harg3 x0 ![0, 384, 0] rfl, rd_D 3 arg8 harg8 _ ![3, 0, 0] rfl]
  iapply Hk
  isplitl [H3]; · iexact H3
  isplitl [H4]; · iexact H4
  isplitl [H5]; · iexact H5
  isplitl [H7]; · iexact H7
  iexact H8

theorem wr4_O (arg6 : Memref sig .tc .vmem S1x512x128 .bf16) (harg6 : arg6.IsWhole) (f : arg6.view.ty.Contents (Elt F)) (v : Fin 4 → Vec F S1x128x128 .bf16)
    (w0 w1 w2 w3 : Vec F S1x128x128 .bf16) (e0 : w0 = v 0) (e1 : w1 = v 1) (e2 : w2 = v 2) (e3 : w3 = v 3) (h0 h1 h2 h3) :
    arg6.view.read (Elt F) (arg6.view.writes (Elt F) f [⟨Rect.unit (s := S1x512x128) ![0, 384, 0] S1x128x128.size h3, w3⟩, ⟨Rect.unit (s := S1x512x128) ![0, 256, 0] S1x128x128.size h2, w2⟩,
      ⟨Rect.unit (s := S1x512x128) ![0, 128, 0] S1x128x128.size h1, w1⟩, ⟨Rect.unit (s := S1x512x128) ![0, 0, 0] S1x128x128.size h0, w0⟩]) = packO v := by
  subst e0 e1 e2 e3
  funext x
  have hx : (x 1 : Fin 512).val < 512 := (x 1 : Fin 512).isLt
  have hx0 : (x 0 : Fin 1).val < 1 := (x 0 : Fin 1).isLt
  have key : ∀ g : Fin 4, (x 1 : Fin 512).val / 128 = g.val → v g (ix3 (0 : Fin 1) ⟨(x 1 : Fin 512).val % 128, Nat.mod_lt _ (by norm_num)⟩ (x 2 : Fin 128)) = packO v x := fun g hg => by
    have hg' : g = ⟨(x 1 : Fin 512).val / 128, by omega⟩ := Fin.ext hg.symm
    rw [hg']; rfl
  rcases (by omega : (x 1 : Fin 512).val / 128 = 3 ∨ (x 1 : Fin 512).val / 128 = 2 ∨ (x 1 : Fin 512).val / 128 = 1 ∨ (x 1 : Fin 512).val / 128 = 0) with h | h | h | h
  · rw [View.read_writes_cons_unit_of_mem (x := ix3 (0 : Fin 1) (⟨(x 1 : Fin 512).val % 128, Nat.mod_lt _ (by norm_num)⟩ : Fin 128) (x 2 : Fin 128)) (heq := rfl)]
    rotate_left
    · intro a
      match a with
      | ⟨0, _⟩ => show (x 0 : Fin 1).val = 0 + 0; omega
      | ⟨1, _⟩ => show (x 1 : Fin 512).val = 384 + (x 1 : Fin 512).val % 128; omega
      | ⟨2, _⟩ => show (x 2 : Fin 128).val = 0 + (x 2 : Fin 128).val; omega
    · exact key 3 h
  · rw [View.read_writes_cons_unit_of_not_mem (heq := rfl) (a := 1)]
    rotate_left
    · show (x 1 : Fin 512).val < 384 ∨ 384 + 128 ≤ (x 1 : Fin 512).val; omega
    rw [View.read_writes_cons_unit_of_mem (x := ix3 (0 : Fin 1) (⟨(x 1 : Fin 512).val % 128, Nat.mod_lt _ (by norm_num)⟩ : Fin 128) (x 2 : Fin 128)) (heq := rfl)]
    rotate_left
    · intro a
      match a with
      | ⟨0, _⟩ => show (x 0 : Fin 1).val = 0 + 0; omega
      | ⟨1, _⟩ => show (x 1 : Fin 512).val = 256 + (x 1 : Fin 512).val % 128; omega
      | ⟨2, _⟩ => show (x 2 : Fin 128).val = 0 + (x 2 : Fin 128).val; omega
    · exact key 2 h
  · rw [View.read_writes_cons_unit_of_not_mem (heq := rfl) (a := 1)]
    rotate_left
    · show (x 1 : Fin 512).val < 384 ∨ 384 + 128 ≤ (x 1 : Fin 512).val; omega
    rw [View.read_writes_cons_unit_of_not_mem (heq := rfl) (a := 1)]
    rotate_left
    · show (x 1 : Fin 512).val < 256 ∨ 256 + 128 ≤ (x 1 : Fin 512).val; omega
    rw [View.read_writes_cons_unit_of_mem (x := ix3 (0 : Fin 1) (⟨(x 1 : Fin 512).val % 128, Nat.mod_lt _ (by norm_num)⟩ : Fin 128) (x 2 : Fin 128)) (heq := rfl)]
    rotate_left
    · intro a
      match a with
      | ⟨0, _⟩ => show (x 0 : Fin 1).val = 0 + 0; omega
      | ⟨1, _⟩ => show (x 1 : Fin 512).val = 128 + (x 1 : Fin 512).val % 128; omega
      | ⟨2, _⟩ => show (x 2 : Fin 128).val = 0 + (x 2 : Fin 128).val; omega
    · exact key 1 h
  · rw [View.read_writes_cons_unit_of_not_mem (heq := rfl) (a := 1)]
    rotate_left
    · show (x 1 : Fin 512).val < 384 ∨ 384 + 128 ≤ (x 1 : Fin 512).val; omega
    rw [View.read_writes_cons_unit_of_not_mem (heq := rfl) (a := 1)]
    rotate_left
    · show (x 1 : Fin 512).val < 256 ∨ 256 + 128 ≤ (x 1 : Fin 512).val; omega
    rw [View.read_writes_cons_unit_of_not_mem (heq := rfl) (a := 1)]
    rotate_left
    · show (x 1 : Fin 512).val < 128 ∨ 128 + 128 ≤ (x 1 : Fin 512).val; omega
    rw [View.read_writes_cons_unit_of_mem (x := ix3 (0 : Fin 1) (⟨(x 1 : Fin 512).val % 128, Nat.mod_lt _ (by norm_num)⟩ : Fin 128) (x 2 : Fin 128)) (heq := rfl)]
    rotate_left
    · intro a
      match a with
      | ⟨0, _⟩ => show (x 0 : Fin 1).val = 0 + 0; omega
      | ⟨1, _⟩ => show (x 1 : Fin 512).val = 0 + (x 1 : Fin 512).val % 128; omega
      | ⟨2, _⟩ => show (x 2 : Fin 128).val = 0 + (x 2 : Fin 128).val; omega
    · exact key 0 h

/-- The body of the attention on one block of queries: what it finds in its windows and what it leaves. -/
theorem body_run (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x512x128 .bf16) (harg6 : arg6.IsWhole) (arg7 : Memref sig .tc .vmem S4x128x128 .f32) (harg7 : arg7.IsWhole) (arg8 : Memref sig .tc .vmem S4x256x1 .f32) (harg8 : arg8.IsWhole)
    (x0 : Vec F S1x512x128 .bf16) (x1 x2 : Vec F S1x8192x128 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (outv x0 x1 x2 (i 2 : Fin 16).val) ∗ (∃ d, owns (c : Thread nD τ) arg7 fullShare d) ∗ (∃ d, owns (c : Thread nD τ) arg8 fullShare d)) -∗ K ⟨⟩))
      ⊢ wp frame (wpE (defs₀ (F := F)) 𝒱₀ (c : Thread nD τ) none) E (cc0_attn i arg3 harg3 arg4 harg4 arg5 harg5 arg6 harg6 arg7 harg7 arg8 harg8) K := by
  rw [cc0_attn_eq_skeleton]; unfold cc0_attn_skel
  unfold owns
  iintro ⟨⟨%f0, %hf0, H3⟩, ⟨%f1, %hf1, H4⟩, ⟨%f2, %hf2, H5⟩, ⟨%d3, %f3, -, H6⟩, ⟨%d7, %f7, -, H7⟩, ⟨%d8, %f8, -, H8⟩, Hk⟩
  obtain rfl := harg3.eq_unread hf0; obtain rfl := harg4.eq_unread hf1; obtain rfl := harg5.eq_unread hf2
  rw [k0_part20_eq_skeleton]; unfold k0_part20_skel
  rw [wp_bind]; rw [Prog.pure_eq_ret, wp_ret]; imodintro; dsimp only
  rw [wp_bind]
  iapply (part21_run c i arg3 harg3 arg4 harg4 arg5 harg5 arg6 harg6 arg7 harg7 arg8 harg8 x0 x1 x2 f7 f8 E _)
  isplitl [H3 H4 H5 H7 H8]
  · unfold ins
    isplitl [H3 H4 H5]
    · isplitl [H3]; · iexact H3
      isplitl [H4]; · iexact H4
      iexact H5
    isplitl [H7]; · iexact H7
    iexact H8
  iintro HS; dsimp only
  rw [wp_bind]
  iapply (part22_run c i arg3 harg3 arg4 harg4 arg5 harg5 arg6 harg6 arg7 harg7 arg8 harg8 x0 x1 x2 _ E _)
  isplitl [HS]; · iexact HS
  iintro HS; dsimp only
  unfold held
  icases HS with ⟨H3, H4, H5, H7, H8⟩
  rw [wp_bind]; unfold Prog.lift
  rw [show k0_pay226 (F := F) = k0_pay219 from rfl]
  rw [show k0_pay227 (F := F) = k0_pay220 from rfl]
  skip
  rw [show Scalar.cmpf .olt (k0_pay220 (getD 3 ((after x0 x1 x2 (i 2 : Fin 16).val 2 (after x0 x1 x2 (i 2 : Fin 16).val 1 (after x0 x1 x2 (i 2 : Fin 16).val 0 (init x0 x1 x2 (i 2 : Fin 16).val)))).2))) (Named.named κ "dead_log" 0x42D20000#32) = alive0 (getD 3 ((after x0 x1 x2 (i 2 : Fin 16).val 2 (after x0 x1 x2 (i 2 : Fin 16).val 1 (after x0 x1 x2 (i 2 : Fin 16).val 0 (init x0 x1 x2 (i 2 : Fin 16).val)))).2)) from rfl]
  iapply (wp_call_spec 𝒱₀ (c : Thread nD τ) none E (spec c arg4 harg4 arg5 harg5 arg7 harg7 arg8 harg8 3 k0_pay210 (k0_pay211 (F := F)) (k0_pay219 k0_pay210 (qblk x0 3)) x1 x2 (4 * (i 2 : Fin 16).val + (3 : Fin 4).val - 2)
      (alive0 (getD 3 (after x0 x1 x2 (i 2 : Fin 16).val 2 (after x0 x1 x2 (i 2 : Fin 16).val 1 (after x0 x1 x2 (i 2 : Fin 16).val 0 (init x0 x1 x2 (i 2 : Fin 16).val)))).2)) (after x0 x1 x2 (i 2 : Fin 16).val 2 (after x0 x1 x2 (i 2 : Fin 16).val 1 (after x0 x1 x2 (i 2 : Fin 16).val 0 (init x0 x1 x2 (i 2 : Fin 16).val)))).1 (after x0 x1 x2 (i 2 : Fin 16).val 2 (after x0 x1 x2 (i 2 : Fin 16).val 1 (after x0 x1 x2 (i 2 : Fin 16).val 0 (init x0 x1 x2 (i 2 : Fin 16).val)))).2) (4 * (i 2 : Fin 16).val + (3 : Fin 4).val - 2) (fun u hu => nomatch hu)
    (spec_le4 c i arg4 harg4 arg5 harg5 arg7 harg7 arg8 harg8 k0_pay210 (k0_pay211 (F := F)) (k0_pay219 k0_pay210 (qblk x0 3)) x1 x2 E _ _ (ctr_of3 (i 2)) _ _ _))
  rw [spec_apply]; unfold held
  isplitl [H4 H5 H7 H8]
  · isplitl [H4]; · iexact H4
    isplitl [H5]; · iexact H5
    isplitl [H7]; · iexact H7
    iexact H8
  iintro %r ⟨H4, H5, H7, H8⟩
  rw [wp_ret]; imodintro; dsimp only
  rw [show wstate 3 k0_pay210 (k0_pay211 (F := F)) (k0_pay219 k0_pay210 (qblk x0 3)) x1 x2 (4 * (i 2 : Fin 16).val + (3 : Fin 4).val - 2) (alive0 (getD 3 (after x0 x1 x2 (i 2 : Fin 16).val 2 (after x0 x1 x2 (i 2 : Fin 16).val 1 (after x0 x1 x2 (i 2 : Fin 16).val 0 (init x0 x1 x2 (i 2 : Fin 16).val)))).2)) (after x0 x1 x2 (i 2 : Fin 16).val 2 (after x0 x1 x2 (i 2 : Fin 16).val 1 (after x0 x1 x2 (i 2 : Fin 16).val 0 (init x0 x1 x2 (i 2 : Fin 16).val)))).1 (after x0 x1 x2 (i 2 : Fin 16).val 2 (after x0 x1 x2 (i 2 : Fin 16).val 1 (after x0 x1 x2 (i 2 : Fin 16).val 0 (init x0 x1 x2 (i 2 : Fin 16).val)))).2 = (fin x0 x1 x2 (i 2 : Fin 16).val) from rfl]
  sl_exec
  sl_step
  sl_open_run
  rw [rd_A 0 arg7 harg7 _ ![0, 0, 0] rfl, rd_A 1 arg7 harg7 _ ![1, 0, 0] rfl, rd_A 2 arg7 harg7 _ ![2, 0, 0] rfl, rd_A 3 arg7 harg7 _ ![3, 0, 0] rfl]
  iapply Hk
  isplitl [H3]
  · iexists (harg3.unread x0); isplitr; · ipureintro; exact harg3.read_unread x0
    iexact H3
  isplitl [H4]
  · iexists (harg4.unread x1); isplitr; · ipureintro; exact harg4.read_unread x1
    iexact H4
  isplitl [H5]
  · iexists (harg5.unread x2); isplitr; · ipureintro; exact harg5.read_unread x2
    iexact H5
  isplitl [H6]
  · iexists _; isplitr
    rotate_left
    · iexact H6
    ipureintro
    exact wr4_O arg6 harg6 f3 (fun g => k0_pay1 (getA g (fin x0 x1 x2 (i 2 : Fin 16).val).1)) _ _ _ _ rfl rfl rfl rfl _ _ _ _
  isplitl [H7]
  · iexists (fin x0 x1 x2 (i 2 : Fin 16).val).1; iexists (harg7.unread (fin x0 x1 x2 (i 2 : Fin 16).val).1); isplitr; · ipureintro; exact harg7.read_unread (fin x0 x1 x2 (i 2 : Fin 16).val).1
    iexact H7
  iexists (fin x0 x1 x2 (i 2 : Fin 16).val).2; iexists (harg8.unread (fin x0 x1 x2 (i 2 : Fin 16).val).2); isplitr; · ipureintro; exact harg8.read_unread (fin x0 x1 x2 (i 2 : Fin 16).val).2
  iexact H8

end Cert.KernelIdeal.Att

end
-- ==== Proof.AttFrame.lean ====
/- The attention's run over its grid, and its frame. -/
module

public import proofs.«01_k».proof.Proof.AttBody
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: at each point every input's buffer keeps its block and the output's holds the block of the attention. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outv (iblk m c 0 t) (iblk m c 1 t) (iblk m c 2 t) ((grid0.coords t) 2 : Fin 16).val
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = outv (iblk m c 0 t) (iblk m c 1 t) (iblk m c 2 t) ((grid0.coords t) 2 : Fin 16).val := by dsimp only [dats]; rfl
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d

/-- What the body is called with at a point, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply (body_run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost (cfgs (F := F)) (dats m) 0 (V m)) :=
  (θ_run defs _ _).mono (fun _ h => h.1) (run_main_quiescent m ρ)

/-- The attention's frame: it ends, its arguments unchanged and every counter at zero. -/
theorem frame_att : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Att

end
-- ==== Proof.Val1.lean ====
/- The tensors of one visit, each as a formula at an index, at the ideal reading. -/
module

public import proofs.«01_k».proof.Proof.AttDefs
public import Idealize.ShloMosaic.Lib.Pointwise
public import Idealize.ShloMosaic.Lib.Pipeline.ValueKit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

set_option maxHeartbeats 1000000

theorem sel_if {α : Type} (p : Prop) [Decidable p] (a b : α) :
    Scalar.select (if p then 1#1 else 0#1) a b = if p then a else b := by
  by_cases h : p <;> simp [h, Scalar.select]

theorem aoff : ∀ n : ℕ, 256 + n - 128 - 128 = n := by intro n; omega
theorem aoff1 : ∀ n : ℕ, 128 + n - 128 = n := by intro n; omega
theorem aoff2 : ∀ n : ℕ, 512 + n - 256 - 256 = n := by intro n; omega
theorem aoff3 : ∀ n : ℕ, 256 + n - 256 = n := by intro n; omega
theorem rem_word : ∀ r : Fin 256, IntOp.remsi ArithUnit.vector (BitVec.ofNat 32 r.val) 128#32 = BitVec.ofNat 32 (r.val % 128) := by
  decide
theorem word128 : (Scalar.select (Scalar.cmpi .eq 128#32 0#32) 1#32 128#32 : BitVec 32) = 128#32 := by decide
theorem mod_word : ∀ m : Fin 128, (Scalar.select
        (IntOp.andi
          (IntOp.xori (IntOp.cmpi CmpIPredicate.slt (BitVec.ofNat 32 m.val) 0#32)
            (Scalar.cmpi CmpIPredicate.slt 128#32 0#32))
          (IntOp.cmpi CmpIPredicate.ne (BitVec.ofNat 32 m.val) 0#32))
        (IntOp.addi (BitVec.ofNat 32 m.val) 128#32) (BitVec.ofNat 32 m.val)) = BitVec.ofNat 32 m.val := by decide
theorem slt_word : ∀ s m : Fin 128, IntOp.cmpi CmpIPredicate.slt (BitVec.ofNat 32 s.val) (BitVec.ofNat 32 m.val) = if s.val < m.val then 1#1 else 0#1 := by
  decide +kernel
theorem sgt_word : ∀ s m : Fin 128, IntOp.cmpi CmpIPredicate.sgt (BitVec.ofNat 32 m.val) (BitVec.ofNat 32 s.val) = if s.val < m.val then 1#1 else 0#1 := by
  decide +kernel
theorem sit (p : Prop) [Decidable p] : FloatOps.sitofp (F := Ideal) FTy.f32 (BitVec.setWidth 32 (if p then 1#1 else 0#1)) = if p then (1 : EReal) else 0 := by
  by_cases h : p
  · simp only [h, if_true]
    show (((BitVec.setWidth 32 1#1).toInt : ℝ) : EReal) = 1
    norm_num
  · simp only [h, if_false]
    show (((BitVec.setWidth 32 0#1).toInt : ℝ) : EReal) = 0
    norm_num

theorem t212 (r : Fin 256) (s : Fin 128) :
    k0_pay212 (ix2 r s) = if s.val < r.val % 128 then 1#1 else 0#1 := by
  pointwise [k0_pay212]
  simp only [word128, rem_word]
  rw [mod_word ⟨r.val % 128, Nat.mod_lt _ (by norm_num)⟩, slt_word s ⟨r.val % 128, Nat.mod_lt _ (by norm_num)⟩]
theorem t211 (r : Fin 256) (s : Fin 128) :
    k0_pay211 (F := Ideal) (ix2 r s) = if s.val < r.val % 128 then (1 : EReal) else 0 := by
  pointwise [k0_pay211]
  simp only [word128, rem_word]
  rw [mod_word ⟨r.val % 128, Nat.mod_lt _ (by norm_num)⟩]
  rw [sgt_word s ⟨r.val % 128, Nat.mod_lt _ (by norm_num)⟩]
  exact sit _
theorem t210 (r : Fin 128) (s : Fin 128) : k0_pay210 (ix2 r s) = if s.val < 64 then 1#1 else 0#1 := by
  pointwise [k0_pay210]
  exact slt_word s ⟨64, by norm_num⟩

def VS (X : Vec Ideal S1x128x128 .bf16) : FVec Ideal S256x128 .bf16 := fun x =>
  (fun (r : Fin 256) (s : Fin 128) => (if h : r.val < 128 then (if s.val < 64 then X (ix3 (0 : Fin 1) (⟨r.val, h⟩ : Fin 128) s) else 0) else (if s.val < 64 then 0 else X (ix3 (0 : Fin 1) (⟨r.val - 128, by have := r.isLt; omega⟩ : Fin 128) s)) : EReal)) (x 0 : Fin 256) (x 1 : Fin 128)
theorem VS_at (X : Vec Ideal S1x128x128 .bf16) (r : Fin 256) (s : Fin 128) : VS X (ix2 r s) = (if h : r.val < 128 then (if s.val < 64 then X (ix3 (0 : Fin 1) (⟨r.val, h⟩ : Fin 128) s) else 0) else (if s.val < 64 then 0 else X (ix3 (0 : Fin 1) (⟨r.val - 128, by have := r.isLt; omega⟩ : Fin 128) s)) : EReal) := rfl
def K2 (X : Vec Ideal S1x128x128 .bf16) : FVec Ideal S128x128 .bf16 := fun x =>
  (fun (r : Fin 128) (s : Fin 128) => (X (ix3 (0 : Fin 1) r s) : EReal)) (x 0 : Fin 128) (x 1 : Fin 128)
theorem K2_at (X : Vec Ideal S1x128x128 .bf16) (r : Fin 128) (s : Fin 128) : K2 X (ix2 r s) = (X (ix3 (0 : Fin 1) r s) : EReal) := rfl
def ZE (q : FVec Ideal S256x128 .bf16) (k : FVec Ideal S128x128 .bf16) : FVec Ideal S256x128 .f32 := fun x =>
  (fun (r : Fin 256) (s : Fin 128) => (∑ x : Fin 128, (q (ix2 r x) : EReal) * k (ix2 s x) : EReal)) (x 0 : Fin 256) (x 1 : Fin 128)
theorem ZE_at (q : FVec Ideal S256x128 .bf16) (k : FVec Ideal S128x128 .bf16) (r : Fin 256) (s : Fin 128) : ZE q k (ix2 r s) = (∑ x : Fin 128, (q (ix2 r x) : EReal) * k (ix2 s x) : EReal) := rfl
/-- `log(1 + exp z)` as the body computes it. -/
def spl (z : EReal) : EReal :=
  max z 0 + Ideal.log (1 + Ideal.exp2 (FloatOps.absf (F := Ideal) (φ := .f32) z * Named.named (F := Ideal) κ "neg_log2_e" (φ := .f32) 0xBFB8AA3B#32))
def YE (z : FVec Ideal S256x128 .f32) : FVec Ideal S256x128 .f32 := fun x =>
  (fun (r : Fin 256) (s : Fin 128) => (spl (z (ix2 r s)) : EReal)) (x 0 : Fin 256) (x 1 : Fin 128)
theorem YE_at (z : FVec Ideal S256x128 .f32) (r : Fin 256) (s : Fin 128) : YE z (ix2 r s) = (spl (z (ix2 r s)) : EReal) := rfl
def YmE (z : FVec Ideal S256x128 .f32) : FVec Ideal S256x128 .f32 := fun x =>
  (fun (r : Fin 256) (s : Fin 128) => (if s.val < r.val % 128 then spl (z (ix2 r s)) else 0 : EReal)) (x 0 : Fin 256) (x 1 : Fin 128)
theorem YmE_at (z : FVec Ideal S256x128 .f32) (r : Fin 256) (s : Fin 128) : YmE z (ix2 r s) = (if s.val < r.val % 128 then spl (z (ix2 r s)) else 0 : EReal) := rfl
def LE (y : FVec Ideal S256x128 .f32) : FVec Ideal S256x128 .f32 := fun x =>
  (fun (r : Fin 256) (s : Fin 128) => (∑ k : Fin 256, (if h : k.val < 128 then (y (ix2 r (⟨k.val, h⟩ : Fin 128)) : EReal) else y (ix2 r (⟨k.val - 128, by have := k.isLt; omega⟩ : Fin 128)) - y (ix2 r (⟨k.val - 128, by have := k.isLt; omega⟩ : Fin 128))) * (if s.val < k.val % 128 then 1 else 0) : EReal)) (x 0 : Fin 256) (x 1 : Fin 128)
theorem LE_at (y : FVec Ideal S256x128 .f32) (r : Fin 256) (s : Fin 128) : LE y (ix2 r s) = (∑ k : Fin 256, (if h : k.val < 128 then (y (ix2 r (⟨k.val, h⟩ : Fin 128)) : EReal) else y (ix2 r (⟨k.val - 128, by have := k.isLt; omega⟩ : Fin 128)) - y (ix2 r (⟨k.val - 128, by have := k.isLt; omega⟩ : Fin 128))) * (if s.val < k.val % 128 then 1 else 0) : EReal) := rfl
def TE (y : FVec Ideal S256x128 .f32) : FVec Ideal S256x1 .f32 := fun x =>
  (fun (r : Fin 256) (s : Fin 1) => (∑ k : Fin 128, (y (ix2 r k) : EReal) : EReal)) (x 0 : Fin 256) (x 1 : Fin 1)
theorem TE_at (y : FVec Ideal S256x128 .f32) (r : Fin 256) (s : Fin 1) : TE y (ix2 r s) = (∑ k : Fin 128, (y (ix2 r k) : EReal) : EReal) := rfl
def AddD (a : FVec Ideal S256x1 .f32) (b : FVec Ideal S256x1 .f32) : FVec Ideal S256x1 .f32 := fun x =>
  (fun (r : Fin 256) (s : Fin 1) => ((a (ix2 r s) : EReal) + b (ix2 r s) : EReal)) (x 0 : Fin 256) (x 1 : Fin 1)
theorem AddD_at (a : FVec Ideal S256x1 .f32) (b : FVec Ideal S256x1 .f32) (r : Fin 256) (s : Fin 1) : AddD a b (ix2 r s) = ((a (ix2 r s) : EReal) + b (ix2 r s) : EReal) := rfl
def WmE (z : FVec Ideal S256x128 .f32) (y : FVec Ideal S256x128 .f32) (l : FVec Ideal S256x128 .f32) : FVec Ideal S256x128 .f32 := fun x =>
  (fun (r : Fin 256) (s : Fin 128) => (if s.val < r.val % 128 then Ideal.exp ((z (ix2 r s) : EReal) - (y (ix2 r s) + l (ix2 r s))) else 0 : EReal)) (x 0 : Fin 256) (x 1 : Fin 128)
theorem WmE_at (z : FVec Ideal S256x128 .f32) (y : FVec Ideal S256x128 .f32) (l : FVec Ideal S256x128 .f32) (r : Fin 256) (s : Fin 128) : WmE z y l (ix2 r s) = (if s.val < r.val % 128 then Ideal.exp ((z (ix2 r s) : EReal) - (y (ix2 r s) + l (ix2 r s))) else 0 : EReal) := rfl
def WdE (z : FVec Ideal S256x128 .f32) (y : FVec Ideal S256x128 .f32) (l : FVec Ideal S256x128 .f32) (d : FVec Ideal S256x1 .f32) : FVec Ideal S256x128 .f32 := fun x =>
  (fun (r : Fin 256) (s : Fin 128) => (Ideal.exp ((z (ix2 r s) : EReal) - (y (ix2 r s) + l (ix2 r s) + d (ix2 r (0 : Fin 1)))) : EReal)) (x 0 : Fin 256) (x 1 : Fin 128)
theorem WdE_at (z : FVec Ideal S256x128 .f32) (y : FVec Ideal S256x128 .f32) (l : FVec Ideal S256x128 .f32) (d : FVec Ideal S256x1 .f32) (r : Fin 256) (s : Fin 128) : WdE z y l d (ix2 r s) = (Ideal.exp ((z (ix2 r s) : EReal) - (y (ix2 r s) + l (ix2 r s) + d (ix2 r (0 : Fin 1)))) : EReal) := rfl
def Wide (w : FVec Ideal S256x128 .f32) : FVec Ideal S128x256 .bf16 := fun x =>
  (fun (r : Fin 128) (s : Fin 256) => (if h : s.val < 128 then w (ix2 (⟨r.val, by have := r.isLt; omega⟩ : Fin 256) (⟨s.val, h⟩ : Fin 128)) else w (ix2 (⟨128 + r.val, by have := r.isLt; omega⟩ : Fin 256) (⟨s.val - 128, by have := s.isLt; omega⟩ : Fin 128)) : EReal)) (x 0 : Fin 128) (x 1 : Fin 256)
theorem Wide_at (w : FVec Ideal S256x128 .f32) (r : Fin 128) (s : Fin 256) : Wide w (ix2 r s) = (if h : s.val < 128 then w (ix2 (⟨r.val, by have := r.isLt; omega⟩ : Fin 256) (⟨s.val, h⟩ : Fin 128)) else w (ix2 (⟨128 + r.val, by have := r.isLt; omega⟩ : Fin 256) (⟨s.val - 128, by have := s.isLt; omega⟩ : Fin 128)) : EReal) := rfl
def CE (w : FVec Ideal S128x256 .bf16) (v : FVec Ideal S256x128 .bf16) : FVec Ideal S128x128 .f32 := fun x =>
  (fun (r : Fin 128) (s : Fin 128) => (∑ x : Fin 256, (w (ix2 r x) : EReal) * v (ix2 x s) : EReal)) (x 0 : Fin 128) (x 1 : Fin 128)
theorem CE_at (w : FVec Ideal S128x256 .bf16) (v : FVec Ideal S256x128 .bf16) (r : Fin 128) (s : Fin 128) : CE w v (ix2 r s) = (∑ x : Fin 256, (w (ix2 r x) : EReal) * v (ix2 x s) : EReal) := rfl
def AddT (a : FVec Ideal S128x128 .f32) (b : FVec Ideal S128x128 .f32) : FVec Ideal S128x128 .f32 := fun x =>
  (fun (r : Fin 128) (s : Fin 128) => ((a (ix2 r s) : EReal) + b (ix2 r s) : EReal)) (x 0 : Fin 128) (x 1 : Fin 128)
theorem AddT_at (a : FVec Ideal S128x128 .f32) (b : FVec Ideal S128x128 .f32) (r : Fin 128) (s : Fin 128) : AddT a b (ix2 r s) = ((a (ix2 r s) : EReal) + b (ix2 r s) : EReal) := rfl
def UpA (a : FVec Ideal S128x128 .f32) : FVec Ideal S1x128x128 .f32 := fun x =>
  (fun (r : Fin 128) (s : Fin 128) => (a (ix2 r s) : EReal)) (x 1 : Fin 128) (x 2 : Fin 128)
theorem UpA_at (a : FVec Ideal S128x128 .f32) (r : Fin 128) (s : Fin 128) : UpA a (ix3 (0 : Fin 1) r s) = (a (ix2 r s) : EReal) := rfl
theorem UpA_at' (a : FVec Ideal S128x128 .f32) (z : Fin 1) (r : Fin 128) (s : Fin 128) : UpA a (ix3 z r s) = (a (ix2 r s) : EReal) := rfl
def UpD (d : FVec Ideal S256x1 .f32) : FVec Ideal S1x256x1 .f32 := fun x =>
  (fun (r : Fin 256) (s : Fin 1) => (d (ix2 r (0 : Fin 1)) : EReal)) (x 1 : Fin 256) (x 2 : Fin 1)
theorem UpD_at (d : FVec Ideal S256x1 .f32) (r : Fin 256) (s : Fin 1) : UpD d (ix3 (0 : Fin 1) r s) = (d (ix2 r (0 : Fin 1)) : EReal) := rfl
theorem UpD_at' (d : FVec Ideal S256x1 .f32) (z : Fin 1) (r : Fin 256) (s : Fin 1) : UpD d (ix3 z r s) = (d (ix2 r (0 : Fin 1)) : EReal) := rfl
def DnD (d : Vec Ideal S1x256x1 .f32) : FVec Ideal S256x1 .f32 := fun x =>
  (fun (r : Fin 256) (s : Fin 1) => (d (ix3 (0 : Fin 1) r (0 : Fin 1)) : EReal)) (x 0 : Fin 256) (x 1 : Fin 1)
theorem DnD_at (d : Vec Ideal S1x256x1 .f32) (r : Fin 256) (s : Fin 1) : DnD d (ix2 r s) = (d (ix3 (0 : Fin 1) r (0 : Fin 1)) : EReal) := rfl
def DnA (a : Vec Ideal S1x128x128 .f32) : FVec Ideal S128x128 .f32 := fun x =>
  (fun (r : Fin 128) (s : Fin 128) => (a (ix3 (0 : Fin 1) r s) : EReal)) (x 0 : Fin 128) (x 1 : Fin 128)
theorem DnA_at (a : Vec Ideal S1x128x128 .f32) (r : Fin 128) (s : Fin 128) : DnA a (ix2 r s) = (a (ix3 (0 : Fin 1) r s) : EReal) := rfl

end Cert.KernelIdeal.Att
end
-- ==== Proof.Val2.lean ====
/- The suffix sums, a stack of visits at once. -/
module

public import proofs.«01_k».proof.Proof.Val1

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

set_option maxHeartbeats 4000000

/-- A tensor beside its rounding residue. -/
def HL (y : FVec Ideal S256x128 .f32) : FVec Ideal S256x256 .bf16 :=
  concatenate S256x256 1 [⟨S256x128, truncf .bf16 y bitsLt_bf16_f32⟩, ⟨S256x128, truncf .bf16 (subf y (extf .f32 (truncf .bf16 y bitsLt_bf16_f32) bitsLt_bf16_f32)) bitsLt_bf16_f32⟩] concatenates_S256x128_S256x128_S256x256_d1
def MM (a : FVec Ideal S256x256 .bf16) (m : FVec Ideal S256x128 .bf16) : FVec Ideal S256x128 .f32 := fun x =>
  (fun (r : Fin 256) (s : Fin 128) => (∑ k : Fin 256, (a (ix2 r k) : EReal) * m (ix2 k s) : EReal)) (x 0 : Fin 256) (x 1 : Fin 128)
theorem MM_at (a : FVec Ideal S256x256 .bf16) (m : FVec Ideal S256x128 .bf16) (r : Fin 256) (s : Fin 128) : MM a m (ix2 r s) = (∑ k : Fin 256, (a (ix2 r k) : EReal) * m (ix2 k s) : EReal) := rfl
theorem HL_at (y : FVec Ideal S256x128 .f32) (r : Fin 256) (k : Fin 256) : HL y (ix2 r k) =
    (if h : k.val < 128 then (y (ix2 r (⟨k.val, h⟩ : Fin 128)) : EReal) else y (ix2 r (⟨k.val - 128, by have := k.isLt; omega⟩ : Fin 128)) - y (ix2 r (⟨k.val - 128, by have := k.isLt; omega⟩ : Fin 128))) := by
  pointwise [HL]
theorem MM_HL (y : FVec Ideal S256x128 .f32) : MM (HL y) k0_pay211 = LE y := by
  funext x
  idx_vars x
  simp only [MM_at, LE_at, HL_at, t211]
/-- 9 tensors on top of one another, read at an index, multiplied and sliced. -/
def C9 (A : Fin 9 → FVec Ideal S256x256 .bf16) : FVec Ideal S2304x256 .bf16 :=
  concatenate S2304x256 0 [⟨S256x256, A 0⟩, ⟨S256x256, A 1⟩, ⟨S256x256, A 2⟩, ⟨S256x256, A 3⟩, ⟨S256x256, A 4⟩, ⟨S256x256, A 5⟩, ⟨S256x256, A 6⟩, ⟨S256x256, A 7⟩, ⟨S256x256, A 8⟩] concatenates_S256x256_S256x256_S256x256_S256x256_S256x256_S256x256_S256x256_S256x256_S256x256_S2304x256_d0
def M9 (C : FVec Ideal S2304x256 .bf16) (m : FVec Ideal S256x128 .bf16) : FVec Ideal S2304x128 .f32 :=
  matmul dot_S2304x256_S256x128_S2304x128_1_0_0_1_n_n none C m (constant S2304x128 .f32 0x00000000#32)
theorem C9_at (A : Fin 9 → FVec Ideal S256x256 .bf16) (j : Fin 9) (r k : Fin 256) : C9 A (ix2 (⟨j.val * 256 + r.val, by have := r.isLt; have := j.isLt; omega⟩ : Fin 2304) k) = A j (ix2 r k) := by
  obtain ⟨j, hj⟩ := j
  interval_cases j
  all_goals pointwise [C9]
  all_goals simp (disch := omega) only [dif_pos, dif_neg]
  all_goals congr 2
  all_goals first | rfl | (apply Fin.ext; show _ = _; dsimp only; omega)
theorem M9_at (C : FVec Ideal S2304x256 .bf16) (m : FVec Ideal S256x128 .bf16) (j : Fin 9) (h : S2304x128.Slices ![j.val * 256, 0] S256x128) (r : Fin 256) (s : Fin 128) :
    (extractStridedSlice S256x128 ![j.val * 256, 0] (M9 C m) h : FVec Ideal S256x128 .f32) (ix2 r s) = (∑ k : Fin 256, (C (ix2 (⟨j.val * 256 + r.val, by have := r.isLt; have := j.isLt; omega⟩ : Fin 2304) k) : EReal) * m (ix2 k s) : EReal) := by
  pointwise [M9]
theorem sl9 (A : Fin 9 → FVec Ideal S256x256 .bf16) (m : FVec Ideal S256x128 .bf16) (j : Fin 9) (h : S2304x128.Slices ![j.val * 256, 0] S256x128) :
    (extractStridedSlice S256x128 ![j.val * 256, 0] (M9 (C9 A) m) h : FVec Ideal S256x128 .f32) = MM (A j) m := by
  funext x
  idx_vars x
  rw [M9_at, MM_at]
  simp only [C9_at]
/-- 12 tensors on top of one another, read at an index, multiplied and sliced. -/
def C12 (A : Fin 12 → FVec Ideal S256x256 .bf16) : FVec Ideal S3072x256 .bf16 :=
  concatenate S3072x256 0 [⟨S256x256, A 0⟩, ⟨S256x256, A 1⟩, ⟨S256x256, A 2⟩, ⟨S256x256, A 3⟩, ⟨S256x256, A 4⟩, ⟨S256x256, A 5⟩, ⟨S256x256, A 6⟩, ⟨S256x256, A 7⟩, ⟨S256x256, A 8⟩, ⟨S256x256, A 9⟩, ⟨S256x256, A 10⟩, ⟨S256x256, A 11⟩] concatenates_S256x256_S256x256_S256x256_S256x256_S256x256_S256x256_S256x256_S256x256_S256x256_S256x256_S256x256_S256x256_S3072x256_d0
def M12 (C : FVec Ideal S3072x256 .bf16) (m : FVec Ideal S256x128 .bf16) : FVec Ideal S3072x128 .f32 :=
  matmul dot_S3072x256_S256x128_S3072x128_1_0_0_1_n_n none C m (constant S3072x128 .f32 0x00000000#32)
theorem C12_at (A : Fin 12 → FVec Ideal S256x256 .bf16) (j : Fin 12) (r k : Fin 256) : C12 A (ix2 (⟨j.val * 256 + r.val, by have := r.isLt; have := j.isLt; omega⟩ : Fin 3072) k) = A j (ix2 r k) := by
  obtain ⟨j, hj⟩ := j
  interval_cases j
  all_goals pointwise [C12]
  all_goals simp (disch := omega) only [dif_pos, dif_neg]
  all_goals congr 2
  all_goals first | rfl | (apply Fin.ext; show _ = _; dsimp only; omega)
theorem M12_at (C : FVec Ideal S3072x256 .bf16) (m : FVec Ideal S256x128 .bf16) (j : Fin 12) (h : S3072x128.Slices ![j.val * 256, 0] S256x128) (r : Fin 256) (s : Fin 128) :
    (extractStridedSlice S256x128 ![j.val * 256, 0] (M12 C m) h : FVec Ideal S256x128 .f32) (ix2 r s) = (∑ k : Fin 256, (C (ix2 (⟨j.val * 256 + r.val, by have := r.isLt; have := j.isLt; omega⟩ : Fin 3072) k) : EReal) * m (ix2 k s) : EReal) := by
  pointwise [M12]
theorem sl12 (A : Fin 12 → FVec Ideal S256x256 .bf16) (m : FVec Ideal S256x128 .bf16) (j : Fin 12) (h : S3072x128.Slices ![j.val * 256, 0] S256x128) :
    (extractStridedSlice S256x128 ![j.val * 256, 0] (M12 (C12 A) m) h : FVec Ideal S256x128 .f32) = MM (A j) m := by
  funext x
  idx_vars x
  rw [M12_at, MM_at]
  simp only [C12_at]
theorem y53 (z : FVec Ideal S256x128 .f32) : k0_pay53 (k0_pay51 z) (k0_pay52 z) (Named.named (F := Ideal) κ "neg_log2_e" 0xBFB8AA3B#32) = YE z := by
  funext x
  idx_vars x
  pointwise [k0_pay51, k0_pay52, k0_pay53, YE_at]
  all_goals rfl

section
variable (y0 y1 y2 y3 y4 y5 y6 y7 z : FVec Ideal S256x128 .f32)
theorem e54 : k0_pay54 k0_pay211 y0 y1 y2 y3 y4 y5 y6 y7 (k0_pay51 z) (k0_pay52 z) (Named.named (F := Ideal) κ "neg_log2_e" 0xBFB8AA3B#32) = M9 (C9 ![HL y0, HL y1, HL y2, HL y3, HL y4, HL y5, HL y6, HL y7, HL (YE z)]) k0_pay211 := by
  rw [← y53]
  rfl
theorem g54 (j : Fin 9) (h : S2304x128.Slices ![j.val * 256, 0] S256x128) : (extractStridedSlice S256x128 ![j.val * 256, 0] (k0_pay54 k0_pay211 y0 y1 y2 y3 y4 y5 y6 y7 (k0_pay51 z) (k0_pay52 z) (Named.named (F := Ideal) κ "neg_log2_e" 0xBFB8AA3B#32)) h : FVec Ideal S256x128 .f32) = MM (![HL y0, HL y1, HL y2, HL y3, HL y4, HL y5, HL y6, HL y7, HL (YE z)] j) k0_pay211 := by
  rw [e54, sl9]
theorem s54_0 : (extractStridedSlice S256x128 ![0, 0] (k0_pay54 k0_pay211 y0 y1 y2 y3 y4 y5 y6 y7 (k0_pay51 z) (k0_pay52 z) (Named.named (F := Ideal) κ "neg_log2_e" 0xBFB8AA3B#32)) slices_S2304x128_o0_0_S256x128 : FVec Ideal S256x128 .f32) = LE y0 :=
  (g54 y0 y1 y2 y3 y4 y5 y6 y7 z 0 _).trans (MM_HL _)
theorem s54_1 : (extractStridedSlice S256x128 ![256, 0] (k0_pay54 k0_pay211 y0 y1 y2 y3 y4 y5 y6 y7 (k0_pay51 z) (k0_pay52 z) (Named.named (F := Ideal) κ "neg_log2_e" 0xBFB8AA3B#32)) slices_S2304x128_o256_0_S256x128 : FVec Ideal S256x128 .f32) = LE y1 :=
  (g54 y0 y1 y2 y3 y4 y5 y6 y7 z 1 _).trans (MM_HL _)
theorem s54_2 : (extractStridedSlice S256x128 ![512, 0] (k0_pay54 k0_pay211 y0 y1 y2 y3 y4 y5 y6 y7 (k0_pay51 z) (k0_pay52 z) (Named.named (F := Ideal) κ "neg_log2_e" 0xBFB8AA3B#32)) slices_S2304x128_o512_0_S256x128 : FVec Ideal S256x128 .f32) = LE y2 :=
  (g54 y0 y1 y2 y3 y4 y5 y6 y7 z 2 _).trans (MM_HL _)
theorem s54_3 : (extractStridedSlice S256x128 ![768, 0] (k0_pay54 k0_pay211 y0 y1 y2 y3 y4 y5 y6 y7 (k0_pay51 z) (k0_pay52 z) (Named.named (F := Ideal) κ "neg_log2_e" 0xBFB8AA3B#32)) slices_S2304x128_o768_0_S256x128 : FVec Ideal S256x128 .f32) = LE y3 :=
  (g54 y0 y1 y2 y3 y4 y5 y6 y7 z 3 _).trans (MM_HL _)
theorem s54_4 : (extractStridedSlice S256x128 ![1024, 0] (k0_pay54 k0_pay211 y0 y1 y2 y3 y4 y5 y6 y7 (k0_pay51 z) (k0_pay52 z) (Named.named (F := Ideal) κ "neg_log2_e" 0xBFB8AA3B#32)) slices_S2304x128_o1024_0_S256x128 : FVec Ideal S256x128 .f32) = LE y4 :=
  (g54 y0 y1 y2 y3 y4 y5 y6 y7 z 4 _).trans (MM_HL _)
theorem s54_5 : (extractStridedSlice S256x128 ![1280, 0] (k0_pay54 k0_pay211 y0 y1 y2 y3 y4 y5 y6 y7 (k0_pay51 z) (k0_pay52 z) (Named.named (F := Ideal) κ "neg_log2_e" 0xBFB8AA3B#32)) slices_S2304x128_o1280_0_S256x128 : FVec Ideal S256x128 .f32) = LE y5 :=
  (g54 y0 y1 y2 y3 y4 y5 y6 y7 z 5 _).trans (MM_HL _)
theorem s54_6 : (extractStridedSlice S256x128 ![1536, 0] (k0_pay54 k0_pay211 y0 y1 y2 y3 y4 y5 y6 y7 (k0_pay51 z) (k0_pay52 z) (Named.named (F := Ideal) κ "neg_log2_e" 0xBFB8AA3B#32)) slices_S2304x128_o1536_0_S256x128 : FVec Ideal S256x128 .f32) = LE y6 :=
  (g54 y0 y1 y2 y3 y4 y5 y6 y7 z 6 _).trans (MM_HL _)
theorem s54_7 : (extractStridedSlice S256x128 ![1792, 0] (k0_pay54 k0_pay211 y0 y1 y2 y3 y4 y5 y6 y7 (k0_pay51 z) (k0_pay52 z) (Named.named (F := Ideal) κ "neg_log2_e" 0xBFB8AA3B#32)) slices_S2304x128_o1792_0_S256x128 : FVec Ideal S256x128 .f32) = LE y7 :=
  (g54 y0 y1 y2 y3 y4 y5 y6 y7 z 7 _).trans (MM_HL _)
theorem s54_8 : (extractStridedSlice S256x128 ![2048, 0] (k0_pay54 k0_pay211 y0 y1 y2 y3 y4 y5 y6 y7 (k0_pay51 z) (k0_pay52 z) (Named.named (F := Ideal) κ "neg_log2_e" 0xBFB8AA3B#32)) slices_S2304x128_o2048_0_S256x128 : FVec Ideal S256x128 .f32) = LE (YE z) :=
  (g54 y0 y1 y2 y3 y4 y5 y6 y7 z 8 _).trans (MM_HL _)
end

section
variable (y0 y1 y2 y3 y4 y5 y6 y7 y8 y9 y10 y11 : FVec Ideal S256x128 .f32)
theorem e155 : k0_pay155 k0_pay211 y1 y2 y3 y4 y5 y6 y7 y8 y9 y10 y11 (k0_pay153 y0) (k0_pay154 y0) = M12 (C12 ![HL y0, HL y1, HL y2, HL y3, HL y4, HL y5, HL y6, HL y7, HL y8, HL y9, HL y10, HL y11]) k0_pay211 := by
  rfl
theorem g155 (j : Fin 12) (h : S3072x128.Slices ![j.val * 256, 0] S256x128) : (extractStridedSlice S256x128 ![j.val * 256, 0] (k0_pay155 k0_pay211 y1 y2 y3 y4 y5 y6 y7 y8 y9 y10 y11 (k0_pay153 y0) (k0_pay154 y0)) h : FVec Ideal S256x128 .f32) = MM (![HL y0, HL y1, HL y2, HL y3, HL y4, HL y5, HL y6, HL y7, HL y8, HL y9, HL y10, HL y11] j) k0_pay211 := by
  rw [e155, sl12]
theorem s155_0 : (extractStridedSlice S256x128 ![0, 0] (k0_pay155 k0_pay211 y1 y2 y3 y4 y5 y6 y7 y8 y9 y10 y11 (k0_pay153 y0) (k0_pay154 y0)) slices_S3072x128_o0_0_S256x128 : FVec Ideal S256x128 .f32) = LE y0 :=
  (g155 y0 y1 y2 y3 y4 y5 y6 y7 y8 y9 y10 y11 0 _).trans (MM_HL _)
theorem s155_1 : (extractStridedSlice S256x128 ![256, 0] (k0_pay155 k0_pay211 y1 y2 y3 y4 y5 y6 y7 y8 y9 y10 y11 (k0_pay153 y0) (k0_pay154 y0)) slices_S3072x128_o256_0_S256x128 : FVec Ideal S256x128 .f32) = LE y1 :=
  (g155 y0 y1 y2 y3 y4 y5 y6 y7 y8 y9 y10 y11 1 _).trans (MM_HL _)
theorem s155_2 : (extractStridedSlice S256x128 ![512, 0] (k0_pay155 k0_pay211 y1 y2 y3 y4 y5 y6 y7 y8 y9 y10 y11 (k0_pay153 y0) (k0_pay154 y0)) slices_S3072x128_o512_0_S256x128 : FVec Ideal S256x128 .f32) = LE y2 :=
  (g155 y0 y1 y2 y3 y4 y5 y6 y7 y8 y9 y10 y11 2 _).trans (MM_HL _)
theorem s155_3 : (extractStridedSlice S256x128 ![768, 0] (k0_pay155 k0_pay211 y1 y2 y3 y4 y5 y6 y7 y8 y9 y10 y11 (k0_pay153 y0) (k0_pay154 y0)) slices_S3072x128_o768_0_S256x128 : FVec Ideal S256x128 .f32) = LE y3 :=
  (g155 y0 y1 y2 y3 y4 y5 y6 y7 y8 y9 y10 y11 3 _).trans (MM_HL _)
theorem s155_4 : (extractStridedSlice S256x128 ![1024, 0] (k0_pay155 k0_pay211 y1 y2 y3 y4 y5 y6 y7 y8 y9 y10 y11 (k0_pay153 y0) (k0_pay154 y0)) slices_S3072x128_o1024_0_S256x128 : FVec Ideal S256x128 .f32) = LE y4 :=
  (g155 y0 y1 y2 y3 y4 y5 y6 y7 y8 y9 y10 y11 4 _).trans (MM_HL _)
theorem s155_5 : (extractStridedSlice S256x128 ![1280, 0] (k0_pay155 k0_pay211 y1 y2 y3 y4 y5 y6 y7 y8 y9 y10 y11 (k0_pay153 y0) (k0_pay154 y0)) slices_S3072x128_o1280_0_S256x128 : FVec Ideal S256x128 .f32) = LE y5 :=
  (g155 y0 y1 y2 y3 y4 y5 y6 y7 y8 y9 y10 y11 5 _).trans (MM_HL _)
theorem s155_6 : (extractStridedSlice S256x128 ![1536, 0] (k0_pay155 k0_pay211 y1 y2 y3 y4 y5 y6 y7 y8 y9 y10 y11 (k0_pay153 y0) (k0_pay154 y0)) slices_S3072x128_o1536_0_S256x128 : FVec Ideal S256x128 .f32) = LE y6 :=
  (g155 y0 y1 y2 y3 y4 y5 y6 y7 y8 y9 y10 y11 6 _).trans (MM_HL _)
theorem s155_7 : (extractStridedSlice S256x128 ![1792, 0] (k0_pay155 k0_pay211 y1 y2 y3 y4 y5 y6 y7 y8 y9 y10 y11 (k0_pay153 y0) (k0_pay154 y0)) slices_S3072x128_o1792_0_S256x128 : FVec Ideal S256x128 .f32) = LE y7 :=
  (g155 y0 y1 y2 y3 y4 y5 y6 y7 y8 y9 y10 y11 7 _).trans (MM_HL _)
theorem s155_8 : (extractStridedSlice S256x128 ![2048, 0] (k0_pay155 k0_pay211 y1 y2 y3 y4 y5 y6 y7 y8 y9 y10 y11 (k0_pay153 y0) (k0_pay154 y0)) slices_S3072x128_o2048_0_S256x128 : FVec Ideal S256x128 .f32) = LE y8 :=
  (g155 y0 y1 y2 y3 y4 y5 y6 y7 y8 y9 y10 y11 8 _).trans (MM_HL _)
theorem s155_9 : (extractStridedSlice S256x128 ![2304, 0] (k0_pay155 k0_pay211 y1 y2 y3 y4 y5 y6 y7 y8 y9 y10 y11 (k0_pay153 y0) (k0_pay154 y0)) slices_S3072x128_o2304_0_S256x128 : FVec Ideal S256x128 .f32) = LE y9 :=
  (g155 y0 y1 y2 y3 y4 y5 y6 y7 y8 y9 y10 y11 9 _).trans (MM_HL _)
theorem s155_10 : (extractStridedSlice S256x128 ![2560, 0] (k0_pay155 k0_pay211 y1 y2 y3 y4 y5 y6 y7 y8 y9 y10 y11 (k0_pay153 y0) (k0_pay154 y0)) slices_S3072x128_o2560_0_S256x128 : FVec Ideal S256x128 .f32) = LE y10 :=
  (g155 y0 y1 y2 y3 y4 y5 y6 y7 y8 y9 y10 y11 10 _).trans (MM_HL _)
theorem s155_11 : (extractStridedSlice S256x128 ![2816, 0] (k0_pay155 k0_pay211 y1 y2 y3 y4 y5 y6 y7 y8 y9 y10 y11 (k0_pay153 y0) (k0_pay154 y0)) slices_S3072x128_o2816_0_S256x128 : FVec Ideal S256x128 .f32) = LE y11 :=
  (g155 y0 y1 y2 y3 y4 y5 y6 y7 y8 y9 y10 y11 11 _).trans (MM_HL _)
end

end Cert.KernelIdeal.Att
end
-- ==== Proof.Val3a.lean ====
/- The visits of the first queries, one value at a time. -/
module

public import proofs.«01_k».proof.Proof.Val2

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

set_option maxHeartbeats 4000000

theorem p21 (v139 : Vec Ideal S1x128x128 .bf16) :
    (k0_pay21 k0_pay210 v139) = (VS v139) := by
  funext x
  idx_vars x
  pointwise [k0_pay21, t210, t211, t212, VS_at]
  all_goals (try simp (disch := omega) only [sel_if, dif_pos, dif_neg, aoff, aoff1, aoff2, aoff3])
  all_goals (try rfl)
theorem p22 (v145 : Vec Ideal S1x128x128 .bf16) :
    (k0_pay22 k0_pay210 v145) = (VS v145) := by
  funext x
  idx_vars x
  pointwise [k0_pay22, t210, t211, t212, VS_at]
  all_goals (try simp (disch := omega) only [sel_if, dif_pos, dif_neg, aoff, aoff1, aoff2, aoff3])
  all_goals (try rfl)
theorem p23 (v151 : Vec Ideal S1x128x128 .bf16) :
    (k0_pay23 k0_pay210 v151) = (VS v151) := by
  funext x
  idx_vars x
  pointwise [k0_pay23, t210, t211, t212, VS_at]
  all_goals (try simp (disch := omega) only [sel_if, dif_pos, dif_neg, aoff, aoff1, aoff2, aoff3])
  all_goals (try rfl)
theorem p24 (v157 : Vec Ideal S1x128x128 .bf16) :
    (k0_pay24 k0_pay210 v157) = (VS v157) := by
  funext x
  idx_vars x
  pointwise [k0_pay24, t210, t211, t212, VS_at]
  all_goals (try simp (disch := omega) only [sel_if, dif_pos, dif_neg, aoff, aoff1, aoff2, aoff3])
  all_goals (try rfl)
theorem p26 (v165 : Vec Ideal S1x128x128 .bf16) :
    (k0_pay26 k0_pay210 v165) = (VS v165) := by
  funext x
  idx_vars x
  pointwise [k0_pay26, t210, t211, t212, VS_at]
  all_goals (try simp (disch := omega) only [sel_if, dif_pos, dif_neg, aoff, aoff1, aoff2, aoff3])
  all_goals (try rfl)
theorem p28 (v173 : Vec Ideal S1x128x128 .bf16) :
    (k0_pay28 k0_pay210 v173) = (VS v173) := by
  funext x
  idx_vars x
  pointwise [k0_pay28, t210, t211, t212, VS_at]
  all_goals (try simp (disch := omega) only [sel_if, dif_pos, dif_neg, aoff, aoff1, aoff2, aoff3])
  all_goals (try rfl)
theorem p29 (v181 : Vec Ideal S1x128x128 .bf16) :
    (k0_pay29 k0_pay210 v181) = (VS v181) := by
  funext x
  idx_vars x
  pointwise [k0_pay29, t210, t211, t212, VS_at]
  all_goals (try simp (disch := omega) only [sel_if, dif_pos, dif_neg, aoff, aoff1, aoff2, aoff3])
  all_goals (try rfl)
theorem p30 (v189 : Vec Ideal S1x128x128 .bf16) :
    (k0_pay30 k0_pay210 v189) = (VS v189) := by
  funext x
  idx_vars x
  pointwise [k0_pay30, t210, t211, t212, VS_at]
  all_goals (try simp (disch := omega) only [sel_if, dif_pos, dif_neg, aoff, aoff1, aoff2, aoff3])
  all_goals (try rfl)
theorem p31 (v162 : FVec Ideal S256x128 .bf16) (v163 : Vec Ideal S1x128x128 .bf16) :
    (k0_pay31 v162 (k0_pay25 v163)) = (ZE v162 (K2 v163)) := by
  funext x
  idx_vars x
  pointwise [k0_pay25, k0_pay31, t210, t211, t212, ZE_at, K2_at]
  all_goals (try simp (disch := omega) only [sel_if, dif_pos, dif_neg, aoff, aoff1, aoff2, aoff3])
  all_goals (try rfl)
theorem p33 (v156 : FVec Ideal S256x128 .bf16) (v162 : FVec Ideal S256x128 .bf16) (v171 : Vec Ideal S1x128x128 .bf16) :
    (k0_pay33 v156 v162 (k0_pay27 v171)) = (ZE v156 (K2 v171)) := by
  funext x
  idx_vars x
  pointwise [k0_pay27, k0_pay32, k0_pay33, t210, t211, t212, ZE_at, K2_at]
  all_goals (try simp (disch := omega) only [sel_if, dif_pos, dif_neg, aoff, aoff1, aoff2, aoff3])
  all_goals (try rfl)
theorem p34 (v156 : FVec Ideal S256x128 .bf16) (v162 : FVec Ideal S256x128 .bf16) (v171 : Vec Ideal S1x128x128 .bf16) :
    (k0_pay34 v156 v162 (k0_pay27 v171)) = (ZE v162 (K2 v171)) := by
  funext x
  idx_vars x
  pointwise [k0_pay27, k0_pay32, k0_pay34, t210, t211, t212, ZE_at, K2_at]
  all_goals (try simp (disch := omega) only [sel_if, dif_pos, dif_neg, aoff, aoff1, aoff2, aoff3])
  all_goals (try rfl)
theorem p36 (v150 : FVec Ideal S256x128 .bf16) (v156 : FVec Ideal S256x128 .bf16) (v162 : FVec Ideal S256x128 .bf16) (v179 : Vec Ideal S1x128x128 .bf16) :
    (k0_pay36 v150 v156 v162 v179) = (ZE v150 (K2 v179)) := by
  funext x
  idx_vars x
  pointwise [k0_pay35, k0_pay36, t210, t211, t212, ZE_at, K2_at]
  all_goals (try simp (disch := omega) only [sel_if, dif_pos, dif_neg, aoff, aoff1, aoff2, aoff3])
  all_goals (try rfl)
theorem p37 (v150 : FVec Ideal S256x128 .bf16) (v156 : FVec Ideal S256x128 .bf16) (v162 : FVec Ideal S256x128 .bf16) (v179 : Vec Ideal S1x128x128 .bf16) :
    (k0_pay37 v150 v156 v162 v179) = (ZE v156 (K2 v179)) := by
  funext x
  idx_vars x
  pointwise [k0_pay35, k0_pay37, t210, t211, t212, ZE_at, K2_at]
  all_goals (try simp (disch := omega) only [sel_if, dif_pos, dif_neg, aoff, aoff1, aoff2, aoff3])
  all_goals (try rfl)
theorem p38 (v150 : FVec Ideal S256x128 .bf16) (v156 : FVec Ideal S256x128 .bf16) (v162 : FVec Ideal S256x128 .bf16) (v179 : Vec Ideal S1x128x128 .bf16) :
    (k0_pay38 v150 v156 v162 v179) = (ZE v162 (K2 v179)) := by
  funext x
  idx_vars x
  pointwise [k0_pay35, k0_pay38, t210, t211, t212, ZE_at, K2_at]
  all_goals (try simp (disch := omega) only [sel_if, dif_pos, dif_neg, aoff, aoff1, aoff2, aoff3])
  all_goals (try rfl)
theorem p40 (v144 : FVec Ideal S256x128 .bf16) (v150 : FVec Ideal S256x128 .bf16) (v156 : FVec Ideal S256x128 .bf16) (v187 : Vec Ideal S1x128x128 .bf16) :
    (k0_pay40 v144 v150 v156 v187) = (ZE v144 (K2 v187)) := by
  funext x
  idx_vars x
  pointwise [k0_pay39, k0_pay40, t210, t211, t212, ZE_at, K2_at]
  all_goals (try simp (disch := omega) only [sel_if, dif_pos, dif_neg, aoff, aoff1, aoff2, aoff3])
  all_goals (try rfl)
theorem p41 (v144 : FVec Ideal S256x128 .bf16) (v150 : FVec Ideal S256x128 .bf16) (v156 : FVec Ideal S256x128 .bf16) (v187 : Vec Ideal S1x128x128 .bf16) :
    (k0_pay41 v144 v150 v156 v187) = (ZE v150 (K2 v187)) := by
  funext x
  idx_vars x
  pointwise [k0_pay39, k0_pay41, t210, t211, t212, ZE_at, K2_at]
  all_goals (try simp (disch := omega) only [sel_if, dif_pos, dif_neg, aoff, aoff1, aoff2, aoff3])
  all_goals (try rfl)
theorem p42 (v144 : FVec Ideal S256x128 .bf16) (v150 : FVec Ideal S256x128 .bf16) (v156 : FVec Ideal S256x128 .bf16) (v187 : Vec Ideal S1x128x128 .bf16) :
    (k0_pay42 v144 v150 v156 v187) = (ZE v156 (K2 v187)) := by
  funext x
  idx_vars x
  pointwise [k0_pay39, k0_pay42, t210, t211, t212, ZE_at, K2_at]
  all_goals (try simp (disch := omega) only [sel_if, dif_pos, dif_neg, aoff, aoff1, aoff2, aoff3])
  all_goals (try rfl)
theorem p43 (v195 : FVec Ideal S256x128 .f32) :
    (k0_pay43 k0_pay212 v195 (Scalar.ofBits (F := Ideal) .f32 0x00000000#32)) = (YmE v195) := by
  funext x
  idx_vars x
  pointwise [k0_pay43, t210, t211, t212, YmE_at]
  all_goals (try simp (disch := omega) only [sel_if, dif_pos, dif_neg, aoff, aoff1, aoff2, aoff3])
  all_goals (try rfl)
theorem p44 (v198 : FVec Ideal S256x128 .f32) :
    (k0_pay44 k0_pay212 v198) = (YmE v198) := by
  funext x
  idx_vars x
  pointwise [k0_pay44, t210, t211, t212, YmE_at]
  all_goals (try simp (disch := omega) only [sel_if, dif_pos, dif_neg, aoff, aoff1, aoff2, aoff3])
  all_goals (try rfl)
theorem p45 (v199 : FVec Ideal S256x128 .f32) :
    (k0_pay45 v199) = (YE v199) := by
  funext x
  idx_vars x
  pointwise [k0_pay45, t210, t211, t212, YE_at]
  all_goals (try simp (disch := omega) only [sel_if, dif_pos, dif_neg, aoff, aoff1, aoff2, aoff3])
  all_goals (try rfl)
theorem p46 (v202 : FVec Ideal S256x128 .f32) :
    (k0_pay46 k0_pay212 v202) = (YmE v202) := by
  funext x
  idx_vars x
  pointwise [k0_pay46, t210, t211, t212, YmE_at]
  all_goals (try simp (disch := omega) only [sel_if, dif_pos, dif_neg, aoff, aoff1, aoff2, aoff3])
  all_goals (try rfl)
theorem p47 (v203 : FVec Ideal S256x128 .f32) :
    (k0_pay47 v203) = (YE v203) := by
  funext x
  idx_vars x
  pointwise [k0_pay47, t210, t211, t212, YE_at]
  all_goals (try simp (disch := omega) only [sel_if, dif_pos, dif_neg, aoff, aoff1, aoff2, aoff3])
  all_goals (try rfl)
theorem p48 (v204 : FVec Ideal S256x128 .f32) :
    (k0_pay48 v204) = (YE v204) := by
  funext x
  idx_vars x
  pointwise [k0_pay48, t210, t211, t212, YE_at]
  all_goals (try simp (disch := omega) only [sel_if, dif_pos, dif_neg, aoff, aoff1, aoff2, aoff3])
  all_goals (try rfl)
theorem p49 (v207 : FVec Ideal S256x128 .f32) :
    (k0_pay49 k0_pay212 v207) = (YmE v207) := by
  funext x
  idx_vars x
  pointwise [k0_pay49, t210, t211, t212, YmE_at]
  all_goals (try simp (disch := omega) only [sel_if, dif_pos, dif_neg, aoff, aoff1, aoff2, aoff3])
  all_goals (try rfl)
theorem p50 (v208 : FVec Ideal S256x128 .f32) :
    (k0_pay50 v208) = (YE v208) := by
  funext x
  idx_vars x
  pointwise [k0_pay50, t210, t211, t212, YE_at]
  all_goals (try simp (disch := omega) only [sel_if, dif_pos, dif_neg, aoff, aoff1, aoff2, aoff3])
  all_goals (try rfl)
theorem p53 (v209 : FVec Ideal S256x128 .f32) :
    (k0_pay53 (k0_pay51 v209) (k0_pay52 v209) (Named.named (F := Ideal) κ "neg_log2_e" 0xBFB8AA3B#32)) = (YE v209) := by
  exact y53 _
theorem p55 (v221 : FVec Ideal S256x128 .f32) (v233 : FVec Ideal S256x128 .f32) (v243 : FVec Ideal S256x128 .f32) (v255 : FVec Ideal S256x128 .f32) (v265 : FVec Ideal S256x128 .f32) (v275 : FVec Ideal S256x128 .f32) (v287 : FVec Ideal S256x128 .f32) (v297 : FVec Ideal S256x128 .f32) (v209 : FVec Ideal S256x128 .f32) :
    (k0_pay55 k0_pay211 v221 v233 v243 v255 v265 v275 v287 v297 (k0_pay51 v209) (k0_pay52 v209) (Named.named (F := Ideal) κ "neg_log2_e" 0xBFB8AA3B#32)) = (LE v221) := by
  simp only [k0_pay55, s54_0, s54_1, s54_2, s54_3, s54_4, s54_5, s54_6, s54_7, s54_8]
theorem p56 (v221 : FVec Ideal S256x128 .f32) (v233 : FVec Ideal S256x128 .f32) (v243 : FVec Ideal S256x128 .f32) (v255 : FVec Ideal S256x128 .f32) (v265 : FVec Ideal S256x128 .f32) (v275 : FVec Ideal S256x128 .f32) (v287 : FVec Ideal S256x128 .f32) (v297 : FVec Ideal S256x128 .f32) (v209 : FVec Ideal S256x128 .f32) :
    (k0_pay56 k0_pay211 v221 v233 v243 v255 v265 v275 v287 v297 (k0_pay51 v209) (k0_pay52 v209) (Named.named (F := Ideal) κ "neg_log2_e" 0xBFB8AA3B#32)) = (LE v233) := by
  simp only [k0_pay56, s54_0, s54_1, s54_2, s54_3, s54_4, s54_5, s54_6, s54_7, s54_8]
theorem p57 (v221 : FVec Ideal S256x128 .f32) (v233 : FVec Ideal S256x128 .f32) (v243 : FVec Ideal S256x128 .f32) (v255 : FVec Ideal S256x128 .f32) (v265 : FVec Ideal S256x128 .f32) (v275 : FVec Ideal S256x128 .f32) (v287 : FVec Ideal S256x128 .f32) (v297 : FVec Ideal S256x128 .f32) (v209 : FVec Ideal S256x128 .f32) :
    (k0_pay57 k0_pay211 v221 v233 v243 v255 v265 v275 v287 v297 (k0_pay51 v209) (k0_pay52 v209) (Named.named (F := Ideal) κ "neg_log2_e" 0xBFB8AA3B#32)) = (LE v243) := by
  simp only [k0_pay57, s54_0, s54_1, s54_2, s54_3, s54_4, s54_5, s54_6, s54_7, s54_8]
theorem p58 (v221 : FVec Ideal S256x128 .f32) (v233 : FVec Ideal S256x128 .f32) (v243 : FVec Ideal S256x128 .f32) (v255 : FVec Ideal S256x128 .f32) (v265 : FVec Ideal S256x128 .f32) (v275 : FVec Ideal S256x128 .f32) (v287 : FVec Ideal S256x128 .f32) (v297 : FVec Ideal S256x128 .f32) (v209 : FVec Ideal S256x128 .f32) :
    (k0_pay58 k0_pay211 v221 v233 v243 v255 v265 v275 v287 v297 (k0_pay51 v209) (k0_pay52 v209) (Named.named (F := Ideal) κ "neg_log2_e" 0xBFB8AA3B#32)) = (LE v255) := by
  simp only [k0_pay58, s54_0, s54_1, s54_2, s54_3, s54_4, s54_5, s54_6, s54_7, s54_8]
theorem p59 (v221 : FVec Ideal S256x128 .f32) (v233 : FVec Ideal S256x128 .f32) (v243 : FVec Ideal S256x128 .f32) (v255 : FVec Ideal S256x128 .f32) (v265 : FVec Ideal S256x128 .f32) (v275 : FVec Ideal S256x128 .f32) (v287 : FVec Ideal S256x128 .f32) (v297 : FVec Ideal S256x128 .f32) (v209 : FVec Ideal S256x128 .f32) :
    (k0_pay59 (k0_pay54 k0_pay211 v221 v233 v243 v255 v265 v275 v287 v297 (k0_pay51 v209) (k0_pay52 v209) (Named.named (F := Ideal) κ "neg_log2_e" 0xBFB8AA3B#32))) = (LE v265) := by
  simp only [k0_pay59, s54_0, s54_1, s54_2, s54_3, s54_4, s54_5, s54_6, s54_7, s54_8]
theorem p60 (v221 : FVec Ideal S256x128 .f32) (v233 : FVec Ideal S256x128 .f32) (v243 : FVec Ideal S256x128 .f32) (v255 : FVec Ideal S256x128 .f32) (v265 : FVec Ideal S256x128 .f32) (v275 : FVec Ideal S256x128 .f32) (v287 : FVec Ideal S256x128 .f32) (v297 : FVec Ideal S256x128 .f32) (v209 : FVec Ideal S256x128 .f32) :
    (k0_pay60 (k0_pay54 k0_pay211 v221 v233 v243 v255 v265 v275 v287 v297 (k0_pay51 v209) (k0_pay52 v209) (Named.named (F := Ideal) κ "neg_log2_e" 0xBFB8AA3B#32))) = (LE v275) := by
  simp only [k0_pay60, s54_0, s54_1, s54_2, s54_3, s54_4, s54_5, s54_6, s54_7, s54_8]
theorem p61 (v221 : FVec Ideal S256x128 .f32) (v233 : FVec Ideal S256x128 .f32) (v243 : FVec Ideal S256x128 .f32) (v255 : FVec Ideal S256x128 .f32) (v265 : FVec Ideal S256x128 .f32) (v275 : FVec Ideal S256x128 .f32) (v287 : FVec Ideal S256x128 .f32) (v297 : FVec Ideal S256x128 .f32) (v209 : FVec Ideal S256x128 .f32) :
    (k0_pay61 (k0_pay54 k0_pay211 v221 v233 v243 v255 v265 v275 v287 v297 (k0_pay51 v209) (k0_pay52 v209) (Named.named (F := Ideal) κ "neg_log2_e" 0xBFB8AA3B#32))) = (LE (YE v209)) := by
  simp only [k0_pay61, s54_0, s54_1, s54_2, s54_3, s54_4, s54_5, s54_6, s54_7, s54_8]
theorem p62 (v221 : FVec Ideal S256x128 .f32) :
    (k0_pay62 v221) = (TE v221) := by
  funext x
  idx_vars x
  pointwise [k0_pay62, t210, t211, t212, TE_at]
  all_goals (try simp (disch := omega) only [sel_if, dif_pos, dif_neg, aoff, aoff1, aoff2, aoff3])
  all_goals (try rfl)
theorem p63 (v233 : FVec Ideal S256x128 .f32) :
    (k0_pay63 v233) = (TE v233) := by
  funext x
  idx_vars x
  pointwise [k0_pay63, t210, t211, t212, TE_at]
  all_goals (try simp (disch := omega) only [sel_if, dif_pos, dif_neg, aoff, aoff1, aoff2, aoff3])
  all_goals (try rfl)
theorem p64 (v243 : FVec Ideal S256x128 .f32) :
    (k0_pay64 v243) = (TE v243) := by
  funext x
  idx_vars x
  pointwise [k0_pay64, t210, t211, t212, TE_at]
  all_goals (try simp (disch := omega) only [sel_if, dif_pos, dif_neg, aoff, aoff1, aoff2, aoff3])
  all_goals (try rfl)
theorem p65 (v255 : FVec Ideal S256x128 .f32) :
    (k0_pay65 v255) = (TE v255) := by
  funext x
  idx_vars x
  pointwise [k0_pay65, t210, t211, t212, TE_at]
  all_goals (try simp (disch := omega) only [sel_if, dif_pos, dif_neg, aoff, aoff1, aoff2, aoff3])
  all_goals (try rfl)

end Cert.KernelIdeal.Att
end
-- ==== Proof.Val3b.lean ====
/- The visits of the first queries, one value at a time (their weights and sums). -/
module

public import proofs.«01_k».proof.Proof.Val2

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

set_option maxHeartbeats 4000000

theorem p66 (v265 : FVec Ideal S256x128 .f32) :
    (k0_pay66 v265) = (TE v265) := by
  funext x
  idx_vars x
  pointwise [k0_pay66, t210, t211, t212, TE_at]
  all_goals (try simp (disch := omega) only [sel_if, dif_pos, dif_neg, aoff, aoff1, aoff2, aoff3])
  all_goals (try rfl)
theorem p67 (v275 : FVec Ideal S256x128 .f32) :
    (k0_pay67 v275) = (TE v275) := by
  funext x
  idx_vars x
  pointwise [k0_pay67, t210, t211, t212, TE_at]
  all_goals (try simp (disch := omega) only [sel_if, dif_pos, dif_neg, aoff, aoff1, aoff2, aoff3])
  all_goals (try rfl)
theorem p68 (v287 : FVec Ideal S256x128 .f32) :
    (k0_pay68 v287) = (TE v287) := by
  funext x
  idx_vars x
  pointwise [k0_pay68, t210, t211, t212, TE_at]
  all_goals (try simp (disch := omega) only [sel_if, dif_pos, dif_neg, aoff, aoff1, aoff2, aoff3])
  all_goals (try rfl)
theorem p69 (v297 : FVec Ideal S256x128 .f32) :
    (k0_pay69 v297) = (TE v297) := by
  funext x
  idx_vars x
  pointwise [k0_pay69, t210, t211, t212, TE_at]
  all_goals (try simp (disch := omega) only [sel_if, dif_pos, dif_neg, aoff, aoff1, aoff2, aoff3])
  all_goals (try rfl)
theorem p70 (v307 : FVec Ideal S256x128 .f32) :
    (k0_pay70 v307) = (TE v307) := by
  funext x
  idx_vars x
  pointwise [k0_pay70, t210, t211, t212, TE_at]
  all_goals (try simp (disch := omega) only [sel_if, dif_pos, dif_neg, aoff, aoff1, aoff2, aoff3])
  all_goals (try rfl)
theorem q71 (v207 v287 : FVec Ideal S256x128 .f32) (V : FVec Ideal S2304x128 .f32) :
    k0_pay71 k0_pay212 v207 v287 V = Wide (WmE v207 v287 (extractStridedSlice S256x128 ![1536, 0] V slices_S2304x128_o1536_0_S256x128 : FVec Ideal S256x128 .f32)) := by
  funext x
  idx_vars x
  pointwise [k0_pay71, t212, Wide_at, WmE_at]
  all_goals (try simp (disch := omega) only [sel_if, dif_pos, dif_neg, aoff, aoff1, aoff2, aoff3])
  all_goals (try rfl)
theorem p71 (v207 : FVec Ideal S256x128 .f32) (v287 : FVec Ideal S256x128 .f32) (v221 : FVec Ideal S256x128 .f32) (v233 : FVec Ideal S256x128 .f32) (v243 : FVec Ideal S256x128 .f32) (v255 : FVec Ideal S256x128 .f32) (v265 : FVec Ideal S256x128 .f32) (v275 : FVec Ideal S256x128 .f32) (v297 : FVec Ideal S256x128 .f32) (v209 : FVec Ideal S256x128 .f32) :
    (k0_pay71 k0_pay212 v207 v287 (k0_pay54 k0_pay211 v221 v233 v243 v255 v265 v275 v287 v297 (k0_pay51 v209) (k0_pay52 v209) (Named.named (F := Ideal) κ "neg_log2_e" 0xBFB8AA3B#32))) = (Wide (WmE v207 v287 (LE v287))) := by
  rw [q71, s54_6]
theorem p72 (v202 : FVec Ideal S256x128 .f32) (v255 : FVec Ideal S256x128 .f32) (v358 : FVec Ideal S256x128 .f32) :
    (k0_pay72 k0_pay212 v202 v255 v358) = (Wide (WmE v202 v255 v358)) := by
  funext x
  idx_vars x
  pointwise [k0_pay72, t210, t211, t212, Wide_at, WmE_at]
  all_goals (try simp (disch := omega) only [sel_if, dif_pos, dif_neg, aoff, aoff1, aoff2, aoff3])
  all_goals (try rfl)
theorem q76 (v208 v255 v297 : FVec Ideal S256x128 .f32) (V : FVec Ideal S2304x128 .f32) :
    k0_pay76 (k0_pay74 v208 v255 v297 V) (k0_pay75 v208 v255 v297 V) = Wide (WdE v208 v297 (extractStridedSlice S256x128 ![1792, 0] V slices_S2304x128_o1792_0_S256x128 : FVec Ideal S256x128 .f32) (TE v255)) := by
  funext x
  idx_vars x
  pointwise [k0_pay65, k0_pay73, k0_pay74, k0_pay75, k0_pay76, t212, Wide_at, WdE_at, TE_at]
  all_goals (try simp (disch := omega) only [sel_if, dif_pos, dif_neg, aoff, aoff1, aoff2, aoff3])
  all_goals (try rfl)
theorem p76 (v208 : FVec Ideal S256x128 .f32) (v255 : FVec Ideal S256x128 .f32) (v297 : FVec Ideal S256x128 .f32) (v221 : FVec Ideal S256x128 .f32) (v233 : FVec Ideal S256x128 .f32) (v243 : FVec Ideal S256x128 .f32) (v265 : FVec Ideal S256x128 .f32) (v275 : FVec Ideal S256x128 .f32) (v287 : FVec Ideal S256x128 .f32) (v209 : FVec Ideal S256x128 .f32) :
    (k0_pay76 (k0_pay74 v208 v255 v297 (k0_pay54 k0_pay211 v221 v233 v243 v255 v265 v275 v287 v297 (k0_pay51 v209) (k0_pay52 v209) (Named.named (F := Ideal) κ "neg_log2_e" 0xBFB8AA3B#32))) (k0_pay75 v208 v255 v297 (k0_pay54 k0_pay211 v221 v233 v243 v255 v265 v275 v287 v297 (k0_pay51 v209) (k0_pay52 v209) (Named.named (F := Ideal) κ "neg_log2_e" 0xBFB8AA3B#32)))) = (Wide (WdE v208 v297 (LE v297) (TE v255))) := by
  rw [q76, s54_7]
theorem p77 (v371 : FVec Ideal S256x1 .f32) (v379 : FVec Ideal S256x1 .f32) :
    (k0_pay77 v371 v379) = (AddD v371 v379) := by
  funext x
  idx_vars x
  pointwise [k0_pay77, t210, t211, t212, AddD_at]
  all_goals (try simp (disch := omega) only [sel_if, dif_pos, dif_neg, aoff, aoff1, aoff2, aoff3])
  all_goals (try rfl)
theorem p78 (v198 : FVec Ideal S256x128 .f32) (v233 : FVec Ideal S256x128 .f32) (v356 : FVec Ideal S256x128 .f32) :
    (k0_pay78 k0_pay212 v198 v233 v356) = (Wide (WmE v198 v233 v356)) := by
  funext x
  idx_vars x
  pointwise [k0_pay78, t210, t211, t212, Wide_at, WmE_at]
  all_goals (try simp (disch := omega) only [sel_if, dif_pos, dif_neg, aoff, aoff1, aoff2, aoff3])
  all_goals (try rfl)
theorem p79 (v203 : FVec Ideal S256x128 .f32) (v265 : FVec Ideal S256x128 .f32) (v359 : FVec Ideal S256x128 .f32) (v367 : FVec Ideal S256x1 .f32) :
    (k0_pay79 v203 v265 v359 v367) = (Wide (WdE v203 v265 v359 v367)) := by
  funext x
  idx_vars x
  pointwise [k0_pay79, t210, t211, t212, Wide_at, WdE_at]
  all_goals (try simp (disch := omega) only [sel_if, dif_pos, dif_neg, aoff, aoff1, aoff2, aoff3])
  all_goals (try rfl)
theorem p81 (v209 : FVec Ideal S256x128 .f32) (v307 : FVec Ideal S256x128 .f32) (v363 : FVec Ideal S256x128 .f32) (v367 : FVec Ideal S256x1 .f32) (v373 : FVec Ideal S256x1 .f32) :
    (k0_pay81 v209 v307 v363 v367 v373) = (Wide (WdE v209 v307 v363 (AddD v367 v373))) := by
  funext x
  idx_vars x
  pointwise [k0_pay80, k0_pay81, t210, t211, t212, Wide_at, AddD_at, WdE_at]
  all_goals (try simp (disch := omega) only [sel_if, dif_pos, dif_neg, aoff, aoff1, aoff2, aoff3])
  all_goals (try rfl)
theorem p82 (v367 : FVec Ideal S256x1 .f32) (v373 : FVec Ideal S256x1 .f32) (v381 : FVec Ideal S256x1 .f32) :
    (k0_pay82 v367 v373 v381) = (AddD (AddD v367 v373) v381) := by
  funext x
  idx_vars x
  pointwise [k0_pay80, k0_pay82, t210, t211, t212, AddD_at]
  all_goals (try simp (disch := omega) only [sel_if, dif_pos, dif_neg, aoff, aoff1, aoff2, aoff3])
  all_goals (try rfl)
theorem p83 (v195 : FVec Ideal S256x128 .f32) (v221 : FVec Ideal S256x128 .f32) (v355 : FVec Ideal S256x128 .f32) :
    (k0_pay83 k0_pay212 v195 v221 v355) = (Wide (WmE v195 v221 v355)) := by
  funext x
  idx_vars x
  pointwise [k0_pay83, t210, t211, t212, Wide_at, WmE_at]
  all_goals (try simp (disch := omega) only [sel_if, dif_pos, dif_neg, aoff, aoff1, aoff2, aoff3])
  all_goals (try rfl)
theorem p84 (v199 : FVec Ideal S256x128 .f32) (v243 : FVec Ideal S256x128 .f32) (v357 : FVec Ideal S256x128 .f32) (v365 : FVec Ideal S256x1 .f32) :
    (k0_pay84 v199 v243 v357 v365) = (Wide (WdE v199 v243 v357 v365)) := by
  funext x
  idx_vars x
  pointwise [k0_pay84, t210, t211, t212, Wide_at, WdE_at]
  all_goals (try simp (disch := omega) only [sel_if, dif_pos, dif_neg, aoff, aoff1, aoff2, aoff3])
  all_goals (try rfl)
theorem p85 (v365 : FVec Ideal S256x1 .f32) (v369 : FVec Ideal S256x1 .f32) :
    (k0_pay85 v365 v369) = (AddD v365 v369) := by
  funext x
  idx_vars x
  pointwise [k0_pay85, t210, t211, t212, AddD_at]
  all_goals (try simp (disch := omega) only [sel_if, dif_pos, dif_neg, aoff, aoff1, aoff2, aoff3])
  all_goals (try rfl)
theorem p89 (v375 : FVec Ideal S256x1 .f32) (v457 : FVec Ideal S256x1 .f32) :
    (k0_pay89 v375 v457) = (AddD v457 v375) := by
  funext x
  idx_vars x
  pointwise [k0_pay89, t210, t211, t212, AddD_at]
  all_goals (try simp (disch := omega) only [sel_if, dif_pos, dif_neg, aoff, aoff1, aoff2, aoff3])
  all_goals (try rfl)
theorem p92 (v170 : FVec Ideal S256x128 .bf16) (v178 : FVec Ideal S256x128 .bf16) (v186 : FVec Ideal S256x128 .bf16) (v399 : FVec Ideal S128x256 .bf16) (v418 : FVec Ideal S128x256 .bf16) (v427 : FVec Ideal S128x256 .bf16) (v447 : FVec Ideal S128x256 .bf16) (v456 : FVec Ideal S128x256 .bf16) (v204 : FVec Ideal S256x128 .f32) (v275 : FVec Ideal S256x128 .f32) (v360 : FVec Ideal S256x128 .f32) (v365 : FVec Ideal S256x1 .f32) (v369 : FVec Ideal S256x1 .f32) :
    (k0_pay92 v170 v178 v186 v399 v418 v427 v447 v456 (k0_pay87 v204 v275 v360 v365 v369) (k0_pay88 v204 v275 v360 v365 v369)) = (AddT (AddT (CE v447 v170) (CE v456 v178)) (CE (Wide (WdE v204 v275 v360 (AddD v365 v369))) v186)) := by
  funext x
  idx_vars x
  pointwise [k0_pay85, k0_pay86, k0_pay87, k0_pay88, k0_pay90, k0_pay91, k0_pay92, t210, t211, t212, AddT_at, AddD_at, CE_at, WdE_at, Wide_at]
  all_goals (try simp (disch := omega) only [sel_if, dif_pos, dif_neg, aoff, aoff1, aoff2, aoff3])
  all_goals (try rfl)
theorem p98 (v178 : FVec Ideal S256x128 .bf16) (v186 : FVec Ideal S256x128 .bf16) (v194 : FVec Ideal S256x128 .bf16) (v390 : FVec Ideal S128x256 .bf16) (v399 : FVec Ideal S128x256 .bf16) (v408 : FVec Ideal S128x256 .bf16) (v418 : FVec Ideal S128x256 .bf16) (v427 : FVec Ideal S128x256 .bf16) (v437 : FVec Ideal S128x256 .bf16) (v456 : FVec Ideal S128x256 .bf16) (v204 : FVec Ideal S256x128 .f32) (v275 : FVec Ideal S256x128 .f32) (v360 : FVec Ideal S256x128 .f32) (v365 : FVec Ideal S256x1 .f32) (v369 : FVec Ideal S256x1 .f32) :
    (k0_pay98 v178 v186 v194 v390 v399 v408 v418 v427 v437 v456 (k0_pay87 v204 v275 v360 v365 v369) (k0_pay88 v204 v275 v360 v365 v369)) = (UpA (AddT (AddT (CE v418 v178) (CE v427 v186)) (CE v437 v194))) := by
  funext x
  idx_vars x
  pointwise [k0_pay85, k0_pay86, k0_pay87, k0_pay88, k0_pay90, k0_pay91, k0_pay93, k0_pay98, t210, t211, t212, UpA_at', AddT_at, CE_at]
  all_goals (try simp (disch := omega) only [sel_if, dif_pos, dif_neg, aoff, aoff1, aoff2, aoff3])
  all_goals (try rfl)
theorem p99 (v140 : Vec Ideal S1x128x128 .bf16) :
    (k0_pay99 k0_pay210 v140) = (VS v140) := by
  funext x
  idx_vars x
  pointwise [k0_pay99, t210, t211, t212, VS_at]
  all_goals (try simp (disch := omega) only [sel_if, dif_pos, dif_neg, aoff, aoff1, aoff2, aoff3])
  all_goals (try rfl)
theorem p100 (v146 : Vec Ideal S1x128x128 .bf16) :
    (k0_pay100 k0_pay210 v146) = (VS v146) := by
  funext x
  idx_vars x
  pointwise [k0_pay100, t210, t211, t212, VS_at]
  all_goals (try simp (disch := omega) only [sel_if, dif_pos, dif_neg, aoff, aoff1, aoff2, aoff3])
  all_goals (try rfl)
theorem p101 (v152 : Vec Ideal S1x128x128 .bf16) :
    (k0_pay101 k0_pay210 v152) = (VS v152) := by
  funext x
  idx_vars x
  pointwise [k0_pay101, t210, t211, t212, VS_at]
  all_goals (try simp (disch := omega) only [sel_if, dif_pos, dif_neg, aoff, aoff1, aoff2, aoff3])
  all_goals (try rfl)
theorem p102 (v158 : Vec Ideal S1x128x128 .bf16) :
    (k0_pay102 k0_pay210 v158) = (VS v158) := by
  funext x
  idx_vars x
  pointwise [k0_pay102, t210, t211, t212, VS_at]
  all_goals (try simp (disch := omega) only [sel_if, dif_pos, dif_neg, aoff, aoff1, aoff2, aoff3])
  all_goals (try rfl)
theorem p107 (v171 : Vec Ideal S1x128x128 .bf16) :
    (k0_pay107 k0_pay210 (k0_pay104 v171) (k0_pay105 (F := Ideal)) (k0_pay106 k0_pay210 v171)) = (VS v171) := by
  funext x
  idx_vars x
  pointwise [k0_pay104, k0_pay105, k0_pay106, k0_pay107, t210, t211, t212, VS_at]
  all_goals (try simp (disch := omega) only [sel_if, dif_pos, dif_neg, aoff, aoff1, aoff2, aoff3])
  all_goals (try rfl)
theorem p109 (v184 : Vec Ideal S1x128x128 .bf16) :
    (k0_pay109 k0_pay210 v184) = (VS v184) := by
  funext x
  idx_vars x
  pointwise [k0_pay109, t210, t211, t212, VS_at]
  all_goals (try simp (disch := omega) only [sel_if, dif_pos, dif_neg, aoff, aoff1, aoff2, aoff3])
  all_goals (try rfl)
theorem p111 (v197 : Vec Ideal S1x128x128 .bf16) :
    (k0_pay111 k0_pay210 v197) = (VS v197) := by
  funext x
  idx_vars x
  pointwise [k0_pay111, t210, t211, t212, VS_at]
  all_goals (try simp (disch := omega) only [sel_if, dif_pos, dif_neg, aoff, aoff1, aoff2, aoff3])
  all_goals (try rfl)
theorem p116 (v210 : Vec Ideal S1x128x128 .bf16) :
    (k0_pay116 k0_pay210 (k0_pay113 v210) (k0_pay114 (F := Ideal)) (k0_pay115 k0_pay210 v210)) = (VS v210) := by
  funext x
  idx_vars x
  pointwise [k0_pay113, k0_pay114, k0_pay115, k0_pay116, t210, t211, t212, VS_at]
  all_goals (try simp (disch := omega) only [sel_if, dif_pos, dif_neg, aoff, aoff1, aoff2, aoff3])
  all_goals (try rfl)
theorem p118 (v223 : Vec Ideal S1x128x128 .bf16) :
    (k0_pay118 k0_pay210 v223) = (VS v223) := by
  funext x
  idx_vars x
  pointwise [k0_pay118, t210, t211, t212, VS_at]
  all_goals (try simp (disch := omega) only [sel_if, dif_pos, dif_neg, aoff, aoff1, aoff2, aoff3])
  all_goals (try rfl)
theorem p120 (v236 : Vec Ideal S1x128x128 .bf16) :
    (k0_pay120 k0_pay210 v236) = (VS v236) := by
  funext x
  idx_vars x
  pointwise [k0_pay120, t210, t211, t212, VS_at]
  all_goals (try simp (disch := omega) only [sel_if, dif_pos, dif_neg, aoff, aoff1, aoff2, aoff3])
  all_goals (try rfl)
theorem p121 (v163 : FVec Ideal S256x128 .bf16) (v168 : Vec Ideal S1x128x128 .bf16) :
    (k0_pay121 v163 (k0_pay103 v168)) = (ZE v163 (K2 v168)) := by
  funext x
  idx_vars x
  pointwise [k0_pay103, k0_pay121, t210, t211, t212, ZE_at, K2_at]
  all_goals (try simp (disch := omega) only [sel_if, dif_pos, dif_neg, aoff, aoff1, aoff2, aoff3])
  all_goals (try rfl)
theorem p123 (v157 : FVec Ideal S256x128 .bf16) (v163 : FVec Ideal S256x128 .bf16) (v181 : Vec Ideal S1x128x128 .bf16) :
    (k0_pay123 v157 v163 (k0_pay108 v181)) = (ZE v157 (K2 v181)) := by
  funext x
  idx_vars x
  pointwise [k0_pay108, k0_pay122, k0_pay123, t210, t211, t212, ZE_at, K2_at]
  all_goals (try simp (disch := omega) only [sel_if, dif_pos, dif_neg, aoff, aoff1, aoff2, aoff3])
  all_goals (try rfl)
theorem p124 (v157 : FVec Ideal S256x128 .bf16) (v163 : FVec Ideal S256x128 .bf16) (v181 : Vec Ideal S1x128x128 .bf16) :
    (k0_pay124 v157 v163 (k0_pay108 v181)) = (ZE v163 (K2 v181)) := by
  funext x
  idx_vars x
  pointwise [k0_pay108, k0_pay122, k0_pay124, t210, t211, t212, ZE_at, K2_at]
  all_goals (try simp (disch := omega) only [sel_if, dif_pos, dif_neg, aoff, aoff1, aoff2, aoff3])
  all_goals (try rfl)
theorem p126 (v151 : FVec Ideal S256x128 .bf16) (v157 : FVec Ideal S256x128 .bf16) (v163 : FVec Ideal S256x128 .bf16) (v194 : Vec Ideal S1x128x128 .bf16) :
    (k0_pay126 v151 v157 v163 (k0_pay110 v194)) = (ZE v151 (K2 v194)) := by
  funext x
  idx_vars x
  pointwise [k0_pay110, k0_pay125, k0_pay126, t210, t211, t212, ZE_at, K2_at]
  all_goals (try simp (disch := omega) only [sel_if, dif_pos, dif_neg, aoff, aoff1, aoff2, aoff3])
  all_goals (try rfl)
theorem p127 (v151 : FVec Ideal S256x128 .bf16) (v157 : FVec Ideal S256x128 .bf16) (v163 : FVec Ideal S256x128 .bf16) (v194 : Vec Ideal S1x128x128 .bf16) :
    (k0_pay127 v151 v157 v163 (k0_pay110 v194)) = (ZE v157 (K2 v194)) := by
  funext x
  idx_vars x
  pointwise [k0_pay110, k0_pay125, k0_pay127, t210, t211, t212, ZE_at, K2_at]
  all_goals (try simp (disch := omega) only [sel_if, dif_pos, dif_neg, aoff, aoff1, aoff2, aoff3])
  all_goals (try rfl)
theorem p128 (v151 : FVec Ideal S256x128 .bf16) (v157 : FVec Ideal S256x128 .bf16) (v163 : FVec Ideal S256x128 .bf16) (v194 : Vec Ideal S1x128x128 .bf16) :
    (k0_pay128 v151 v157 v163 (k0_pay110 v194)) = (ZE v163 (K2 v194)) := by
  funext x
  idx_vars x
  pointwise [k0_pay110, k0_pay125, k0_pay128, t210, t211, t212, ZE_at, K2_at]
  all_goals (try simp (disch := omega) only [sel_if, dif_pos, dif_neg, aoff, aoff1, aoff2, aoff3])
  all_goals (try rfl)
theorem p130 (v145 : FVec Ideal S256x128 .bf16) (v151 : FVec Ideal S256x128 .bf16) (v157 : FVec Ideal S256x128 .bf16) (v207 : Vec Ideal S1x128x128 .bf16) :
    (k0_pay130 v145 v151 v157 (k0_pay112 v207)) = (ZE v145 (K2 v207)) := by
  funext x
  idx_vars x
  pointwise [k0_pay112, k0_pay129, k0_pay130, t210, t211, t212, ZE_at, K2_at]
  all_goals (try simp (disch := omega) only [sel_if, dif_pos, dif_neg, aoff, aoff1, aoff2, aoff3])
  all_goals (try rfl)
theorem p131 (v145 : FVec Ideal S256x128 .bf16) (v151 : FVec Ideal S256x128 .bf16) (v157 : FVec Ideal S256x128 .bf16) (v207 : Vec Ideal S1x128x128 .bf16) :
    (k0_pay131 v145 v151 v157 (k0_pay112 v207)) = (ZE v151 (K2 v207)) := by
  funext x
  idx_vars x
  pointwise [k0_pay112, k0_pay129, k0_pay131, t210, t211, t212, ZE_at, K2_at]
  all_goals (try simp (disch := omega) only [sel_if, dif_pos, dif_neg, aoff, aoff1, aoff2, aoff3])
  all_goals (try rfl)

end Cert.KernelIdeal.Att
end
-- ==== Proof.Val3c.lean ====
/- The visits of later queries, one value at a time. -/
module

public import proofs.«01_k».proof.Proof.Val2

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

set_option maxHeartbeats 4000000

theorem p132 (v145 : FVec Ideal S256x128 .bf16) (v151 : FVec Ideal S256x128 .bf16) (v157 : FVec Ideal S256x128 .bf16) (v207 : Vec Ideal S1x128x128 .bf16) :
    (k0_pay132 (k0_pay129 v145 v151 v157 (k0_pay112 v207))) = (ZE v157 (K2 v207)) := by
  funext x
  idx_vars x
  pointwise [k0_pay112, k0_pay129, k0_pay132, t210, t211, t212, ZE_at, K2_at]
  all_goals (try simp (disch := omega) only [sel_if, dif_pos, dif_neg, aoff, aoff1, aoff2, aoff3])
  all_goals (try rfl)
theorem p134 (v145 : FVec Ideal S256x128 .bf16) (v151 : FVec Ideal S256x128 .bf16) (v220 : Vec Ideal S1x128x128 .bf16) :
    (k0_pay134 v145 v151 (k0_pay117 v220)) = (ZE v145 (K2 v220)) := by
  funext x
  idx_vars x
  pointwise [k0_pay117, k0_pay133, k0_pay134, t210, t211, t212, ZE_at, K2_at]
  all_goals (try simp (disch := omega) only [sel_if, dif_pos, dif_neg, aoff, aoff1, aoff2, aoff3])
  all_goals (try rfl)
theorem p135 (v145 : FVec Ideal S256x128 .bf16) (v151 : FVec Ideal S256x128 .bf16) (v220 : Vec Ideal S1x128x128 .bf16) :
    (k0_pay135 v145 v151 (k0_pay117 v220)) = (ZE v151 (K2 v220)) := by
  funext x
  idx_vars x
  pointwise [k0_pay117, k0_pay133, k0_pay135, t210, t211, t212, ZE_at, K2_at]
  all_goals (try simp (disch := omega) only [sel_if, dif_pos, dif_neg, aoff, aoff1, aoff2, aoff3])
  all_goals (try rfl)
theorem p136 (v145 : FVec Ideal S256x128 .bf16) (v233 : Vec Ideal S1x128x128 .bf16) :
    (k0_pay136 v145 (k0_pay119 v233)) = (ZE v145 (K2 v233)) := by
  funext x
  idx_vars x
  pointwise [k0_pay119, k0_pay136, t210, t211, t212, ZE_at, K2_at]
  all_goals (try simp (disch := omega) only [sel_if, dif_pos, dif_neg, aoff, aoff1, aoff2, aoff3])
  all_goals (try rfl)
theorem p137 (v242 : FVec Ideal S256x128 .f32) :
    (k0_pay137 k0_pay212 v242) = (YmE v242) := by
  funext x
  idx_vars x
  pointwise [k0_pay137, t210, t211, t212, YmE_at]
  all_goals (try simp (disch := omega) only [sel_if, dif_pos, dif_neg, aoff, aoff1, aoff2, aoff3])
  all_goals (try rfl)
theorem p138 (v245 : FVec Ideal S256x128 .f32) :
    (k0_pay138 k0_pay212 v245) = (YmE v245) := by
  funext x
  idx_vars x
  pointwise [k0_pay138, t210, t211, t212, YmE_at]
  all_goals (try simp (disch := omega) only [sel_if, dif_pos, dif_neg, aoff, aoff1, aoff2, aoff3])
  all_goals (try rfl)
theorem p139 (v246 : FVec Ideal S256x128 .f32) :
    (k0_pay139 v246) = (YE v246) := by
  funext x
  idx_vars x
  pointwise [k0_pay139, t210, t211, t212, YE_at]
  all_goals (try simp (disch := omega) only [sel_if, dif_pos, dif_neg, aoff, aoff1, aoff2, aoff3])
  all_goals (try rfl)
theorem p142 (v249 : FVec Ideal S256x128 .f32) :
    (k0_pay142 k0_pay212 (k0_pay140 v249) (k0_pay141 v249)) = (YmE v249) := by
  funext x
  idx_vars x
  pointwise [k0_pay140, k0_pay141, k0_pay142, t210, t211, t212, YmE_at]
  all_goals (try simp (disch := omega) only [sel_if, dif_pos, dif_neg, aoff, aoff1, aoff2, aoff3])
  all_goals (try rfl)
theorem p143 (v250 : FVec Ideal S256x128 .f32) :
    (k0_pay143 v250) = (YE v250) := by
  funext x
  idx_vars x
  pointwise [k0_pay143, t210, t211, t212, YE_at]
  all_goals (try simp (disch := omega) only [sel_if, dif_pos, dif_neg, aoff, aoff1, aoff2, aoff3])
  all_goals (try rfl)
theorem p144 (v251 : FVec Ideal S256x128 .f32) :
    (k0_pay144 v251) = (YE v251) := by
  funext x
  idx_vars x
  pointwise [k0_pay144, t210, t211, t212, YE_at]
  all_goals (try simp (disch := omega) only [sel_if, dif_pos, dif_neg, aoff, aoff1, aoff2, aoff3])
  all_goals (try rfl)
theorem p145 (v254 : FVec Ideal S256x128 .f32) :
    (k0_pay145 k0_pay212 v254) = (YmE v254) := by
  funext x
  idx_vars x
  pointwise [k0_pay145, t210, t211, t212, YmE_at]
  all_goals (try simp (disch := omega) only [sel_if, dif_pos, dif_neg, aoff, aoff1, aoff2, aoff3])
  all_goals (try rfl)
theorem p148 (v255 : FVec Ideal S256x128 .f32) :
    (k0_pay148 (k0_pay146 v255) (k0_pay147 v255) (Scalar.ofBits (F := Ideal) .f32 0x3F800000#32)) = (YE v255) := by
  funext x
  idx_vars x
  pointwise [k0_pay146, k0_pay147, k0_pay148, t210, t211, t212, YE_at]
  all_goals (try simp (disch := omega) only [sel_if, dif_pos, dif_neg, aoff, aoff1, aoff2, aoff3])
  all_goals (try rfl)
theorem p149 (v256 : FVec Ideal S256x128 .f32) :
    (k0_pay149 v256) = (YE v256) := by
  funext x
  idx_vars x
  pointwise [k0_pay149, t210, t211, t212, YE_at]
  all_goals (try simp (disch := omega) only [sel_if, dif_pos, dif_neg, aoff, aoff1, aoff2, aoff3])
  all_goals (try rfl)
theorem p150 (v259 : FVec Ideal S256x128 .f32) :
    (k0_pay150 v259) = (YE v259) := by
  funext x
  idx_vars x
  pointwise [k0_pay150, t210, t211, t212, YE_at]
  all_goals (try simp (disch := omega) only [sel_if, dif_pos, dif_neg, aoff, aoff1, aoff2, aoff3])
  all_goals (try rfl)
theorem p151 (v260 : FVec Ideal S256x128 .f32) :
    (k0_pay151 v260) = (YE v260) := by
  funext x
  idx_vars x
  pointwise [k0_pay151, t210, t211, t212, YE_at]
  all_goals (try simp (disch := omega) only [sel_if, dif_pos, dif_neg, aoff, aoff1, aoff2, aoff3])
  all_goals (try rfl)
theorem p152 (v261 : FVec Ideal S256x128 .f32) :
    (k0_pay152 v261) = (YE v261) := by
  funext x
  idx_vars x
  pointwise [k0_pay152, t210, t211, t212, YE_at]
  all_goals (try simp (disch := omega) only [sel_if, dif_pos, dif_neg, aoff, aoff1, aoff2, aoff3])
  all_goals (try rfl)
theorem p156 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay156 k0_pay211 v285 v295 v307 v317 v327 v339 v349 v359 v369 v379 v389 (k0_pay153 v273) (k0_pay154 v273)) = (LE v273) := by
  simp only [k0_pay156, s155_0, s155_1, s155_2, s155_3, s155_4, s155_5, s155_6, s155_7, s155_8, s155_9, s155_10, s155_11]
theorem p157 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay157 (k0_pay155 k0_pay211 v285 v295 v307 v317 v327 v339 v349 v359 v369 v379 v389 (k0_pay153 v273) (k0_pay154 v273))) = (LE v285) := by
  simp only [k0_pay157, s155_0, s155_1, s155_2, s155_3, s155_4, s155_5, s155_6, s155_7, s155_8, s155_9, s155_10, s155_11]
theorem p158 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay158 (k0_pay155 k0_pay211 v285 v295 v307 v317 v327 v339 v349 v359 v369 v379 v389 (k0_pay153 v273) (k0_pay154 v273))) = (LE v295) := by
  simp only [k0_pay158, s155_0, s155_1, s155_2, s155_3, s155_4, s155_5, s155_6, s155_7, s155_8, s155_9, s155_10, s155_11]
theorem p159 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay159 (k0_pay155 k0_pay211 v285 v295 v307 v317 v327 v339 v349 v359 v369 v379 v389 (k0_pay153 v273) (k0_pay154 v273))) = (LE v307) := by
  simp only [k0_pay159, s155_0, s155_1, s155_2, s155_3, s155_4, s155_5, s155_6, s155_7, s155_8, s155_9, s155_10, s155_11]
theorem p160 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay160 (k0_pay155 k0_pay211 v285 v295 v307 v317 v327 v339 v349 v359 v369 v379 v389 (k0_pay153 v273) (k0_pay154 v273))) = (LE v317) := by
  simp only [k0_pay160, s155_0, s155_1, s155_2, s155_3, s155_4, s155_5, s155_6, s155_7, s155_8, s155_9, s155_10, s155_11]
theorem p161 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay161 (k0_pay155 k0_pay211 v285 v295 v307 v317 v327 v339 v349 v359 v369 v379 v389 (k0_pay153 v273) (k0_pay154 v273))) = (LE v327) := by
  simp only [k0_pay161, s155_0, s155_1, s155_2, s155_3, s155_4, s155_5, s155_6, s155_7, s155_8, s155_9, s155_10, s155_11]
theorem p162 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay162 (k0_pay155 k0_pay211 v285 v295 v307 v317 v327 v339 v349 v359 v369 v379 v389 (k0_pay153 v273) (k0_pay154 v273))) = (LE v349) := by
  simp only [k0_pay162, s155_0, s155_1, s155_2, s155_3, s155_4, s155_5, s155_6, s155_7, s155_8, s155_9, s155_10, s155_11]
theorem p163 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay163 (k0_pay155 k0_pay211 v285 v295 v307 v317 v327 v339 v349 v359 v369 v379 v389 (k0_pay153 v273) (k0_pay154 v273))) = (LE v359) := by
  simp only [k0_pay163, s155_0, s155_1, s155_2, s155_3, s155_4, s155_5, s155_6, s155_7, s155_8, s155_9, s155_10, s155_11]
theorem p164 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay164 (k0_pay155 k0_pay211 v285 v295 v307 v317 v327 v339 v349 v359 v369 v379 v389 (k0_pay153 v273) (k0_pay154 v273))) = (LE v379) := by
  simp only [k0_pay164, s155_0, s155_1, s155_2, s155_3, s155_4, s155_5, s155_6, s155_7, s155_8, s155_9, s155_10, s155_11]
theorem p165 (v285 : FVec Ideal S256x128 .f32) (v295 : FVec Ideal S256x128 .f32) (v307 : FVec Ideal S256x128 .f32) (v317 : FVec Ideal S256x128 .f32) (v327 : FVec Ideal S256x128 .f32) (v339 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay165 (k0_pay155 k0_pay211 v285 v295 v307 v317 v327 v339 v349 v359 v369 v379 v389 (k0_pay153 v273) (k0_pay154 v273))) = (LE v389) := by
  simp only [k0_pay165, s155_0, s155_1, s155_2, s155_3, s155_4, s155_5, s155_6, s155_7, s155_8, s155_9, s155_10, s155_11]
theorem p166 (v273 : FVec Ideal S256x128 .f32) :
    (k0_pay166 v273) = (TE v273) := by
  funext x
  idx_vars x
  pointwise [k0_pay166, t210, t211, t212, TE_at]
  all_goals (try simp (disch := omega) only [sel_if, dif_pos, dif_neg, aoff, aoff1, aoff2, aoff3])
  all_goals (try rfl)
theorem p167 (v285 : FVec Ideal S256x128 .f32) :
    (k0_pay167 v285) = (TE v285) := by
  funext x
  idx_vars x
  pointwise [k0_pay167, t210, t211, t212, TE_at]
  all_goals (try simp (disch := omega) only [sel_if, dif_pos, dif_neg, aoff, aoff1, aoff2, aoff3])
  all_goals (try rfl)
theorem p168 (v295 : FVec Ideal S256x128 .f32) :
    (k0_pay168 v295) = (TE v295) := by
  funext x
  idx_vars x
  pointwise [k0_pay168, t210, t211, t212, TE_at]
  all_goals (try simp (disch := omega) only [sel_if, dif_pos, dif_neg, aoff, aoff1, aoff2, aoff3])
  all_goals (try rfl)
theorem p169 (v307 : FVec Ideal S256x128 .f32) :
    (k0_pay169 v307) = (TE v307) := by
  funext x
  idx_vars x
  pointwise [k0_pay169, t210, t211, t212, TE_at]
  all_goals (try simp (disch := omega) only [sel_if, dif_pos, dif_neg, aoff, aoff1, aoff2, aoff3])
  all_goals (try rfl)
theorem p170 (v317 : FVec Ideal S256x128 .f32) :
    (k0_pay170 v317) = (TE v317) := by
  funext x
  idx_vars x
  pointwise [k0_pay170, t210, t211, t212, TE_at]
  all_goals (try simp (disch := omega) only [sel_if, dif_pos, dif_neg, aoff, aoff1, aoff2, aoff3])
  all_goals (try rfl)
theorem p171 (v327 : FVec Ideal S256x128 .f32) :
    (k0_pay171 v327) = (TE v327) := by
  funext x
  idx_vars x
  pointwise [k0_pay171, t210, t211, t212, TE_at]
  all_goals (try simp (disch := omega) only [sel_if, dif_pos, dif_neg, aoff, aoff1, aoff2, aoff3])
  all_goals (try rfl)
theorem p172 (v339 : FVec Ideal S256x128 .f32) :
    (k0_pay172 v339) = (TE v339) := by
  funext x
  idx_vars x
  pointwise [k0_pay172, t210, t211, t212, TE_at]
  all_goals (try simp (disch := omega) only [sel_if, dif_pos, dif_neg, aoff, aoff1, aoff2, aoff3])
  all_goals (try rfl)
theorem p173 (v349 : FVec Ideal S256x128 .f32) :
    (k0_pay173 v349) = (TE v349) := by
  funext x
  idx_vars x
  pointwise [k0_pay173, t210, t211, t212, TE_at]
  all_goals (try simp (disch := omega) only [sel_if, dif_pos, dif_neg, aoff, aoff1, aoff2, aoff3])
  all_goals (try rfl)
theorem p174 (v359 : FVec Ideal S256x128 .f32) :
    (k0_pay174 v359) = (TE v359) := by
  funext x
  idx_vars x
  pointwise [k0_pay174, t210, t211, t212, TE_at]
  all_goals (try simp (disch := omega) only [sel_if, dif_pos, dif_neg, aoff, aoff1, aoff2, aoff3])
  all_goals (try rfl)
theorem p175 (v369 : FVec Ideal S256x128 .f32) :
    (k0_pay175 v369) = (TE v369) := by
  funext x
  idx_vars x
  pointwise [k0_pay175, t210, t211, t212, TE_at]
  all_goals (try simp (disch := omega) only [sel_if, dif_pos, dif_neg, aoff, aoff1, aoff2, aoff3])
  all_goals (try rfl)
theorem p176 (v379 : FVec Ideal S256x128 .f32) :
    (k0_pay176 v379) = (TE v379) := by
  funext x
  idx_vars x
  pointwise [k0_pay176, t210, t211, t212, TE_at]
  all_goals (try simp (disch := omega) only [sel_if, dif_pos, dif_neg, aoff, aoff1, aoff2, aoff3])
  all_goals (try rfl)

end Cert.KernelIdeal.Att
end
-- ==== Proof.Val3d.lean ====
/- The visits of later queries, one value at a time (their weights and sums). -/
module

public import proofs.«01_k».proof.Proof.Val2

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

set_option maxHeartbeats 4000000

theorem p177 (v389 : FVec Ideal S256x128 .f32) :
    (k0_pay177 v389) = (TE v389) := by
  funext x
  idx_vars x
  pointwise [k0_pay177, t210, t211, t212, TE_at]
  all_goals (try simp (disch := omega) only [sel_if, dif_pos, dif_neg, aoff, aoff1, aoff2, aoff3])
  all_goals (try rfl)
theorem q178 (v254 v339 : FVec Ideal S256x128 .f32) (V : FVec Ideal S3072x128 .f32) :
    k0_pay178 k0_pay212 v254 v339 V = Wide (WmE v254 v339 (extractStridedSlice S256x128 ![1536, 0] V slices_S3072x128_o1536_0_S256x128 : FVec Ideal S256x128 .f32)) := by
  funext x
  idx_vars x
  pointwise [k0_pay178, t212, Wide_at, WmE_at]
  all_goals (try simp (disch := omega) only [sel_if, dif_pos, dif_neg, aoff, aoff1, aoff2, aoff3])
  all_goals (try rfl)
theorem p178 (v254 : FVec Ideal S256x128 .f32) (v339 : FVec Ideal S256x128 .f32) (v285 : FVec Ideal S256x128 .f32) (v295 : FVec Ideal S256x128 .f32) (v307 : FVec Ideal S256x128 .f32) (v317 : FVec Ideal S256x128 .f32) (v327 : FVec Ideal S256x128 .f32) (v349 : FVec Ideal S256x128 .f32) (v359 : FVec Ideal S256x128 .f32) (v369 : FVec Ideal S256x128 .f32) (v379 : FVec Ideal S256x128 .f32) (v389 : FVec Ideal S256x128 .f32) (v273 : FVec Ideal S256x128 .f32) :
    (k0_pay178 k0_pay212 v254 v339 (k0_pay155 k0_pay211 v285 v295 v307 v317 v327 v339 v349 v359 v369 v379 v389 (k0_pay153 v273) (k0_pay154 v273))) = (Wide (WmE v254 v339 (LE v339))) := by
  rw [q178, s155_6]
theorem q180 (v259 v339 v369 : FVec Ideal S256x128 .f32) (V : FVec Ideal S3072x128 .f32) :
    k0_pay180 v259 (k0_pay179 v339 v369 V) = Wide (WdE v259 v369 (extractStridedSlice S256x128 ![2304, 0] V slices_S3072x128_o2304_0_S256x128 : FVec Ideal S256x128 .f32) (TE v339)) := by
  funext x
  idx_vars x
  pointwise [k0_pay172, k0_pay179, k0_pay180, t212, Wide_at, WdE_at, TE_at]
  all_goals (try simp (disch := omega) only [sel_if, dif_pos, dif_neg, aoff, aoff1, aoff2, aoff3])
  all_goals (try rfl)
theorem p180 (v259 : FVec Ideal S256x128 .f32) (v339 : FVec Ideal S256x128 .f32) (v369 : FVec Ideal S256x128 .f32) (v285 : FVec Ideal S256x128 .f32) (v295 : FVec Ideal S256x128 .f32) (v307 : FVec Ideal S256x128 .f32) (v317 : FVec Ideal S256x128 .f32) (v327 : FVec Ideal S256x128 .f32) (v349 : FVec Ideal S256x128 .f32) (v359 : FVec Ideal S256x128 .f32) (v379 : FVec Ideal S256x128 .f32) (v389 : FVec Ideal S256x128 .f32) (v273 : FVec Ideal S256x128 .f32) :
    (k0_pay180 v259 (k0_pay179 v339 v369 (k0_pay155 k0_pay211 v285 v295 v307 v317 v327 v339 v349 v359 v369 v379 v389 (k0_pay153 v273) (k0_pay154 v273)))) = (Wide (WdE v259 v369 (LE v369) (TE v339))) := by
  rw [q180, s155_9]
theorem p182 (v261 : FVec Ideal S256x128 .f32) (v389 : FVec Ideal S256x128 .f32) (v463 : FVec Ideal S256x128 .f32) (v477 : FVec Ideal S256x1 .f32) (v483 : FVec Ideal S256x1 .f32) :
    (k0_pay182 v261 v389 v463 v477 v483) = (Wide (WdE v261 v389 v463 (AddD v477 v483))) := by
  funext x
  idx_vars x
  pointwise [k0_pay181, k0_pay182, t210, t211, t212, Wide_at, AddD_at, WdE_at]
  all_goals (try simp (disch := omega) only [sel_if, dif_pos, dif_neg, aoff, aoff1, aoff2, aoff3])
  all_goals (try rfl)
theorem p183 (v477 : FVec Ideal S256x1 .f32) (v483 : FVec Ideal S256x1 .f32) (v487 : FVec Ideal S256x1 .f32) :
    (k0_pay183 v477 v483 v487) = (AddD (AddD v477 v483) v487) := by
  funext x
  idx_vars x
  pointwise [k0_pay181, k0_pay183, t210, t211, t212, AddD_at]
  all_goals (try simp (disch := omega) only [sel_if, dif_pos, dif_neg, aoff, aoff1, aoff2, aoff3])
  all_goals (try rfl)
theorem p184 (v249 : FVec Ideal S256x128 .f32) (v307 : FVec Ideal S256x128 .f32) (v455 : FVec Ideal S256x128 .f32) :
    (k0_pay184 k0_pay212 v249 v307 v455) = (Wide (WmE v249 v307 v455)) := by
  funext x
  idx_vars x
  pointwise [k0_pay184, t210, t211, t212, Wide_at, WmE_at]
  all_goals (try simp (disch := omega) only [sel_if, dif_pos, dif_neg, aoff, aoff1, aoff2, aoff3])
  all_goals (try rfl)
theorem p185 (v255 : FVec Ideal S256x128 .f32) (v349 : FVec Ideal S256x128 .f32) (v459 : FVec Ideal S256x128 .f32) (v471 : FVec Ideal S256x1 .f32) :
    (k0_pay185 v255 v349 v459 v471) = (Wide (WdE v255 v349 v459 v471)) := by
  funext x
  idx_vars x
  pointwise [k0_pay185, t210, t211, t212, Wide_at, WdE_at]
  all_goals (try simp (disch := omega) only [sel_if, dif_pos, dif_neg, aoff, aoff1, aoff2, aoff3])
  all_goals (try rfl)
theorem p187 (v260 : FVec Ideal S256x128 .f32) (v379 : FVec Ideal S256x128 .f32) (v462 : FVec Ideal S256x128 .f32) (v471 : FVec Ideal S256x1 .f32) (v479 : FVec Ideal S256x1 .f32) :
    (k0_pay187 v260 v379 v462 v471 v479) = (Wide (WdE v260 v379 v462 (AddD v471 v479))) := by
  funext x
  idx_vars x
  pointwise [k0_pay186, k0_pay187, t210, t211, t212, Wide_at, AddD_at, WdE_at]
  all_goals (try simp (disch := omega) only [sel_if, dif_pos, dif_neg, aoff, aoff1, aoff2, aoff3])
  all_goals (try rfl)
theorem p188 (v471 : FVec Ideal S256x1 .f32) (v479 : FVec Ideal S256x1 .f32) (v485 : FVec Ideal S256x1 .f32) :
    (k0_pay188 v471 v479 v485) = (AddD (AddD v471 v479) v485) := by
  funext x
  idx_vars x
  pointwise [k0_pay186, k0_pay188, t210, t211, t212, AddD_at]
  all_goals (try simp (disch := omega) only [sel_if, dif_pos, dif_neg, aoff, aoff1, aoff2, aoff3])
  all_goals (try rfl)
theorem p189 (v245 : FVec Ideal S256x128 .f32) (v285 : FVec Ideal S256x128 .f32) (v453 : FVec Ideal S256x128 .f32) :
    (k0_pay189 k0_pay212 v245 v285 v453) = (Wide (WmE v245 v285 v453)) := by
  funext x
  idx_vars x
  pointwise [k0_pay189, t210, t211, t212, Wide_at, WmE_at]
  all_goals (try simp (disch := omega) only [sel_if, dif_pos, dif_neg, aoff, aoff1, aoff2, aoff3])
  all_goals (try rfl)
theorem p192 (v256 : FVec Ideal S256x128 .f32) (v359 : FVec Ideal S256x128 .f32) (v460 : FVec Ideal S256x128 .f32) (v467 : FVec Ideal S256x1 .f32) (v473 : FVec Ideal S256x1 .f32) :
    (k0_pay192 v256 v359 v460 v467 v473) = (Wide (WdE v256 v359 v460 (AddD v467 v473))) := by
  funext x
  idx_vars x
  pointwise [k0_pay191, k0_pay192, t210, t211, t212, Wide_at, AddD_at, WdE_at]
  all_goals (try simp (disch := omega) only [sel_if, dif_pos, dif_neg, aoff, aoff1, aoff2, aoff3])
  all_goals (try rfl)
theorem p193 (v467 : FVec Ideal S256x1 .f32) (v473 : FVec Ideal S256x1 .f32) (v481 : FVec Ideal S256x1 .f32) :
    (k0_pay193 v467 v473 v481) = (AddD (AddD v467 v473) v481) := by
  funext x
  idx_vars x
  pointwise [k0_pay191, k0_pay193, t210, t211, t212, AddD_at]
  all_goals (try simp (disch := omega) only [sel_if, dif_pos, dif_neg, aoff, aoff1, aoff2, aoff3])
  all_goals (try rfl)
theorem p195 (v465 : FVec Ideal S256x1 .f32) (v469 : FVec Ideal S256x1 .f32) (v475 : FVec Ideal S256x1 .f32) :
    (k0_pay195 v465 v469 v475) = (AddD (AddD v465 v469) v475) := by
  funext x
  idx_vars x
  pointwise [k0_pay194, k0_pay195, t210, t211, t212, AddD_at]
  all_goals (try simp (disch := omega) only [sel_if, dif_pos, dif_neg, aoff, aoff1, aoff2, aoff3])
  all_goals (try rfl)
theorem p197 (v189 : FVec Ideal S256x128 .bf16) (v246 : FVec Ideal S256x128 .f32) (v295 : FVec Ideal S256x128 .f32) (v454 : FVec Ideal S256x128 .f32) (v465 : FVec Ideal S256x1 .f32) (v554 : FVec Ideal S128x256 .bf16) :
    (k0_pay197 v189 v246 v295 v454 v465 v554) = (CE v554 v189) := by
  funext x
  idx_vars x
  pointwise [k0_pay196, k0_pay197, t210, t211, t212, CE_at]
  all_goals (try simp (disch := omega) only [sel_if, dif_pos, dif_neg, aoff, aoff1, aoff2, aoff3])
  all_goals (try rfl)
theorem p198 (v176 : FVec Ideal S256x128 .bf16) (v189 : FVec Ideal S256x128 .bf16) (v242 : FVec Ideal S256x128 .f32) (v246 : FVec Ideal S256x128 .f32) (v273 : FVec Ideal S256x128 .f32) (v295 : FVec Ideal S256x128 .f32) (v452 : FVec Ideal S256x128 .f32) (v454 : FVec Ideal S256x128 .f32) (v465 : FVec Ideal S256x1 .f32) (v554 : FVec Ideal S128x256 .bf16) :
    (k0_pay198 k0_pay212 v176 v189 v242 v246 v273 v295 v452 v454 v465 v554) = (AddT (CE (Wide (WmE v242 v273 v452)) v176) (CE (Wide (WdE v246 v295 v454 v465)) v189)) := by
  funext x
  idx_vars x
  pointwise [k0_pay196, k0_pay198, t210, t211, t212, AddT_at, CE_at, WdE_at, Wide_at, WmE_at]
  all_goals (try simp (disch := omega) only [sel_if, dif_pos, dif_neg, aoff, aoff1, aoff2, aoff3])
  all_goals (try rfl)
theorem p200 (v202 : FVec Ideal S256x128 .bf16) (v250 : FVec Ideal S256x128 .f32) (v251 : FVec Ideal S256x128 .f32) (v327 : FVec Ideal S256x128 .f32) (v457 : FVec Ideal S256x128 .f32) (v465 : FVec Ideal S256x1 .f32) (v469 : FVec Ideal S256x1 .f32) (v525 : FVec Ideal S128x256 .bf16) (v317 : FVec Ideal S256x128 .f32) (v456 : FVec Ideal S256x128 .f32) (v467 : FVec Ideal S256x1 .f32) :
    (k0_pay200 v202 v250 v251 v327 v457 v465 v469 v525 (k0_pay190 v317 v456 v467)) = (CE v525 v202) := by
  funext x
  idx_vars x
  pointwise [k0_pay190, k0_pay194, k0_pay199, k0_pay200, t210, t211, t212, CE_at]
  all_goals (try simp (disch := omega) only [sel_if, dif_pos, dif_neg, aoff, aoff1, aoff2, aoff3])
  all_goals (try rfl)
theorem p201 (v202 : FVec Ideal S256x128 .bf16) (v250 : FVec Ideal S256x128 .f32) (v251 : FVec Ideal S256x128 .f32) (v327 : FVec Ideal S256x128 .f32) (v457 : FVec Ideal S256x128 .f32) (v465 : FVec Ideal S256x1 .f32) (v469 : FVec Ideal S256x1 .f32) (v525 : FVec Ideal S128x256 .bf16) (v317 : FVec Ideal S256x128 .f32) (v456 : FVec Ideal S256x128 .f32) (v467 : FVec Ideal S256x1 .f32) :
    (k0_pay201 v202 v250 v251 v327 v457 v465 v469 v525 (k0_pay190 v317 v456 v467)) = (CE (Wide (WdE v250 v317 v456 v467)) v202) := by
  funext x
  idx_vars x
  pointwise [k0_pay190, k0_pay194, k0_pay199, k0_pay201, t210, t211, t212, CE_at, WdE_at, Wide_at]
  all_goals (try simp (disch := omega) only [sel_if, dif_pos, dif_neg, aoff, aoff1, aoff2, aoff3])
  all_goals (try rfl)
theorem p202 (v609 : FVec Ideal S128x128 .f32) (v202 : FVec Ideal S256x128 .bf16) (v250 : FVec Ideal S256x128 .f32) (v251 : FVec Ideal S256x128 .f32) (v327 : FVec Ideal S256x128 .f32) (v457 : FVec Ideal S256x128 .f32) (v465 : FVec Ideal S256x1 .f32) (v469 : FVec Ideal S256x1 .f32) (v525 : FVec Ideal S128x256 .bf16) (v317 : FVec Ideal S256x128 .f32) (v456 : FVec Ideal S256x128 .f32) (v467 : FVec Ideal S256x1 .f32) :
    (k0_pay202 v609 (k0_pay199 v202 v250 v251 v327 v457 v465 v469 v525 (k0_pay190 v317 v456 v467))) = (AddT v609 (CE (Wide (WdE v251 v327 v457 (AddD v465 v469))) v202)) := by
  funext x
  idx_vars x
  pointwise [k0_pay190, k0_pay194, k0_pay199, k0_pay202, t210, t211, t212, AddT_at, AddD_at, CE_at, WdE_at, Wide_at]
  all_goals (try simp (disch := omega) only [sel_if, dif_pos, dif_neg, aoff, aoff1, aoff2, aoff3])
  all_goals (try rfl)
theorem p94 (v194 : FVec Ideal S256x128 .bf16) (v390 : FVec Ideal S128x256 .bf16) (v408 : FVec Ideal S128x256 .bf16) (v437 : FVec Ideal S128x256 .bf16) :
    (k0_pay94 v194 v390 v408 v437) = (UpA (CE v390 v194)) := by
  funext x
  idx_vars x
  pointwise [k0_pay93, k0_pay94, t210, t211, t212, UpA_at', CE_at]
  all_goals (try simp (disch := omega) only [sel_if, dif_pos, dif_neg, aoff, aoff1, aoff2, aoff3])
  all_goals (try rfl)
theorem p96 (v186 : FVec Ideal S256x128 .bf16) (v194 : FVec Ideal S256x128 .bf16) (v390 : FVec Ideal S128x256 .bf16) (v399 : FVec Ideal S128x256 .bf16) (v408 : FVec Ideal S128x256 .bf16) (v427 : FVec Ideal S128x256 .bf16) (v437 : FVec Ideal S128x256 .bf16) (v204 : FVec Ideal S256x128 .f32) (v275 : FVec Ideal S256x128 .f32) (v360 : FVec Ideal S256x128 .f32) (v365 : FVec Ideal S256x1 .f32) (v369 : FVec Ideal S256x1 .f32) :
    (k0_pay96 v186 v194 v390 v399 v408 v427 v437 (k0_pay87 v204 v275 v360 v365 v369) (k0_pay88 v204 v275 v360 v365 v369)) = (UpA (AddT (CE v399 v186) (CE v408 v194))) := by
  funext x
  idx_vars x
  pointwise [k0_pay85, k0_pay86, k0_pay87, k0_pay88, k0_pay91, k0_pay93, k0_pay96, t210, t211, t212, UpA_at', AddT_at, CE_at]
  all_goals (try simp (disch := omega) only [sel_if, dif_pos, dif_neg, aoff, aoff1, aoff2, aoff3])
  all_goals (try rfl)
theorem p214 (v480 : FVec Ideal S128x128 .f32) :
    (k0_pay214 v480) = (UpA v480) := by
  funext x
  idx_vars x
  pointwise [k0_pay214, t210, t211, t212, UpA_at']
  all_goals (try simp (disch := omega) only [sel_if, dif_pos, dif_neg, aoff, aoff1, aoff2, aoff3])
  all_goals (try rfl)
theorem p95 (v377 : FVec Ideal S256x1 .f32) :
    (k0_pay95 v377) = (UpD v377) := by
  funext x
  idx_vars x
  pointwise [k0_pay95, t210, t211, t212, UpD_at']
  all_goals (try simp (disch := omega) only [sel_if, dif_pos, dif_neg, aoff, aoff1, aoff2, aoff3])
  all_goals (try rfl)
theorem p97 (v409 : FVec Ideal S256x1 .f32) :
    (k0_pay97 v409) = (UpD v409) := by
  funext x
  idx_vars x
  pointwise [k0_pay97, t210, t211, t212, UpD_at']
  all_goals (try simp (disch := omega) only [sel_if, dif_pos, dif_neg, aoff, aoff1, aoff2, aoff3])
  all_goals (try rfl)
theorem p213 (v438 : FVec Ideal S256x1 .f32) :
    (k0_pay213 v438) = (UpD v438) := by
  funext x
  idx_vars x
  pointwise [k0_pay213, t210, t211, t212, UpD_at']
  all_goals (try simp (disch := omega) only [sel_if, dif_pos, dif_neg, aoff, aoff1, aoff2, aoff3])
  all_goals (try rfl)
theorem p215 (v467 : FVec Ideal S256x1 .f32) :
    (k0_pay215 v467) = (UpD v467) := by
  funext x
  idx_vars x
  pointwise [k0_pay215, t210, t211, t212, UpD_at']
  all_goals (try simp (disch := omega) only [sel_if, dif_pos, dif_neg, aoff, aoff1, aoff2, aoff3])
  all_goals (try rfl)
theorem p205 (v215 : FVec Ideal S256x128 .bf16) (v228 : FVec Ideal S256x128 .bf16) (v241 : FVec Ideal S256x128 .bf16) (v496 : FVec Ideal S128x256 .bf16) (v505 : FVec Ideal S128x256 .bf16) (v515 : FVec Ideal S128x256 .bf16) (v534 : FVec Ideal S128x256 .bf16) (v544 : FVec Ideal S128x256 .bf16) (v573 : FVec Ideal S128x256 .bf16) :
    (k0_pay205 v215 v228 v241 v496 v505 v515 v534 v544 v573) = (UpA (AddT (AddT (CE v496 v215) (CE v505 v228)) (CE v515 v241))) := by
  funext x
  idx_vars x
  pointwise [k0_pay203, k0_pay204, k0_pay205, t210, t211, t212, UpA_at', AddT_at, CE_at]
  all_goals (try simp (disch := omega) only [sel_if, dif_pos, dif_neg, aoff, aoff1, aoff2, aoff3])
  all_goals (try rfl)
theorem p207 (v215 : FVec Ideal S256x128 .bf16) (v228 : FVec Ideal S256x128 .bf16) (v496 : FVec Ideal S128x256 .bf16) (v505 : FVec Ideal S128x256 .bf16) (v534 : FVec Ideal S128x256 .bf16) (v544 : FVec Ideal S128x256 .bf16) (v573 : FVec Ideal S128x256 .bf16) (v612 : FVec Ideal S128x128 .f32) :
    (k0_pay207 v215 v228 v496 v505 v534 v544 v573 v612) = (UpA (AddT (AddT v612 (CE v534 v215)) (CE v544 v228))) := by
  funext x
  idx_vars x
  pointwise [k0_pay203, k0_pay204, k0_pay207, t210, t211, t212, UpA_at', AddT_at, CE_at]
  all_goals (try simp (disch := omega) only [sel_if, dif_pos, dif_neg, aoff, aoff1, aoff2, aoff3])
  all_goals (try rfl)
theorem p209 (v215 : FVec Ideal S256x128 .bf16) (v496 : FVec Ideal S128x256 .bf16) (v534 : FVec Ideal S128x256 .bf16) (v573 : FVec Ideal S128x256 .bf16) (v607 : FVec Ideal S128x128 .f32) (v613 : FVec Ideal S128x128 .f32) :
    (k0_pay209 v215 v496 v534 v573 v607 v613) = (UpA (AddT (AddT v607 v613) (CE v573 v215))) := by
  funext x
  idx_vars x
  pointwise [k0_pay203, k0_pay209, t210, t211, t212, UpA_at', AddT_at, CE_at]
  all_goals (try simp (disch := omega) only [sel_if, dif_pos, dif_neg, aoff, aoff1, aoff2, aoff3])
  all_goals (try rfl)
theorem p217 (v616 : FVec Ideal S128x128 .f32) :
    (k0_pay217 v616) = (UpA v616) := by
  funext x
  idx_vars x
  pointwise [k0_pay217, t210, t211, t212, UpA_at']
  all_goals (try simp (disch := omega) only [sel_if, dif_pos, dif_neg, aoff, aoff1, aoff2, aoff3])
  all_goals (try rfl)
theorem p206 (v516 : FVec Ideal S256x1 .f32) :
    (k0_pay206 v516) = (UpD v516) := by
  funext x
  idx_vars x
  pointwise [k0_pay206, t210, t211, t212, UpD_at']
  all_goals (try simp (disch := omega) only [sel_if, dif_pos, dif_neg, aoff, aoff1, aoff2, aoff3])
  all_goals (try rfl)
theorem p208 (v545 : FVec Ideal S256x1 .f32) :
    (k0_pay208 v545) = (UpD v545) := by
  funext x
  idx_vars x
  pointwise [k0_pay208, t210, t211, t212, UpD_at']
  all_goals (try simp (disch := omega) only [sel_if, dif_pos, dif_neg, aoff, aoff1, aoff2, aoff3])
  all_goals (try rfl)
theorem p216 (v574 : FVec Ideal S256x1 .f32) :
    (k0_pay216 v574) = (UpD v574) := by
  funext x
  idx_vars x
  pointwise [k0_pay216, t210, t211, t212, UpD_at']
  all_goals (try simp (disch := omega) only [sel_if, dif_pos, dif_neg, aoff, aoff1, aoff2, aoff3])
  all_goals (try rfl)
theorem p218 (v603 : FVec Ideal S256x1 .f32) :
    (k0_pay218 v603) = (UpD v603) := by
  funext x
  idx_vars x
  pointwise [k0_pay218, t210, t211, t212, UpD_at']
  all_goals (try simp (disch := omega) only [sel_if, dif_pos, dif_neg, aoff, aoff1, aoff2, aoff3])
  all_goals (try rfl)

end Cert.KernelIdeal.Att
end
-- ==== Proof.Val4a.lean ====
/- The unrolled visits of the first queries in terms of single visits. -/
module

public import proofs.«01_k».proof.Proof.Val3a
public import proofs.«01_k».proof.Proof.Val3b
public import proofs.«01_k».proof.Proof.Val3c
public import proofs.«01_k».proof.Proof.Val3d

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

set_option maxHeartbeats 4000000

/-- The accumulated values of the visit of the diagonal block, and of an earlier block behind sums `d`. -/
def fA (q : FVec Ideal S256x128 .bf16) (k v : Vec Ideal S1x128x128 .bf16) : FVec Ideal S128x128 .f32 :=
  CE (Wide (WmE (ZE q (K2 k)) (YmE (ZE q (K2 k))) (LE (YmE (ZE q (K2 k)))))) (VS v)
def fD (q : FVec Ideal S256x128 .bf16) (k : Vec Ideal S1x128x128 .bf16) : FVec Ideal S256x1 .f32 := TE (YmE (ZE q (K2 k)))
def nA (q : FVec Ideal S256x128 .bf16) (k v : Vec Ideal S1x128x128 .bf16) (d : FVec Ideal S256x1 .f32) : FVec Ideal S128x128 .f32 :=
  CE (Wide (WdE (ZE q (K2 k)) (YE (ZE q (K2 k))) (LE (YE (ZE q (K2 k)))) d)) (VS v)
def nD (q : FVec Ideal S256x128 .bf16) (k : Vec Ideal S1x128x128 .bf16) (d : FVec Ideal S256x1 .f32) : FVec Ideal S256x1 .f32 := AddD d (TE (YE (ZE q (K2 k))))

/-- Two and three visits. -/
def A2 (q : FVec Ideal S256x128 .bf16) (k v k' v' : Vec Ideal S1x128x128 .bf16) : FVec Ideal S128x128 .f32 :=
  AddT (fA q k v) (nA q k' v' (fD q k))
def D2 (q : FVec Ideal S256x128 .bf16) (k k' : Vec Ideal S1x128x128 .bf16) : FVec Ideal S256x1 .f32 := nD q k' (fD q k)
def A3 (q : FVec Ideal S256x128 .bf16) (k v k' v' k'' v'' : Vec Ideal S1x128x128 .bf16) : FVec Ideal S128x128 .f32 :=
  AddT (A2 q k v k' v') (nA q k'' v'' (D2 q k k'))
def D3 (q : FVec Ideal S256x128 .bf16) (k k' k'' : Vec Ideal S1x128x128 .bf16) : FVec Ideal S256x1 .f32 := nD q k'' (D2 q k k')

variable (x0 : Vec Ideal S1x512x128 .bf16) (x1 x2 : Vec Ideal S1x8192x128 .bf16)

theorem eb1_v144 : b1_v144 x0 x1 x2 = (VS (b1_v139 x0 x1 x2)) :=
  p21 ..
theorem eb1_v150 : b1_v150 x0 x1 x2 = (VS (b1_v145 x0 x1 x2)) :=
  p22 ..
theorem eb1_v156 : b1_v156 x0 x1 x2 = (VS (b1_v151 x0 x1 x2)) :=
  p23 ..
theorem eb1_v162 : b1_v162 x0 x1 x2 = (VS (b1_v157 x0 x1 x2)) :=
  p24 ..
theorem eb1_v170 : b1_v170 x0 x1 x2 = (VS (b1_v165 x0 x1 x2)) :=
  p26 ..
theorem eb1_v178 : b1_v178 x0 x1 x2 = (VS (b1_v173 x0 x1 x2)) :=
  p28 ..
theorem eb1_v186 : b1_v186 x0 x1 x2 = (VS (b1_v181 x0 x1 x2)) :=
  p29 ..
theorem eb1_v194 : b1_v194 x0 x1 x2 = (VS (b1_v189 x0 x1 x2)) :=
  p30 ..
theorem eb1_v195 : b1_v195 x0 x1 x2 = (ZE (b1_v162 x0 x1 x2) (K2 (b1_v163 x0 x1 x2))) :=
  p31 ..
theorem eb1_v198 : b1_v198 x0 x1 x2 = (ZE (b1_v156 x0 x1 x2) (K2 (b1_v171 x0 x1 x2))) :=
  p33 ..
theorem eb1_v199 : b1_v199 x0 x1 x2 = (ZE (b1_v162 x0 x1 x2) (K2 (b1_v171 x0 x1 x2))) :=
  p34 ..
theorem eb1_v202 : b1_v202 x0 x1 x2 = (ZE (b1_v150 x0 x1 x2) (K2 (b1_v179 x0 x1 x2))) :=
  p36 ..
theorem eb1_v203 : b1_v203 x0 x1 x2 = (ZE (b1_v156 x0 x1 x2) (K2 (b1_v179 x0 x1 x2))) :=
  p37 ..
theorem eb1_v204 : b1_v204 x0 x1 x2 = (ZE (b1_v162 x0 x1 x2) (K2 (b1_v179 x0 x1 x2))) :=
  p38 ..
theorem eb1_v207 : b1_v207 x0 x1 x2 = (ZE (b1_v144 x0 x1 x2) (K2 (b1_v187 x0 x1 x2))) :=
  p40 ..
theorem eb1_v208 : b1_v208 x0 x1 x2 = (ZE (b1_v150 x0 x1 x2) (K2 (b1_v187 x0 x1 x2))) :=
  p41 ..
theorem eb1_v209 : b1_v209 x0 x1 x2 = (ZE (b1_v156 x0 x1 x2) (K2 (b1_v187 x0 x1 x2))) :=
  p42 ..
theorem eb1_v221 : b1_v221 x0 x1 x2 = (YmE (b1_v195 x0 x1 x2)) :=
  p43 ..
theorem eb1_v233 : b1_v233 x0 x1 x2 = (YmE (b1_v198 x0 x1 x2)) :=
  p44 ..
theorem eb1_v243 : b1_v243 x0 x1 x2 = (YE (b1_v199 x0 x1 x2)) :=
  p45 ..
theorem eb1_v255 : b1_v255 x0 x1 x2 = (YmE (b1_v202 x0 x1 x2)) :=
  p46 ..
theorem eb1_v265 : b1_v265 x0 x1 x2 = (YE (b1_v203 x0 x1 x2)) :=
  p47 ..
theorem eb1_v275 : b1_v275 x0 x1 x2 = (YE (b1_v204 x0 x1 x2)) :=
  p48 ..
theorem eb1_v287 : b1_v287 x0 x1 x2 = (YmE (b1_v207 x0 x1 x2)) :=
  p49 ..
theorem eb1_v297 : b1_v297 x0 x1 x2 = (YE (b1_v208 x0 x1 x2)) :=
  p50 ..
theorem eb1_v307 : b1_v307 x0 x1 x2 = (YE (b1_v209 x0 x1 x2)) :=
  p53 ..
theorem eb1_v355 : b1_v355 x0 x1 x2 = (LE (b1_v221 x0 x1 x2)) :=
  p55 ..
theorem eb1_v356 : b1_v356 x0 x1 x2 = (LE (b1_v233 x0 x1 x2)) :=
  p56 ..
theorem eb1_v357 : b1_v357 x0 x1 x2 = (LE (b1_v243 x0 x1 x2)) :=
  p57 ..
theorem eb1_v358 : b1_v358 x0 x1 x2 = (LE (b1_v255 x0 x1 x2)) :=
  p58 ..
theorem eb1_v359 : b1_v359 x0 x1 x2 = (LE (b1_v265 x0 x1 x2)) :=
  p59 ..
theorem eb1_v360 : b1_v360 x0 x1 x2 = (LE (b1_v275 x0 x1 x2)) :=
  p60 ..
theorem eb1_v363 : b1_v363 x0 x1 x2 = (LE (YE (b1_v209 x0 x1 x2))) :=
  p61 ..
theorem eb1_v365 : b1_v365 x0 x1 x2 = (TE (b1_v221 x0 x1 x2)) :=
  p62 ..
theorem eb1_v367 : b1_v367 x0 x1 x2 = (TE (b1_v233 x0 x1 x2)) :=
  p63 ..
theorem eb1_v369 : b1_v369 x0 x1 x2 = (TE (b1_v243 x0 x1 x2)) :=
  p64 ..
theorem eb1_v371 : b1_v371 x0 x1 x2 = (TE (b1_v255 x0 x1 x2)) :=
  p65 ..
theorem eb1_v373 : b1_v373 x0 x1 x2 = (TE (b1_v265 x0 x1 x2)) :=
  p66 ..
theorem eb1_v375 : b1_v375 x0 x1 x2 = (TE (b1_v275 x0 x1 x2)) :=
  p67 ..
theorem eb1_v377 : b1_v377 x0 x1 x2 = (TE (b1_v287 x0 x1 x2)) :=
  p68 ..
theorem eb1_v379 : b1_v379 x0 x1 x2 = (TE (b1_v297 x0 x1 x2)) :=
  p69 ..
theorem eb1_v381 : b1_v381 x0 x1 x2 = (TE (b1_v307 x0 x1 x2)) :=
  p70 ..
theorem eb1_v390 : b1_v390 x0 x1 x2 = (Wide (WmE (b1_v207 x0 x1 x2) (b1_v287 x0 x1 x2) (LE (b1_v287 x0 x1 x2)))) :=
  p71 ..
theorem eb1_v399 : b1_v399 x0 x1 x2 = (Wide (WmE (b1_v202 x0 x1 x2) (b1_v255 x0 x1 x2) (b1_v358 x0 x1 x2))) :=
  p72 ..
theorem eb1_v408 : b1_v408 x0 x1 x2 = (Wide (WdE (b1_v208 x0 x1 x2) (b1_v297 x0 x1 x2) (LE (b1_v297 x0 x1 x2)) (TE (b1_v255 x0 x1 x2)))) :=
  p76 ..
theorem eb1_v409 : b1_v409 x0 x1 x2 = (AddD (b1_v371 x0 x1 x2) (b1_v379 x0 x1 x2)) :=
  p77 ..
theorem eb1_v418 : b1_v418 x0 x1 x2 = (Wide (WmE (b1_v198 x0 x1 x2) (b1_v233 x0 x1 x2) (b1_v356 x0 x1 x2))) :=
  p78 ..
theorem eb1_v427 : b1_v427 x0 x1 x2 = (Wide (WdE (b1_v203 x0 x1 x2) (b1_v265 x0 x1 x2) (b1_v359 x0 x1 x2) (b1_v367 x0 x1 x2))) :=
  p79 ..
theorem eb1_v437 : b1_v437 x0 x1 x2 = (Wide (WdE (b1_v209 x0 x1 x2) (b1_v307 x0 x1 x2) (b1_v363 x0 x1 x2) (AddD (b1_v367 x0 x1 x2) (b1_v373 x0 x1 x2)))) :=
  p81 ..
theorem eb1_v438 : b1_v438 x0 x1 x2 = (AddD (AddD (b1_v367 x0 x1 x2) (b1_v373 x0 x1 x2)) (b1_v381 x0 x1 x2)) :=
  p82 ..
theorem eb1_v447 : b1_v447 x0 x1 x2 = (Wide (WmE (b1_v195 x0 x1 x2) (b1_v221 x0 x1 x2) (b1_v355 x0 x1 x2))) :=
  p83 ..
theorem eb1_v456 : b1_v456 x0 x1 x2 = (Wide (WdE (b1_v199 x0 x1 x2) (b1_v243 x0 x1 x2) (b1_v357 x0 x1 x2) (b1_v365 x0 x1 x2))) :=
  p84 ..
theorem eb1_v457 : b1_v457 x0 x1 x2 = (AddD (b1_v365 x0 x1 x2) (b1_v369 x0 x1 x2)) :=
  p85 ..
theorem eb1_v467 : b1_v467 x0 x1 x2 = (AddD (b1_v457 x0 x1 x2) (b1_v375 x0 x1 x2)) :=
  p89 ..
theorem eb1_v480 : b1_v480 x0 x1 x2 = (AddT (AddT (CE (b1_v447 x0 x1 x2) (b1_v170 x0 x1 x2)) (CE (b1_v456 x0 x1 x2) (b1_v178 x0 x1 x2))) (CE (Wide (WdE (b1_v204 x0 x1 x2) (b1_v275 x0 x1 x2) (b1_v360 x0 x1 x2) (AddD (b1_v365 x0 x1 x2) (b1_v369 x0 x1 x2)))) (b1_v186 x0 x1 x2))) :=
  p92 ..
theorem eb1_v502 : b1_v502 x0 x1 x2 = (UpA (AddT (AddT (CE (b1_v418 x0 x1 x2) (b1_v178 x0 x1 x2)) (CE (b1_v427 x0 x1 x2) (b1_v186 x0 x1 x2))) (CE (b1_v437 x0 x1 x2) (b1_v194 x0 x1 x2)))) :=
  p98 ..
theorem eb1_A0 : b1_A x0 x1 x2 0 = (UpA (CE (b1_v390 x0 x1 x2) (b1_v194 x0 x1 x2))) :=
  p94 (b1_v194 x0 x1 x2) (b1_v390 x0 x1 x2) (b1_v408 x0 x1 x2) (b1_v437 x0 x1 x2)
theorem eb1_A1 : b1_A x0 x1 x2 1 = (UpA (AddT (CE (b1_v399 x0 x1 x2) (b1_v186 x0 x1 x2)) (CE (b1_v408 x0 x1 x2) (b1_v194 x0 x1 x2)))) :=
  p96 (b1_v186 x0 x1 x2) (b1_v194 x0 x1 x2) (b1_v390 x0 x1 x2) (b1_v399 x0 x1 x2) (b1_v408 x0 x1 x2) (b1_v427 x0 x1 x2) (b1_v437 x0 x1 x2) (b1_v204 x0 x1 x2) (b1_v275 x0 x1 x2) (b1_v360 x0 x1 x2) (b1_v365 x0 x1 x2) (b1_v369 x0 x1 x2)
theorem eb1_A2 : b1_A x0 x1 x2 2 = b1_v502 x0 x1 x2 := rfl
theorem eb1_A3 : b1_A x0 x1 x2 3 = (UpA (b1_v480 x0 x1 x2)) :=
  p214 (b1_v480 x0 x1 x2)
theorem eb1_D0 : b1_D x0 x1 x2 0 = (UpD (b1_v377 x0 x1 x2)) :=
  p95 (b1_v377 x0 x1 x2)
theorem eb1_D1 : b1_D x0 x1 x2 1 = (UpD (b1_v409 x0 x1 x2)) :=
  p97 (b1_v409 x0 x1 x2)
theorem eb1_D2 : b1_D x0 x1 x2 2 = (UpD (b1_v438 x0 x1 x2)) :=
  p213 (b1_v438 x0 x1 x2)
theorem eb1_D3 : b1_D x0 x1 x2 3 = (UpD (b1_v467 x0 x1 x2)) :=
  p215 (b1_v467 x0 x1 x2)
theorem b1_A0 : b1_A x0 x1 x2 0 = UpA (fA (VS (qblk x0 0)) (kvblk x1 0) (kvblk x2 0)) := by
  rw [eb1_A0]
  simp only [eb1_v144, eb1_v150, eb1_v156, eb1_v162, eb1_v170, eb1_v178, eb1_v186, eb1_v194, eb1_v195, eb1_v198, eb1_v199, eb1_v202, eb1_v203, eb1_v204, eb1_v207, eb1_v208, eb1_v209, eb1_v221, eb1_v233, eb1_v243, eb1_v255, eb1_v265, eb1_v275, eb1_v287, eb1_v297, eb1_v307, eb1_v355, eb1_v356, eb1_v357, eb1_v358, eb1_v359, eb1_v360, eb1_v363, eb1_v365, eb1_v367, eb1_v369, eb1_v371, eb1_v373, eb1_v375, eb1_v377, eb1_v379, eb1_v381, eb1_v390, eb1_v399, eb1_v408, eb1_v409, eb1_v418, eb1_v427, eb1_v437, eb1_v438, eb1_v447, eb1_v456, eb1_v457, eb1_v467, eb1_v480, eb1_v502, b1_v139, b1_v145, b1_v151, b1_v157, b1_v163, b1_v165, b1_v171, b1_v173, b1_v179, b1_v181, b1_v187, b1_v189]
  try rfl
theorem b1_D0 : b1_D x0 x1 x2 0 = UpD (fD (VS (qblk x0 0)) (kvblk x1 0)) := by
  rw [eb1_D0]
  simp only [eb1_v144, eb1_v150, eb1_v156, eb1_v162, eb1_v170, eb1_v178, eb1_v186, eb1_v194, eb1_v195, eb1_v198, eb1_v199, eb1_v202, eb1_v203, eb1_v204, eb1_v207, eb1_v208, eb1_v209, eb1_v221, eb1_v233, eb1_v243, eb1_v255, eb1_v265, eb1_v275, eb1_v287, eb1_v297, eb1_v307, eb1_v355, eb1_v356, eb1_v357, eb1_v358, eb1_v359, eb1_v360, eb1_v363, eb1_v365, eb1_v367, eb1_v369, eb1_v371, eb1_v373, eb1_v375, eb1_v377, eb1_v379, eb1_v381, eb1_v390, eb1_v399, eb1_v408, eb1_v409, eb1_v418, eb1_v427, eb1_v437, eb1_v438, eb1_v447, eb1_v456, eb1_v457, eb1_v467, eb1_v480, eb1_v502, b1_v139, b1_v145, b1_v151, b1_v157, b1_v163, b1_v165, b1_v171, b1_v173, b1_v179, b1_v181, b1_v187, b1_v189]
  try rfl
theorem b1_A1 : b1_A x0 x1 x2 1 = UpA (A2 (VS (qblk x0 1)) (kvblk x1 1) (kvblk x2 1) (kvblk x1 0) (kvblk x2 0)) := by
  rw [eb1_A1]
  simp only [eb1_v144, eb1_v150, eb1_v156, eb1_v162, eb1_v170, eb1_v178, eb1_v186, eb1_v194, eb1_v195, eb1_v198, eb1_v199, eb1_v202, eb1_v203, eb1_v204, eb1_v207, eb1_v208, eb1_v209, eb1_v221, eb1_v233, eb1_v243, eb1_v255, eb1_v265, eb1_v275, eb1_v287, eb1_v297, eb1_v307, eb1_v355, eb1_v356, eb1_v357, eb1_v358, eb1_v359, eb1_v360, eb1_v363, eb1_v365, eb1_v367, eb1_v369, eb1_v371, eb1_v373, eb1_v375, eb1_v377, eb1_v379, eb1_v381, eb1_v390, eb1_v399, eb1_v408, eb1_v409, eb1_v418, eb1_v427, eb1_v437, eb1_v438, eb1_v447, eb1_v456, eb1_v457, eb1_v467, eb1_v480, eb1_v502, b1_v139, b1_v145, b1_v151, b1_v157, b1_v163, b1_v165, b1_v171, b1_v173, b1_v179, b1_v181, b1_v187, b1_v189]
  try rfl
theorem b1_D1 : b1_D x0 x1 x2 1 = UpD (D2 (VS (qblk x0 1)) (kvblk x1 1) (kvblk x1 0)) := by
  rw [eb1_D1]
  simp only [eb1_v144, eb1_v150, eb1_v156, eb1_v162, eb1_v170, eb1_v178, eb1_v186, eb1_v194, eb1_v195, eb1_v198, eb1_v199, eb1_v202, eb1_v203, eb1_v204, eb1_v207, eb1_v208, eb1_v209, eb1_v221, eb1_v233, eb1_v243, eb1_v255, eb1_v265, eb1_v275, eb1_v287, eb1_v297, eb1_v307, eb1_v355, eb1_v356, eb1_v357, eb1_v358, eb1_v359, eb1_v360, eb1_v363, eb1_v365, eb1_v367, eb1_v369, eb1_v371, eb1_v373, eb1_v375, eb1_v377, eb1_v379, eb1_v381, eb1_v390, eb1_v399, eb1_v408, eb1_v409, eb1_v418, eb1_v427, eb1_v437, eb1_v438, eb1_v447, eb1_v456, eb1_v457, eb1_v467, eb1_v480, eb1_v502, b1_v139, b1_v145, b1_v151, b1_v157, b1_v163, b1_v165, b1_v171, b1_v173, b1_v179, b1_v181, b1_v187, b1_v189]
  try rfl
theorem b1_A2 : b1_A x0 x1 x2 2 = UpA (A3 (VS (qblk x0 2)) (kvblk x1 2) (kvblk x2 2) (kvblk x1 1) (kvblk x2 1) (kvblk x1 0) (kvblk x2 0)) := by
  rw [eb1_A2]
  simp only [eb1_v144, eb1_v150, eb1_v156, eb1_v162, eb1_v170, eb1_v178, eb1_v186, eb1_v194, eb1_v195, eb1_v198, eb1_v199, eb1_v202, eb1_v203, eb1_v204, eb1_v207, eb1_v208, eb1_v209, eb1_v221, eb1_v233, eb1_v243, eb1_v255, eb1_v265, eb1_v275, eb1_v287, eb1_v297, eb1_v307, eb1_v355, eb1_v356, eb1_v357, eb1_v358, eb1_v359, eb1_v360, eb1_v363, eb1_v365, eb1_v367, eb1_v369, eb1_v371, eb1_v373, eb1_v375, eb1_v377, eb1_v379, eb1_v381, eb1_v390, eb1_v399, eb1_v408, eb1_v409, eb1_v418, eb1_v427, eb1_v437, eb1_v438, eb1_v447, eb1_v456, eb1_v457, eb1_v467, eb1_v480, eb1_v502, b1_v139, b1_v145, b1_v151, b1_v157, b1_v163, b1_v165, b1_v171, b1_v173, b1_v179, b1_v181, b1_v187, b1_v189]
  try rfl
theorem b1_D2 : b1_D x0 x1 x2 2 = UpD (D3 (VS (qblk x0 2)) (kvblk x1 2) (kvblk x1 1) (kvblk x1 0)) := by
  rw [eb1_D2]
  simp only [eb1_v144, eb1_v150, eb1_v156, eb1_v162, eb1_v170, eb1_v178, eb1_v186, eb1_v194, eb1_v195, eb1_v198, eb1_v199, eb1_v202, eb1_v203, eb1_v204, eb1_v207, eb1_v208, eb1_v209, eb1_v221, eb1_v233, eb1_v243, eb1_v255, eb1_v265, eb1_v275, eb1_v287, eb1_v297, eb1_v307, eb1_v355, eb1_v356, eb1_v357, eb1_v358, eb1_v359, eb1_v360, eb1_v363, eb1_v365, eb1_v367, eb1_v369, eb1_v371, eb1_v373, eb1_v375, eb1_v377, eb1_v379, eb1_v381, eb1_v390, eb1_v399, eb1_v408, eb1_v409, eb1_v418, eb1_v427, eb1_v437, eb1_v438, eb1_v447, eb1_v456, eb1_v457, eb1_v467, eb1_v480, eb1_v502, b1_v139, b1_v145, b1_v151, b1_v157, b1_v163, b1_v165, b1_v171, b1_v173, b1_v179, b1_v181, b1_v187, b1_v189]
  try rfl
theorem b1_A3 : b1_A x0 x1 x2 3 = UpA (A3 (VS (qblk x0 3)) (kvblk x1 3) (kvblk x2 3) (kvblk x1 2) (kvblk x2 2) (kvblk x1 1) (kvblk x2 1)) := by
  rw [eb1_A3]
  simp only [eb1_v144, eb1_v150, eb1_v156, eb1_v162, eb1_v170, eb1_v178, eb1_v186, eb1_v194, eb1_v195, eb1_v198, eb1_v199, eb1_v202, eb1_v203, eb1_v204, eb1_v207, eb1_v208, eb1_v209, eb1_v221, eb1_v233, eb1_v243, eb1_v255, eb1_v265, eb1_v275, eb1_v287, eb1_v297, eb1_v307, eb1_v355, eb1_v356, eb1_v357, eb1_v358, eb1_v359, eb1_v360, eb1_v363, eb1_v365, eb1_v367, eb1_v369, eb1_v371, eb1_v373, eb1_v375, eb1_v377, eb1_v379, eb1_v381, eb1_v390, eb1_v399, eb1_v408, eb1_v409, eb1_v418, eb1_v427, eb1_v437, eb1_v438, eb1_v447, eb1_v456, eb1_v457, eb1_v467, eb1_v480, eb1_v502, b1_v139, b1_v145, b1_v151, b1_v157, b1_v163, b1_v165, b1_v171, b1_v173, b1_v179, b1_v181, b1_v187, b1_v189]
  try rfl
theorem b1_D3 : b1_D x0 x1 x2 3 = UpD (D3 (VS (qblk x0 3)) (kvblk x1 3) (kvblk x1 2) (kvblk x1 1)) := by
  rw [eb1_D3]
  simp only [eb1_v144, eb1_v150, eb1_v156, eb1_v162, eb1_v170, eb1_v178, eb1_v186, eb1_v194, eb1_v195, eb1_v198, eb1_v199, eb1_v202, eb1_v203, eb1_v204, eb1_v207, eb1_v208, eb1_v209, eb1_v221, eb1_v233, eb1_v243, eb1_v255, eb1_v265, eb1_v275, eb1_v287, eb1_v297, eb1_v307, eb1_v355, eb1_v356, eb1_v357, eb1_v358, eb1_v359, eb1_v360, eb1_v363, eb1_v365, eb1_v367, eb1_v369, eb1_v371, eb1_v373, eb1_v375, eb1_v377, eb1_v379, eb1_v381, eb1_v390, eb1_v399, eb1_v408, eb1_v409, eb1_v418, eb1_v427, eb1_v437, eb1_v438, eb1_v447, eb1_v456, eb1_v457, eb1_v467, eb1_v480, eb1_v502, b1_v139, b1_v145, b1_v151, b1_v157, b1_v163, b1_v165, b1_v171, b1_v173, b1_v179, b1_v181, b1_v187, b1_v189]
  try rfl

end Cert.KernelIdeal.Att
end
-- ==== Proof.Val4b.lean ====
/- The unrolled visits of later queries in terms of single visits. -/
module

public import proofs.«01_k».proof.Proof.Val4a
public import proofs.«01_k».proof.Proof.Val3b
public import proofs.«01_k».proof.Proof.Val3c
public import proofs.«01_k».proof.Proof.Val3d

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

set_option maxHeartbeats 4000000

variable (x0 : Vec Ideal S1x512x128 .bf16) (x1 x2 : Vec Ideal S1x8192x128 .bf16)

theorem eb2_v145 (n : ℕ) : b2_v145 x0 x1 x2 n = (VS (b2_v140 x0 x1 x2 n)) :=
  p99 ..
theorem eb2_v151 (n : ℕ) : b2_v151 x0 x1 x2 n = (VS (b2_v146 x0 x1 x2 n)) :=
  p100 ..
theorem eb2_v157 (n : ℕ) : b2_v157 x0 x1 x2 n = (VS (b2_v152 x0 x1 x2 n)) :=
  p101 ..
theorem eb2_v163 (n : ℕ) : b2_v163 x0 x1 x2 n = (VS (b2_v158 x0 x1 x2 n)) :=
  p102 ..
theorem eb2_v176 (n : ℕ) : b2_v176 x0 x1 x2 n = (VS (b2_v171 x0 x1 x2 n)) :=
  p107 ..
theorem eb2_v189 (n : ℕ) : b2_v189 x0 x1 x2 n = (VS (b2_v184 x0 x1 x2 n)) :=
  p109 ..
theorem eb2_v202 (n : ℕ) : b2_v202 x0 x1 x2 n = (VS (b2_v197 x0 x1 x2 n)) :=
  p111 ..
theorem eb2_v215 (n : ℕ) : b2_v215 x0 x1 x2 n = (VS (b2_v210 x0 x1 x2 n)) :=
  p116 ..
theorem eb2_v228 (n : ℕ) : b2_v228 x0 x1 x2 n = (VS (b2_v223 x0 x1 x2 n)) :=
  p118 ..
theorem eb2_v241 (n : ℕ) : b2_v241 x0 x1 x2 n = (VS (b2_v236 x0 x1 x2 n)) :=
  p120 ..
theorem eb2_v242 (n : ℕ) : b2_v242 x0 x1 x2 n = (ZE (b2_v163 x0 x1 x2 n) (K2 (b2_v168 x0 x1 x2 n))) :=
  p121 ..
theorem eb2_v245 (n : ℕ) : b2_v245 x0 x1 x2 n = (ZE (b2_v157 x0 x1 x2 n) (K2 (b2_v181 x0 x1 x2 n))) :=
  p123 ..
theorem eb2_v246 (n : ℕ) : b2_v246 x0 x1 x2 n = (ZE (b2_v163 x0 x1 x2 n) (K2 (b2_v181 x0 x1 x2 n))) :=
  p124 ..
theorem eb2_v249 (n : ℕ) : b2_v249 x0 x1 x2 n = (ZE (b2_v151 x0 x1 x2 n) (K2 (b2_v194 x0 x1 x2 n))) :=
  p126 ..
theorem eb2_v250 (n : ℕ) : b2_v250 x0 x1 x2 n = (ZE (b2_v157 x0 x1 x2 n) (K2 (b2_v194 x0 x1 x2 n))) :=
  p127 ..
theorem eb2_v251 (n : ℕ) : b2_v251 x0 x1 x2 n = (ZE (b2_v163 x0 x1 x2 n) (K2 (b2_v194 x0 x1 x2 n))) :=
  p128 ..
theorem eb2_v254 (n : ℕ) : b2_v254 x0 x1 x2 n = (ZE (b2_v145 x0 x1 x2 n) (K2 (b2_v207 x0 x1 x2 n))) :=
  p130 ..
theorem eb2_v255 (n : ℕ) : b2_v255 x0 x1 x2 n = (ZE (b2_v151 x0 x1 x2 n) (K2 (b2_v207 x0 x1 x2 n))) :=
  p131 ..
theorem eb2_v256 (n : ℕ) : b2_v256 x0 x1 x2 n = (ZE (b2_v157 x0 x1 x2 n) (K2 (b2_v207 x0 x1 x2 n))) :=
  p132 ..
theorem eb2_v259 (n : ℕ) : b2_v259 x0 x1 x2 n = (ZE (b2_v145 x0 x1 x2 n) (K2 (b2_v220 x0 x1 x2 n))) :=
  p134 ..
theorem eb2_v260 (n : ℕ) : b2_v260 x0 x1 x2 n = (ZE (b2_v151 x0 x1 x2 n) (K2 (b2_v220 x0 x1 x2 n))) :=
  p135 ..
theorem eb2_v261 (n : ℕ) : b2_v261 x0 x1 x2 n = (ZE (b2_v145 x0 x1 x2 n) (K2 (b2_v233 x0 x1 x2 n))) :=
  p136 ..
theorem eb2_v273 (n : ℕ) : b2_v273 x0 x1 x2 n = (YmE (b2_v242 x0 x1 x2 n)) :=
  p137 ..
theorem eb2_v285 (n : ℕ) : b2_v285 x0 x1 x2 n = (YmE (b2_v245 x0 x1 x2 n)) :=
  p138 ..
theorem eb2_v295 (n : ℕ) : b2_v295 x0 x1 x2 n = (YE (b2_v246 x0 x1 x2 n)) :=
  p139 ..
theorem eb2_v307 (n : ℕ) : b2_v307 x0 x1 x2 n = (YmE (b2_v249 x0 x1 x2 n)) :=
  p142 ..
theorem eb2_v317 (n : ℕ) : b2_v317 x0 x1 x2 n = (YE (b2_v250 x0 x1 x2 n)) :=
  p143 ..
theorem eb2_v327 (n : ℕ) : b2_v327 x0 x1 x2 n = (YE (b2_v251 x0 x1 x2 n)) :=
  p144 ..
theorem eb2_v339 (n : ℕ) : b2_v339 x0 x1 x2 n = (YmE (b2_v254 x0 x1 x2 n)) :=
  p145 ..
theorem eb2_v349 (n : ℕ) : b2_v349 x0 x1 x2 n = (YE (b2_v255 x0 x1 x2 n)) :=
  p148 ..
theorem eb2_v359 (n : ℕ) : b2_v359 x0 x1 x2 n = (YE (b2_v256 x0 x1 x2 n)) :=
  p149 ..
theorem eb2_v369 (n : ℕ) : b2_v369 x0 x1 x2 n = (YE (b2_v259 x0 x1 x2 n)) :=
  p150 ..
theorem eb2_v379 (n : ℕ) : b2_v379 x0 x1 x2 n = (YE (b2_v260 x0 x1 x2 n)) :=
  p151 ..
theorem eb2_v389 (n : ℕ) : b2_v389 x0 x1 x2 n = (YE (b2_v261 x0 x1 x2 n)) :=
  p152 ..
theorem eb2_v452 (n : ℕ) : b2_v452 x0 x1 x2 n = (LE (b2_v273 x0 x1 x2 n)) :=
  p156 ..
theorem eb2_v453 (n : ℕ) : b2_v453 x0 x1 x2 n = (LE (b2_v285 x0 x1 x2 n)) :=
  p157 ..
theorem eb2_v454 (n : ℕ) : b2_v454 x0 x1 x2 n = (LE (b2_v295 x0 x1 x2 n)) :=
  p158 ..
theorem eb2_v455 (n : ℕ) : b2_v455 x0 x1 x2 n = (LE (b2_v307 x0 x1 x2 n)) :=
  p159 ..
theorem eb2_v456 (n : ℕ) : b2_v456 x0 x1 x2 n = (LE (b2_v317 x0 x1 x2 n)) :=
  p160 ..
theorem eb2_v457 (n : ℕ) : b2_v457 x0 x1 x2 n = (LE (b2_v327 x0 x1 x2 n)) :=
  p161 ..
theorem eb2_v459 (n : ℕ) : b2_v459 x0 x1 x2 n = (LE (b2_v349 x0 x1 x2 n)) :=
  p162 ..
theorem eb2_v460 (n : ℕ) : b2_v460 x0 x1 x2 n = (LE (b2_v359 x0 x1 x2 n)) :=
  p163 ..
theorem eb2_v462 (n : ℕ) : b2_v462 x0 x1 x2 n = (LE (b2_v379 x0 x1 x2 n)) :=
  p164 ..
theorem eb2_v463 (n : ℕ) : b2_v463 x0 x1 x2 n = (LE (b2_v389 x0 x1 x2 n)) :=
  p165 ..
theorem eb2_v465 (n : ℕ) : b2_v465 x0 x1 x2 n = (TE (b2_v273 x0 x1 x2 n)) :=
  p166 ..
theorem eb2_v467 (n : ℕ) : b2_v467 x0 x1 x2 n = (TE (b2_v285 x0 x1 x2 n)) :=
  p167 ..
theorem eb2_v469 (n : ℕ) : b2_v469 x0 x1 x2 n = (TE (b2_v295 x0 x1 x2 n)) :=
  p168 ..
theorem eb2_v471 (n : ℕ) : b2_v471 x0 x1 x2 n = (TE (b2_v307 x0 x1 x2 n)) :=
  p169 ..
theorem eb2_v473 (n : ℕ) : b2_v473 x0 x1 x2 n = (TE (b2_v317 x0 x1 x2 n)) :=
  p170 ..
theorem eb2_v475 (n : ℕ) : b2_v475 x0 x1 x2 n = (TE (b2_v327 x0 x1 x2 n)) :=
  p171 ..
theorem eb2_v477 (n : ℕ) : b2_v477 x0 x1 x2 n = (TE (b2_v339 x0 x1 x2 n)) :=
  p172 ..
theorem eb2_v479 (n : ℕ) : b2_v479 x0 x1 x2 n = (TE (b2_v349 x0 x1 x2 n)) :=
  p173 ..
theorem eb2_v481 (n : ℕ) : b2_v481 x0 x1 x2 n = (TE (b2_v359 x0 x1 x2 n)) :=
  p174 ..
theorem eb2_v483 (n : ℕ) : b2_v483 x0 x1 x2 n = (TE (b2_v369 x0 x1 x2 n)) :=
  p175 ..
theorem eb2_v485 (n : ℕ) : b2_v485 x0 x1 x2 n = (TE (b2_v379 x0 x1 x2 n)) :=
  p176 ..
theorem eb2_v487 (n : ℕ) : b2_v487 x0 x1 x2 n = (TE (b2_v389 x0 x1 x2 n)) :=
  p177 ..
theorem eb2_v496 (n : ℕ) : b2_v496 x0 x1 x2 n = (Wide (WmE (b2_v254 x0 x1 x2 n) (b2_v339 x0 x1 x2 n) (LE (b2_v339 x0 x1 x2 n)))) :=
  p178 ..
theorem eb2_v505 (n : ℕ) : b2_v505 x0 x1 x2 n = (Wide (WdE (b2_v259 x0 x1 x2 n) (b2_v369 x0 x1 x2 n) (LE (b2_v369 x0 x1 x2 n)) (TE (b2_v339 x0 x1 x2 n)))) :=
  p180 ..
theorem eb2_v515 (n : ℕ) : b2_v515 x0 x1 x2 n = (Wide (WdE (b2_v261 x0 x1 x2 n) (b2_v389 x0 x1 x2 n) (b2_v463 x0 x1 x2 n) (AddD (b2_v477 x0 x1 x2 n) (b2_v483 x0 x1 x2 n)))) :=
  p182 ..
theorem eb2_v516 (n : ℕ) : b2_v516 x0 x1 x2 n = (AddD (AddD (b2_v477 x0 x1 x2 n) (b2_v483 x0 x1 x2 n)) (b2_v487 x0 x1 x2 n)) :=
  p183 ..
theorem eb2_v525 (n : ℕ) : b2_v525 x0 x1 x2 n = (Wide (WmE (b2_v249 x0 x1 x2 n) (b2_v307 x0 x1 x2 n) (b2_v455 x0 x1 x2 n))) :=
  p184 ..
theorem eb2_v534 (n : ℕ) : b2_v534 x0 x1 x2 n = (Wide (WdE (b2_v255 x0 x1 x2 n) (b2_v349 x0 x1 x2 n) (b2_v459 x0 x1 x2 n) (b2_v471 x0 x1 x2 n))) :=
  p185 ..
theorem eb2_v544 (n : ℕ) : b2_v544 x0 x1 x2 n = (Wide (WdE (b2_v260 x0 x1 x2 n) (b2_v379 x0 x1 x2 n) (b2_v462 x0 x1 x2 n) (AddD (b2_v471 x0 x1 x2 n) (b2_v479 x0 x1 x2 n)))) :=
  p187 ..
theorem eb2_v545 (n : ℕ) : b2_v545 x0 x1 x2 n = (AddD (AddD (b2_v471 x0 x1 x2 n) (b2_v479 x0 x1 x2 n)) (b2_v485 x0 x1 x2 n)) :=
  p188 ..
theorem eb2_v554 (n : ℕ) : b2_v554 x0 x1 x2 n = (Wide (WmE (b2_v245 x0 x1 x2 n) (b2_v285 x0 x1 x2 n) (b2_v453 x0 x1 x2 n))) :=
  p189 ..
theorem eb2_v573 (n : ℕ) : b2_v573 x0 x1 x2 n = (Wide (WdE (b2_v256 x0 x1 x2 n) (b2_v359 x0 x1 x2 n) (b2_v460 x0 x1 x2 n) (AddD (b2_v467 x0 x1 x2 n) (b2_v473 x0 x1 x2 n)))) :=
  p192 ..
theorem eb2_v574 (n : ℕ) : b2_v574 x0 x1 x2 n = (AddD (AddD (b2_v467 x0 x1 x2 n) (b2_v473 x0 x1 x2 n)) (b2_v481 x0 x1 x2 n)) :=
  p193 ..
theorem eb2_v603 (n : ℕ) : b2_v603 x0 x1 x2 n = (AddD (AddD (b2_v465 x0 x1 x2 n) (b2_v469 x0 x1 x2 n)) (b2_v475 x0 x1 x2 n)) :=
  p195 ..
theorem eb2_v607 (n : ℕ) : b2_v607 x0 x1 x2 n = (CE (b2_v554 x0 x1 x2 n) (b2_v189 x0 x1 x2 n)) :=
  p197 ..
theorem eb2_v609 (n : ℕ) : b2_v609 x0 x1 x2 n = (AddT (CE (Wide (WmE (b2_v242 x0 x1 x2 n) (b2_v273 x0 x1 x2 n) (b2_v452 x0 x1 x2 n))) (b2_v176 x0 x1 x2 n)) (CE (Wide (WdE (b2_v246 x0 x1 x2 n) (b2_v295 x0 x1 x2 n) (b2_v454 x0 x1 x2 n) (b2_v465 x0 x1 x2 n))) (b2_v189 x0 x1 x2 n))) :=
  p198 ..
theorem eb2_v612 (n : ℕ) : b2_v612 x0 x1 x2 n = (CE (b2_v525 x0 x1 x2 n) (b2_v202 x0 x1 x2 n)) :=
  p200 ..
theorem eb2_v613 (n : ℕ) : b2_v613 x0 x1 x2 n = (CE (Wide (WdE (b2_v250 x0 x1 x2 n) (b2_v317 x0 x1 x2 n) (b2_v456 x0 x1 x2 n) (b2_v467 x0 x1 x2 n))) (b2_v202 x0 x1 x2 n)) :=
  p201 ..
theorem eb2_v616 (n : ℕ) : b2_v616 x0 x1 x2 n = (AddT (b2_v609 x0 x1 x2 n) (CE (Wide (WdE (b2_v251 x0 x1 x2 n) (b2_v327 x0 x1 x2 n) (b2_v457 x0 x1 x2 n) (AddD (b2_v465 x0 x1 x2 n) (b2_v469 x0 x1 x2 n)))) (b2_v202 x0 x1 x2 n))) :=
  p202 ..
theorem eb2_A0 (n : ℕ) : b2_A x0 x1 x2 n 0 = (UpA (AddT (AddT (CE (b2_v496 x0 x1 x2 n) (b2_v215 x0 x1 x2 n)) (CE (b2_v505 x0 x1 x2 n) (b2_v228 x0 x1 x2 n))) (CE (b2_v515 x0 x1 x2 n) (b2_v241 x0 x1 x2 n)))) :=
  p205 (b2_v215 x0 x1 x2 n) (b2_v228 x0 x1 x2 n) (b2_v241 x0 x1 x2 n) (b2_v496 x0 x1 x2 n) (b2_v505 x0 x1 x2 n) (b2_v515 x0 x1 x2 n) (b2_v534 x0 x1 x2 n) (b2_v544 x0 x1 x2 n) (b2_v573 x0 x1 x2 n)
theorem eb2_A1 (n : ℕ) : b2_A x0 x1 x2 n 1 = (UpA (AddT (AddT (b2_v612 x0 x1 x2 n) (CE (b2_v534 x0 x1 x2 n) (b2_v215 x0 x1 x2 n))) (CE (b2_v544 x0 x1 x2 n) (b2_v228 x0 x1 x2 n)))) :=
  p207 (b2_v215 x0 x1 x2 n) (b2_v228 x0 x1 x2 n) (b2_v496 x0 x1 x2 n) (b2_v505 x0 x1 x2 n) (b2_v534 x0 x1 x2 n) (b2_v544 x0 x1 x2 n) (b2_v573 x0 x1 x2 n) (b2_v612 x0 x1 x2 n)
theorem eb2_A2 (n : ℕ) : b2_A x0 x1 x2 n 2 = (UpA (AddT (AddT (b2_v607 x0 x1 x2 n) (b2_v613 x0 x1 x2 n)) (CE (b2_v573 x0 x1 x2 n) (b2_v215 x0 x1 x2 n)))) :=
  p209 (b2_v215 x0 x1 x2 n) (b2_v496 x0 x1 x2 n) (b2_v534 x0 x1 x2 n) (b2_v573 x0 x1 x2 n) (b2_v607 x0 x1 x2 n) (b2_v613 x0 x1 x2 n)
theorem eb2_A3 (n : ℕ) : b2_A x0 x1 x2 n 3 = (UpA (b2_v616 x0 x1 x2 n)) :=
  p217 (b2_v616 x0 x1 x2 n)
theorem eb2_D0 (n : ℕ) : b2_D x0 x1 x2 n 0 = (UpD (b2_v516 x0 x1 x2 n)) :=
  p206 (b2_v516 x0 x1 x2 n)
theorem eb2_D1 (n : ℕ) : b2_D x0 x1 x2 n 1 = (UpD (b2_v545 x0 x1 x2 n)) :=
  p208 (b2_v545 x0 x1 x2 n)
theorem eb2_D2 (n : ℕ) : b2_D x0 x1 x2 n 2 = (UpD (b2_v574 x0 x1 x2 n)) :=
  p216 (b2_v574 x0 x1 x2 n)
theorem eb2_D3 (n : ℕ) : b2_D x0 x1 x2 n 3 = (UpD (b2_v603 x0 x1 x2 n)) :=
  p218 (b2_v603 x0 x1 x2 n)
theorem b2_A0 (n : ℕ) : b2_A x0 x1 x2 n 0 = UpA (A3 (VS (qblk x0 0)) (kvblk x1 n) (kvblk x2 n) (kvblk x1 (n - 1)) (kvblk x2 (n - 1)) (kvblk x1 (n - 2)) (kvblk x2 (n - 2))) := by
  rw [eb2_A0]
  simp only [eb2_v145, eb2_v151, eb2_v157, eb2_v163, eb2_v176, eb2_v189, eb2_v202, eb2_v215, eb2_v228, eb2_v241, eb2_v242, eb2_v245, eb2_v246, eb2_v249, eb2_v250, eb2_v251, eb2_v254, eb2_v255, eb2_v256, eb2_v259, eb2_v260, eb2_v261, eb2_v273, eb2_v285, eb2_v295, eb2_v307, eb2_v317, eb2_v327, eb2_v339, eb2_v349, eb2_v359, eb2_v369, eb2_v379, eb2_v389, eb2_v452, eb2_v453, eb2_v454, eb2_v455, eb2_v456, eb2_v457, eb2_v459, eb2_v460, eb2_v462, eb2_v463, eb2_v465, eb2_v467, eb2_v469, eb2_v471, eb2_v473, eb2_v475, eb2_v477, eb2_v479, eb2_v481, eb2_v483, eb2_v485, eb2_v487, eb2_v496, eb2_v505, eb2_v515, eb2_v516, eb2_v525, eb2_v534, eb2_v544, eb2_v545, eb2_v554, eb2_v573, eb2_v574, eb2_v603, eb2_v607, eb2_v609, eb2_v612, eb2_v613, eb2_v616, b2_v140, b2_v146, b2_v152, b2_v158, b2_v168, b2_v171, b2_v181, b2_v184, b2_v194, b2_v197, b2_v207, b2_v210, b2_v220, b2_v223, b2_v233, b2_v236]
  try rfl
theorem b2_D0 (n : ℕ) : b2_D x0 x1 x2 n 0 = UpD (D3 (VS (qblk x0 0)) (kvblk x1 n) (kvblk x1 (n - 1)) (kvblk x1 (n - 2))) := by
  rw [eb2_D0]
  simp only [eb2_v145, eb2_v151, eb2_v157, eb2_v163, eb2_v176, eb2_v189, eb2_v202, eb2_v215, eb2_v228, eb2_v241, eb2_v242, eb2_v245, eb2_v246, eb2_v249, eb2_v250, eb2_v251, eb2_v254, eb2_v255, eb2_v256, eb2_v259, eb2_v260, eb2_v261, eb2_v273, eb2_v285, eb2_v295, eb2_v307, eb2_v317, eb2_v327, eb2_v339, eb2_v349, eb2_v359, eb2_v369, eb2_v379, eb2_v389, eb2_v452, eb2_v453, eb2_v454, eb2_v455, eb2_v456, eb2_v457, eb2_v459, eb2_v460, eb2_v462, eb2_v463, eb2_v465, eb2_v467, eb2_v469, eb2_v471, eb2_v473, eb2_v475, eb2_v477, eb2_v479, eb2_v481, eb2_v483, eb2_v485, eb2_v487, eb2_v496, eb2_v505, eb2_v515, eb2_v516, eb2_v525, eb2_v534, eb2_v544, eb2_v545, eb2_v554, eb2_v573, eb2_v574, eb2_v603, eb2_v607, eb2_v609, eb2_v612, eb2_v613, eb2_v616, b2_v140, b2_v146, b2_v152, b2_v158, b2_v168, b2_v171, b2_v181, b2_v184, b2_v194, b2_v197, b2_v207, b2_v210, b2_v220, b2_v223, b2_v233, b2_v236]
  try rfl
theorem b2_A1 (n : ℕ) : b2_A x0 x1 x2 n 1 = UpA (A3 (VS (qblk x0 1)) (kvblk x1 (n + 1)) (kvblk x2 (n + 1)) (kvblk x1 n) (kvblk x2 n) (kvblk x1 (n - 1)) (kvblk x2 (n - 1))) := by
  rw [eb2_A1]
  simp only [eb2_v145, eb2_v151, eb2_v157, eb2_v163, eb2_v176, eb2_v189, eb2_v202, eb2_v215, eb2_v228, eb2_v241, eb2_v242, eb2_v245, eb2_v246, eb2_v249, eb2_v250, eb2_v251, eb2_v254, eb2_v255, eb2_v256, eb2_v259, eb2_v260, eb2_v261, eb2_v273, eb2_v285, eb2_v295, eb2_v307, eb2_v317, eb2_v327, eb2_v339, eb2_v349, eb2_v359, eb2_v369, eb2_v379, eb2_v389, eb2_v452, eb2_v453, eb2_v454, eb2_v455, eb2_v456, eb2_v457, eb2_v459, eb2_v460, eb2_v462, eb2_v463, eb2_v465, eb2_v467, eb2_v469, eb2_v471, eb2_v473, eb2_v475, eb2_v477, eb2_v479, eb2_v481, eb2_v483, eb2_v485, eb2_v487, eb2_v496, eb2_v505, eb2_v515, eb2_v516, eb2_v525, eb2_v534, eb2_v544, eb2_v545, eb2_v554, eb2_v573, eb2_v574, eb2_v603, eb2_v607, eb2_v609, eb2_v612, eb2_v613, eb2_v616, b2_v140, b2_v146, b2_v152, b2_v158, b2_v168, b2_v171, b2_v181, b2_v184, b2_v194, b2_v197, b2_v207, b2_v210, b2_v220, b2_v223, b2_v233, b2_v236]
  try rfl
theorem b2_D1 (n : ℕ) : b2_D x0 x1 x2 n 1 = UpD (D3 (VS (qblk x0 1)) (kvblk x1 (n + 1)) (kvblk x1 n) (kvblk x1 (n - 1))) := by
  rw [eb2_D1]
  simp only [eb2_v145, eb2_v151, eb2_v157, eb2_v163, eb2_v176, eb2_v189, eb2_v202, eb2_v215, eb2_v228, eb2_v241, eb2_v242, eb2_v245, eb2_v246, eb2_v249, eb2_v250, eb2_v251, eb2_v254, eb2_v255, eb2_v256, eb2_v259, eb2_v260, eb2_v261, eb2_v273, eb2_v285, eb2_v295, eb2_v307, eb2_v317, eb2_v327, eb2_v339, eb2_v349, eb2_v359, eb2_v369, eb2_v379, eb2_v389, eb2_v452, eb2_v453, eb2_v454, eb2_v455, eb2_v456, eb2_v457, eb2_v459, eb2_v460, eb2_v462, eb2_v463, eb2_v465, eb2_v467, eb2_v469, eb2_v471, eb2_v473, eb2_v475, eb2_v477, eb2_v479, eb2_v481, eb2_v483, eb2_v485, eb2_v487, eb2_v496, eb2_v505, eb2_v515, eb2_v516, eb2_v525, eb2_v534, eb2_v544, eb2_v545, eb2_v554, eb2_v573, eb2_v574, eb2_v603, eb2_v607, eb2_v609, eb2_v612, eb2_v613, eb2_v616, b2_v140, b2_v146, b2_v152, b2_v158, b2_v168, b2_v171, b2_v181, b2_v184, b2_v194, b2_v197, b2_v207, b2_v210, b2_v220, b2_v223, b2_v233, b2_v236]
  try rfl
theorem b2_A2 (n : ℕ) : b2_A x0 x1 x2 n 2 = UpA (A3 (VS (qblk x0 2)) (kvblk x1 (n + 2)) (kvblk x2 (n + 2)) (kvblk x1 (n + 1)) (kvblk x2 (n + 1)) (kvblk x1 n) (kvblk x2 n)) := by
  rw [eb2_A2]
  simp only [eb2_v145, eb2_v151, eb2_v157, eb2_v163, eb2_v176, eb2_v189, eb2_v202, eb2_v215, eb2_v228, eb2_v241, eb2_v242, eb2_v245, eb2_v246, eb2_v249, eb2_v250, eb2_v251, eb2_v254, eb2_v255, eb2_v256, eb2_v259, eb2_v260, eb2_v261, eb2_v273, eb2_v285, eb2_v295, eb2_v307, eb2_v317, eb2_v327, eb2_v339, eb2_v349, eb2_v359, eb2_v369, eb2_v379, eb2_v389, eb2_v452, eb2_v453, eb2_v454, eb2_v455, eb2_v456, eb2_v457, eb2_v459, eb2_v460, eb2_v462, eb2_v463, eb2_v465, eb2_v467, eb2_v469, eb2_v471, eb2_v473, eb2_v475, eb2_v477, eb2_v479, eb2_v481, eb2_v483, eb2_v485, eb2_v487, eb2_v496, eb2_v505, eb2_v515, eb2_v516, eb2_v525, eb2_v534, eb2_v544, eb2_v545, eb2_v554, eb2_v573, eb2_v574, eb2_v603, eb2_v607, eb2_v609, eb2_v612, eb2_v613, eb2_v616, b2_v140, b2_v146, b2_v152, b2_v158, b2_v168, b2_v171, b2_v181, b2_v184, b2_v194, b2_v197, b2_v207, b2_v210, b2_v220, b2_v223, b2_v233, b2_v236]
  try rfl
theorem b2_D2 (n : ℕ) : b2_D x0 x1 x2 n 2 = UpD (D3 (VS (qblk x0 2)) (kvblk x1 (n + 2)) (kvblk x1 (n + 1)) (kvblk x1 n)) := by
  rw [eb2_D2]
  simp only [eb2_v145, eb2_v151, eb2_v157, eb2_v163, eb2_v176, eb2_v189, eb2_v202, eb2_v215, eb2_v228, eb2_v241, eb2_v242, eb2_v245, eb2_v246, eb2_v249, eb2_v250, eb2_v251, eb2_v254, eb2_v255, eb2_v256, eb2_v259, eb2_v260, eb2_v261, eb2_v273, eb2_v285, eb2_v295, eb2_v307, eb2_v317, eb2_v327, eb2_v339, eb2_v349, eb2_v359, eb2_v369, eb2_v379, eb2_v389, eb2_v452, eb2_v453, eb2_v454, eb2_v455, eb2_v456, eb2_v457, eb2_v459, eb2_v460, eb2_v462, eb2_v463, eb2_v465, eb2_v467, eb2_v469, eb2_v471, eb2_v473, eb2_v475, eb2_v477, eb2_v479, eb2_v481, eb2_v483, eb2_v485, eb2_v487, eb2_v496, eb2_v505, eb2_v515, eb2_v516, eb2_v525, eb2_v534, eb2_v544, eb2_v545, eb2_v554, eb2_v573, eb2_v574, eb2_v603, eb2_v607, eb2_v609, eb2_v612, eb2_v613, eb2_v616, b2_v140, b2_v146, b2_v152, b2_v158, b2_v168, b2_v171, b2_v181, b2_v184, b2_v194, b2_v197, b2_v207, b2_v210, b2_v220, b2_v223, b2_v233, b2_v236]
  try rfl
theorem b2_A3 (n : ℕ) : b2_A x0 x1 x2 n 3 = UpA (A3 (VS (qblk x0 3)) (kvblk x1 (n + 3)) (kvblk x2 (n + 3)) (kvblk x1 (n + 2)) (kvblk x2 (n + 2)) (kvblk x1 (n + 1)) (kvblk x2 (n + 1))) := by
  rw [eb2_A3]
  simp only [eb2_v145, eb2_v151, eb2_v157, eb2_v163, eb2_v176, eb2_v189, eb2_v202, eb2_v215, eb2_v228, eb2_v241, eb2_v242, eb2_v245, eb2_v246, eb2_v249, eb2_v250, eb2_v251, eb2_v254, eb2_v255, eb2_v256, eb2_v259, eb2_v260, eb2_v261, eb2_v273, eb2_v285, eb2_v295, eb2_v307, eb2_v317, eb2_v327, eb2_v339, eb2_v349, eb2_v359, eb2_v369, eb2_v379, eb2_v389, eb2_v452, eb2_v453, eb2_v454, eb2_v455, eb2_v456, eb2_v457, eb2_v459, eb2_v460, eb2_v462, eb2_v463, eb2_v465, eb2_v467, eb2_v469, eb2_v471, eb2_v473, eb2_v475, eb2_v477, eb2_v479, eb2_v481, eb2_v483, eb2_v485, eb2_v487, eb2_v496, eb2_v505, eb2_v515, eb2_v516, eb2_v525, eb2_v534, eb2_v544, eb2_v545, eb2_v554, eb2_v573, eb2_v574, eb2_v603, eb2_v607, eb2_v609, eb2_v612, eb2_v613, eb2_v616, b2_v140, b2_v146, b2_v152, b2_v158, b2_v168, b2_v171, b2_v181, b2_v184, b2_v194, b2_v197, b2_v207, b2_v210, b2_v220, b2_v223, b2_v233, b2_v236]
  try rfl
theorem b2_D3 (n : ℕ) : b2_D x0 x1 x2 n 3 = UpD (D3 (VS (qblk x0 3)) (kvblk x1 (n + 3)) (kvblk x1 (n + 2)) (kvblk x1 (n + 1))) := by
  rw [eb2_D3]
  simp only [eb2_v145, eb2_v151, eb2_v157, eb2_v163, eb2_v176, eb2_v189, eb2_v202, eb2_v215, eb2_v228, eb2_v241, eb2_v242, eb2_v245, eb2_v246, eb2_v249, eb2_v250, eb2_v251, eb2_v254, eb2_v255, eb2_v256, eb2_v259, eb2_v260, eb2_v261, eb2_v273, eb2_v285, eb2_v295, eb2_v307, eb2_v317, eb2_v327, eb2_v339, eb2_v349, eb2_v359, eb2_v369, eb2_v379, eb2_v389, eb2_v452, eb2_v453, eb2_v454, eb2_v455, eb2_v456, eb2_v457, eb2_v459, eb2_v460, eb2_v462, eb2_v463, eb2_v465, eb2_v467, eb2_v469, eb2_v471, eb2_v473, eb2_v475, eb2_v477, eb2_v479, eb2_v481, eb2_v483, eb2_v485, eb2_v487, eb2_v496, eb2_v505, eb2_v515, eb2_v516, eb2_v525, eb2_v534, eb2_v544, eb2_v545, eb2_v554, eb2_v573, eb2_v574, eb2_v603, eb2_v607, eb2_v609, eb2_v612, eb2_v613, eb2_v616, b2_v140, b2_v146, b2_v152, b2_v158, b2_v168, b2_v171, b2_v181, b2_v184, b2_v194, b2_v197, b2_v207, b2_v210, b2_v220, b2_v223, b2_v233, b2_v236]
  try rfl

end Cert.KernelIdeal.Att
end
-- ==== Proof.Val5.lean ====
/- One turn of the loop over earlier blocks, in terms of single visits. -/
module

public import proofs.«01_k».proof.Proof.Val4a
public import proofs.«01_k».proof.Proof.Val4b

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

set_option maxHeartbeats 4000000

theorem p219 (X : Vec Ideal S1x128x128 .bf16) : k0_pay219 k0_pay210 X = VS X := by
  funext x
  idx_vars x
  pointwise [k0_pay219, t210, VS_at]
  all_goals simp only [sel_if]

theorem p231 (q : FVec Ideal S256x128 .bf16) (k v : Vec Ideal S1x128x128 .bf16) (d : Vec Ideal S1x256x1 .f32) :
    k0_pay231 k0_pay210 q k0_pay211 k v d = nA q k v (DnD d) := by
  have hz : k0_pay229 q k = ZE q (K2 k) := by
    funext x
    idx_vars x
    pointwise [k0_pay229, ZE_at, K2_at]
  have hy : k0_pay230 q k = YE (ZE q (K2 k)) := by
    rw [← hz]
    funext x
    idx_vars x
    pointwise [k0_pay230, YE_at]
    all_goals rfl
  funext x
  idx_vars x
  pointwise [k0_pay231, hz, hy, t210, t211, nA, CE_at, Wide_at, WdE_at, LE_at, VS_at, k0_pay228, DnD_at]
  all_goals simp (disch := omega) only [sel_if, dif_pos, dif_neg, aoff, aoff1, aoff2, aoff3]
  all_goals (try rfl)

theorem p232 (q : FVec Ideal S256x128 .bf16) (k : Vec Ideal S1x128x128 .bf16) :
    k0_pay232 q k = TE (YE (ZE q (K2 k))) := by
  have hz : k0_pay229 q k = ZE q (K2 k) := by
    funext x
    idx_vars x
    pointwise [k0_pay229, ZE_at, K2_at]
  have hy : k0_pay230 q k = YE (ZE q (K2 k)) := by
    rw [← hz]
    funext x
    idx_vars x
    pointwise [k0_pay230, YE_at]
    all_goals rfl
  funext x
  idx_vars x
  pointwise [k0_pay232, hy, TE_at]

theorem stepA_eq (q : FVec Ideal S256x128 .bf16) (k v : Vec Ideal S1x128x128 .bf16) (a : Vec Ideal S1x128x128 .f32) (d : Vec Ideal S1x256x1 .f32) :
    stepA k0_pay210 k0_pay211 q k v a d = UpA (AddT (DnA a) (nA q k v (DnD d))) := by
  unfold stepA
  rw [p231]
  generalize nA q k v (DnD d) = c
  funext x
  idx_vars x
  pointwise [k0_pay6, UpA_at', AddT_at, DnA_at]

theorem stepD_eq (q : FVec Ideal S256x128 .bf16) (k : Vec Ideal S1x128x128 .bf16) (d : Vec Ideal S1x256x1 .f32) :
    stepD q k d = UpD (nD q k (DnD d)) := by
  unfold stepD nD
  rw [p232]
  generalize TE (YE (ZE q (K2 k))) = c
  funext x
  idx_vars x
  pointwise [k0_pay7, k0_pay5, k0_pay228, UpD_at', AddD_at, DnD_at]

theorem dead_val : (Named.named (F := Ideal) κ "dead_log" (φ := .f32) 0x42D20000#32 : EReal) = ⊤ :=
  IdealRules.named_const.ideal_named_scalar _ _ _ _ rfl

theorem pay220_le (X : Vec Ideal S1x256x1 .f32) : (k0_pay220 X : EReal) ≤ X (ix3 (0 : Fin 1) (0 : Fin 256) (0 : Fin 1)) := by
  pointwise [k0_pay220]
  exact (Finset.fold_min_le _).2 (Or.inr ⟨((0 : Fin 256), (0 : Fin 1)), Finset.mem_univ _, le_rfl⟩)

theorem pay8_le (a b : FVec Ideal S256x1 .f32) : (k0_pay8 a b : EReal) ≤ AddD a b (ix2 (0 : Fin 256) (0 : Fin 1)) := by
  pointwise [k0_pay8, k0_pay5, AddD_at]
  exact (Finset.fold_min_le _).2 (Or.inr ⟨((0 : Fin 256), (0 : Fin 1)), Finset.mem_univ _, le_rfl⟩)

theorem olt_top (x : EReal) (h : x < ⊤) : Scalar.cmpf (F := Ideal) (φ := .f32) .olt x ⊤ = 1#1 := by
  rw [Ideal.scalar_cmpf_def]
  simp [Ideal.cmp, h]

/-- The loop goes on wherever the first row's sum is finite. -/
theorem alive_of (d : Vec Ideal S1x256x1 .f32) (r : ℝ) (h : d (ix3 (0 : Fin 1) (0 : Fin 256) (0 : Fin 1)) = (r : EReal)) : alive0 d = 1#1 := by
  unfold alive0
  rw [dead_val]
  exact olt_top _ (lt_of_le_of_lt (pay220_le d) (by rw [h]; exact EReal.coe_lt_top r))

theorem stepG_of (q : FVec Ideal S256x128 .bf16) (k : Vec Ideal S1x128x128 .bf16) (d : Vec Ideal S1x256x1 .f32) (r : ℝ)
    (h : nD q k (DnD d) (ix2 (0 : Fin 256) (0 : Fin 1)) = (r : EReal)) : stepG q k d = 1#1 := by
  unfold stepG
  rw [dead_val]
  refine olt_top _ (lt_of_le_of_lt (pay8_le _ _) ?_)
  have e : k0_pay228 d = DnD d := by
    funext x
    idx_vars x
    pointwise [k0_pay228, DnD_at]
  rw [e, p232]
  show nD q k (DnD d) (ix2 (0 : Fin 256) (0 : Fin 1)) < ⊤
  rw [h]
  exact EReal.coe_lt_top r

end Cert.KernelIdeal.Att
end
-- ==== Proof.Val6.lean ====
/- Visits over finite scores: real sums of the logs, and weighted sums of the values. -/
module

public import proofs.«01_k».proof.Proof.Val5

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Finset (Ico)

set_option maxHeartbeats 4000000

/-- `log(1 + exp z)`. -/
def sp (z : ℝ) : ℝ := Real.log (1 + Real.exp z)

theorem nl_val : (Named.named (F := Ideal) κ "neg_log2_e" (φ := .f32) 0xBFB8AA3B#32 : EReal) = ((-((Real.log 2)⁻¹) : ℝ) : EReal) :=
  IdealRules.named_const.ideal_named_scalar _ _ _ _ rfl

theorem sp_split (z : ℝ) : max z 0 + Real.log (1 + Real.exp (-|z|)) = sp z := by
  unfold sp
  rcases le_total 0 z with h | h
  · rw [max_eq_left h, abs_of_nonneg h]
    have e : 1 + Real.exp z = Real.exp z * (1 + Real.exp (-z)) := by
      rw [mul_add, ← Real.exp_add]; simp; ring
    rw [e, Real.log_mul (Real.exp_pos z).ne' (by positivity), Real.log_exp]
  · rw [max_eq_right h, abs_of_nonpos h]; simp

theorem spl_coe (z : ℝ) : spl (z : EReal) = ((sp z : ℝ) : EReal) := by
  have e2 : Ideal.exp2 (((|z| * -((Real.log 2)⁻¹) : ℝ)) : EReal) = ((Real.exp (-|z|) : ℝ) : EReal) := by
    show ((Real.rpow 2 (|z| * -((Real.log 2)⁻¹)) : ℝ) : EReal) = _
    congr 1
    show (2 : ℝ) ^ (|z| * -((Real.log 2)⁻¹)) = _
    rw [Real.rpow_def_of_pos (by norm_num)]
    congr 1
    have : Real.log 2 ≠ 0 := (Real.log_pos (by norm_num)).ne'
    field_simp
  have ea : FloatOps.absf (F := Ideal) (φ := .f32) (z : EReal) = ((|z| : ℝ) : EReal) := by
    show (max (z : EReal) (-(z : EReal))) = _
    rw [← EReal.coe_neg, ← EReal.coe_strictMono.monotone.map_max]; rfl
  unfold spl
  rw [nl_val, ea, ← EReal.coe_mul, e2, ← sp_split]
  have e1 : (1 : EReal) + ((Real.exp (-|z|) : ℝ) : EReal) = ((1 + Real.exp (-|z|) : ℝ) : EReal) := by
    rw [EReal.coe_add]; rfl
  rw [e1, Ideal.log_coe, if_neg (not_le.mpr (by positivity)), EReal.coe_add]
  congr 1

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sum_mask {M : Type} [AddCommMonoid M] (f : ℕ → M) (a p q : ℕ) (hq : q ≤ 128) :
    (∑ x : Fin 128, if p ≤ x.val ∧ x.val < q then f (a + x.val) else 0) = ∑ s ∈ Ico (a + p) (a + q), f s := by
  rw [Fin.sum_univ_eq_sum_range (fun i => if p ≤ i ∧ i < q then f (a + i) else 0) 128, ← Finset.sum_filter]
  have e : (Finset.range 128).filter (fun i => p ≤ i ∧ i < q) = Ico p q := by
    ext i; simp only [Finset.mem_filter, Finset.mem_range, Finset.mem_Ico]; omega
  rw [e, Finset.sum_Ico_add f p q a, Nat.add_comm p, Nat.add_comm q]

theorem sum_blk {M : Type} [AddCommMonoid M] (f : ℕ → M) (a : ℕ) :
    (∑ x : Fin 128, f (a + x.val)) = ∑ s ∈ Ico a (a + 128), f s := by
  rw [← Nat.add_zero a, ← sum_mask f a 0 128 le_rfl]
  refine Finset.sum_congr rfl fun x _ => ?_
  rw [if_pos ⟨Nat.zero_le _, x.isLt⟩]; rfl

theorem LE_row (y : FVec Ideal S256x128 .f32) (ρ : Fin 256) (Y : Fin 128 → ℝ) (hy : ∀ x, y (ix2 ρ x) = (Y x : EReal)) (s : Fin 128) :
    LE y (ix2 ρ s) = ((∑ k : Fin 128, if s.val < k.val then Y k else 0 : ℝ) : EReal) := by
  rw [LE_at]
  refine (Fin.sum_univ_add (a := 128) (b := 128) _).trans ?_
  have e1 : ∀ i : Fin 128, (if h : (Fin.castAdd 128 i).val < 128 then (y (ix2 ρ (⟨(Fin.castAdd 128 i).val, h⟩ : Fin 128)) : EReal) else y (ix2 ρ (⟨(Fin.castAdd 128 i).val - 128, by have := (Fin.castAdd 128 i).isLt; omega⟩ : Fin 128)) - y (ix2 ρ (⟨(Fin.castAdd 128 i).val - 128, by have := (Fin.castAdd 128 i).isLt; omega⟩ : Fin 128))) * (if s.val < (Fin.castAdd 128 i).val % 128 then 1 else 0) = ((if s.val < i.val then Y i else 0 : ℝ) : EReal) := by
    intro i
    have hi := i.isLt
    rw [dif_pos (show (Fin.castAdd 128 i).val < 128 from hi)]
    have : (Fin.castAdd 128 i).val % 128 = i.val := Nat.mod_eq_of_lt hi
    rw [this]
    have hh : y (ix2 ρ (⟨(Fin.castAdd 128 i).val, hi⟩ : Fin 128)) = (Y i : EReal) := hy i
    rw [hh]
    by_cases h : s.val < i.val
    · rw [if_pos h, if_pos h, mul_one]
    · rw [if_neg h, if_neg h, mul_zero]; rfl
  have e2 : ∀ i : Fin 128, (if h : (Fin.natAdd 128 i).val < 128 then (y (ix2 ρ (⟨(Fin.natAdd 128 i).val, h⟩ : Fin 128)) : EReal) else y (ix2 ρ (⟨(Fin.natAdd 128 i).val - 128, by have := (Fin.natAdd 128 i).isLt; omega⟩ : Fin 128)) - y (ix2 ρ (⟨(Fin.natAdd 128 i).val - 128, by have := (Fin.natAdd 128 i).isLt; omega⟩ : Fin 128))) * (if s.val < (Fin.natAdd 128 i).val % 128 then 1 else 0) = 0 := by
    intro i
    rw [dif_neg (show ¬ (Fin.natAdd 128 i).val < 128 from by simp)]
    rw [hy]
    rw [← EReal.coe_sub, sub_self, EReal.coe_zero, zero_mul]
  refine (congrArg₂ (· + ·) (Finset.sum_congr rfl fun i _ => e1 i) (Finset.sum_congr rfl fun i _ => e2 i)).trans ?_
  rw [Finset.sum_const_zero, add_zero, coe_sum]

/-- The weight of key `s` for a query at `t`. -/
def wt (z : ℕ → ℝ) (t s : ℕ) : ℝ := Real.exp (z s - ∑ s' ∈ Ico s t, sp (z s'))

section row
variable (q : FVec Ideal S256x128 .bf16) (k : Vec Ideal S1x128x128 .bf16) (ρ : Fin 256) (z : ℕ → ℝ) (j : ℕ)
  (hz : ∀ x : Fin 128, ZE q (K2 k) (ix2 ρ x) = ((z (128 * j + x.val) : ℝ) : EReal))
include hz

theorem fY_row (x : Fin 128) : YmE (ZE q (K2 k)) (ix2 ρ x) = ((if 0 ≤ x.val ∧ x.val < ρ.val % 128 then sp (z (128 * j + x.val)) else 0 : ℝ) : EReal) := by
  rw [YmE_at, hz, spl_coe]
  by_cases h : x.val < ρ.val % 128
  · rw [if_pos h, if_pos ⟨Nat.zero_le _, h⟩]
  · rw [if_neg h, if_neg (fun h' => h h'.2)]; rfl

theorem nY_row (x : Fin 128) : YE (ZE q (K2 k)) (ix2 ρ x) = ((sp (z (128 * j + x.val)) : ℝ) : EReal) := by
  rw [YE_at, hz, spl_coe]

theorem fD_row : fD q k (ix2 ρ (0 : Fin 1)) = ((∑ s ∈ Ico (128 * j) (128 * j + ρ.val % 128), sp (z s) : ℝ) : EReal) := by
  unfold fD
  rw [TE_at]
  simp only [fY_row q k ρ z j hz]
  rw [← coe_sum, sum_mask (fun s => sp (z s)) (128 * j) 0 (ρ.val % 128) (by omega), Nat.add_zero]

theorem nD_row (t : ℕ) (ht : 128 * (j + 1) ≤ t) (d : FVec Ideal S256x1 .f32)
    (hd : d (ix2 ρ (0 : Fin 1)) = ((∑ s ∈ Ico (128 * (j + 1)) t, sp (z s) : ℝ) : EReal)) :
    nD q k d (ix2 ρ (0 : Fin 1)) = ((∑ s ∈ Ico (128 * j) t, sp (z s) : ℝ) : EReal) := by
  unfold nD
  rw [AddD_at, TE_at, hd]
  simp only [nY_row q k ρ z j hz]
  rw [← coe_sum, sum_blk (fun s => sp (z s)) (128 * j), ← EReal.coe_add, add_comm,
    show 128 * (j + 1) = 128 * j + 128 from by ring, Finset.sum_Ico_consecutive _ (by omega) (by omega)]

theorem fW_row (x : Fin 128) : WmE (ZE q (K2 k)) (YmE (ZE q (K2 k))) (LE (YmE (ZE q (K2 k)))) (ix2 ρ x)
    = if x.val < ρ.val % 128 then ((wt z (128 * j + ρ.val % 128) (128 * j + x.val) : ℝ) : EReal) else 0 := by
  rw [WmE_at]
  by_cases h : x.val < ρ.val % 128
  · rw [if_pos h, if_pos h, LE_row _ ρ _ (fY_row q k ρ z j hz) x, fY_row q k ρ z j hz, hz, if_pos ⟨Nat.zero_le _, h⟩]
    have e : (∑ k : Fin 128, if x.val < k.val then (if 0 ≤ k.val ∧ k.val < ρ.val % 128 then sp (z (128 * j + k.val)) else 0) else 0)
        = ∑ s ∈ Ico (128 * j + (x.val + 1)) (128 * j + ρ.val % 128), sp (z s) := by
      rw [← sum_mask (fun s => sp (z s)) (128 * j) (x.val + 1) (ρ.val % 128) (by omega)]
      refine Finset.sum_congr rfl fun k _ => ?_
      by_cases h1 : x.val < k.val <;> by_cases h2 : k.val < ρ.val % 128 <;> simp [h1, h2, Nat.succ_le_iff]
    rw [e, ← EReal.coe_add, ← EReal.coe_sub, Ideal.exp_coe]
    unfold wt
    rw [Finset.sum_eq_sum_Ico_succ_bot (show 128 * j + x.val < 128 * j + ρ.val % 128 by omega)]
    rfl
  · rw [if_neg h, if_neg h]

theorem nW_row (t : ℕ) (ht : 128 * (j + 1) ≤ t) (d : FVec Ideal S256x1 .f32)
    (hd : d (ix2 ρ (0 : Fin 1)) = ((∑ s ∈ Ico (128 * (j + 1)) t, sp (z s) : ℝ) : EReal)) (x : Fin 128) :
    WdE (ZE q (K2 k)) (YE (ZE q (K2 k))) (LE (YE (ZE q (K2 k)))) d (ix2 ρ x) = ((wt z t (128 * j + x.val) : ℝ) : EReal) := by
  rw [WdE_at, LE_row _ ρ _ (nY_row q k ρ z j hz) x, nY_row q k ρ z j hz, hz, hd]
  have e : (∑ k : Fin 128, if x.val < k.val then sp (z (128 * j + k.val)) else 0)
      = ∑ s ∈ Ico (128 * j + (x.val + 1)) (128 * j + 128), sp (z s) := by
    rw [← sum_mask (fun s => sp (z s)) (128 * j) (x.val + 1) 128 le_rfl]
    refine Finset.sum_congr rfl fun k _ => ?_
    have := k.isLt
    by_cases h1 : x.val < k.val <;> simp [h1, Nat.succ_le_iff]
  rw [e, ← EReal.coe_add, ← EReal.coe_add, ← EReal.coe_sub, Ideal.exp_coe]
  unfold wt
  have hx := x.isLt
  rw [← Finset.sum_Ico_consecutive (fun s => sp (z s)) (show 128 * j + x.val ≤ 128 * j + 128 by omega) (show 128 * j + 128 ≤ t by omega),
    Finset.sum_eq_sum_Ico_succ_bot (show 128 * j + x.val < 128 * j + 128 by omega), show 128 * (j + 1) = 128 * j + 128 from by ring]
  rfl

end row

/-- The row of the stacked heads that holds query `r`, for the head of lane `l`. -/
def rowOf (r l : Fin 128) : Fin 256 := ⟨128 * (l.val / 64) + r.val, by have := r.isLt; have := l.isLt; omega⟩
theorem rowOf_mod (r l : Fin 128) : (rowOf r l).val % 128 = r.val := by
  show (128 * (l.val / 64) + r.val) % 128 = r.val
  have := r.isLt; omega

theorem CE_row (w : FVec Ideal S256x128 .f32) (v : Vec Ideal S1x128x128 .bf16) (r l : Fin 128) :
    CE (Wide w) (VS v) (ix2 r l) = ∑ x : Fin 128, (w (ix2 (rowOf r l) x) : EReal) * v (ix3 (0 : Fin 1) x l) := by
  rw [CE_at]
  refine (Fin.sum_univ_add (a := 128) (b := 128) _).trans ?_
  have e1 : ∀ i : Fin 128, (Wide w (ix2 r (Fin.castAdd 128 i : Fin 256)) : EReal) * VS v (ix2 (Fin.castAdd 128 i : Fin 256) l)
      = (w (ix2 (⟨r.val, by have := r.isLt; omega⟩ : Fin 256) i) : EReal) * (if l.val < 64 then v (ix3 (0 : Fin 1) i l) else 0) := by
    intro i
    rw [Wide_at, VS_at, dif_pos (show (Fin.castAdd 128 i : Fin 256).val < 128 from i.isLt), dif_pos (show (Fin.castAdd 128 i : Fin 256).val < 128 from i.isLt)]
    rfl
  have e2 : ∀ i : Fin 128, (Wide w (ix2 r (Fin.natAdd 128 i : Fin 256)) : EReal) * VS v (ix2 (Fin.natAdd 128 i : Fin 256) l)
      = (w (ix2 (⟨128 + r.val, by have := r.isLt; omega⟩ : Fin 256) i) : EReal) * (if l.val < 64 then 0 else v (ix3 (0 : Fin 1) i l)) := by
    intro i
    have hn : ¬ (Fin.natAdd 128 i : Fin 256).val < 128 := by simp
    have hs : ∀ h, (⟨(Fin.natAdd 128 i : Fin 256).val - 128, h⟩ : Fin 128) = i := fun h => Fin.ext (by simp)
    rw [Wide_at, VS_at, dif_neg hn, dif_neg hn, hs]
  refine (congrArg₂ (· + ·) (Finset.sum_congr rfl fun i _ => e1 i) (Finset.sum_congr rfl fun i _ => e2 i)).trans ?_
  have hl := l.isLt
  by_cases h : l.val < 64
  · have hr : rowOf r l = (⟨r.val, by have := r.isLt; omega⟩ : Fin 256) := Fin.ext (by show 128 * (l.val / 64) + r.val = r.val; omega)
    simp only [h, if_true, mul_zero, Finset.sum_const_zero, add_zero, hr]
  · have hr : rowOf r l = (⟨128 + r.val, by have := r.isLt; omega⟩ : Fin 256) := Fin.ext (by show 128 * (l.val / 64) + r.val = 128 + r.val; omega)
    simp only [h, if_false, mul_zero, Finset.sum_const_zero, zero_add, hr]

/-- After the blocks from `kb` up: the sums of the logs and the accumulated values, for a group of queries at block `tb`. -/
def Inv (z : Fin 256 → ℕ → ℝ) (V : ℕ → Fin 128 → EReal) (tb kb : ℕ) (a : Vec Ideal S1x128x128 .f32) (d : Vec Ideal S1x256x1 .f32) : Prop :=
  (∀ ρ : Fin 256, d (ix3 (0 : Fin 1) ρ (0 : Fin 1)) = ((∑ s ∈ Ico (128 * kb) (128 * tb + ρ.val % 128), sp (z ρ s) : ℝ) : EReal)) ∧
  (∀ r l : Fin 128, a (ix3 (0 : Fin 1) r l) = ∑ s ∈ Ico (128 * kb) (128 * tb + r.val), ((wt (z (rowOf r l)) (128 * tb + r.val) s : ℝ) : EReal) * V s l)

theorem inv_first (q : FVec Ideal S256x128 .bf16) (k v : Vec Ideal S1x128x128 .bf16) (z : Fin 256 → ℕ → ℝ) (V : ℕ → Fin 128 → EReal) (tb : ℕ)
    (hz : ∀ (ρ : Fin 256) (x : Fin 128), ZE q (K2 k) (ix2 ρ x) = ((z ρ (128 * tb + x.val) : ℝ) : EReal))
    (hv : ∀ x l : Fin 128, v (ix3 (0 : Fin 1) x l) = V (128 * tb + x.val) l) :
    Inv z V tb tb (UpA (fA q k v)) (UpD (fD q k)) := by
  refine ⟨fun ρ => ?_, fun r l => ?_⟩
  · rw [UpD_at, fD_row q k ρ (z ρ) tb (hz ρ)]
  · rw [UpA_at]
    unfold fA
    rw [CE_row]
    simp only [fW_row q k (rowOf r l) (z (rowOf r l)) tb (hz _), hv, rowOf_mod]
    have e := sum_mask (fun s => ((wt (z (rowOf r l)) (128 * tb + r.val) s : ℝ) : EReal) * V s l) (128 * tb) 0 r.val (by have := r.isLt; omega)
    rw [Nat.add_zero] at e
    rw [← e]
    refine Finset.sum_congr rfl fun x _ => ?_
    by_cases h : x.val < r.val
    · rw [if_pos h, if_pos ⟨Nat.zero_le _, h⟩]
    · rw [if_neg h, if_neg (fun h' => h h'.2), zero_mul]

theorem inv_next (q : FVec Ideal S256x128 .bf16) (k v : Vec Ideal S1x128x128 .bf16) (z : Fin 256 → ℕ → ℝ) (V : ℕ → Fin 128 → EReal) (tb kb : ℕ)
    (hk : kb < tb)
    (hz : ∀ (ρ : Fin 256) (x : Fin 128), ZE q (K2 k) (ix2 ρ x) = ((z ρ (128 * kb + x.val) : ℝ) : EReal))
    (hv : ∀ x l : Fin 128, v (ix3 (0 : Fin 1) x l) = V (128 * kb + x.val) l)
    (a : Vec Ideal S1x128x128 .f32) (d : Vec Ideal S1x256x1 .f32) (h : Inv z V tb (kb + 1) a d) :
    Inv z V tb kb (UpA (AddT (DnA a) (nA q k v (DnD d)))) (UpD (nD q k (DnD d))) := by
  have hd : ∀ ρ : Fin 256, DnD d (ix2 ρ (0 : Fin 1)) = ((∑ s ∈ Ico (128 * (kb + 1)) (128 * tb + ρ.val % 128), sp (z ρ s) : ℝ) : EReal) := fun ρ => h.1 ρ
  refine ⟨fun ρ => ?_, fun r l => ?_⟩
  · rw [UpD_at, nD_row q k ρ (z ρ) kb (hz ρ) _ (by omega) _ (hd ρ)]
  · rw [UpA_at, AddT_at, DnA_at, h.2 r l]
    unfold nA
    rw [CE_row]
    have hd' := hd (rowOf r l)
    rw [rowOf_mod] at hd'
    simp only [nW_row q k (rowOf r l) (z (rowOf r l)) kb (hz _) (128 * tb + r.val) (by omega) _ hd', hv]
    rw [sum_blk (fun s => ((wt (z (rowOf r l)) (128 * tb + r.val) s : ℝ) : EReal) * V s l) (128 * kb), add_comm,
      show 128 * (kb + 1) = 128 * kb + 128 from by ring, Finset.sum_Ico_consecutive _ (by omega) (by omega)]

theorem Dn_UpA (a : FVec Ideal S128x128 .f32) : DnA (UpA a) = a := by
  funext x
  idx_vars x
  rw [DnA_at, UpA_at]
theorem Dn_UpD (a : FVec Ideal S256x1 .f32) : DnD (UpD a) = a := by
  funext x
  idx_vars x
  rw [DnD_at, UpD_at]
  exact congrArg (fun y : Fin 1 => a (ix2 _ y)) (Subsingleton.elim (0 : Fin 1) _)

end Cert.KernelIdeal.Att
end
-- ==== Proof.Val8.lean ====
/- The reference over finite scores: its tensors at an index, and the weighted sums it returns. -/
module

public import proofs.«01_k».proof.Proof.Val6
public import proofs.«01_k».proof.Proof.Gen.ReferenceIdeal.Run

@[expose] public section

set_option maxRecDepth 16384

noncomputable section

namespace Cert.ReferenceIdeal.Att

open Cert.ReferenceIdeal Cert.ReferenceIdeal.Gen
open Idealize.ShloMosaic Idealize.ShloMosaic.TcCoe Idealize.ShloMosaic.Tactic
open Cert.KernelIdeal.Att (sp sp_split wt coe_sum sel_if)
open Finset (Ico)

set_option maxHeartbeats 4000000

/-- The heads of an argument: lane `d` of head `h` is lane `64 h + d`. -/
def hd (X : FVec Ideal S8x8192x1024 .bf16) : FVec Ideal S8x16x8192x64 .f32 :=
  transpose S8x16x8192x64 [0, 2, 1, 3] (shapeCast S8x8192x16x64 (extf .f32 X bitsLt_bf16_f32) shapeCasts_S8x8192x1024_S8x8192x16x64) transposes_S8x8192x16x64_S8x16x8192x64_0_2_1_3
/-- The scores. -/
def zt (q k : FVec Ideal S8x8192x1024 .bf16) : FVec Ideal S8x16x8192x8192 .f32 :=
  Host.dotGeneral dot_S8x16x8192x64_S8x16x8192x64_S8x16x8192x8192_3_3_2_2_01_01 none (hd q) (hd k)
/-- The mask: key before query. -/
def msk : IVec S8x16x8192x8192 1 :=
  broadcastInDim S8x16x8192x8192 ![2, 3] bcast_S8192x8192_S8x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
def zr : FVec Ideal S8x16x8192x8192 .f32 := broadcastInDim S8x16x8192x8192 ![] bcast_S_S8x16x8192x8192 (constant S_ .f32 0x00000000#32)
def zi : FVec Ideal S8x16x8192x8192 .f32 := broadcastInDim S8x16x8192x8192 ![] bcast_S_S8x16x8192x8192 (id (constant S_ .f32 0x00000000#32))
/-- The softplus, as it prints. -/
def soft (x : FVec Ideal S8x16x8192x8192 .f32) : FVec Ideal S8x16x8192x8192 .f32 :=
  select (cmpf .une (subf x zr) (subf x zr)) (addf x zr) (addf (maximumf x zr) (Host.log1p (Host.exp (Host.negf (Host.absf (subf x zr))))))
/-- The log-sigmoid. -/
def ls (x : FVec Ideal S8x16x8192x8192 .f32) : FVec Ideal S8x16x8192x8192 .f32 := Host.negf (soft (Host.negf x))
def lneg (z : FVec Ideal S8x16x8192x8192 .f32) : FVec Ideal S8x16x8192x8192 .f32 := select msk (ls (Host.negf z)) zi
def cs (y : FVec Ideal S8x16x8192x8192 .f32) : FVec Ideal S8x16x8192x8192 .f32 :=
  Host.reduceWindowAdd ![1, 1, 1, 8192] ![1, 1, 1, 1] ![0, 0, 0, 8191] ![0, 0, 0, 0] y (broadcastInDim S_ ![] bcast_S_S_ (constant S_ .f32 0x00000000#32)) reduceWindows_S8x16x8192x8192_S8x16x8192x8192_w1s1p0_0_w1s1p0_0_w1s1p0_0_w8192s1p8191_0 h_S_
def suf (y : FVec Ideal S8x16x8192x8192 .f32) : FVec Ideal S8x16x8192x8192 .f32 :=
  subf (broadcastInDim S8x16x8192x8192 ![0, 1, 2, 3] bcast_S8x16x8192x1_S8x16x8192x8192_0_1_2_3 (extractStridedSlice S8x16x8192x1 ![0, 0, 0, 8191] y slices_S8x16x8192x8192_S8x16x8192x1_0_0_0_8191)) y
def av (z : FVec Ideal S8x16x8192x8192 .f32) : FVec Ideal S8x16x8192x8192 .f32 :=
  select msk (Host.exp (addf (ls z) (suf (cs (lneg z))))) zi
def refO (q k v : FVec Ideal S8x8192x1024 .bf16) : FVec Ideal S8x8192x1024 .bf16 :=
  truncf .bf16 (shapeCast S8x8192x1024 (transpose S8x8192x16x64 [0, 2, 1, 3] (Host.dotGeneral dot_S8x16x8192x8192_S8x16x8192x64_S8x16x8192x64_3_2_2_3_01_01 none (av (zt q k)) (hd v)) transposes_S8x16x8192x64_S8x8192x16x64_0_2_1_3) shapeCasts_S8x8192x16x64_S8x8192x1024) bitsLt_bf16_f32

theorem res_eq (m : (ℓ : Loc nD τ sig) → Buf (Elt Ideal) ℓ) (c : Dev nD) :
    Value.res_main_v30 m c = refO (m ((c.tc : Thread nD τ).loc main_arg0)) (m ((c.tc : Thread nD τ).loc main_arg1)) (m ((c.tc : Thread nD τ).loc main_arg2)) := by
  unfold Value.res_main_v30
  rfl

theorem hd_at (X : FVec Ideal S8x8192x1024 .bf16) (b : Fin 8) (h : Fin 16) (t : Fin 8192) (d : Fin 64) :
    hd X (ix4 b h t d) = X (ix3 b t (⟨h.val * 64 + d.val, by have := h.isLt; have := d.isLt; omega⟩ : Fin 1024)) := by
  pointwise [hd]

theorem zt_at (q k : FVec Ideal S8x8192x1024 .bf16) (b : Fin 8) (h : Fin 16) (t s : Fin 8192) :
    zt q k (ix4 b h t s) = ∑ d : Fin 64, hd q (ix4 b h t d) * hd k (ix4 b h s d) := by
  unfold zt
  generalize hd q = Q
  generalize hd k = K
  pointwise

theorem refO_at (q k v : FVec Ideal S8x8192x1024 .bf16) (b : Fin 8) (t : Fin 8192) (x : Fin 1024) :
    refO q k v (ix3 b t x) = ∑ s : Fin 8192, av (zt q k) (ix4 b (⟨x.val / 64, by have := x.isLt; omega⟩ : Fin 16) t s) * hd v (ix4 b (⟨x.val / 64, by have := x.isLt; omega⟩ : Fin 16) s (⟨x.val % 64, Nat.mod_lt _ (by norm_num)⟩ : Fin 64)) := by
  unfold refO
  generalize av (zt q k) = A
  generalize hd v = V
  pointwise

theorem word_lt (s t : Fin 8192) : IntOp.cmpi CmpIPredicate.slt (BitVec.ofNat 32 s.val) (BitVec.ofNat 32 t.val) = if s.val < t.val then 1#1 else 0#1 := by
  have hs := s.isLt
  have ht := t.isLt
  have e : (BitVec.ofNat 32 s.val).slt (BitVec.ofNat 32 t.val) = decide (s.val < t.val) := by
    rw [BitVec.slt, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  show BitVec.ofBool ((BitVec.ofNat 32 s.val).slt (BitVec.ofNat 32 t.val)) = _
  rw [e]
  by_cases h : s.val < t.val <;> simp [h]

theorem msk_at (b : Fin 8) (h : Fin 16) (t s : Fin 8192) : msk (ix4 b h t s) = if s.val < t.val then 1#1 else 0#1 := by
  rw [← word_lt]
  pointwise [msk]

theorem zr_at (i : S8x16x8192x8192.Idx) : zr i = 0 := by
  pointwise [zr]
theorem zi_at (i : S8x16x8192x8192.Idx) : zi i = 0 := zr_at i

theorem soft_at (x : FVec Ideal S8x16x8192x8192 .f32) (i : S8x16x8192x8192.Idx) (r : ℝ) (h : x i = (r : EReal)) :
    soft x i = ((sp r : ℝ) : EReal) := by
  have e0 : soft x i = Scalar.select (FloatOps.cmpf (F := Ideal) (φ := .f32) .une (x i - zr i) (x i - zr i)) (x i + zr i)
      (max (x i) (zr i) + Ideal.log1p (Ideal.exp (-(max (x i - zr i) (-(x i - zr i)))))) := rfl
  have ea : max ((r : ℝ) : EReal) (-((r : ℝ) : EReal)) = ((|r| : ℝ) : EReal) := by
    rw [← EReal.coe_neg, ← EReal.coe_strictMono.monotone.map_max]; rfl
  have em : max ((r : ℝ) : EReal) 0 = ((max r 0 : ℝ) : EReal) := by
    rw [← EReal.coe_zero, ← EReal.coe_strictMono.monotone.map_max]
  have e1 : Ideal.log1p ((Real.exp (-|r|) : ℝ) : EReal) = ((Real.log (1 + Real.exp (-|r|)) : ℝ) : EReal) := by
    have e2 : (1 : EReal) + ((Real.exp (-|r|) : ℝ) : EReal) = ((1 + Real.exp (-|r|) : ℝ) : EReal) := by
      rw [EReal.coe_add]; rfl
    show Ideal.log ((1 : EReal) + ((Real.exp (-|r|) : ℝ) : EReal)) = _
    rw [e2, Ideal.log_coe, if_neg (not_le.mpr (by positivity))]
  rw [e0, zr_at, h, sub_zero, add_zero, ea, em, ← EReal.coe_neg, Ideal.exp_coe, e1, ← EReal.coe_add, sp_split]
  have ec : FloatOps.cmpf (F := Ideal) (φ := .f32) .une (r : EReal) (r : EReal) = 0#1 := by
    show Ideal.cmp .une (r : EReal) (r : EReal) = 0#1
    simp [Ideal.cmp]
  rw [ec]
  rfl

theorem ls_at (x : FVec Ideal S8x16x8192x8192 .f32) (i : S8x16x8192x8192.Idx) (r : ℝ) (h : x i = (r : EReal)) :
    ls x i = ((-sp (-r) : ℝ) : EReal) := by
  show -(soft (Host.negf x) i) = _
  rw [soft_at (Host.negf x) i (-r) (by show -(x i) = _; rw [h, EReal.coe_neg]), EReal.coe_neg]

theorem sp_neg (r : ℝ) : -sp (-r) = r - sp r := by
  have h1 := sp_split r
  have h2 := sp_split (-r)
  rw [abs_neg] at h2
  rw [← h1, ← h2]
  rcases le_total 0 r with h | h
  · rw [max_eq_left h, max_eq_right (by linarith)]; ring
  · rw [max_eq_right h, max_eq_left (by linarith)]; ring

theorem lneg_at (z : FVec Ideal S8x16x8192x8192 .f32) (b : Fin 8) (h : Fin 16) (t s : Fin 8192) (r : ℝ) (hz : z (ix4 b h t s) = (r : EReal)) :
    lneg z (ix4 b h t s) = ((if s.val < t.val then -sp r else 0 : ℝ) : EReal) := by
  have e0 : lneg z (ix4 b h t s) = Scalar.select (msk (ix4 b h t s)) (ls (Host.negf z) (ix4 b h t s)) (zi (ix4 b h t s)) := rfl
  rw [e0, msk_at, sel_if, zi_at, ls_at (Host.negf z) _ (-r) (by show -(z _) = _; rw [hz, EReal.coe_neg]), neg_neg]
  split <;> simp

theorem foldl_plus {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem sum_finRange {n : ℕ} (g : Fin n → EReal) : ((List.finRange n).map g).sum = ∑ i, g i := by
  rw [← List.ofFn_eq_map, List.sum_ofFn]

/-- A sum over a window one lane high. -/
theorem sum_win {N : ℕ} (g : (⟨4, ![1, 1, 1, N]⟩ : Shape).Idx → EReal) : ∑ p, g p = ∑ n : Fin N, g (ix4 (0 : Fin 1) (0 : Fin 1) (0 : Fin 1) n) := by
  symm
  refine Fintype.sum_bijective (fun n : Fin N => (ix4 (0 : Fin 1) (0 : Fin 1) (0 : Fin 1) n : (⟨4, ![1, 1, 1, N]⟩ : Shape).Idx)) ⟨fun a b e => congrFun e 3, fun p => ⟨p 3, ?_⟩⟩ _ _ fun _ => rfl
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

theorem sum_win_range (f : ℕ → EReal) (M s : ℕ) (hs : s < M + 1) :
    (∑ n : Fin (M + 1), if M ≤ s + n.val then f (s + n.val - M) else 0) = ∑ i ∈ Finset.range (s + 1), f i := by
  obtain ⟨d, rfl⟩ : ∃ d, M = d + s := ⟨M - s, by omega⟩
  rw [Fin.sum_univ_eq_sum_range (fun n => if d + s ≤ s + n then f (s + n - (d + s)) else 0) (d + s + 1),
    add_assoc, Finset.sum_range_add, Finset.sum_eq_zero, zero_add]
  · refine Finset.sum_congr rfl fun i _ => ?_
    rw [if_pos (by omega)]; congr 1; omega
  · intro i hi
    rw [Finset.mem_range] at hi
    rw [if_neg (by omega)]

/-- The running sum along the last axis, as it prints. -/
theorem win_at {A B C M N : ℕ} (hN : M + 1 = N) (h : (⟨4, ![A, B, C, N]⟩ : Shape).ReduceWindows ![1, 1, 1, N] ![1, 1, 1, 1] ![0, 0, 0, M] ![0, 0, 0, 0] ⟨4, ![A, B, C, N]⟩)
    (y : (⟨4, ![A, B, C, N]⟩ : Shape).Idx → EReal) (b : Fin A) (hh : Fin B) (t : Fin C) (s : Fin N) (f : ℕ → EReal)
    (hf : ∀ i : Fin N, y (ix4 b hh t i) = f i.val) :
    Ideal.hostReduceWindowAdd ![1, 1, 1, N] ![1, 1, 1, 1] ![0, 0, 0, M] ![0, 0, 0, 0] h y 0 (ix4 b hh t s) = ∑ i ∈ Finset.range (s.val + 1), f i := by
  subst hN
  have hs := s.isLt
  have hb := b.isLt
  have hc := hh.isLt
  have hd := t.isLt
  unfold Ideal.hostReduceWindowAdd Host.reduceWindow
  dsimp only
  rw [foldl_plus, zero_add, sum_finRange]
  have step : ∀ p : (⟨4, ![1, 1, 1, M + 1]⟩ : Shape).Idx, (p 0).val = 0 ∧ (p 1).val = 0 ∧ (p 2).val = 0 ∧ (p 3).val < M + 1 := fun p =>
    ⟨Nat.lt_one_iff.mp (p 0).isLt, Nat.lt_one_iff.mp (p 1).isLt, Nat.lt_one_iff.mp (p 2).isLt, (p 3).isLt⟩
  refine (Finset.sum_congr rfl (g := fun n => (fun p : (⟨4, ![1, 1, 1, M + 1]⟩ : Shape).Idx => if M ≤ s.val + (p 3).val then f (s.val + (p 3).val - M) else 0)
    ((Shape.rowMajor (⟨4, ![1, 1, 1, M + 1]⟩ : Shape)).symm n)) fun n _ => ?_).trans ((Equiv.sum_comp (Shape.rowMajor (⟨4, ![1, 1, 1, M + 1]⟩ : Shape)).symm
      (fun p : (⟨4, ![1, 1, 1, M + 1]⟩ : Shape).Idx => if M ≤ s.val + (p 3).val then f (s.val + (p 3).val - M) else 0)).trans ?_)
  · obtain ⟨h0, h1, h2, hn⟩ := step ((Shape.rowMajor (⟨4, ![1, 1, 1, M + 1]⟩ : Shape)).symm n)
    dsimp only
    split
    · next hin =>
      have h3 : M ≤ s.val * 1 + ((Shape.rowMajor (⟨4, ![1, 1, 1, M + 1]⟩ : Shape)).symm n 3).val ∧ s.val * 1 + ((Shape.rowMajor (⟨4, ![1, 1, 1, M + 1]⟩ : Shape)).symm n 3).val - M < M + 1 := hin 3
      rw [if_pos (by omega)]
      refine Eq.trans (congrArg y (funext fun a => Fin.ext ?_)) (hf ⟨s.val + ((Shape.rowMajor (⟨4, ![1, 1, 1, M + 1]⟩ : Shape)).symm n 3).val - M, by omega⟩)
      match a with
      | ⟨0, _⟩ => show b.val * 1 + ((Shape.rowMajor (⟨4, ![1, 1, 1, M + 1]⟩ : Shape)).symm n 0).val - 0 = b.val; omega
      | ⟨1, _⟩ => show hh.val * 1 + ((Shape.rowMajor (⟨4, ![1, 1, 1, M + 1]⟩ : Shape)).symm n 1).val - 0 = hh.val; omega
      | ⟨2, _⟩ => show t.val * 1 + ((Shape.rowMajor (⟨4, ![1, 1, 1, M + 1]⟩ : Shape)).symm n 2).val - 0 = t.val; omega
      | ⟨3, _⟩ => show s.val * 1 + ((Shape.rowMajor (⟨4, ![1, 1, 1, M + 1]⟩ : Shape)).symm n 3).val - M = s.val + ((Shape.rowMajor (⟨4, ![1, 1, 1, M + 1]⟩ : Shape)).symm n 3).val - M; omega
    · next hin =>
      rw [if_neg fun hle => hin fun a => ?_]
      match a with
      | ⟨0, _⟩ => show 0 ≤ b.val * 1 + ((Shape.rowMajor (⟨4, ![1, 1, 1, M + 1]⟩ : Shape)).symm n 0).val ∧ b.val * 1 + ((Shape.rowMajor (⟨4, ![1, 1, 1, M + 1]⟩ : Shape)).symm n 0).val - 0 < A; omega
      | ⟨1, _⟩ => show 0 ≤ hh.val * 1 + ((Shape.rowMajor (⟨4, ![1, 1, 1, M + 1]⟩ : Shape)).symm n 1).val ∧ hh.val * 1 + ((Shape.rowMajor (⟨4, ![1, 1, 1, M + 1]⟩ : Shape)).symm n 1).val - 0 < B; omega
      | ⟨2, _⟩ => show 0 ≤ t.val * 1 + ((Shape.rowMajor (⟨4, ![1, 1, 1, M + 1]⟩ : Shape)).symm n 2).val ∧ t.val * 1 + ((Shape.rowMajor (⟨4, ![1, 1, 1, M + 1]⟩ : Shape)).symm n 2).val - 0 < C; omega
      | ⟨3, _⟩ => show M ≤ s.val * 1 + ((Shape.rowMajor (⟨4, ![1, 1, 1, M + 1]⟩ : Shape)).symm n 3).val ∧ s.val * 1 + ((Shape.rowMajor (⟨4, ![1, 1, 1, M + 1]⟩ : Shape)).symm n 3).val - M < M + 1; omega
  · rw [sum_win]
    exact sum_win_range f M s.val hs

/-- The running sum along the keys. -/
theorem cs_at (y : FVec Ideal S8x16x8192x8192 .f32) (b : Fin 8) (h : Fin 16) (t s : Fin 8192) (f : ℕ → EReal)
    (hf : ∀ i : Fin 8192, y (ix4 b h t i) = f i.val) : cs y (ix4 b h t s) = ∑ i ∈ Finset.range (s.val + 1), f i := by
  have hv : (broadcastInDim S_ ![] bcast_S_S_ (constant (F := Ideal) S_ .f32 0x00000000#32)) (Shape.Idx.first h_S_) = (0 : EReal) :=
    zr_at (ix4 b h t s)
  unfold cs Host.reduceWindowAdd
  rw [Ideal.hostReduceWindowAdd_def, hv]
  exact win_at (A := 8) (B := 16) (C := 8192) (M := 8191) (N := 8192) rfl reduceWindows_S8x16x8192x8192_S8x16x8192x8192_w1s1p0_0_w1s1p0_0_w1s1p0_0_w8192s1p8191_0 y b h t s f hf

theorem suf_at (y : FVec Ideal S8x16x8192x8192 .f32) (b : Fin 8) (h : Fin 16) (t s : Fin 8192) :
    suf y (ix4 b h t s) = y (ix4 b h t (⟨8191, by norm_num⟩ : Fin 8192)) - y (ix4 b h t s) := by
  pointwise [suf]

/-- The masked logs' suffix sums over finite scores. -/
theorem suf_val (z : FVec Ideal S8x16x8192x8192 .f32) (b : Fin 8) (h : Fin 16) (t : Fin 8192) (Z : ℕ → ℝ)
    (hz : ∀ i : Fin 8192, z (ix4 b h t i) = (Z i.val : EReal)) (s : Fin 8192) (hst : s.val < t.val) :
    suf (cs (lneg z)) (ix4 b h t s) = ((-∑ i ∈ Ico (s.val + 1) t.val, sp (Z i) : ℝ) : EReal) := by
  have ht := t.isLt
  have hc : ∀ s : Fin 8192, cs (lneg z) (ix4 b h t s) = ((∑ i ∈ Finset.range (s.val + 1), (if i < t.val then -sp (Z i) else 0) : ℝ) : EReal) := by
    intro s
    rw [coe_sum]
    exact cs_at _ b h t s (fun i => ((if i < t.val then -sp (Z i) else 0 : ℝ) : EReal)) fun i => lneg_at z b h t i _ (hz i)
  rw [suf_at, hc, hc, ← EReal.coe_sub]
  congr 1
  rw [← Finset.sum_range_add_sum_Ico (fun i => if i < t.val then -sp (Z i) else 0) (show s.val + 1 ≤ 8191 + 1 by omega), add_sub_cancel_left,
    ← Finset.sum_Ico_consecutive _ (show s.val + 1 ≤ t.val by omega) (show t.val ≤ 8191 + 1 by omega), ← Finset.sum_neg_distrib]
  rw [Finset.sum_eq_zero (s := Ico t.val (8191 + 1)), add_zero]
  · refine Finset.sum_congr rfl fun i hi => ?_
    rw [Finset.mem_Ico] at hi
    rw [if_pos hi.2]
  · intro i hi
    rw [Finset.mem_Ico] at hi
    rw [if_neg (by omega)]

theorem av_val (z : FVec Ideal S8x16x8192x8192 .f32) (b : Fin 8) (h : Fin 16) (t : Fin 8192) (Z : ℕ → ℝ)
    (hz : ∀ i : Fin 8192, z (ix4 b h t i) = (Z i.val : EReal)) (s : Fin 8192) :
    av z (ix4 b h t s) = if s.val < t.val then ((wt Z t.val s.val : ℝ) : EReal) else 0 := by
  have e0 : av z (ix4 b h t s) = Scalar.select (msk (ix4 b h t s)) (Ideal.exp (ls z (ix4 b h t s) + suf (cs (lneg z)) (ix4 b h t s))) (zi (ix4 b h t s)) := rfl
  rw [e0, msk_at, sel_if, zi_at]
  by_cases hst : s.val < t.val
  · rw [if_pos hst, if_pos hst, ls_at z _ _ (hz s), suf_val z b h t Z hz s hst, ← EReal.coe_add, Ideal.exp_coe, sp_neg]
    unfold wt
    rw [Finset.sum_eq_sum_Ico_succ_bot hst]
    congr 2
    ring
  · rw [if_neg hst, if_neg hst]

/-- What the reference returns over finite scores. -/
theorem refO_val (q k v : FVec Ideal S8x8192x1024 .bf16) (b : Fin 8) (t : Fin 8192) (x : Fin 1024) (Z : ℕ → ℝ)
    (hz : ∀ i : Fin 8192, zt q k (ix4 b (⟨x.val / 64, by have := x.isLt; omega⟩ : Fin 16) t i) = (Z i.val : EReal)) :
    refO q k v (ix3 b t x) = ∑ s ∈ Finset.range t.val, ((wt Z t.val s : ℝ) : EReal) * v (ix3 b (⟨s % 8192, Nat.mod_lt _ (by norm_num)⟩ : Fin 8192) x) := by
  have ht := t.isLt
  rw [refO_at]
  have e : ∀ s : Fin 8192, av (zt q k) (ix4 b (⟨x.val / 64, by have := x.isLt; omega⟩ : Fin 16) t s) * hd v (ix4 b (⟨x.val / 64, by have := x.isLt; omega⟩ : Fin 16) s (⟨x.val % 64, Nat.mod_lt _ (by norm_num)⟩ : Fin 64))
      = (fun n : ℕ => if n < t.val then ((wt Z t.val n : ℝ) : EReal) * v (ix3 b (⟨n % 8192, Nat.mod_lt _ (by norm_num)⟩ : Fin 8192) x) else 0) s.val := by
    intro s
    have e1 : (⟨s.val % 8192, Nat.mod_lt _ (by norm_num)⟩ : Fin 8192) = s := Fin.ext (Nat.mod_eq_of_lt s.isLt)
    have e2 : ∀ hx, (⟨x.val / 64 * 64 + x.val % 64, hx⟩ : Fin 1024) = x := fun hx => Fin.ext (by show x.val / 64 * 64 + x.val % 64 = x.val; omega)
    dsimp only
    rw [av_val _ b _ t Z hz, hd_at, e1]
    dsimp only
    rw [e2]
    split
    · rfl
    · exact zero_mul _
  rw [Finset.sum_congr rfl fun s _ => e s,
    Fin.sum_univ_eq_sum_range (fun n : ℕ => if n < t.val then ((wt Z t.val n : ℝ) : EReal) * v (ix3 b (⟨n % 8192, Nat.mod_lt _ (by norm_num)⟩ : Fin 8192) x) else 0) 8192,
    ← Finset.sum_filter]
  refine Finset.sum_congr (Finset.ext fun n => ?_) fun _ _ => rfl
  rw [Finset.mem_filter, Finset.mem_range, Finset.mem_range]
  omega

end Cert.ReferenceIdeal.Att

end
-- ==== Proof.Val7.lean ====
/- The block of the output over finite scores: weighted sums over all earlier keys. -/
module

public import proofs.«01_k».proof.Proof.Val6

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Finset (Ico)

set_option maxHeartbeats 4000000

/-- The values of lane `l` at key `s`. -/
def vAt (x2 : Vec Ideal S1x8192x128 .bf16) (s : ℕ) (l : Fin 128) : EReal :=
  x2 (ix3 (0 : Fin 1) (⟨s % 8192, Nat.mod_lt _ (by norm_num)⟩ : Fin 8192) l)

theorem kv_at (x2 : Vec Ideal S1x8192x128 .bf16) (j : ℕ) (x l : Fin 128) : kvblk x2 j (ix3 (0 : Fin 1) x l) = vAt x2 (128 * j + x.val) l := rfl

theorem get_packA (v : Fin 4 → Vec Ideal S1x128x128 .f32) (g : Fin 4) : getA g (packA v) = v g := by
  funext x
  have h0 : (x 0 : Fin 1) = (0 : Fin 1) := Subsingleton.elim (α := Fin 1) _ _
  show v g (ix3 (0 : Fin 1) (x 1 : Fin 128) (x 2 : Fin 128)) = v g x
  rw [← h0, ix3_eta]
theorem get_packD (v : Fin 4 → Vec Ideal S1x256x1 .f32) (g : Fin 4) : getD g (packD v) = v g := by
  funext x
  have h0 : (x 0 : Fin 1) = (0 : Fin 1) := Subsingleton.elim (α := Fin 1) _ _
  show v g (ix3 (0 : Fin 1) (x 1 : Fin 256) (x 2 : Fin 1)) = v g x
  rw [← h0, ix3_eta]

theorem get_setA_ne (g g' : Fin 4) (h : g ≠ g') (A : Vec Ideal S4x128x128 .f32) (v : Vec Ideal S1x128x128 .f32) : getA g (setA g' A v) = getA g A := by
  funext x
  show (if g.val = g'.val then v (ix3 (0 : Fin 1) (x 1 : Fin 128) (x 2 : Fin 128)) else A (ix3 g (x 1 : Fin 128) (x 2 : Fin 128))) = _
  rw [if_neg (fun e => h (Fin.ext e))]; rfl
theorem get_setD_ne (g g' : Fin 4) (h : g ≠ g') (A : Vec Ideal S4x256x1 .f32) (v : Vec Ideal S1x256x1 .f32) : getD g (setD g' A v) = getD g A := by
  funext x
  show (if g.val = g'.val then v (ix3 (0 : Fin 1) (x 1 : Fin 256) (x 2 : Fin 1)) else A (ix3 g (x 1 : Fin 256) (x 2 : Fin 1))) = _
  rw [if_neg (fun e => h (Fin.ext e))]; rfl

section blk
variable (x0 : Vec Ideal S1x512x128 .bf16) (x1 x2 : Vec Ideal S1x8192x128 .bf16) (ig : ℕ) (z : Fin 4 → Fin 256 → ℕ → ℝ)
  (hz : ∀ (g : Fin 4) (j : ℕ) (ρ : Fin 256) (x : Fin 128), j < 64 →
    ZE (VS (qblk x0 g)) (K2 (kvblk x1 j)) (ix2 ρ x) = ((z g ρ (128 * j + x.val) : ℝ) : EReal))
include hz

theorem inv1 (g : Fin 4) (tb : ℕ) (ht : tb < 64) :
    Inv (z g) (vAt x2) tb tb (UpA (fA (VS (qblk x0 g)) (kvblk x1 tb) (kvblk x2 tb))) (UpD (fD (VS (qblk x0 g)) (kvblk x1 tb))) :=
  inv_first _ _ _ _ _ _ (fun ρ x => hz g tb ρ x ht) (fun x l => kv_at x2 tb x l)

theorem inv2 (g : Fin 4) (tb : ℕ) (ht : tb + 1 < 64) :
    Inv (z g) (vAt x2) (tb + 1) tb (UpA (A2 (VS (qblk x0 g)) (kvblk x1 (tb + 1)) (kvblk x2 (tb + 1)) (kvblk x1 tb) (kvblk x2 tb)))
      (UpD (D2 (VS (qblk x0 g)) (kvblk x1 (tb + 1)) (kvblk x1 tb))) := by
  have h := inv_next (VS (qblk x0 g)) (kvblk x1 tb) (kvblk x2 tb) (z g) (vAt x2) (tb + 1) tb (by omega)
    (fun ρ x => hz g tb ρ x (by omega)) (fun x l => kv_at x2 tb x l) _ _ (inv1 x0 x1 x2 z hz g (tb + 1) ht)
  rw [Dn_UpA, Dn_UpD] at h
  exact h

theorem inv3 (g : Fin 4) (tb : ℕ) (ht : tb + 2 < 64) :
    Inv (z g) (vAt x2) (tb + 2) tb (UpA (A3 (VS (qblk x0 g)) (kvblk x1 (tb + 2)) (kvblk x2 (tb + 2)) (kvblk x1 (tb + 1)) (kvblk x2 (tb + 1)) (kvblk x1 tb) (kvblk x2 tb)))
      (UpD (D3 (VS (qblk x0 g)) (kvblk x1 (tb + 2)) (kvblk x1 (tb + 1)) (kvblk x1 tb))) := by
  have h := inv_next (VS (qblk x0 g)) (kvblk x1 tb) (kvblk x2 tb) (z g) (vAt x2) (tb + 2) tb (by omega)
    (fun ρ x => hz g tb ρ x (by omega)) (fun x l => kv_at x2 tb x l) _ _ (inv2 x0 x1 x2 z hz g (tb + 1) ht)
  rw [Dn_UpA, Dn_UpD] at h
  exact h

theorem inv_init (hig : ig < 16) (g : Fin 4) :
    Inv (z g) (vAt x2) (4 * ig + g.val) (4 * ig + g.val - 2) (getA g (init x0 x1 x2 ig).1) (getD g (init x0 x1 x2 ig).2) := by
  unfold init
  by_cases h0 : ig = 0
  · subst h0
    rw [if_pos rfl, get_packA, get_packD]
    fin_cases g
    · show Inv (z 0) (vAt x2) 0 0 (b1_A x0 x1 x2 0) (b1_D x0 x1 x2 0)
      rw [b1_A0, b1_D0]; exact inv1 x0 x1 x2 z hz 0 0 (by norm_num)
    · show Inv (z 1) (vAt x2) 1 0 (b1_A x0 x1 x2 1) (b1_D x0 x1 x2 1)
      rw [b1_A1, b1_D1]; exact inv2 x0 x1 x2 z hz 1 0 (by norm_num)
    · show Inv (z 2) (vAt x2) 2 0 (b1_A x0 x1 x2 2) (b1_D x0 x1 x2 2)
      rw [b1_A2, b1_D2]; exact inv3 x0 x1 x2 z hz 2 0 (by norm_num)
    · show Inv (z 3) (vAt x2) 3 1 (b1_A x0 x1 x2 3) (b1_D x0 x1 x2 3)
      rw [b1_A3, b1_D3]; exact inv3 x0 x1 x2 z hz 3 1 (by norm_num)
  · rw [if_neg h0, get_packA, get_packD]
    obtain ⟨m, hm⟩ : ∃ m, 4 * ig = m + 2 := ⟨4 * ig - 2, by omega⟩
    rw [hm]
    fin_cases g
    · show Inv (z 0) (vAt x2) (m + 2) m (b2_A x0 x1 x2 (m + 2) 0) (b2_D x0 x1 x2 (m + 2) 0)
      rw [b2_A0, b2_D0]; exact inv3 x0 x1 x2 z hz 0 m (by omega)
    · show Inv (z 1) (vAt x2) (m + 3) (m + 1) (b2_A x0 x1 x2 (m + 2) 1) (b2_D x0 x1 x2 (m + 2) 1)
      rw [b2_A1, b2_D1]; exact inv3 x0 x1 x2 z hz 1 (m + 1) (by omega)
    · show Inv (z 2) (vAt x2) (m + 4) (m + 2) (b2_A x0 x1 x2 (m + 2) 2) (b2_D x0 x1 x2 (m + 2) 2)
      rw [b2_A2, b2_D2]; exact inv3 x0 x1 x2 z hz 2 (m + 2) (by omega)
    · show Inv (z 3) (vAt x2) (m + 5) (m + 3) (b2_A x0 x1 x2 (m + 2) 3) (b2_D x0 x1 x2 (m + 2) 3)
      rw [b2_A3, b2_D3]; exact inv3 x0 x1 x2 z hz 3 (m + 3) (by omega)

theorem inv_loop (g : Fin 4) (tb : ℕ) (ht : tb < 64) : ∀ (k : ℕ) (al : BitVec 1) (a : Vec Ideal S1x128x128 .f32) (d : Vec Ideal S1x256x1 .f32),
    k ≤ tb → al = 1#1 → Inv (z g) (vAt x2) tb k a d →
    Inv (z g) (vAt x2) tb 0 (wloop k0_pay210 k0_pay211 (VS (qblk x0 g)) x1 x2 k al a d).1 (wloop k0_pay210 k0_pay211 (VS (qblk x0 g)) x1 x2 k al a d).2
  | 0, al, a, d, _, _, h => h
  | k + 1, al, a, d, hk, hal, h => by
    have hn := inv_next (VS (qblk x0 g)) (kvblk x1 k) (kvblk x2 k) (z g) (vAt x2) tb k (by omega)
      (fun ρ x => hz g k ρ x (by omega)) (fun x l => kv_at x2 k x l) a d h
    have hg := stepG_of (VS (qblk x0 g)) (kvblk x1 k) d _ (hn.1 0)
    rw [← stepA_eq, ← stepD_eq] at hn
    unfold wloop
    rw [if_pos hal]
    exact inv_loop g tb ht k _ _ _ (by omega) hg hn

/-- The scratch once the loops of the groups below `m` are done. -/
def Done (m : ℕ) (s : Vec Ideal S4x128x128 .f32 × Vec Ideal S4x256x1 .f32) : Prop :=
  ∀ g : Fin 4, Inv (z g) (vAt x2) (4 * ig + g.val) (if g.val < m then 0 else 4 * ig + g.val - 2) (getA g s.1) (getD g s.2)

theorem done_after (hig : ig < 16) (g : Fin 4) (s : Vec Ideal S4x128x128 .f32 × Vec Ideal S4x256x1 .f32) (h : Done x2 ig z g.val s) :
    Done x2 ig z (g.val + 1) (after x0 x1 x2 ig g s) := by
  intro g'
  by_cases e : g' = g
  · subst e
    have hi := h g'
    rw [if_neg (lt_irrefl _)] at hi
    rw [if_pos (Nat.lt_succ_self _)]
    unfold after wstate
    rw [get_setA, get_setD, p219]
    have := g'.isLt
    exact inv_loop x0 x1 x2 z hz g' (4 * ig + g'.val) (by omega) _ _ _ _ (by omega) (alive_of _ _ (hi.1 0)) hi
  · have hi := h g'
    have : g'.val ≠ g.val := fun h => e (Fin.ext h)
    unfold after wstate
    rw [get_setA_ne _ _ e, get_setD_ne _ _ e]
    by_cases hl : g'.val < g.val
    · rw [if_pos hl] at hi
      rw [if_pos (by omega)]; exact hi
    · rw [if_neg hl] at hi
      rw [if_neg (by omega)]; exact hi

theorem done_fin (hig : ig < 16) : Done x2 ig z 4 (fin x0 x1 x2 ig) := by
  have h0 : Done x2 ig z 0 (init x0 x1 x2 ig) := by
    intro g
    rw [if_neg (Nat.not_lt_zero _)]
    exact inv_init x0 x1 x2 ig z hz hig g
  exact done_after x0 x1 x2 ig z hz hig 3 _ (done_after x0 x1 x2 ig z hz hig 2 _ (done_after x0 x1 x2 ig z hz hig 1 _ (done_after x0 x1 x2 ig z hz hig 0 _ h0)))

/-- Row `R` of the block of the output: the weighted sum of the values over all earlier keys. -/
theorem outv_at (hig : ig < 16) (R : Fin 512) (l : Fin 128) :
    outv x0 x1 x2 ig (ix3 (0 : Fin 1) R l) =
      ∑ s ∈ Finset.range (512 * ig + R.val),
        ((wt (z (⟨R.val / 128, by have := R.isLt; omega⟩ : Fin 4) (rowOf (⟨R.val % 128, Nat.mod_lt _ (by norm_num)⟩ : Fin 128) l)) (512 * ig + R.val) s : ℝ) : EReal) * vAt x2 s l := by
  have hp : ∀ (a : Vec Ideal S1x128x128 .f32) (r l : Fin 128), k0_pay1 a (ix3 (0 : Fin 1) r l) = a (ix3 (0 : Fin 1) r l) := by
    intro a r l
    pointwise [k0_pay1]
  have hd := (done_fin x0 x1 x2 ig z hz hig (⟨R.val / 128, by have := R.isLt; omega⟩ : Fin 4)).2 (⟨R.val % 128, Nat.mod_lt _ (by norm_num)⟩ : Fin 128) l
  rw [if_pos (show R.val / 128 < 4 by have := R.isLt; omega)] at hd
  have e : 128 * (4 * ig + R.val / 128) + R.val % 128 = 512 * ig + R.val := by omega
  have e' : 128 * (4 * ig + (⟨R.val / 128, by have := R.isLt; omega⟩ : Fin 4).val) + (⟨R.val % 128, Nat.mod_lt _ (by norm_num)⟩ : Fin 128).val = 512 * ig + R.val := e
  rw [e', Nat.mul_zero] at hd
  rw [Finset.range_eq_Ico]
  refine Eq.trans ?_ hd
  have ho : ∀ (v : Fin 4 → Vec Ideal S1x128x128 .bf16), packO v (ix3 (0 : Fin 1) R l) = v (⟨R.val / 128, by have := R.isLt; omega⟩ : Fin 4) (ix3 (0 : Fin 1) (⟨R.val % 128, Nat.mod_lt _ (by norm_num)⟩ : Fin 128) l) := fun v => rfl
  unfold outv
  rw [ho]
  exact hp _ _ _

end blk

end Cert.KernelIdeal.Att
end
-- ==== Proof.Val9.lean ====
/- The output array of the attention: each block at its place. -/
module

public import proofs.«01_k».proof.Proof.Val7
public import proofs.«01_k».proof.Proof.AttFrame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.ShloMosaic.Pipeline
open Finset (Ico)

set_option maxHeartbeats 4000000

theorem idx0 : ∀ t : Fin (cfg0 (F := Ideal)).N, win0_0.index t = ![t.val / 128, t.val % 16, t.val / 16 % 8] := (by decide +kernel : ∀ t : Fin grid0.N, _)
theorem idx1 : ∀ t : Fin (cfg0 (F := Ideal)).N, win0_1.index t = ![t.val / 128, 0, t.val / 16 % 8] := (by decide +kernel : ∀ t : Fin grid0.N, _)
theorem idx2 : ∀ t : Fin (cfg0 (F := Ideal)).N, win0_2.index t = ![t.val / 128, 0, t.val / 16 % 8] := (by decide +kernel : ∀ t : Fin grid0.N, _)
theorem idx3 : ∀ t : Fin (cfg0 (F := Ideal)).N, win0_3.index t = ![t.val / 128, t.val % 16, t.val / 16 % 8] := (by decide +kernel : ∀ t : Fin grid0.N, _)
theorem co2 : ∀ t : Fin (cfg0 (F := Ideal)).N, ((grid0.coords t) 2 : Fin 16).val = t.val % 16 := (by decide +kernel : ∀ t : Fin grid0.N, _)

variable (m : (ℓ : Loc Cert.KernelIdeal.nD τ sig) → Buf (Elt Ideal) ℓ)

theorem blk0 (c : Dev Cert.KernelIdeal.nD) (t : Fin (cfg0 (F := Ideal)).N) (ht : t.val < 1024) (R : Fin 512) (l : Fin 128) :
    (iblk m c 0 t : Vec Ideal S1x512x128 .bf16) (ix3 (0 : Fin 1) R l)
      = (m ((c.tc : Thread Cert.KernelIdeal.nD τ).loc main_arg0) : Vec Ideal S8x8192x1024 .bf16) (ix3 (⟨t.val / 128, by omega⟩ : Fin 8) (⟨t.val % 16 * 512 + R.val, by omega⟩ : Fin 8192) (⟨t.val / 16 % 8 * 128 + l.val, by omega⟩ : Fin 1024)) := by
  blk_ext [iblk, V, idx0 t]
theorem blk1 (c : Dev Cert.KernelIdeal.nD) (t : Fin (cfg0 (F := Ideal)).N) (ht : t.val < 1024) (R : Fin 8192) (l : Fin 128) :
    (iblk m c 1 t : Vec Ideal S1x8192x128 .bf16) (ix3 (0 : Fin 1) R l)
      = (m ((c.tc : Thread Cert.KernelIdeal.nD τ).loc main_arg1) : Vec Ideal S8x8192x1024 .bf16) (ix3 (⟨t.val / 128, by omega⟩ : Fin 8) R (⟨t.val / 16 % 8 * 128 + l.val, by omega⟩ : Fin 1024)) := by
  blk_ext [iblk, V, idx1 t]
theorem blk2 (c : Dev Cert.KernelIdeal.nD) (t : Fin (cfg0 (F := Ideal)).N) (ht : t.val < 1024) (R : Fin 8192) (l : Fin 128) :
    (iblk m c 2 t : Vec Ideal S1x8192x128 .bf16) (ix3 (0 : Fin 1) R l)
      = (m ((c.tc : Thread Cert.KernelIdeal.nD τ).loc main_arg2) : Vec Ideal S8x8192x1024 .bf16) (ix3 (⟨t.val / 128, by omega⟩ : Fin 8) R (⟨t.val / 16 % 8 * 128 + l.val, by omega⟩ : Fin 1024)) := by
  blk_ext [iblk, V, idx2 t]

/-- The output array is any array that has at each block what the body left there. -/
theorem final (c : Dev Cert.KernelIdeal.nD) (G : Vec Ideal S8x8192x1024 .bf16)
    (hG : ∀ (t : Fin (cfg0 (F := Ideal)).N) (ht : t.val < 1024) (R : Fin 512) (l : Fin 128),
      outv (iblk m c 0 t) (iblk m c 1 t) (iblk m c 2 t) (t.val % 16) (ix3 (0 : Fin 1) R l)
        = G (ix3 (⟨t.val / 128, by omega⟩ : Fin 8) (⟨t.val % 16 * 512 + R.val, by omega⟩ : Fin 8192) (⟨t.val / 16 % 8 * 128 + l.val, by omega⟩ : Fin 1024))) :
    (dats m 0 c).arrAt 3 (cfg0 (F := Ideal)).N = G := by
  refine (dats m 0 c).arrAt_eq_of_covers 3 G (by decide +kernel) fun t _ y => ?_
  blk_simp
  rw [after0_3, co2]
  have ht : t.val < 1024 := t.isLt
  refine Eq.trans ?_ ((hG t ht (y 1) (y 2)).trans ?_)
  · congr 1
    funext a
    match a with
    | ⟨0, _⟩ => exact Subsingleton.elim (α := Fin 1) _ _
    | ⟨1, _⟩ => rfl
    | ⟨2, _⟩ => rfl
  · congr 1
    have h0 : (y 0).val = 0 := Nat.lt_one_iff.mp (y 0).isLt
    blk_ext [idx3 t]

end Cert.KernelIdeal.Att

end
-- ==== Proof.Val10.lean ====
/- The kernel's array is the reference's, over finite queries and keys. -/
module

public import proofs.«01_k».proof.Defs
public import proofs.«01_k».proof.Proof.Gen.Pre_finite_qk
public import proofs.«01_k».proof.Proof.Val8
public import proofs.«01_k».proof.Proof.Val9

@[expose] public section

set_option maxRecDepth 16384

noncomputable section

namespace Cert.Equal

open Cert.KernelIdeal Cert.KernelIdeal.Gen Cert.KernelIdeal.Att
open Idealize.ShloMosaic Idealize.ShloMosaic.TcCoe Idealize.ShloMosaic.Tactic

set_option maxHeartbeats 4000000

/-- An argument's entry as a real. -/
def rn (q : Vec Ideal S8x8192x1024 .bf16) (b t x : ℕ) : ℝ :=
  (q (ix3 (⟨b % 8, Nat.mod_lt _ (by norm_num)⟩ : Fin 8) (⟨t % 8192, Nat.mod_lt _ (by norm_num)⟩ : Fin 8192) (⟨x % 1024, Nat.mod_lt _ (by norm_num)⟩ : Fin 1024)) : EReal).toReal

/-- The score of query `t` and key `s` under head `h`. -/
def zR (q k : Vec Ideal S8x8192x1024 .bf16) (b h t s : ℕ) : ℝ :=
  ∑ d : Fin 64, rn q b t (h * 64 + d.val) * rn k b s (h * 64 + d.val)

/-- Every entry is a real. -/
def Fin3 (q : Vec Ideal S8x8192x1024 .bf16) : Prop := ∀ i, (q i : EReal) ≠ ⊤ ∧ (q i : EReal) ≠ ⊥

theorem rn_at (q : Vec Ideal S8x8192x1024 .bf16) (hq : Fin3 q) (b : Fin 8) (t : Fin 8192) (x : Fin 1024) :
    (q (ix3 b t x) : EReal) = ((rn q b.val t.val x.val : ℝ) : EReal) := by
  unfold rn
  have e : (ix3 (⟨b.val % 8, Nat.mod_lt _ (by norm_num)⟩ : Fin 8) (⟨t.val % 8192, Nat.mod_lt _ (by norm_num)⟩ : Fin 8192) (⟨x.val % 1024, Nat.mod_lt _ (by norm_num)⟩ : Fin 1024) : S8x8192x1024.Idx) = ix3 b t x := by
    simp only [Nat.mod_eq_of_lt b.isLt, Nat.mod_eq_of_lt t.isLt, Nat.mod_eq_of_lt x.isLt, Fin.eta]
  rw [e, EReal.coe_toReal (hq _).1 (hq _).2]

theorem fin_of (q : EReal) (h : Ideal.cmp .olt (max q (-q)) (⊤ : EReal) = 1#1) : q ≠ ⊤ ∧ q ≠ ⊥ := by
  refine ⟨?_, ?_⟩ <;> (rintro rfl; simp [Ideal.cmp] at h)

theorem fin_qk (q k v : Vec Ideal S8x8192x1024 .bf16) (h : Cert.Pre_finite_qk.fn (F := Ideal) q k v = fun _ => 1#1) : Fin3 q ∧ Fin3 k := by
  have hi : (Ideal.ofBits .f32 0x7F800000#32 : EReal) = ⊤ := by
    simp [Ideal.ofBits, Ideal.ieee]
  have e : ∀ i, Ideal.cmp .olt (max (q i : EReal) (-(q i : EReal))) ⊤ = 1#1 ∧ Ideal.cmp .olt (max (k i : EReal) (-(k i : EReal))) ⊤ = 1#1 := by
    intro i
    have h1 := congrFun h i
    have h2 : IntOp.andi (Ideal.cmp .olt (max (q i : EReal) (-(q i : EReal))) (Ideal.ofBits .f32 0x7F800000#32)) (Ideal.cmp .olt (max (k i : EReal) (-(k i : EReal))) (Ideal.ofBits .f32 0x7F800000#32)) = 1#1 := h1
    rw [hi] at h2
    revert h2
    generalize Ideal.cmp .olt (max (q i : EReal) (-(q i : EReal))) ⊤ = x
    generalize Ideal.cmp .olt (max (k i : EReal) (-(k i : EReal))) ⊤ = y
    revert x y
    decide
  exact ⟨fun i => fin_of _ (e i).1, fun i => fin_of _ (e i).2⟩

/-- The reference's scores are the real ones. -/
theorem zt_real (q k : Vec Ideal S8x8192x1024 .bf16) (hq : Fin3 q) (hk : Fin3 k) (b : Fin 8) (h : Fin 16) (t s : Fin 8192) :
    Cert.ReferenceIdeal.Att.zt q k (ix4 b h t s) = ((zR q k b.val h.val t.val s.val : ℝ) : EReal) := by
  rw [Cert.ReferenceIdeal.Att.zt_at]
  unfold zR
  rw [coe_sum]
  refine Finset.sum_congr rfl fun d _ => ?_
  rw [Cert.ReferenceIdeal.Att.hd_at, Cert.ReferenceIdeal.Att.hd_at, EReal.coe_mul]
  exact congrArg₂ (· * ·) (rn_at q hq b t _) (rn_at k hk b s _)

/-- A product of a half-masked row of queries with a row of keys: the score of one head. -/
theorem ze_real (x0 : Vec Ideal S1x512x128 .bf16) (x1 : Vec Ideal S1x8192x128 .bf16) (qr kr : ℕ → ℕ → ℝ)
    (hx0 : ∀ (R : Fin 512) (l : Fin 128), (x0 (ix3 (0 : Fin 1) R l) : EReal) = ((qr R.val l.val : ℝ) : EReal))
    (hx1 : ∀ (R : Fin 8192) (l : Fin 128), (x1 (ix3 (0 : Fin 1) R l) : EReal) = ((kr R.val l.val : ℝ) : EReal))
    (g : Fin 4) (j : ℕ) (ρ : Fin 256) (x : Fin 128) (hj : j < 64) :
    ZE (VS (qblk x0 g)) (K2 (kvblk x1 j)) (ix2 ρ x)
      = ((∑ d : Fin 64, qr (128 * g.val + ρ.val % 128) (ρ.val / 128 * 64 + d.val) * kr (128 * j + x.val) (ρ.val / 128 * 64 + d.val) : ℝ) : EReal) := by
  have hx := x.isLt
  have hg := g.isLt
  have hρ := ρ.isLt
  have hK : ∀ l : Fin 128, K2 (kvblk x1 j) (ix2 x l) = ((kr (128 * j + x.val) l.val : ℝ) : EReal) := by
    intro l
    rw [K2_at]
    refine Eq.trans (hx1 (⟨(128 * j + x.val) % 8192, Nat.mod_lt _ (by norm_num)⟩ : Fin 8192) l) ?_
    show ((kr ((128 * j + x.val) % 8192) l.val : ℝ) : EReal) = _
    rw [Nat.mod_eq_of_lt (by omega)]
  have hQ : ∀ (r l : Fin 128), (qblk x0 g (ix3 (0 : Fin 1) r l) : EReal) = ((qr (128 * g.val + r.val) l.val : ℝ) : EReal) := fun r l =>
    hx0 (⟨128 * g.val + r.val, by have := r.isLt; omega⟩ : Fin 512) l
  rw [ZE_at, coe_sum]
  refine (Fin.sum_univ_add (a := 64) (b := 64) _).trans ?_
  rcases Nat.lt_or_ge ρ.val 128 with h | h
  · have e2 : ∀ d : Fin 64, VS (qblk x0 g) (ix2 ρ (Fin.natAdd 64 d : Fin 128)) * K2 (kvblk x1 j) (ix2 x (Fin.natAdd 64 d : Fin 128)) = (0 : EReal) := by
      intro d
      rw [VS_at, dif_pos h, if_neg (by show ¬ (64 + d.val < 64); omega)]
      exact zero_mul _
    rw [Finset.sum_congr rfl fun d _ => e2 d, Finset.sum_const_zero, add_zero]
    refine Finset.sum_congr rfl fun d _ => ?_
    rw [VS_at, dif_pos h, if_pos (by show d.val < 64; exact d.isLt), hQ, hK, ← EReal.coe_mul]
    show ((qr (128 * g.val + ρ.val) d.val * kr (128 * j + x.val) d.val : ℝ) : EReal) = _
    rw [show ρ.val % 128 = ρ.val by omega, show ρ.val / 128 * 64 + d.val = d.val by omega]
  · have e2 : ∀ d : Fin 64, VS (qblk x0 g) (ix2 ρ (Fin.castAdd 64 d : Fin 128)) * K2 (kvblk x1 j) (ix2 x (Fin.castAdd 64 d : Fin 128)) = (0 : EReal) := by
      intro d
      rw [VS_at, dif_neg (by omega), if_pos (by show d.val < 64; exact d.isLt)]
      exact zero_mul _
    rw [Finset.sum_congr rfl fun d _ => e2 d, Finset.sum_const_zero, zero_add]
    refine Finset.sum_congr rfl fun d _ => ?_
    rw [VS_at, dif_neg (by omega), if_neg (by show ¬ (64 + d.val < 64); omega), hQ, hK, ← EReal.coe_mul]
    show ((qr (128 * g.val + (ρ.val - 128)) (64 + d.val) * kr (128 * j + x.val) (64 + d.val) : ℝ) : EReal) = _
    rw [show ρ.val % 128 = ρ.val - 128 by omega, show ρ.val / 128 * 64 + d.val = 64 + d.val by omega]

/-- Over finite queries and keys the output array is what the reference returns. -/
theorem equal (m : (ℓ : Loc Cert.KernelIdeal.nD τ sig) → Buf (Elt Ideal) ℓ) (c : Dev Cert.KernelIdeal.nD)
    (hq : Fin3 (m ((c.tc : Thread Cert.KernelIdeal.nD τ).loc main_arg0))) (hk : Fin3 (m ((c.tc : Thread Cert.KernelIdeal.nD τ).loc main_arg1))) :
    (dats m 0 c).arrAt 3 (cfg0 (F := Ideal)).N
      = Cert.ReferenceIdeal.Att.refO (m ((c.tc : Thread Cert.KernelIdeal.nD τ).loc main_arg0)) (m ((c.tc : Thread Cert.KernelIdeal.nD τ).loc main_arg1)) (m ((c.tc : Thread Cert.KernelIdeal.nD τ).loc main_arg2)) := by
  refine final m c _ fun t ht R l => ?_
  have hR := R.isLt
  have hl := l.isLt
  have b0 := blk0 m c t ht
  have b1 := blk1 m c t ht
  have b2 := blk2 m c t ht
  revert b0 b1 b2 hq hk
  generalize (m ((c.tc : Thread Cert.KernelIdeal.nD τ).loc main_arg0) : Vec Ideal S8x8192x1024 .bf16) = q
  generalize (m ((c.tc : Thread Cert.KernelIdeal.nD τ).loc main_arg1) : Vec Ideal S8x8192x1024 .bf16) = k
  generalize (m ((c.tc : Thread Cert.KernelIdeal.nD τ).loc main_arg2) : Vec Ideal S8x8192x1024 .bf16) = v
  generalize (iblk m c 0 t : Vec Ideal S1x512x128 .bf16) = x0
  generalize (iblk m c 1 t : Vec Ideal S1x8192x128 .bf16) = x1
  generalize (iblk m c 2 t : Vec Ideal S1x8192x128 .bf16) = x2
  intro hq hk b0 b1 b2
  rw [outv_at x0 x1 x2 (t.val % 16)
    (fun g ρ s => zR q k (t.val / 128) (2 * (t.val / 16 % 8) + ρ.val / 128) (512 * (t.val % 16) + 128 * g.val + ρ.val % 128) s) ?_ (Nat.mod_lt _ (by norm_num)) R l]
  · rw [Cert.ReferenceIdeal.Att.refO_val q k v _ _ _ (fun s => zR q k (t.val / 128) ((t.val / 16 % 8 * 128 + l.val) / 64) (t.val % 16 * 512 + R.val) s)
      (fun i => zt_real q k hq hk _ _ _ i)]
    have e1 : 512 * (t.val % 16) + R.val = t.val % 16 * 512 + R.val := by omega
    dsimp only
    rw [e1]
    refine Finset.sum_congr rfl fun s hs => congrArg₂ (· * ·) ?_ ?_
    · unfold rowOf
      dsimp only
      rw [show 2 * (t.val / 16 % 8) + (128 * (l.val / 64) + R.val % 128) / 128 = (t.val / 16 % 8 * 128 + l.val) / 64 by omega,
        show 512 * (t.val % 16) + 128 * (R.val / 128) + (128 * (l.val / 64) + R.val % 128) % 128 = t.val % 16 * 512 + R.val by omega]
    · exact b2 _ l
  · intro g j ρ x hj
    have hρ := ρ.isLt
    have hg := g.isLt
    refine (ze_real x0 x1 (fun R l => rn q (t.val / 128) (t.val % 16 * 512 + R) (t.val / 16 % 8 * 128 + l)) (fun s l => rn k (t.val / 128) s (t.val / 16 % 8 * 128 + l))
      (fun R l => (b0 R l).trans (rn_at q hq _ _ _)) (fun R l => (b1 R l).trans (rn_at k hk _ _ _)) g j ρ x hj).trans ?_
    unfold zR
    congr 1
    refine Finset.sum_congr rfl fun d _ => ?_
    rw [show t.val % 16 * 512 + (128 * g.val + ρ.val % 128) = 512 * (t.val % 16) + 128 * g.val + ρ.val % 128 by omega,
      show t.val / 16 % 8 * 128 + (ρ.val / 128 * 64 + d.val) = (2 * (t.val / 16 % 8) + ρ.val / 128) * 64 + d.val by omega]

end Cert.Equal

end
-- ==== Proof.Ffn1.lean ====
/- The feed-forward update of a row block: what the body leaves, chunk by chunk, as one sum. -/
module

public import proofs.«01_k».proof.Proof.Gen.Kernel2Ideal.Frame
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.ShloMosaic.Pipeline

set_option maxHeartbeats 1000000

/-- The normalised row, before the gain's product is rounded. -/
def nrm (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- The share of hidden unit `f` in an output lane. -/
def unit (n : Fin 1024 → EReal) (W : Fin 1024 → Fin 5632 → EReal) (O : Fin 2816 → EReal) (f : Fin 2816) : EReal :=
  (∑ d : Fin 1024, n d * W d ⟨f.val, by omega⟩) * Ideal.logistic (∑ d : Fin 1024, n d * W d ⟨f.val, by omega⟩)
    * (∑ d : Fin 1024, n d * W d ⟨2816 + f.val, by omega⟩) * O f

/-- Gate columns, up columns and output rows of chunk `k`. -/
def gt (W : Vec Ideal S1024x5632 .bf16) (k : Fin 11) : Vec Ideal S1024x256 .bf16 :=
  View.ld W (Rect.unit (s := S1024x5632) ![0, k.val * 256] S1024x256.size (by intro a; have := k.isLt; fin_cases a <;> simp [S1024x256, S1024x5632, Shape.size] <;> omega))
def up (W : Vec Ideal S1024x5632 .bf16) (k : Fin 11) : Vec Ideal S1024x256 .bf16 :=
  View.ld W (Rect.unit (s := S1024x5632) ![0, 2816 + k.val * 256] S1024x256.size (by intro a; have := k.isLt; fin_cases a <;> simp [S1024x256, S1024x5632, Shape.size] <;> omega))
def ou (O : Vec Ideal S2816x1024 .bf16) (k : Fin 11) : Vec Ideal S256x1024 .bf16 :=
  View.ld O (Rect.unit (s := S2816x1024) ![k.val * 256, 0] S256x1024.size (by intro a; have := k.isLt; fin_cases a <;> simp [S256x1024, S2816x1024, Shape.size] <;> omega))

theorem gt_at (W : Vec Ideal S1024x5632 .bf16) (k : Fin 11) (d : Fin 1024) (j : Fin 256) :
    gt W k (ix2 d j) = W (ix2 d (⟨k.val * 256 + j.val, by omega⟩ : Fin 5632)) := by
  pointwise [gt]
theorem up_at (W : Vec Ideal S1024x5632 .bf16) (k : Fin 11) (d : Fin 1024) (j : Fin 256) :
    up W k (ix2 d j) = W (ix2 d (⟨2816 + (k.val * 256 + j.val), by omega⟩ : Fin 5632)) := by
  pointwise [up]
  congr 2
  exact Fin.ext (Nat.add_assoc _ _ _)
theorem ou_at (O : Vec Ideal S2816x1024 .bf16) (k : Fin 11) (j : Fin 256) (l : Fin 1024) :
    ou O k (ix2 j l) = O (ix2 (⟨k.val * 256 + j.val, by omega⟩ : Fin 2816) l) := by
  pointwise [ou]

def dot1 (n : FVec Ideal S512x1024 .bf16) (w : Vec Ideal S1024x256 .bf16) : FVec Ideal S512x256 .f32 :=
  matmul dot_S512x1024_S1024x256_S512x256_1_0_0_1_n_n none n (shapeCast S1024x256 w shapeCasts_S1024x256_S1024x256 : FVec Ideal S1024x256 .bf16) (constant S512x256 .f32 0x00000000#32)

theorem dot1_at (n : FVec Ideal S512x1024 .bf16) (w : Vec Ideal S1024x256 .bf16) (r : Fin 512) (j : Fin 256) :
    dot1 n w (ix2 r j) = ∑ d : Fin 1024, n (ix2 r d) * w (ix2 d j) := by
  pointwise [dot1]

/-- One chunk. -/
def st (n : FVec Ideal S512x1024 .bf16) (W : Vec Ideal S1024x5632 .bf16) (O : Vec Ideal S2816x1024 .bf16) (k : Fin 11) (acc : FVec Ideal S512x1024 .f32) : FVec Ideal S512x1024 .f32 :=
  addf acc (matmul dot_S512x256_S256x1024_S512x1024_1_0_0_1_n_n none
    (truncf .bf16 (mulf (mulf (dot1 n (gt W k)) (logistic (dot1 n (gt W k)))) (dot1 n (up W k))) bitsLt_bf16_f32)
    (shapeCast S256x1024 (ou O k) shapeCasts_S256x1024_S256x1024 : FVec Ideal S256x1024 .bf16) (constant S512x1024 .f32 0x00000000#32))

theorem st_at (n : FVec Ideal S512x1024 .bf16) (W : Vec Ideal S1024x5632 .bf16) (O : Vec Ideal S2816x1024 .bf16) (k : Fin 11) (acc : FVec Ideal S512x1024 .f32) (r : Fin 512) (l : Fin 1024) :
    st n W O k acc (ix2 r l) = acc (ix2 r l) + ∑ j : Fin 256, unit (fun d => n (ix2 r d)) (fun d f => W (ix2 d f)) (fun f => O (ix2 f l)) ⟨k.val * 256 + j.val, by omega⟩ := by
  have e : st n W O k acc (ix2 r l) = acc (ix2 r l) + ∑ j : Fin 256, dot1 n (gt W k) (ix2 r j) * Ideal.logistic (dot1 n (gt W k) (ix2 r j)) * dot1 n (up W k) (ix2 r j) * ou O k (ix2 j l) := by
    unfold st
    generalize dot1 n (gt W k) = A
    generalize dot1 n (up W k) = B
    generalize ou O k = C
    pointwise
  rw [e]
  simp only [dot1_at, gt_at, up_at, ou_at, unit]

/-- The normalised block. -/
def nb (X : FVec Ideal S512x1024 .f32) (g : Vec Ideal S1x1024 .f32) : FVec Ideal S512x1024 .bf16 :=
  truncf .bf16 (mulf (mulf X (broadcastTo S512x1024 (rsqrt (addf (divf (shapeCast S512x1 (multiReduction .add [1] S512 (mulf X X) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)) bitsLt_bf16_f32

theorem nb_at (X : FVec Ideal S512x1024 .f32) (g : Vec Ideal S1x1024 .f32) (r : Fin 512) (d : Fin 1024) :
    nb X g (ix2 r d) = nrm (fun k => X (ix2 r k)) (fun k => g (ix2 (0 : Fin 1) k)) d := by
  pointwise [nb, nrm]

/-- What the body leaves over the block `X`. -/
def kout (X : FVec Ideal S512x1024 .f32) (g : Vec Ideal S1x1024 .f32) (W : Vec Ideal S1024x5632 .bf16) (O : Vec Ideal S2816x1024 .bf16) : FVec Ideal S512x1024 .f32 :=
  let s := st (nb X g) W O
  addf X (mulf (broadcast S512x1024 (Scalar.ofBits .f32 0x3F000000#32))
    (s 10 (s 9 (s 8 (s 7 (s 6 (s 5 (s 4 (s 3 (s 2 (s 1 (s 0 (broadcast S512x1024 (Scalar.ofBits .f32 0x00000000#32))))))))))))))

theorem sum11 (F : Fin 11 → EReal) : 0 + F 0 + F 1 + F 2 + F 3 + F 4 + F 5 + F 6 + F 7 + F 8 + F 9 + F 10 = ∑ k, F k := by
  simp only [Fin.sum_univ_castSucc, Fin.sum_univ_zero]
  rfl

/-- The updated lane `l` of row `x`. -/
def ffn (x g : Fin 1024 → EReal) (W : Fin 1024 → Fin 5632 → EReal) (O : Fin 2816 → Fin 1024 → EReal) (l : Fin 1024) : EReal :=
  x l + Ideal.ofBits .f32 0x3F000000#32 * ∑ f : Fin 2816, unit (nrm x g) W (fun f => O f l) f

theorem kout_at (X : FVec Ideal S512x1024 .f32) (g : Vec Ideal S1x1024 .f32) (W : Vec Ideal S1024x5632 .bf16) (O : Vec Ideal S2816x1024 .bf16) (r : Fin 512) (l : Fin 1024) :
    kout X g W O (ix2 r l) = ffn (fun k => X (ix2 r k)) (fun k => g (ix2 (0 : Fin 1) k)) (fun d f => W (ix2 d f)) (fun f l => O (ix2 f l)) l := by
  have e : kout X g W O (ix2 r l) = X (ix2 r l) + Ideal.ofBits .f32 0x3F000000#32 * (st (nb X g) W O 10 (st (nb X g) W O 9 (st (nb X g) W O 8 (st (nb X g) W O 7 (st (nb X g) W O 6 (st (nb X g) W O 5 (st (nb X g) W O 4 (st (nb X g) W O 3 (st (nb X g) W O 2 (st (nb X g) W O 1 (st (nb X g) W O 0 (broadcast S512x1024 (Scalar.ofBits .f32 0x00000000#32)))))))))))) (ix2 r l)) := rfl
  have z : (broadcast S512x1024 (Scalar.ofBits (F := Ideal) .f32 0x00000000#32) : FVec Ideal S512x1024 .f32) (ix2 r l) = (0 : EReal) := by pointwise
  rw [e, ffn, Fin.sum_univ_tiles 11 256 rfl]
  simp only [st_at, nb_at, z]
  congr 2
  exact sum11 fun k => ∑ j : Fin 256, unit (nrm (fun k => X (ix2 r k)) (fun k => g (ix2 (0 : Fin 1) k))) (fun d f => W (ix2 d f)) (fun f => O (ix2 f l)) ⟨k.val * 256 + j.val, by omega⟩

theorem out_eq (x0 : Vec Ideal S512x1024 .f32) (x1 : Vec Ideal S1x1024 .f32) (x2 : Vec Ideal S1024x5632 .bf16) (x3 : Vec Ideal S2816x1024 .bf16) :
    out0_4 x0 x1 x2 x3 = kout (shapeCast S512x1024 x0 shapeCasts_S512x1024_S512x1024) x1 x2 x3 := by
  unfold out0_4 k0_pay12
  frame_out
  rfl

end Cert.Kernel2Ideal.Ffn

end
-- ==== Proof.Ffn2.lean ====
/- The reference's feed-forward update at an index. -/
module

public import proofs.«01_k».proof.Proof.Ffn1
public import proofs.«01_k».proof.Proof.Gen.Reference2Ideal.Run
public import proofs.«01_k».proof.Proof.Gen.Reference3Ideal.Run

@[expose] public section

set_option maxRecDepth 16384

noncomputable section

namespace Cert.Reference2Ideal.Ffn

open Cert.Reference2Ideal Cert.Reference2Ideal.Gen
open Idealize.ShloMosaic Idealize.ShloMosaic.TcCoe Idealize.ShloMosaic.Tactic
open Cert.Kernel2Ideal.Ffn (nrm unit ffn)

set_option maxHeartbeats 1000000

/-- The normalised stream. -/
def nr (H : FVec Ideal S8x8192x1024 .f32) (g : FVec Ideal S1024 .f32) : FVec Ideal S8x8192x1024 .f32 :=
  mulf (mulf H (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf H H) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

theorem nr_at (H : FVec Ideal S8x8192x1024 .f32) (g : FVec Ideal S1024 .f32) (b : Fin 8) (s : Fin 8192) (d : Fin 1024) :
    nr H g (ix3 b s d) = nrm (fun k => H (ix3 b s k)) (fun k => g (ix1 k)) d := by
  pointwise [nr, nrm]

/-- The hidden units, gates first. -/
def hid (N : FVec Ideal S8x8192x1024 .f32) (W : FVec Ideal S1024x5632 .f32) : FVec Ideal S8x8192x5632 .f32 :=
  Host.dotGeneral dot_S8x8192x1024_S1024x5632_S8x8192x5632_2_0_01_1_n_n none N W
theorem hid_at (N : FVec Ideal S8x8192x1024 .f32) (W : FVec Ideal S1024x5632 .f32) (b : Fin 8) (s : Fin 8192) (f : Fin 5632) :
    hid N W (ix3 b s f) = ∑ d : Fin 1024, N (ix3 b s d) * W (ix2 d f) := by
  pointwise [hid]

/-- The gated units. -/
def act (U : FVec Ideal S8x8192x5632 .f32) : FVec Ideal S8x8192x2816 .f32 :=
  mulf (mulf (extractStridedSlice S8x8192x2816 ![0, 0, 0] U slices_S8x8192x5632_S8x8192x2816_0_0_0) (Host.divf (broadcastInDim S8x8192x2816 ![] bcast_S_S8x8192x2816 (constant S_ .f32 0x3F800000#32)) (addf (broadcastInDim S8x8192x2816 ![] bcast_S_S8x8192x2816 (constant S_ .f32 0x3F800000#32)) (Host.exp (Host.negf (extractStridedSlice S8x8192x2816 ![0, 0, 0] U slices_S8x8192x5632_S8x8192x2816_0_0_0))))))
    (extractStridedSlice S8x8192x2816 ![0, 0, 2816] U slices_S8x8192x5632_S8x8192x2816_0_0_2816)
theorem act_at (U : FVec Ideal S8x8192x5632 .f32) (b : Fin 8) (s : Fin 8192) (f : Fin 2816) :
    act U (ix3 b s f) = U (ix3 b s (⟨f.val, by omega⟩ : Fin 5632)) * Ideal.logistic (U (ix3 b s (⟨f.val, by omega⟩ : Fin 5632))) * U (ix3 b s (⟨2816 + f.val, by omega⟩ : Fin 5632)) := by
  pointwise [act, Ideal.logistic]

/-- The update of the stream `H`. -/
def upd (H : FVec Ideal S8x8192x1024 .f32) (g : FVec Ideal S1024 .f32) (W : FVec Ideal S1024x5632 .f32) (O : FVec Ideal S2816x1024 .f32) : FVec Ideal S8x8192x1024 .f32 :=
  addf H (mulf (broadcastInDim S8x8192x1024 ![] bcast_S_S8x8192x1024 (constant S_ .f32 0x3F000000#32)) (Host.dotGeneral dot_S8x8192x2816_S2816x1024_S8x8192x1024_2_0_01_1_n_n none (act (hid (nr H g) W)) O))
theorem upd_at (H : FVec Ideal S8x8192x1024 .f32) (g : FVec Ideal S1024 .f32) (W : FVec Ideal S1024x5632 .f32) (O : FVec Ideal S2816x1024 .f32) (b : Fin 8) (s : Fin 8192) (l : Fin 1024) :
    upd H g W O (ix3 b s l) = ffn (fun k => H (ix3 b s k)) (fun k => g (ix1 k)) (fun d f => W (ix2 d f)) (fun f l => O (ix2 f l)) l := by
  have e : upd H g W O (ix3 b s l) = H (ix3 b s l) + Ideal.ofBits .f32 0x3F000000#32 * ∑ f : Fin 2816, act (hid (nr H g) W) (ix3 b s f) * O (ix2 f l) := by
    unfold upd
    generalize act (hid (nr H g) W) = A
    pointwise
  rw [e]
  simp only [act_at, hid_at, nr_at, ffn, unit]

/-- The stream after the projection of `a`. -/
def prj (x : FVec Ideal S8x8192x1024 .f32) (a : FVec Ideal S8x8192x1024 .bf16) (P : FVec Ideal Cert.Reference3Ideal.S1024x1024 .f32) : FVec Ideal S8x8192x1024 .f32 :=
  addf x (Host.dotGeneral Cert.Reference3Ideal.dot_S8x8192x1024_S1024x1024_S8x8192x1024_2_0_01_1_n_n none (extf .f32 a Cert.Reference3Ideal.Gen.bitsLt_bf16_f32) P)
theorem prj_at (x : FVec Ideal S8x8192x1024 .f32) (a : FVec Ideal S8x8192x1024 .bf16) (P : FVec Ideal Cert.Reference3Ideal.S1024x1024 .f32) (b : Fin 8) (s : Fin 8192) (l : Fin 1024) :
    prj x a P (ix3 b s l) = x (ix3 b s l) + ∑ d : Fin 1024, a (ix3 b s d) * P (ix2 d l) := by
  pointwise [prj]

/-- The result: the tokens of all sequences in one row axis. -/
def rows (H : FVec Ideal S8x8192x1024 .f32) : FVec Ideal S65536x1024 .f32 := shapeCast _ H shapeCasts_S8x8192x1024_S65536x1024
theorem rows_at (H : FVec Ideal S8x8192x1024 .f32) (r : Fin 65536) (l : Fin 1024) :
    rows H (ix2 r l) = H (ix3 (⟨r.val / 8192, by omega⟩ : Fin 8) (⟨r.val % 8192, by omega⟩ : Fin 8192) l) := by
  pointwise [rows]

end Cert.Reference2Ideal.Ffn

namespace Cert.Reference3Ideal.Ffn

open Cert.Reference3Ideal Idealize.ShloMosaic Idealize.ShloMosaic.TcCoe
open Cert.Reference2Ideal.Ffn (prj rows upd)

theorem res3 (m : (ℓ : Loc nD τ sig) → Buf (Elt Ideal) ℓ) (c : Dev nD) :
    Value.res_out0 m c = rows (upd (prj (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))) := by
  with_unfolding_all rfl

end Cert.Reference3Ideal.Ffn

end
-- ==== Proof.Ffn3.lean ====
/- The output arrays of the two feed-forward calls: the reference's updated stream. -/
module

public import proofs.«01_k».proof.Proof.Ffn2
public import proofs.«01_k».proof.Proof.Gen.Kernel3Ideal.Frame
public import Idealize.ShloMosaic.Lib.Claim

@[expose] public section

set_option maxRecDepth 16384

noncomputable section

open Idealize.ShloMosaic Idealize.ShloMosaic.TcCoe Idealize.ShloMosaic.Tactic
open Idealize.ShloMosaic.Pipeline
open Cert.Kernel2Ideal.Ffn (kout kout_at ffn out_eq)
open Cert.Reference2Ideal.Ffn (prj prj_at rows rows_at upd upd_at)

set_option maxHeartbeats 1000000

namespace Cert.Kernel2Ideal.Ffn

open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] := (by decide +kernel : ∀ t : Fin grid0.N, _)

theorem b0 (c : Dev nD) (t : Fin cfg0.N) (ht : t.val < 128) (r : Fin 512) (l : Fin 1024) :
    (iblk m c 0 t : Vec Ideal S512x1024 .f32) (ix2 r l) = (m ((c.tc : Thread nD τ).loc main_arg0) : Vec Ideal S8x8192x1024 .f32) (ix3 (⟨(t.val * 512 + r.val) / 8192, by omega⟩ : Fin 8) (⟨(t.val * 512 + r.val) % 8192, by omega⟩ : Fin 8192) l) := by
  blk_point [iblk, idx t]
theorem b1 (c : Dev nD) (t : Fin cfg0.N) (l : Fin 1024) :
    (iblk m c 1 t : Vec Ideal S1x1024 .f32) (ix2 (0 : Fin 1) l) = (m ((c.tc : Thread nD τ).loc main_arg1) : Vec Ideal S1024 .f32) (ix1 l) := by
  blk_point [iblk, idx t]
theorem b2 (c : Dev nD) (t : Fin cfg0.N) (d : Fin 1024) (f : Fin 5632) :
    (iblk m c 2 t : Vec Ideal S1024x5632 .bf16) (ix2 d f) = (m ((c.tc : Thread nD τ).loc main_arg2) : Vec Ideal S1024x5632 .f32) (ix2 d f) := by
  blk_point [iblk, idx t]
theorem b3 (c : Dev nD) (t : Fin cfg0.N) (f : Fin 2816) (l : Fin 1024) :
    (iblk m c 3 t : Vec Ideal S2816x1024 .bf16) (ix2 f l) = (m ((c.tc : Thread nD τ).loc main_arg3) : Vec Ideal S2816x1024 .f32) (ix2 f l) := by
  blk_point [iblk, idx t]

theorem final (c : Dev nD) : (dats m 0 c).arrAt 4 cfg0.N
    = rows (upd (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 4 _ (by decide +kernel) fun t _ y => ?_
  blk_simp
  rw [after0_4, out_eq]
  have ht : t.val < 128 := t.isLt
  have hy : y = (ix2 (y 0 : Fin 512) (y 1 : Fin 1024) : S512x1024.Idx) := by funext a; fin_cases a <;> rfl
  have hx : (shapeCast S512x1024 (iblk m c 0 t : Vec Ideal S512x1024 .f32) shapeCasts_S512x1024_S512x1024 : FVec Ideal S512x1024 .f32) = (iblk m c 0 t : Vec Ideal S512x1024 .f32) := by
    generalize (iblk m c 0 t : Vec Ideal S512x1024 .f32) = B
    funext i
    pointwise
  refine Eq.trans (congrArg _ hy) (Eq.trans ?_ (congrArg _ (?_ : (ix2 (⟨t.val * 512 + (y 0).val, by have h : (y 0).val < 512 := (y 0).isLt; omega⟩ : Fin 65536) (y 1 : Fin 1024) : S65536x1024.Idx) = _)))
  · refine (kout_at _ _ _ _ _ _).trans (Eq.trans ?_ (rows_at _ _ _).symm)
    refine Eq.trans ?_ (upd_at _ _ _ _ _ _ _).symm
    rw [hx]
    simp only [b1, b2, b3]
    exact congrArg (fun x => ffn x _ _ _ _) (funext fun k => b0 m c t ht (y 0) k)
  · blk_ext [idx t]

end Cert.Kernel2Ideal.Ffn

namespace Cert.Kernel3Ideal.Ffn

open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] := (by decide +kernel : ∀ t : Fin grid0.N, _)

theorem b0 (c : Dev nD) (t : Fin cfg0.N) (ht : t.val < 128) (r : Fin 512) (l : Fin 1024) :
    (iblk m c 0 t : Vec Ideal S512x1024 .f32) (ix2 r l) = (m ((c.tc : Thread nD τ).loc main_arg0) : Vec Ideal S8x8192x1024 .f32) (ix3 (⟨(t.val * 512 + r.val) / 8192, by omega⟩ : Fin 8) (⟨(t.val * 512 + r.val) % 8192, by omega⟩ : Fin 8192) l) := by
  blk_point [iblk, idx t]
theorem b1 (c : Dev nD) (t : Fin cfg0.N) (ht : t.val < 128) (r : Fin 512) (l : Fin 1024) :
    (iblk m c 1 t : Vec Ideal S512x1024 .bf16) (ix2 r l) = (m ((c.tc : Thread nD τ).loc main_arg1) : Vec Ideal S8x8192x1024 .bf16) (ix3 (⟨(t.val * 512 + r.val) / 8192, by omega⟩ : Fin 8) (⟨(t.val * 512 + r.val) % 8192, by omega⟩ : Fin 8192) l) := by
  blk_point [iblk, idx t]
theorem b2 (c : Dev nD) (t : Fin cfg0.N) (d l : Fin 1024) :
    (iblk m c 2 t : Vec Ideal S1024x1024 .bf16) (ix2 d l) = (m ((c.tc : Thread nD τ).loc main_arg2) : Vec Ideal S1024x1024 .f32) (ix2 d l) := by
  blk_point [iblk, idx t]
theorem b3 (c : Dev nD) (t : Fin cfg0.N) (l : Fin 1024) :
    (iblk m c 3 t : Vec Ideal S1x1024 .f32) (ix2 (0 : Fin 1) l) = (m ((c.tc : Thread nD τ).loc main_arg3) : Vec Ideal S1024 .f32) (ix1 l) := by
  blk_point [iblk, idx t]
theorem b4 (c : Dev nD) (t : Fin cfg0.N) (d : Fin 1024) (f : Fin 5632) :
    (iblk m c 4 t : Vec Ideal S1024x5632 .bf16) (ix2 d f) = (m ((c.tc : Thread nD τ).loc main_arg4) : Vec Ideal S1024x5632 .f32) (ix2 d f) := by
  blk_point [iblk, idx t]
theorem b5 (c : Dev nD) (t : Fin cfg0.N) (f : Fin 2816) (l : Fin 1024) :
    (iblk m c 5 t : Vec Ideal S2816x1024 .bf16) (ix2 f l) = (m ((c.tc : Thread nD τ).loc main_arg5) : Vec Ideal S2816x1024 .f32) (ix2 f l) := by
  blk_point [iblk, idx t]

theorem out_eq (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S2816x1024 .bf16) :
    out0_6 x0 x1 x2 x3 x4 x5 = kout (k0_pay1 x0 x1 x2) x3 x4 x5 := by
  unfold out0_6 k0_pay14
  frame_out
  with_unfolding_all rfl

theorem pay1_at (x0 : Vec Ideal S512x1024 .f32) (x1 : Vec Ideal S512x1024 .bf16) (x2 : Vec Ideal S1024x1024 .bf16) (r : Fin 512) (l : Fin 1024) :
    k0_pay1 x0 x1 x2 (ix2 r l) = x0 (ix2 r l) + ∑ d : Fin 1024, x1 (ix2 r d) * x2 (ix2 d l) := by
  pointwise [k0_pay1]

theorem x_at (c : Dev nD) (t : Fin cfg0.N) (ht : t.val < 128) (r : Fin 512) (l : Fin 1024) :
    k0_pay1 (iblk m c 0 t) (iblk m c 1 t) (iblk m c 2 t) (ix2 r l) = prj (m ((c.tc : Thread nD τ).loc main_arg0)) (m ((c.tc : Thread nD τ).loc main_arg1)) (m ((c.tc : Thread nD τ).loc main_arg2)) (ix3 (⟨(t.val * 512 + r.val) / 8192, by omega⟩ : Fin 8) (⟨(t.val * 512 + r.val) % 8192, by omega⟩ : Fin 8192) l) := by
  rw [pay1_at, prj_at]
  simp only [b0 m c t ht, b1 m c t ht, b2]

theorem final (c : Dev nD) : (dats m 0 c).arrAt 6 cfg0.N
    = rows (upd (prj (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))) := by
  refine (dats m 0 c).arrAt_eq_of_covers 6 _ (by decide +kernel) fun t _ y => ?_
  blk_simp
  rw [after0_6, out_eq]
  have ht : t.val < 128 := t.isLt
  have hy : y = (ix2 (y 0 : Fin 512) (y 1 : Fin 1024) : S512x1024.Idx) := by funext a; fin_cases a <;> rfl
  refine Eq.trans (congrArg _ hy) (Eq.trans ?_ (congrArg _ (?_ : (ix2 (⟨t.val * 512 + (y 0).val, by have h : (y 0).val < 512 := (y 0).isLt; omega⟩ : Fin 65536) (y 1 : Fin 1024) : S65536x1024.Idx) = _)))
  · refine (kout_at _ _ _ _ _ _).trans (Eq.trans ?_ (rows_at _ _ _).symm)
    refine Eq.trans ?_ (upd_at _ _ _ _ _ _ _).symm
    simp only [b3, b4, b5]
    exact congrArg (fun x => ffn x _ _ _ _) (funext fun k => x_at m c t ht (y 0) k)
  · blk_ext [idx t]

end Cert.Kernel3Ideal.Ffn

end
-- ==== Proof.Head0.lean ====
/- The sums of a head normalisation: squares gathered by head, scales spread back over the lanes. -/
module

public import Idealize.ShloMosaic.Lib.Pipeline.ValueKit

@[expose] public section

set_option maxRecDepth 16384

noncomputable section

namespace Cert.Heads

open Idealize.ShloMosaic

/-- A lane and its head's lanes. -/
def hl (c : Fin 1024) (l : Fin 64) : Fin 1024 := ⟨c.val / 64 * 64 + l.val, by omega⟩
/-- The sum of squares of a head. -/
def ss (y : Fin 1024 → EReal) (c : Fin 1024) : EReal := ∑ l : Fin 64, y (hl c l) * y (hl c l)
/-- The scale of a head. -/
def sc (y : Fin 1024 → EReal) (c : Fin 1024) : EReal :=
  Ideal.rsqrt (Ideal.div (ss y c) (Ideal.ofBits .f32 0x42800000#32) + Ideal.ofBits .f32 0x358637BD#32)

theorem c64 : (Ideal.ofBits .f32 0x42800000#32 : EReal) = ((64 : ℝ) : EReal) := by
  simp [Ideal.ofBits, Ideal.ieee]
  rw [← EReal.coe_mul]
  norm_num
theorem c164 : (Ideal.ofBits .f32 0x3C800000#32 : EReal) = ((1 / 64 : ℝ) : EReal) := by
  simp [Ideal.ofBits, Ideal.ieee]
  rw [← EReal.coe_mul]
  norm_num
theorem eps_pos : ∃ e : ℝ, 0 < e ∧ (Ideal.ofBits .f32 0x358637BD#32 : EReal) = (e : EReal) := by
  refine ⟨_, ?_, by simp [Ideal.ofBits, Ideal.ieee]; rfl⟩
  norm_num
theorem div64 (s : EReal) : Ideal.div s (Ideal.ofBits .f32 0x42800000#32) = s * Ideal.ofBits .f32 0x3C800000#32 := by
  rw [c64, c164, Ideal.div_coe (by norm_num)]

theorem sq_nonneg' (x : EReal) : 0 ≤ x * x := by
  induction x with
  | bot => simp
  | top => simp
  | coe r => rw [← EReal.coe_mul]; exact_mod_cast mul_self_nonneg r
theorem ss_nonneg (y : Fin 1024 → EReal) (c : Fin 1024) : 0 ≤ ss y c :=
  Finset.sum_nonneg fun l _ => sq_nonneg' _

/-- A scale is finite: its residue is zero. -/
theorem res0 (s : EReal) (h : 0 ≤ s) : Ideal.rsqrt (s * Ideal.ofBits .f32 0x3C800000#32 + Ideal.ofBits .f32 0x358637BD#32)
    - Ideal.rsqrt (s * Ideal.ofBits .f32 0x3C800000#32 + Ideal.ofBits .f32 0x358637BD#32) = 0 := by
  obtain ⟨e, he, hE⟩ := eps_pos
  rw [hE, c164]
  induction s with
  | bot => simp at h
  | top =>
    rw [EReal.top_mul_coe_of_pos (by norm_num), EReal.top_add_coe, Ideal.rsqrt_top, sub_zero]
  | coe r =>
    have hr : 0 ≤ r := by exact_mod_cast h
    have hp : 0 < r * (1 / 64) + e := by positivity
    rw [← EReal.coe_mul, ← EReal.coe_add, Ideal.rsqrt_coe, if_neg (not_lt.mpr hp.le), if_neg hp.ne', ← EReal.coe_sub, sub_self, EReal.coe_zero]

/-- Gathering: the lanes of head `h`. -/
theorem gather_sum (f : Fin 1024 → EReal) (c : Fin 1024) :
    (∑ d : Fin 1024, f d * (if d.val / 64 = c.val / 64 then 1 else 0)) = ∑ l : Fin 64, f (hl c l) := by
  rw [Fin.sum_univ_tiles 16 64 rfl, Finset.sum_eq_single (⟨c.val / 64, by omega⟩ : Fin 16)]
  · refine Finset.sum_congr rfl fun l _ => ?_
    have e : (c.val / 64 * 64 + l.val) / 64 = c.val / 64 := by omega
    simp only [e, if_true, mul_one]
    rfl
  · intro b _ hb
    refine Finset.sum_eq_zero fun l _ => ?_
    have e : (b.val * 64 + l.val) / 64 = b.val := by omega
    have : b.val ≠ c.val / 64 := fun h => hb (Fin.ext h)
    simp only [e, if_neg this, mul_zero]
  · intro h
    exact absurd (Finset.mem_univ _) h

/-- Spreading: the scale of the lane's head and its residue. -/
theorem spread_sum (r : Fin 128 → EReal) (q : Fin 256 → EReal) (c : Fin 1024)
    (hq : ∀ k : Fin 256, q k = if h : k.val < 128 then r ⟨k.val, h⟩ else r ⟨k.val - 128, by omega⟩ - r ⟨k.val - 128, by omega⟩) :
    (∑ k : Fin 256, q k * (if k.val % 128 = c.val / 64 then 1 else 0)) = r ⟨c.val / 64, by omega⟩ + (r ⟨c.val / 64, by omega⟩ - r ⟨c.val / 64, by omega⟩) := by
  have e : ∀ f : Fin 256 → EReal, (∑ k : Fin 256, f k) = (∑ k : Fin 128, f ⟨k.val, by omega⟩) + ∑ k : Fin 128, f ⟨128 + k.val, by omega⟩ :=
    fun f => Fin.sum_univ_add (a := 128) (b := 128) f
  have one : ∀ f : Fin 128 → EReal, (∑ k : Fin 128, f k * (if k.val = c.val / 64 then 1 else 0)) = f ⟨c.val / 64, by omega⟩ := by
    intro f
    rw [Finset.sum_eq_single (⟨c.val / 64, by omega⟩ : Fin 128)]
    · simp only [if_true, mul_one]
    · intro b _ hb
      rw [if_neg (fun h => hb (Fin.ext h)), mul_zero]
    · intro h
      exact absurd (Finset.mem_univ _) h
  refine (e _).trans (congrArg₂ (· + ·) (Eq.trans ?_ (one r)) (Eq.trans ?_ (one fun k => r k - r k)))
  · refine Finset.sum_congr rfl fun k _ => ?_
    rw [hq, dif_pos k.isLt]
    simp only [Nat.mod_eq_of_lt k.isLt]
  · refine Finset.sum_congr rfl fun k _ => ?_
    have h1 : (128 + k.val) % 128 = k.val := by omega
    have h2 : ¬ (128 + k.val < 128) := by omega
    rw [hq, dif_neg h2]
    simp only [h1, Nat.add_sub_cancel_left]

end Cert.Heads

end
-- ==== Proof.Head1.lean ====
/- What the bodies of the two head projections leave: projected lanes, each scaled by its head. -/
module

public import proofs.«01_k».proof.Proof.Head0
public import proofs.«01_k».proof.Proof.Ffn1
public import proofs.«01_k».proof.Proof.Gen.Kernel4Ideal.Frame
public import proofs.«01_k».proof.Proof.Gen.Kernel5Ideal.Frame

@[expose] public section

set_option maxRecDepth 16384

noncomputable section

open Idealize.ShloMosaic Idealize.ShloMosaic.TcCoe Idealize.ShloMosaic.Tactic
open Idealize.ShloMosaic.Pipeline
open Cert.Kernel2Ideal.Ffn (nrm nb nb_at)

set_option maxHeartbeats 1000000

namespace Cert.Heads

/-- The projected lane `c` of a normalised row. -/
def proj {n : Nat} (x g : Fin 1024 → EReal) (W : Fin 1024 → Fin n → EReal) (c : Fin n) : EReal := ∑ d : Fin 1024, nrm x g d * W d c

end Cert.Heads

namespace Cert.Kernel5Ideal.Head

open Cert.Kernel5Ideal Cert.Kernel5Ideal.Gen Cert.Heads

/-- The scales of all heads of a row. -/
def rs (Y : FVec Ideal S512x1024 .f32) (G : Vec Ideal S1024x128 .bf16) : FVec Ideal S512x128 .f32 :=
  rsqrt (addf (mulf (matmul dot_S512x1024_S1024x128_S512x128_1_0_0_1_n_n none (truncf .bf16 (mulf Y Y) bitsLt_bf16_f32) (shapeCast S1024x128 G shapeCasts_S1024x128_S1024x128 : FVec Ideal S1024x128 .bf16) (constant S512x128 .f32 0x00000000#32)) (broadcast S512x128 (Scalar.ofBits .f32 0x3C800000#32))) (broadcast S512x128 (Scalar.ofBits .f32 0x358637BD#32)))
theorem rs_at (Y : FVec Ideal S512x1024 .f32) (G : Vec Ideal S1024x128 .bf16) (r : Fin 512) (h : Fin 128) :
    rs Y G (ix2 r h) = Ideal.rsqrt ((∑ d : Fin 1024, Y (ix2 r d) * Y (ix2 r d) * G (ix2 d h)) * Ideal.ofBits .f32 0x3C800000#32 + Ideal.ofBits .f32 0x358637BD#32) := by
  pointwise [rs]

/-- The scales beside their residues. -/
def cat (R : FVec Ideal S512x128 .f32) : FVec Ideal S512x256 .bf16 :=
  concatenate S512x256 1 [⟨S512x128, truncf .bf16 R bitsLt_bf16_f32⟩, ⟨S512x128, truncf .bf16 (subf R (extf .f32 (truncf .bf16 R bitsLt_bf16_f32) bitsLt_bf16_f32)) bitsLt_bf16_f32⟩] concatenates_S512x128_S512x128_S512x256_d1
theorem cat_at (R : FVec Ideal S512x128 .f32) (r : Fin 512) (k : Fin 256) : cat R (ix2 r k) =
    (if h : k.val < 128 then (R (ix2 r (⟨k.val, h⟩ : Fin 128)) : EReal) else R (ix2 r (⟨k.val - 128, by have := k.isLt; omega⟩ : Fin 128)) - R (ix2 r (⟨k.val - 128, by have := k.isLt; omega⟩ : Fin 128))) := by
  pointwise [cat]

/-- The lanes times their heads' scales. -/
def hk (Y : FVec Ideal S512x1024 .f32) (G : Vec Ideal S1024x128 .bf16) (P : Vec Ideal S256x1024 .bf16) : FVec Ideal S512x1024 .f32 :=
  mulf Y (matmul dot_S512x256_S256x1024_S512x1024_1_0_0_1_n_n none (cat (rs Y G)) (shapeCast S256x1024 P shapeCasts_S256x1024_S256x1024 : FVec Ideal S256x1024 .bf16) (constant S512x1024 .f32 0x00000000#32))
theorem hk_at (Y : FVec Ideal S512x1024 .f32) (G : Vec Ideal S1024x128 .bf16) (P : Vec Ideal S256x1024 .bf16)
    (hG : ∀ (d : Fin 1024) (h : Fin 128), G (ix2 d h) = (if d.val / 64 = h.val then 1 else 0 : EReal))
    (hP : ∀ (k : Fin 256) (c : Fin 1024), P (ix2 k c) = (if k.val % 128 = c.val / 64 then 1 else 0 : EReal)) (r : Fin 512) (c : Fin 1024) :
    hk Y G P (ix2 r c) = Y (ix2 r c) * sc (fun d => Y (ix2 r d)) c := by
  have e : hk Y G P (ix2 r c) = Y (ix2 r c) * ∑ k : Fin 256, cat (rs Y G) (ix2 r k) * P (ix2 k c) := by
    unfold hk
    generalize cat (rs Y G) = A
    pointwise
  rw [e]
  simp only [hP]
  rw [spread_sum (fun h => rs Y G (ix2 r h)) _ c (fun k => cat_at _ r k), rs_at]
  simp only [hG]
  rw [gather_sum (fun d => Y (ix2 r d) * Y (ix2 r d)) c]
  have hr := res0 _ (ss_nonneg (fun d => Y (ix2 r d)) c)
  simp only [ss] at hr
  rw [hr, add_zero]
  simp only [sc, div64, ss]

/-- The projected block. -/
def pj (X : FVec Ideal S512x1024 .f32) (g : Vec Ideal S1x1024 .f32) (W : Vec Ideal S1024x1024 .bf16) : FVec Ideal S512x1024 .f32 :=
  matmul dot_S512x1024_S1024x1024_S512x1024_1_0_0_1_n_n none (nb X g : FVec Ideal S512x1024 .bf16) (shapeCast S1024x1024 W shapeCasts_S1024x1024_S1024x1024 : FVec Ideal S1024x1024 .bf16) (constant S512x1024 .f32 0x00000000#32)
theorem pj_at (X : FVec Ideal S512x1024 .f32) (g : Vec Ideal S1x1024 .f32) (W : Vec Ideal S1024x1024 .bf16) (r : Fin 512) (c : Fin 1024) :
    pj X g W (ix2 r c) = proj (fun k => X (ix2 r k)) (fun k => g (ix2 (0 : Fin 1) k)) (fun d c => W (ix2 d c)) c := by
  have e : pj X g W (ix2 r c) = ∑ d : Fin 1024, nb X g (ix2 r d) * W (ix2 d c) := by
    unfold pj
    generalize nb X g = A
    pointwise
  rw [e]
  simp only [nb_at, proj]

theorem pay1_at (A : FVec Ideal S512x1024 .f32) (h : Vec Ideal S1x1024 .f32) (r : Fin 512) (c : Fin 1024) :
    k0_pay1 A h (ix2 r c) = A (ix2 r c) * h (ix2 (0 : Fin 1) c) := by
  pointwise [k0_pay1]

theorem out_eq (x0 : Vec Ideal S512x1024 .f32) (x1 : Vec Ideal S1x1024 .f32) (x2 : Vec Ideal S1024x1024 .bf16) (x3 : Vec Ideal S1x1024 .f32) (x4 : Vec Ideal S1024x128 .bf16) (x5 : Vec Ideal S256x1024 .bf16) :
    out0_6 x0 x1 x2 x3 x4 x5 = k0_pay1 (hk (pj (shapeCast S512x1024 x0 shapeCasts_S512x1024_S512x1024) x1 x2) x4 x5) x3 := by
  unfold out0_6
  frame_out
  with_unfolding_all rfl

end Cert.Kernel5Ideal.Head

namespace Cert.Kernel4Ideal.Head

open Cert.Kernel4Ideal Cert.Kernel4Ideal.Gen Cert.Heads
open Cert.Kernel5Ideal.Head (hk)

/-- The projected block, keys and values. -/
def pj (X : FVec Ideal S512x1024 .f32) (g : Vec Ideal S1x1024 .f32) (W : Vec Ideal S1024x2048 .bf16) : FVec Ideal S512x2048 .f32 :=
  matmul dot_S512x1024_S1024x2048_S512x2048_1_0_0_1_n_n none (nb X g : FVec Ideal S512x1024 .bf16) (shapeCast S1024x2048 W shapeCasts_S1024x2048_S1024x2048 : FVec Ideal S1024x2048 .bf16) (constant S512x2048 .f32 0x00000000#32)
theorem pj_at (X : FVec Ideal S512x1024 .f32) (g : Vec Ideal S1x1024 .f32) (W : Vec Ideal S1024x2048 .bf16) (r : Fin 512) (c : Fin 2048) :
    pj X g W (ix2 r c) = proj (fun k => X (ix2 r k)) (fun k => g (ix2 (0 : Fin 1) k)) (fun d c => W (ix2 d c)) c := by
  have e : pj X g W (ix2 r c) = ∑ d : Fin 1024, nb X g (ix2 r d) * W (ix2 d c) := by
    unfold pj
    generalize nb X g = A
    pointwise
  rw [e]
  simp only [nb_at, proj]

/-- Its keys. -/
def ks (Y : FVec Ideal S512x2048 .f32) : FVec Ideal S512x1024 .f32 := extractStridedSlice S512x1024 ![0, 0] Y slices_S512x2048_o0_0_S512x1024
theorem ks_at (Y : FVec Ideal S512x2048 .f32) (r : Fin 512) (c : Fin 1024) : ks Y (ix2 r c) = Y (ix2 r (⟨c.val, by omega⟩ : Fin 2048)) := by
  pointwise [ks]
/-- Its values. -/
theorem vs_at (Y : FVec Ideal S512x2048 .f32) (r : Fin 512) (c : Fin 1024) : k0_pay2 Y (ix2 r c) = Y (ix2 r (⟨1024 + c.val, by omega⟩ : Fin 2048)) := by
  pointwise [k0_pay2]

theorem pay1_at (A : FVec Ideal S512x1024 .f32) (h : Vec Ideal S1x1024 .f32) (r : Fin 512) (c : Fin 1024) :
    k0_pay1 A h (ix2 r c) = A (ix2 r c) * h (ix2 (0 : Fin 1) c) := by
  pointwise [k0_pay1]

theorem out6_eq (x0 : Vec Ideal S512x1024 .f32) (x1 : Vec Ideal S1x1024 .f32) (x2 : Vec Ideal S1024x2048 .bf16) (x3 : Vec Ideal S1x1024 .f32) (x4 : Vec Ideal S1024x128 .bf16) (x5 : Vec Ideal S256x1024 .bf16) :
    out0_6 x0 x1 x2 x3 x4 x5 = k0_pay1 (hk (ks (pj (shapeCast S512x1024 x0 shapeCasts_S512x1024_S512x1024) x1 x2)) x4 x5) x3 := by
  unfold out0_6
  frame_out
  with_unfolding_all rfl
theorem out7_eq (x0 : Vec Ideal S512x1024 .f32) (x1 : Vec Ideal S1x1024 .f32) (x2 : Vec Ideal S1024x2048 .bf16) (x3 : Vec Ideal S1x1024 .f32) (x4 : Vec Ideal S1024x128 .bf16) (x5 : Vec Ideal S256x1024 .bf16) :
    out0_7 x0 x1 x2 x3 x4 x5 = k0_pay2 (pj (shapeCast S512x1024 x0 shapeCasts_S512x1024_S512x1024) x1 x2) := by
  unfold out0_7
  frame_out
  with_unfolding_all rfl

end Cert.Kernel4Ideal.Head

end
-- ==== Proof.Head2.lean ====
/- The references of the head projections at an index. -/
module

public import proofs.«01_k».proof.Proof.Head1
public import proofs.«01_k».proof.Proof.Ffn2
public import proofs.«01_k».proof.Proof.Gen.Reference4Ideal.Run
public import proofs.«01_k».proof.Proof.Gen.Reference5Ideal.Run

@[expose] public section

set_option maxRecDepth 16384

noncomputable section

open Idealize.ShloMosaic Idealize.ShloMosaic.TcCoe Idealize.ShloMosaic.Tactic
open Cert.Kernel2Ideal.Ffn (nrm)
open Cert.Reference2Ideal.Ffn (nr nr_at)

set_option maxHeartbeats 1000000

namespace Cert.Heads

/-- The lanes of a row, each normalised within its head. -/
def hn (y : Fin 1024 → EReal) (g : Fin 64 → EReal) (c : Fin 1024) : EReal := y c * sc y c * g ⟨c.val % 64, by omega⟩

end Cert.Heads

namespace Cert.Reference5Ideal.Head

open Cert.Reference5Ideal Cert.Reference5Ideal.Gen Cert.Heads

/-- The normalisation within heads. -/
def h4 (Z : FVec Ideal S8x8192x16x64 .f32) (g : FVec Ideal S64 .f32) : FVec Ideal S8x8192x16x64 .f32 :=
  mulf (mulf Z (broadcastInDim S8x8192x16x64 ![0, 1, 2, 3] bcast_S8x8192x16x1_S8x8192x16x64_0_1_2_3 (Host.rsqrt (addf (Host.divf (broadcastInDim S8x8192x16x1 ![0, 1, 2] bcast_S8x8192x16_S8x8192x16x1_0_1_2 (Host.reduceAdd (mulf Z Z) (constant S_ .f32 0x00000000#32) reducesTo_S8x8192x16x64_S8x8192x16_d3 h_S_)) (broadcastInDim S8x8192x16x1 ![] bcast_S_S8x8192x16x1 (constant S_ .f32 0x42800000#32))) (broadcastInDim S8x8192x16x1 ![] bcast_S_S8x8192x16x1 (constant S_ .f32 0x358637BD#32))))))
    (broadcastInDim S8x8192x16x64 ![0, 1, 2, 3] bcast_S1x1x1x64_S8x8192x16x64_0_1_2_3 (broadcastInDim S1x1x1x64 ![3] bcast_S64_S1x1x1x64_3 g))
theorem h4_at (Z : FVec Ideal S8x8192x16x64 .f32) (g : FVec Ideal S64 .f32) (b : Fin 8) (s : Fin 8192) (h : Fin 16) (l : Fin 64) :
    h4 Z g (ix4 b s h l) = Z (ix4 b s h l) * Ideal.rsqrt (Ideal.div (∑ k : Fin 64, Z (ix4 b s h k) * Z (ix4 b s h k)) (Ideal.ofBits .f32 0x42800000#32) + Ideal.ofBits .f32 0x358637BD#32) * g (ix1 l) := by
  pointwise [h4]

/-- The lanes split into heads, and joined again. -/
def spl (Y : FVec Ideal S8x8192x1024 .f32) : FVec Ideal S8x8192x16x64 .f32 := shapeCast _ Y shapeCasts_S8x8192x1024_S8x8192x16x64
theorem spl_at (Y : FVec Ideal S8x8192x1024 .f32) (b : Fin 8) (s : Fin 8192) (h : Fin 16) (l : Fin 64) :
    spl Y (ix4 b s h l) = Y (ix3 b s (⟨h.val * 64 + l.val, by omega⟩ : Fin 1024)) := by
  pointwise [spl]
def jn (Z : FVec Ideal S8x8192x16x64 .f32) : FVec Ideal S8x8192x1024 .f32 := shapeCast _ Z shapeCasts_S8x8192x16x64_S8x8192x1024
theorem jn_at (Z : FVec Ideal S8x8192x16x64 .f32) (b : Fin 8) (s : Fin 8192) (c : Fin 1024) :
    jn Z (ix3 b s c) = Z (ix4 b s (⟨c.val / 64, by omega⟩ : Fin 16) (⟨c.val % 64, by omega⟩ : Fin 64)) := by
  pointwise [jn]

theorem heads_at (Y : FVec Ideal S8x8192x1024 .f32) (g : FVec Ideal S64 .f32) (b : Fin 8) (s : Fin 8192) (c : Fin 1024) :
    jn (h4 (spl Y) g) (ix3 b s c) = hn (fun c => Y (ix3 b s c)) (fun l => g (ix1 l)) c := by
  rw [jn_at, h4_at]
  simp only [spl_at]
  have e : (⟨c.val / 64 * 64 + c.val % 64, by omega⟩ : Fin 1024) = c := Fin.ext (by dsimp only; omega)
  rw [e]
  rfl

/-- The tokens of all sequences in one row axis, rounded. -/
def rows (H : FVec Ideal S8x8192x1024 .f32) : FVec Ideal S65536x1024 .bf16 := truncf .bf16 (shapeCast S65536x1024 H shapeCasts_S8x8192x1024_S65536x1024) bitsLt_bf16_f32
theorem rows_at (H : FVec Ideal S8x8192x1024 .f32) (r : Fin 65536) (l : Fin 1024) :
    rows H (ix2 r l) = H (ix3 (⟨r.val / 8192, by omega⟩ : Fin 8) (⟨r.val % 8192, by omega⟩ : Fin 8192) l) := by
  pointwise [rows]

/-- The projected queries. -/
def pr (x : FVec Ideal S8x8192x1024 .f32) (g : FVec Ideal S1024 .f32) (W : FVec Ideal S1024x1024 .f32) : FVec Ideal S8x8192x1024 .f32 :=
  Host.dotGeneral dot_S8x8192x1024_S1024x1024_S8x8192x1024_2_0_01_1_n_n none (nr x g : FVec Ideal S8x8192x1024 .f32) W
theorem pr_at (x : FVec Ideal S8x8192x1024 .f32) (g : FVec Ideal S1024 .f32) (W : FVec Ideal S1024x1024 .f32) (b : Fin 8) (s : Fin 8192) (c : Fin 1024) :
    pr x g W (ix3 b s c) = proj (fun k => x (ix3 b s k)) (fun k => g (ix1 k)) (fun d c => W (ix2 d c)) c := by
  have e : pr x g W (ix3 b s c) = ∑ d : Fin 1024, nr x g (ix3 b s d) * W (ix2 d c) := by
    unfold pr
    generalize nr x g = A
    pointwise
  rw [e]
  simp only [nr_at, proj]

/-- The queries, scaled. -/
def qs (x : FVec Ideal S8x8192x1024 .f32) (g : FVec Ideal S1024 .f32) (W : FVec Ideal S1024x1024 .f32) (hg : FVec Ideal S64 .f32) : FVec Ideal S65536x1024 .bf16 :=
  rows (mulf (jn (h4 (spl (pr x g W)) hg)) (broadcastInDim S8x8192x1024 ![] bcast_S_S8x8192x1024 (constant S_ .f32 0x3E000000#32)))
theorem qs_at (x : FVec Ideal S8x8192x1024 .f32) (g : FVec Ideal S1024 .f32) (W : FVec Ideal S1024x1024 .f32) (hg : FVec Ideal S64 .f32) (r : Fin 65536) (c : Fin 1024) :
    qs x g W hg (ix2 r c) = hn (proj (fun k => x (ix3 (⟨r.val / 8192, by omega⟩ : Fin 8) (⟨r.val % 8192, by omega⟩ : Fin 8192) k)) (fun k => g (ix1 k)) (fun d c => W (ix2 d c))) (fun l => hg (ix1 l)) c * Ideal.ofBits .f32 0x3E000000#32 := by
  have e : ∀ (A : FVec Ideal S8x8192x1024 .f32) (b : Fin 8) (s : Fin 8192), (mulf A (broadcastInDim S8x8192x1024 ![] bcast_S_S8x8192x1024 (constant S_ .f32 0x3E000000#32)) : FVec Ideal S8x8192x1024 .f32) (ix3 b s c) = A (ix3 b s c) * Ideal.ofBits .f32 0x3E000000#32 := by
    intro A b s
    pointwise
  rw [qs, rows_at, e, heads_at]
  simp only [pr_at]

end Cert.Reference5Ideal.Head

namespace Cert.Reference4Ideal.Head

open Cert.Reference4Ideal Cert.Reference4Ideal.Gen Cert.Heads
open Cert.Reference5Ideal.Head (rows rows_at jn h4 spl heads_at)

/-- The projected keys and values. -/
def pr (x : FVec Ideal S8x8192x1024 .f32) (g : FVec Ideal S1024 .f32) (W : FVec Ideal S1024x2048 .f32) : FVec Ideal S8x8192x2048 .f32 :=
  Host.dotGeneral dot_S8x8192x1024_S1024x2048_S8x8192x2048_2_0_01_1_n_n none (nr x g : FVec Ideal S8x8192x1024 .f32) W
theorem pr_at (x : FVec Ideal S8x8192x1024 .f32) (g : FVec Ideal S1024 .f32) (W : FVec Ideal S1024x2048 .f32) (b : Fin 8) (s : Fin 8192) (c : Fin 2048) :
    pr x g W (ix3 b s c) = proj (fun k => x (ix3 b s k)) (fun k => g (ix1 k)) (fun d c => W (ix2 d c)) c := by
  have e : pr x g W (ix3 b s c) = ∑ d : Fin 1024, nr x g (ix3 b s d) * W (ix2 d c) := by
    unfold pr
    generalize nr x g = A
    pointwise
  rw [e]
  simp only [nr_at, proj]

def kh (Y : FVec Ideal S8x8192x2048 .f32) : FVec Ideal S8x8192x1024 .f32 := extractStridedSlice S8x8192x1024 ![0, 0, 0] Y slices_S8x8192x2048_S8x8192x1024_0_0_0
theorem kh_at (Y : FVec Ideal S8x8192x2048 .f32) (b : Fin 8) (s : Fin 8192) (c : Fin 1024) : kh Y (ix3 b s c) = Y (ix3 b s (⟨c.val, by omega⟩ : Fin 2048)) := by
  pointwise [kh]
def vh (Y : FVec Ideal S8x8192x2048 .f32) : FVec Ideal S8x8192x1024 .f32 := extractStridedSlice S8x8192x1024 ![0, 0, 1024] Y slices_S8x8192x2048_S8x8192x1024_0_0_1024
theorem vh_at (Y : FVec Ideal S8x8192x2048 .f32) (b : Fin 8) (s : Fin 8192) (c : Fin 1024) : vh Y (ix3 b s c) = Y (ix3 b s (⟨1024 + c.val, by omega⟩ : Fin 2048)) := by
  pointwise [vh]

/-- The keys, and the values. -/
def kk (x : FVec Ideal S8x8192x1024 .f32) (g : FVec Ideal S1024 .f32) (W : FVec Ideal S1024x2048 .f32) (hg : FVec Ideal S64 .f32) : FVec Ideal S65536x1024 .bf16 :=
  rows (jn (h4 (spl (kh (pr x g W))) hg))
theorem kk_at (x : FVec Ideal S8x8192x1024 .f32) (g : FVec Ideal S1024 .f32) (W : FVec Ideal S1024x2048 .f32) (hg : FVec Ideal S64 .f32) (r : Fin 65536) (c : Fin 1024) :
    kk x g W hg (ix2 r c) = hn (fun c => proj (fun k => x (ix3 (⟨r.val / 8192, by omega⟩ : Fin 8) (⟨r.val % 8192, by omega⟩ : Fin 8192) k)) (fun k => g (ix1 k)) (fun d c => W (ix2 d c)) (⟨c.val, by omega⟩ : Fin 2048)) (fun l => hg (ix1 l)) c := by
  rw [kk]
  refine (rows_at _ _ _).trans ((heads_at _ _ _ _ _).trans ?_)
  simp only [kh_at, pr_at]
def vv (x : FVec Ideal S8x8192x1024 .f32) (g : FVec Ideal S1024 .f32) (W : FVec Ideal S1024x2048 .f32) : FVec Ideal S65536x1024 .bf16 := rows (vh (pr x g W))
theorem vv_at (x : FVec Ideal S8x8192x1024 .f32) (g : FVec Ideal S1024 .f32) (W : FVec Ideal S1024x2048 .f32) (r : Fin 65536) (c : Fin 1024) :
    vv x g W (ix2 r c) = proj (fun k => x (ix3 (⟨r.val / 8192, by omega⟩ : Fin 8) (⟨r.val % 8192, by omega⟩ : Fin 8192) k)) (fun k => g (ix1 k)) (fun d c => W (ix2 d c)) (⟨1024 + c.val, by omega⟩ : Fin 2048) := by
  rw [vv]
  refine (rows_at _ _ _).trans ?_
  rw [vh_at, pr_at]

end Cert.Reference4Ideal.Head

end
-- ==== Proof.Head3.lean ====
/- The output arrays of the two head projections: the reference's keys, values and queries. -/
module

public import proofs.«01_k».proof.Proof.Head2
public import Idealize.ShloMosaic.Lib.Claim

@[expose] public section

set_option maxRecDepth 16384

noncomputable section

open Idealize.ShloMosaic Idealize.ShloMosaic.TcCoe Idealize.ShloMosaic.Tactic
open Idealize.ShloMosaic.Pipeline
open Cert.Heads

set_option maxHeartbeats 1000000

namespace Cert.Kernel5Ideal.Head

open Cert.Kernel5Ideal Cert.Kernel5Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] := (by decide +kernel : ∀ t : Fin grid0.N, _)

theorem v0 (c : Dev nD) : (V m c main_v0 : Vec Ideal S65536x1024 .f32) = shapeCast S65536x1024 (m ((c.tc : Thread nD τ).loc main_arg0) : Vec Ideal S8x8192x1024 .f32) shapeCasts_S8x8192x1024_S65536x1024 := by
  rfl
/-- The head of a lane, as the host divides it out. -/
def fd : IVec S1024 32 :=
  select (andi (cmpi .ne (signi (iotaInDim S1024 32 0)) (broadcastInDim S1024 ![] bcast_S_S1024 (signi (constantI S_ 32 64#32)))) (cmpi .ne (Host.remsi (iotaInDim S1024 32 0) (broadcastInDim S1024 ![] bcast_S_S1024 (constantI S_ 32 64#32))) (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32)))
    (Host.divsi (iotaInDim S1024 32 0) (broadcastInDim S1024 ![] bcast_S_S1024 (constantI S_ 32 64#32)))
theorem fd_at : ∀ d : Fin 1024, fd (ix1 d) = BitVec.ofNat 32 (d.val / 64) := by
  decide +kernel

/-- The gathering matrix, and two of its transposes on top of one another. -/
def gm : FVec Ideal S1024x128 .bf16 :=
  uitofp .bf16 (cmpi .eq (broadcastInDim S1024x128 ![0, 1] bcast_S1024x1_S1024x128_0_1 (broadcastInDim S1024x1 ![0] bcast_S1024_S1024x1_0 fd)) (broadcastInDim S1024x128 ![0, 1] bcast_S1x128_S1024x128_0_1 (broadcastInDim S1x128 ![1] bcast_S128_S1x128_1 (iotaInDim S128 32 0))))
def sm : FVec Ideal S256x1024 .bf16 :=
  concatenate S256x1024 0 [⟨S128x1024, transpose S128x1024 [1, 0] gm transposes_S1024x128_S128x1024_1_0⟩, ⟨S128x1024, transpose S128x1024 [1, 0] gm transposes_S1024x128_S128x1024_1_0⟩] concatenates_S128x1024_S128x1024_S256x1024_d0
theorem gm_at (d : Fin 1024) (h : Fin 128) : gm (ix2 d h) = (if d.val / 64 = h.val then 1 else 0 : EReal) := by
  have e : ∀ F : IVec S1024 32, (uitofp .bf16 (cmpi .eq (broadcastInDim S1024x128 ![0, 1] bcast_S1024x1_S1024x128_0_1 (broadcastInDim S1024x1 ![0] bcast_S1024_S1024x1_0 F)) (broadcastInDim S1024x128 ![0, 1] bcast_S1x128_S1024x128_0_1 (broadcastInDim S1x128 ![1] bcast_S128_S1x128_1 (iotaInDim S128 32 0)))) : FVec Ideal S1024x128 .bf16) (ix2 d h) = (if F (ix1 d) = BitVec.ofNat 32 h.val then 1 else 0 : EReal) := by
    intro F
    pointwise
    show ((((IntOp.cmpi CmpIPredicate.eq (F (ix1 d)) (BitVec.ofNat 32 h.val)).toNat : ℝ) : EReal)) = _
    by_cases q : F (ix1 d) = BitVec.ofNat 32 h.val
    · simp [IntOp.cmpi, q]
    · simp [IntOp.cmpi, q]
  rw [gm, e, fd_at]
  have : BitVec.ofNat 32 (d.val / 64) = BitVec.ofNat 32 h.val ↔ d.val / 64 = h.val := by
    constructor
    · intro q
      have := congrArg BitVec.toNat q
      simp only [BitVec.toNat_ofNat] at this
      omega
    · intro q
      rw [q]
  simp only [this]
theorem sm_at (k : Fin 256) (c : Fin 1024) : sm (ix2 k c) = (if k.val % 128 = c.val / 64 then 1 else 0 : EReal) := by
  have e : ∀ G : FVec Ideal S1024x128 .bf16, (concatenate S256x1024 0 [⟨S128x1024, transpose S128x1024 [1, 0] G transposes_S1024x128_S128x1024_1_0⟩, ⟨S128x1024, transpose S128x1024 [1, 0] G transposes_S1024x128_S128x1024_1_0⟩] concatenates_S128x1024_S128x1024_S256x1024_d0 : FVec Ideal S256x1024 .bf16) (ix2 k c) = G (ix2 c (⟨k.val % 128, by omega⟩ : Fin 128)) := by
    intro G
    pointwise
    split
    · exact congrArg (fun q => G (ix2 c q)) (Fin.ext (by dsimp only; omega))
    · exact congrArg (fun q => G (ix2 c q)) (Fin.ext (by dsimp only; omega))
  rw [sm, e, gm_at]
  simp only [eq_comm]

/-- A head's gain over all heads, as a row. -/
def tl (g : FVec Ideal S64 .f32) : FVec Ideal S1x1024 .f32 :=
  shapeCast S1x1024 (shapeCast S1024 (broadcastInDim S16x64 ![0, 1] bcast_S1x64_S16x64_0_1 (shapeCast S1x64 g shapeCasts_S64_S1x64)) shapeCasts_S16x64_S1024) shapeCasts_S1024_S1x1024
theorem tl_at (g : FVec Ideal S64 .f32) (l : Fin 1024) : tl g (ix2 (0 : Fin 1) l) = g (ix1 (⟨l.val % 64, by omega⟩ : Fin 64)) := by
  pointwise [tl]
def qg (g : FVec Ideal S64 .f32) : FVec Ideal S64 .f32 := mulf g (broadcastInDim S64 ![] bcast_S_S64 (constant S_ .f32 0x3E000000#32))
theorem qg_at (g : FVec Ideal S64 .f32) (l : Fin 64) : qg g (ix1 l) = g (ix1 l) * Ideal.ofBits .f32 0x3E000000#32 := by
  pointwise [qg]
/-- The operands the host reshapes or rounds. -/
def xr (x : FVec Ideal S8x8192x1024 .f32) : FVec Ideal S65536x1024 .f32 := shapeCast S65536x1024 x shapeCasts_S8x8192x1024_S65536x1024
theorem xr_at (x : FVec Ideal S8x8192x1024 .f32) (r : Fin 65536) (l : Fin 1024) :
    xr x (ix2 r l) = x (ix3 (⟨r.val / 8192, by omega⟩ : Fin 8) (⟨r.val % 8192, by omega⟩ : Fin 8192) l) := by
  pointwise [xr]
def gr (g : FVec Ideal S1024 .f32) : FVec Ideal S1x1024 .f32 := shapeCast S1x1024 g shapeCasts_S1024_S1x1024
theorem gr_at (g : FVec Ideal S1024 .f32) (l : Fin 1024) : gr g (ix2 (0 : Fin 1) l) = g (ix1 l) := by
  pointwise [gr]
def wr (W : FVec Ideal S1024x1024 .f32) : FVec Ideal S1024x1024 .bf16 := truncf .bf16 W bitsLt_bf16_f32
theorem wr_at (W : FVec Ideal S1024x1024 .f32) (d l : Fin 1024) : wr W (ix2 d l) = W (ix2 d l) := by
  pointwise [wr]

theorem V0 (c : Dev nD) : (V m c main_v0 : Vec Ideal S65536x1024 .f32) = xr (m ((c.tc : Thread nD τ).loc main_arg0)) := by
  rfl

theorem V1 (c : Dev nD) : (V m c main_v19 : Vec Ideal S1x1024 .f32) = gr (m ((c.tc : Thread nD τ).loc main_arg1)) := by
  rfl

theorem V2 (c : Dev nD) : (V m c main_v20 : Vec Ideal S1024x1024 .bf16) = wr (m ((c.tc : Thread nD τ).loc main_arg2)) := by
  rfl

theorem V3 (c : Dev nD) : (V m c main_v18 : Vec Ideal S1x1024 .f32) = tl (qg (m ((c.tc : Thread nD τ).loc main_arg3))) := by
  rfl

theorem V4 (c : Dev nD) : (V m c main_v11 : Vec Ideal S1024x128 .bf16) = gm := by
  rfl

theorem V5 (c : Dev nD) : (V m c main_v14 : Vec Ideal S256x1024 .bf16) = sm := by
  rfl

theorem b0 (c : Dev nD) (t : Fin cfg0.N) (ht : t.val < 128) (r : Fin 512) (l : Fin 1024) :
    (iblk m c 0 t : Vec Ideal S512x1024 .f32) (ix2 r l) = xr (m ((c.tc : Thread nD τ).loc main_arg0)) (ix2 (⟨t.val * 512 + r.val, by omega⟩ : Fin 65536) l) := by
  blk_simp [iblk, idx t]
  refine Eq.trans (congrArg (V m c main_v0) (?_ : _ = (ix2 (⟨t.val * 512 + r.val, by omega⟩ : Fin 65536) l : S65536x1024.Idx))) (congrFun (V0 m c) _)
  blk_ext [idx t]

theorem b1 (c : Dev nD) (t : Fin cfg0.N) (d : Fin 1) (l : Fin 1024) :
    (iblk m c 1 t : Vec Ideal S1x1024 .f32) (ix2 d l) = gr (m ((c.tc : Thread nD τ).loc main_arg1)) (ix2 d l) := by
  blk_simp [iblk, idx t]
  refine Eq.trans (congrArg (V m c main_v19) (?_ : _ = (ix2 d l : S1x1024.Idx))) (congrFun (V1 m c) _)
  blk_ext [idx t]

theorem b2 (c : Dev nD) (t : Fin cfg0.N) (d : Fin 1024) (l : Fin 1024) :
    (iblk m c 2 t : Vec Ideal S1024x1024 .bf16) (ix2 d l) = wr (m ((c.tc : Thread nD τ).loc main_arg2)) (ix2 d l) := by
  blk_simp [iblk, idx t]
  refine Eq.trans (congrArg (V m c main_v20) (?_ : _ = (ix2 d l : S1024x1024.Idx))) (congrFun (V2 m c) _)
  blk_ext [idx t]

theorem b3 (c : Dev nD) (t : Fin cfg0.N) (d : Fin 1) (l : Fin 1024) :
    (iblk m c 3 t : Vec Ideal S1x1024 .f32) (ix2 d l) = tl (qg (m ((c.tc : Thread nD τ).loc main_arg3))) (ix2 d l) := by
  blk_simp [iblk, idx t]
  refine Eq.trans (congrArg (V m c main_v18) (?_ : _ = (ix2 d l : S1x1024.Idx))) (congrFun (V3 m c) _)
  blk_ext [idx t]

theorem b4 (c : Dev nD) (t : Fin cfg0.N) (d : Fin 1024) (l : Fin 128) :
    (iblk m c 4 t : Vec Ideal S1024x128 .bf16) (ix2 d l) = gm (ix2 d l) := by
  blk_simp [iblk, idx t]
  refine Eq.trans (congrArg (V m c main_v11) (?_ : _ = (ix2 d l : S1024x128.Idx))) (congrFun (V4 m c) _)
  blk_ext [idx t]

theorem b5 (c : Dev nD) (t : Fin cfg0.N) (d : Fin 256) (l : Fin 1024) :
    (iblk m c 5 t : Vec Ideal S256x1024 .bf16) (ix2 d l) = sm (ix2 d l) := by
  blk_simp [iblk, idx t]
  refine Eq.trans (congrArg (V m c main_v14) (?_ : _ = (ix2 d l : S256x1024.Idx))) (congrFun (V5 m c) _)
  blk_ext [idx t]

/-- A row of the block, projected. -/
theorem row_at (c : Dev nD) (t : Fin cfg0.N) (ht : t.val < 128) (r : Fin 512) (l : Fin 1024) :
    pj (iblk m c 0 t : Vec Ideal S512x1024 .f32) (iblk m c 1 t) (iblk m c 2 t) (ix2 r l)
      = proj (fun k => (m ((c.tc : Thread nD τ).loc main_arg0) : Vec Ideal S8x8192x1024 .f32) (ix3 (⟨(t.val * 512 + r.val) / 8192, by omega⟩ : Fin 8) (⟨(t.val * 512 + r.val) % 8192, by omega⟩ : Fin 8192) k)) (fun k => (m ((c.tc : Thread nD τ).loc main_arg1) : Vec Ideal S1024 .f32) (ix1 k)) (fun d c' => (m ((c.tc : Thread nD τ).loc main_arg2) : Vec Ideal S1024x1024 .f32) (ix2 d c')) l := by
  rw [pj_at]
  simp only [b0 m c t ht, b1, b2, xr_at, gr_at, wr_at]

theorem val_at (c : Dev nD) (t : Fin cfg0.N) (ht : t.val < 128) (r : Fin 512) (l : Fin 1024) :
    k0_pay1 (hk (pj (shapeCast S512x1024 (iblk m c 0 t : Vec Ideal S512x1024 .f32) shapeCasts_S512x1024_S512x1024) (iblk m c 1 t) (iblk m c 2 t)) (iblk m c 4 t) (iblk m c 5 t)) (iblk m c 3 t) (ix2 r l) = Cert.Reference5Ideal.Head.qs (m ((c.tc : Thread nD τ).loc main_arg0)) (m ((c.tc : Thread nD τ).loc main_arg1)) (m ((c.tc : Thread nD τ).loc main_arg2)) (m ((c.tc : Thread nD τ).loc main_arg3)) (ix2 (⟨t.val * 512 + r.val, by omega⟩ : Fin 65536) l) := by
  have hx : (shapeCast S512x1024 (iblk m c 0 t : Vec Ideal S512x1024 .f32) shapeCasts_S512x1024_S512x1024 : FVec Ideal S512x1024 .f32) = (iblk m c 0 t : Vec Ideal S512x1024 .f32) := by
    generalize (iblk m c 0 t : Vec Ideal S512x1024 .f32) = B
    funext i
    pointwise
  refine (pay1_at _ _ _ _).trans (Eq.trans ?_ (Cert.Reference5Ideal.Head.qs_at _ _ _ _ _ _).symm)
  rw [hk_at _ _ _ (fun d h => (b4 m c t d h).trans (gm_at d h)) (fun k c' => (b5 m c t k c').trans (sm_at k c')), hx, b3, tl_at, qg_at]
  simp only [row_at m c t ht, hn]
  exact (mul_assoc _ _ _).symm

theorem final (c : Dev nD) : (dats m 0 c).arrAt 6 cfg0.N
    = Cert.Reference5Ideal.Head.qs (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  blk_simp
  rw [after0_6, out_eq]
  have ht : t.val < 128 := t.isLt
  have hy : y = (ix2 (y 0 : Fin 512) (y 1 : Fin 1024) : S512x1024.Idx) := by funext a; fin_cases a <;> rfl
  refine Eq.trans (congrArg _ hy) (Eq.trans ?_ (congrArg _ (?_ : (ix2 (⟨t.val * 512 + (y 0).val, by have h : (y 0).val < 512 := (y 0).isLt; omega⟩ : Fin 65536) (y 1 : Fin 1024) : S65536x1024.Idx) = _)))
  · exact val_at m c t ht (y 0) (y 1)
  · blk_ext [idx t]

end Cert.Kernel5Ideal.Head

namespace Cert.Kernel4Ideal.Head

open Cert.Kernel4Ideal Cert.Kernel4Ideal.Gen
open Cert.Kernel5Ideal.Head (xr xr_at gr gr_at tl tl_at gm gm_at sm sm_at)
open Cert.Kernel5Ideal.Head (hk hk_at)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] := (by decide +kernel : ∀ t : Fin grid0.N, _)

def wr (W : FVec Ideal S1024x2048 .f32) : FVec Ideal S1024x2048 .bf16 := truncf .bf16 W bitsLt_bf16_f32
theorem wr_at (W : FVec Ideal S1024x2048 .f32) (d : Fin 1024) (l : Fin 2048) : wr W (ix2 d l) = W (ix2 d l) := by
  pointwise [wr]

theorem V0 (c : Dev nD) : (V m c main_v0 : Vec Ideal S65536x1024 .f32) = xr (m ((c.tc : Thread nD τ).loc main_arg0)) := by
  rfl

theorem V1 (c : Dev nD) : (V m c main_v17 : Vec Ideal S1x1024 .f32) = gr (m ((c.tc : Thread nD τ).loc main_arg1)) := by
  rfl

theorem V2 (c : Dev nD) : (V m c main_v18 : Vec Ideal S1024x2048 .bf16) = wr (m ((c.tc : Thread nD τ).loc main_arg2)) := by
  rfl

theorem V3 (c : Dev nD) : (V m c main_v16 : Vec Ideal S1x1024 .f32) = tl (m ((c.tc : Thread nD τ).loc main_arg3)) := by
  rfl

theorem V4 (c : Dev nD) : (V m c main_v9 : Vec Ideal S1024x128 .bf16) = gm := by
  rfl

theorem V5 (c : Dev nD) : (V m c main_v12 : Vec Ideal S256x1024 .bf16) = sm := by
  rfl

theorem b0 (c : Dev nD) (t : Fin cfg0.N) (ht : t.val < 128) (r : Fin 512) (l : Fin 1024) :
    (iblk m c 0 t : Vec Ideal S512x1024 .f32) (ix2 r l) = xr (m ((c.tc : Thread nD τ).loc main_arg0)) (ix2 (⟨t.val * 512 + r.val, by omega⟩ : Fin 65536) l) := by
  blk_simp [iblk, idx t]
  refine Eq.trans (congrArg (V m c main_v0) (?_ : _ = (ix2 (⟨t.val * 512 + r.val, by omega⟩ : Fin 65536) l : S65536x1024.Idx))) (congrFun (V0 m c) _)
  blk_ext [idx t]

theorem b1 (c : Dev nD) (t : Fin cfg0.N) (d : Fin 1) (l : Fin 1024) :
    (iblk m c 1 t : Vec Ideal S1x1024 .f32) (ix2 d l) = gr (m ((c.tc : Thread nD τ).loc main_arg1)) (ix2 d l) := by
  blk_simp [iblk, idx t]
  refine Eq.trans (congrArg (V m c main_v17) (?_ : _ = (ix2 d l : S1x1024.Idx))) (congrFun (V1 m c) _)
  blk_ext [idx t]

theorem b2 (c : Dev nD) (t : Fin cfg0.N) (d : Fin 1024) (l : Fin 2048) :
    (iblk m c 2 t : Vec Ideal S1024x2048 .bf16) (ix2 d l) = wr (m ((c.tc : Thread nD τ).loc main_arg2)) (ix2 d l) := by
  blk_simp [iblk, idx t]
  refine Eq.trans (congrArg (V m c main_v18) (?_ : _ = (ix2 d l : S1024x2048.Idx))) (congrFun (V2 m c) _)
  blk_ext [idx t]

theorem b3 (c : Dev nD) (t : Fin cfg0.N) (d : Fin 1) (l : Fin 1024) :
    (iblk m c 3 t : Vec Ideal S1x1024 .f32) (ix2 d l) = tl (m ((c.tc : Thread nD τ).loc main_arg3)) (ix2 d l) := by
  blk_simp [iblk, idx t]
  refine Eq.trans (congrArg (V m c main_v16) (?_ : _ = (ix2 d l : S1x1024.Idx))) (congrFun (V3 m c) _)
  blk_ext [idx t]

theorem b4 (c : Dev nD) (t : Fin cfg0.N) (d : Fin 1024) (l : Fin 128) :
    (iblk m c 4 t : Vec Ideal S1024x128 .bf16) (ix2 d l) = gm (ix2 d l) := by
  blk_simp [iblk, idx t]
  refine Eq.trans (congrArg (V m c main_v9) (?_ : _ = (ix2 d l : S1024x128.Idx))) (congrFun (V4 m c) _)
  blk_ext [idx t]

theorem b5 (c : Dev nD) (t : Fin cfg0.N) (d : Fin 256) (l : Fin 1024) :
    (iblk m c 5 t : Vec Ideal S256x1024 .bf16) (ix2 d l) = sm (ix2 d l) := by
  blk_simp [iblk, idx t]
  refine Eq.trans (congrArg (V m c main_v12) (?_ : _ = (ix2 d l : S256x1024.Idx))) (congrFun (V5 m c) _)
  blk_ext [idx t]

/-- A row of the block, projected. -/
theorem row_at (c : Dev nD) (t : Fin cfg0.N) (ht : t.val < 128) (r : Fin 512) (l : Fin 2048) :
    pj (iblk m c 0 t : Vec Ideal S512x1024 .f32) (iblk m c 1 t) (iblk m c 2 t) (ix2 r l)
      = proj (fun k => (m ((c.tc : Thread nD τ).loc main_arg0) : Vec Ideal S8x8192x1024 .f32) (ix3 (⟨(t.val * 512 + r.val) / 8192, by omega⟩ : Fin 8) (⟨(t.val * 512 + r.val) % 8192, by omega⟩ : Fin 8192) k)) (fun k => (m ((c.tc : Thread nD τ).loc main_arg1) : Vec Ideal S1024 .f32) (ix1 k)) (fun d c' => (m ((c.tc : Thread nD τ).loc main_arg2) : Vec Ideal S1024x2048 .f32) (ix2 d c')) l := by
  rw [pj_at]
  simp only [b0 m c t ht, b1, b2, xr_at, gr_at, wr_at]

theorem valK_at (c : Dev nD) (t : Fin cfg0.N) (ht : t.val < 128) (r : Fin 512) (l : Fin 1024) :
    k0_pay1 (hk (ks (pj (shapeCast S512x1024 (iblk m c 0 t : Vec Ideal S512x1024 .f32) shapeCasts_S512x1024_S512x1024) (iblk m c 1 t) (iblk m c 2 t))) (iblk m c 4 t) (iblk m c 5 t)) (iblk m c 3 t) (ix2 r l) = Cert.Reference4Ideal.Head.kk (m ((c.tc : Thread nD τ).loc main_arg0)) (m ((c.tc : Thread nD τ).loc main_arg1)) (m ((c.tc : Thread nD τ).loc main_arg2)) (m ((c.tc : Thread nD τ).loc main_arg3)) (ix2 (⟨t.val * 512 + r.val, by omega⟩ : Fin 65536) l) := by
  have hx : (shapeCast S512x1024 (iblk m c 0 t : Vec Ideal S512x1024 .f32) shapeCasts_S512x1024_S512x1024 : FVec Ideal S512x1024 .f32) = (iblk m c 0 t : Vec Ideal S512x1024 .f32) := by
    generalize (iblk m c 0 t : Vec Ideal S512x1024 .f32) = B
    funext i
    pointwise
  refine (pay1_at _ _ _ _).trans (Eq.trans ?_ (Cert.Reference4Ideal.Head.kk_at _ _ _ _ _ _).symm)
  rw [hk_at _ _ _ (fun d h => (b4 m c t d h).trans (gm_at d h)) (fun k c' => (b5 m c t k c').trans (sm_at k c')), hx, b3, tl_at]
  simp only [ks_at, row_at m c t ht, hn]

theorem finalK (c : Dev nD) : (dats m 0 c).arrAt 6 cfg0.N
    = Cert.Reference4Ideal.Head.kk (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  blk_simp
  rw [after0_6, out6_eq]
  have ht : t.val < 128 := t.isLt
  have hy : y = (ix2 (y 0 : Fin 512) (y 1 : Fin 1024) : S512x1024.Idx) := by funext a; fin_cases a <;> rfl
  refine Eq.trans (congrArg _ hy) (Eq.trans ?_ (congrArg _ (?_ : (ix2 (⟨t.val * 512 + (y 0).val, by have h : (y 0).val < 512 := (y 0).isLt; omega⟩ : Fin 65536) (y 1 : Fin 1024) : S65536x1024.Idx) = _)))
  · exact valK_at m c t ht (y 0) (y 1)
  · blk_ext [idx t]

theorem valV_at (c : Dev nD) (t : Fin cfg0.N) (ht : t.val < 128) (r : Fin 512) (l : Fin 1024) :
    k0_pay2 (pj (shapeCast S512x1024 (iblk m c 0 t : Vec Ideal S512x1024 .f32) shapeCasts_S512x1024_S512x1024) (iblk m c 1 t) (iblk m c 2 t)) (ix2 r l) = Cert.Reference4Ideal.Head.vv (m ((c.tc : Thread nD τ).loc main_arg0)) (m ((c.tc : Thread nD τ).loc main_arg1)) (m ((c.tc : Thread nD τ).loc main_arg2)) (ix2 (⟨t.val * 512 + r.val, by omega⟩ : Fin 65536) l) := by
  have hx : (shapeCast S512x1024 (iblk m c 0 t : Vec Ideal S512x1024 .f32) shapeCasts_S512x1024_S512x1024 : FVec Ideal S512x1024 .f32) = (iblk m c 0 t : Vec Ideal S512x1024 .f32) := by
    generalize (iblk m c 0 t : Vec Ideal S512x1024 .f32) = B
    funext i
    pointwise
  refine (vs_at _ _ _).trans (Eq.trans ?_ (Cert.Reference4Ideal.Head.vv_at _ _ _ _ _).symm)
  rw [hx, row_at m c t ht]

theorem finalV (c : Dev nD) : (dats m 0 c).arrAt 7 cfg0.N
    = Cert.Reference4Ideal.Head.vv (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7, out7_eq]
  have ht : t.val < 128 := t.isLt
  have hy : y = (ix2 (y 0 : Fin 512) (y 1 : Fin 1024) : S512x1024.Idx) := by funext a; fin_cases a <;> rfl
  refine Eq.trans (congrArg _ hy) (Eq.trans ?_ (congrArg _ (?_ : (ix2 (⟨t.val * 512 + (y 0).val, by have h : (y 0).val < 512 := (y 0).isLt; omega⟩ : Fin 65536) (y 1 : Fin 1024) : S65536x1024.Idx) = _)))
  · exact valV_at m c t ht (y 0) (y 1)
  · blk_ext [idx t]

end Cert.Kernel4Ideal.Head

end
-- ==== Proof.Head4.lean ====
/- The claims of the two head projections. -/
module

public import proofs.«01_k».proof.Defs
public import proofs.«01_k».proof.Proof.Head3
public import Idealize.ShloMosaic.Lib.Claim
public import Idealize.ShloMosaic.Lib.Pipeline.ValueKit

@[expose] public section

set_option maxRecDepth 16384

noncomputable section

namespace Cert.Proof

open Idealize.ShloMosaic Idealize.SL.Sem

/-- The references of the head projections end, their arguments unchanged. -/
theorem reference4_frame : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)
theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The projection of keys and values returns the reference's, over the extended reals. -/
theorem algebraic4 : Cert.algebraic_Kernel4Ideal_Reference4Ideal := by
  pair_intro
  · run_from Cert.Kernel4Ideal.Gen.run_main m g
    all_goals rfl
  · run_from Cert.Reference4Ideal.Value.run m' g'
    · rw [Cert.Kernel4Ideal.Head.finalK m c]
      with_unfolding_all rfl
    · rw [Cert.Kernel4Ideal.Head.finalV m c]
      with_unfolding_all rfl

/-- So does the projection of the queries. -/
theorem algebraic5 : Cert.algebraic_Kernel5Ideal_Reference5Ideal := by
  pair_intro
  · run_from Cert.Kernel5Ideal.Gen.run_main m g
    all_goals rfl
  · run_from Cert.Reference5Ideal.Value.run m' g'
    rw [Cert.Kernel5Ideal.Head.final m c]
    with_unfolding_all rfl

end Cert.Proof

end
-- ==== Proof.lean ====
/- The claims of the certificate, from the runs under Proof/. -/
module

public import proofs.«01_k».proof.Defs
public import proofs.«01_k».proof.Proof.AttFrame
public import proofs.«01_k».proof.Proof.KAttFrame
public import proofs.«01_k».proof.Proof.Gen.ReferenceIdeal.Run
public import proofs.«01_k».proof.Proof.Val10
public import proofs.«01_k».proof.Proof.Ffn3
public import proofs.«01_k».proof.Proof.Gen.Kernel2.Frame
public import proofs.«01_k».proof.Proof.Gen.Kernel3.Frame
public import proofs.«01_k».proof.Proof.Head4
public import proofs.«01_k».proof.Proof.Gen.Kernel4.Frame
public import proofs.«01_k».proof.Proof.Gen.Kernel5.Frame
public import Idealize.ShloMosaic.Lib.Claim
public import Idealize.ShloMosaic.Lib.Pipeline.ValueKit

@[expose] public section

set_option maxRecDepth 16384

noncomputable section

namespace Cert.Proof

open Idealize.ShloMosaic Idealize.SL.Sem

/-- The reference ends, its arguments unchanged; it declares no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over finite queries and keys the kernel returns what the reference returns, over the reals. -/
theorem algebraic : Cert.algebraic_KernelIdeal_ReferenceIdeal_pre_finite_qk := by
  pair_intro
  · run_from Cert.KernelIdeal.Att.run_main m g
  · run_from Cert.ReferenceIdeal.Value.run m' g'
    have hf := Cert.Equal.fin_qk _ _ _ (hpre c)
    rw [Cert.Equal.equal m c hf.1 hf.2, Cert.ReferenceIdeal.Att.res_eq]
    have ha := hagree c
    rw [ha.1, ha.2.1, ha.2.2]

/-- Likewise the feed-forward references. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The feed-forward call returns the reference's updated stream, over the extended reals. -/
theorem algebraic2 : Cert.algebraic_Kernel2Ideal_Reference2Ideal := by
  pair_intro
  · run_from Cert.Kernel2Ideal.Gen.run_main m g
  · run_from Cert.Reference2Ideal.Value.run m' g'
    rw [Cert.Kernel2Ideal.Ffn.final m c]
    rfl

/-- So does the call that projects the attention's output first. -/
theorem algebraic3 : Cert.algebraic_Kernel3Ideal_Reference3Ideal := by
  pair_intro
  · run_from Cert.Kernel3Ideal.Gen.run_main m g
  · run_from Cert.Reference3Ideal.Value.run m' g'
    have ha := hagree c
    rw [Cert.Kernel3Ideal.Ffn.final m c]
    refine (Cert.Reference3Ideal.Ffn.res3 m' c).trans ?_
    rw [ha.1, ha.2.1, ha.2.2.1, ha.2.2.2.1, ha.2.2.2.2.1, ha.2.2.2.2.2]

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts, Cert.Pre_finite_qk.Gen.facts,
   fun m ρ _ => Cert.Kernel.Att.frame_att m ρ,
   fun m ρ _ => Cert.KernelIdeal.Att.frame_att m ρ,
   fun m ρ _ => Cert.KernelIdeal.Att.frame_att m ρ,
   reference_frame,
   fun m ρ _ => reference_frame m ρ trivial,
   fun m ρ _ => Cert.Kernel2.Gen.frame m ρ,
   fun m ρ _ => Cert.Kernel2Ideal.Gen.frame m ρ,
   reference2_frame,
   fun m ρ _ => Cert.Kernel3.Gen.frame m ρ,
   fun m ρ _ => Cert.Kernel3Ideal.Gen.frame m ρ,
   reference3_frame,
   fun m ρ _ => Cert.Kernel4.Gen.frame m ρ,
   fun m ρ _ => Cert.Kernel4Ideal.Gen.frame m ρ,
   reference4_frame,
   fun m ρ _ => Cert.Kernel5.Gen.frame m ρ,
   fun m ρ _ => Cert.Kernel5Ideal.Gen.frame m ρ,
   reference5_frame,
   ⟨IdealRules.named_const.statement Cert.KernelIdeal.κ "neg_log2_e" .f32 0xBFB8AA3B#32 ((-((Real.log 2)⁻¹) : ℝ) : EReal) rfl,
   IdealRules.named_const.statement Cert.KernelIdeal.κ "dead_log" .f32 0x42D20000#32 ⊤ rfl⟩,
   algebraic, trivial, algebraic2, trivial, algebraic3, trivial, algebraic4, trivial, algebraic5⟩

end Cert.Proof

end
